-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_MlpKernel (m : (ℓ : Loc Cert.MlpKernel.nD Cert.MlpKernel.τ Cert.MlpKernel.sig) → Buf (Elt Bits) ℓ) : Prop :=
  True

def Pre_MlpKernelIdeal (m : (ℓ : Loc Cert.MlpKernelIdeal.nD Cert.MlpKernelIdeal.τ Cert.MlpKernelIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_WinKernel (m : (ℓ : Loc Cert.WinKernel.nD Cert.WinKernel.τ Cert.WinKernel.sig) → Buf (Elt Bits) ℓ) : Prop :=
  True

def Pre_WinKernelIdeal (m : (ℓ : Loc Cert.WinKernelIdeal.nD Cert.WinKernelIdeal.τ Cert.WinKernelIdeal.sig) → Buf (Elt Ideal) ℓ) : Prop :=
  True

def Pre_WinReferenceIdeal (m : (ℓ : Loc Cert.WinReferenceIdeal.nD Cert.WinReferenceIdeal.τ Cert.WinReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_MlpKernel [hMlpKernel : Cert.MlpKernel.Facts] : Prop :=
  ∀ (m : (ℓ : Loc Cert.MlpKernel.nD Cert.MlpKernel.τ Cert.MlpKernel.sig) → Buf (Elt Bits) ℓ) (g : Dev Cert.MlpKernel.nD → PrngReg), Pre_MlpKernel m →
    θ_run (Cert.MlpKernel.defs (F := Bits)) (onTc (τ := Cert.MlpKernel.τ) (Cert.MlpKernel.main (F := Bits))) ⟨m, fun _ => 0, g⟩ (fun r => (∀ c : Dev Cert.MlpKernel.nD,
      r.2.mem ((c.tc : Thread Cert.MlpKernel.nD Cert.MlpKernel.τ).loc Cert.MlpKernel.main_arg0) = m ((c.tc : Thread Cert.MlpKernel.nD Cert.MlpKernel.τ).loc Cert.MlpKernel.main_arg0)
      ∧ r.2.mem ((c.tc : Thread Cert.MlpKernel.nD Cert.MlpKernel.τ).loc Cert.MlpKernel.main_arg1) = m ((c.tc : Thread Cert.MlpKernel.nD Cert.MlpKernel.τ).loc Cert.MlpKernel.main_arg1)
      ∧ r.2.mem ((c.tc : Thread Cert.MlpKernel.nD Cert.MlpKernel.τ).loc Cert.MlpKernel.main_arg2) = m ((c.tc : Thread Cert.MlpKernel.nD Cert.MlpKernel.τ).loc Cert.MlpKernel.main_arg2)
      ∧ r.2.mem ((c.tc : Thread Cert.MlpKernel.nD Cert.MlpKernel.τ).loc Cert.MlpKernel.main_arg3) = m ((c.tc : Thread Cert.MlpKernel.nD Cert.MlpKernel.τ).loc Cert.MlpKernel.main_arg3)
      ∧ r.2.mem ((c.tc : Thread Cert.MlpKernel.nD Cert.MlpKernel.τ).loc Cert.MlpKernel.main_arg4) = m ((c.tc : Thread Cert.MlpKernel.nD Cert.MlpKernel.τ).loc Cert.MlpKernel.main_arg4)
      ∧ r.2.mem ((c.tc : Thread Cert.MlpKernel.nD Cert.MlpKernel.τ).loc Cert.MlpKernel.main_arg5) = m ((c.tc : Thread Cert.MlpKernel.nD Cert.MlpKernel.τ).loc Cert.MlpKernel.main_arg5)
      ∧ r.2.mem ((c.tc : Thread Cert.MlpKernel.nD Cert.MlpKernel.τ).loc Cert.MlpKernel.main_arg6) = m ((c.tc : Thread Cert.MlpKernel.nD Cert.MlpKernel.τ).loc Cert.MlpKernel.main_arg6)
      ∧ r.2.mem ((c.tc : Thread Cert.MlpKernel.nD Cert.MlpKernel.τ).loc Cert.MlpKernel.main_arg7) = m ((c.tc : Thread Cert.MlpKernel.nD Cert.MlpKernel.τ).loc Cert.MlpKernel.main_arg7))
      ∧ r.2.sem = fun _ => 0)

def quiescent_MlpKernelIdeal [hMlpKernelIdeal : Cert.MlpKernelIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
      ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4)
      ∧ r.2.mem ((c.tc : Thread Cert.MlpKernelIdeal.nD Cert.MlpKernelIdeal.τ).loc Cert.MlpKernelIdeal.main_arg5) = m ((c.tc : Thread Cert.MlpKernelIdeal.nD Cert.MlpKernelIdeal.τ).loc Cert.MlpKernelIdeal.main_arg5)
      ∧ r.2.mem ((c.tc : Thread Cert.MlpKernelIdeal.nD Cert.MlpKernelIdeal.τ).loc Cert.MlpKernelIdeal.main_arg6) = m ((c.tc : Thread Cert.MlpKernelIdeal.nD Cert.MlpKernelIdeal.τ).loc Cert.MlpKernelIdeal.main_arg6)
      ∧ r.2.mem ((c.tc : Thread Cert.MlpKernelIdeal.nD Cert.MlpKernelIdeal.τ).loc Cert.MlpKernelIdeal.main_arg7) = m ((c.tc : Thread Cert.MlpKernelIdeal.nD Cert.MlpKernelIdeal.τ).loc Cert.MlpKernelIdeal.main_arg7))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4)
      ∧ r.2.mem ((c.tc : Thread Cert.InKernel.nD Cert.InKernel.τ).loc Cert.InKernel.main_arg5) = m ((c.tc : Thread Cert.InKernel.nD Cert.InKernel.τ).loc Cert.InKernel.main_arg5)
      ∧ r.2.mem ((c.tc : Thread Cert.InKernel.nD Cert.InKernel.τ).loc Cert.InKernel.main_arg6) = m ((c.tc : Thread Cert.InKernel.nD Cert.InKernel.τ).loc Cert.InKernel.main_arg6)
      ∧ r.2.mem ((c.tc : Thread Cert.InKernel.nD Cert.InKernel.τ).loc Cert.InKernel.main_arg7) = m ((c.tc : Thread Cert.InKernel.nD Cert.InKernel.τ).loc Cert.InKernel.main_arg7))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
      ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6)
      ∧ r.2.mem ((c.tc : Thread Cert.InReferenceIdeal.nD Cert.InReferenceIdeal.τ).loc Cert.InReferenceIdeal.main_arg7) = m ((c.tc : Thread Cert.InReferenceIdeal.nD Cert.InReferenceIdeal.τ).loc Cert.InReferenceIdeal.main_arg7))
      ∧ r.2.sem = fun _ => 0)

def quiescent_WinKernel [hWinKernel : Cert.WinKernel.Facts] : Prop :=
  ∀ (m : (ℓ : Loc Cert.WinKernel.nD Cert.WinKernel.τ Cert.WinKernel.sig) → Buf (Elt Bits) ℓ) (g : Dev Cert.WinKernel.nD → PrngReg), Pre_WinKernel m →
    θ_run (Cert.WinKernel.defs (F := Bits)) (onTc (τ := Cert.WinKernel.τ) (Cert.WinKernel.main (F := Bits))) ⟨m, fun _ => 0, g⟩ (fun r => (∀ c : Dev Cert.WinKernel.nD,
      r.2.mem ((c.tc : Thread Cert.WinKernel.nD Cert.WinKernel.τ).loc Cert.WinKernel.main_arg0) = m ((c.tc : Thread Cert.WinKernel.nD Cert.WinKernel.τ).loc Cert.WinKernel.main_arg0)
      ∧ r.2.mem ((c.tc : Thread Cert.WinKernel.nD Cert.WinKernel.τ).loc Cert.WinKernel.main_arg1) = m ((c.tc : Thread Cert.WinKernel.nD Cert.WinKernel.τ).loc Cert.WinKernel.main_arg1)
      ∧ r.2.mem ((c.tc : Thread Cert.WinKernel.nD Cert.WinKernel.τ).loc Cert.WinKernel.main_arg2) = m ((c.tc : Thread Cert.WinKernel.nD Cert.WinKernel.τ).loc Cert.WinKernel.main_arg2)
      ∧ r.2.mem ((c.tc : Thread Cert.WinKernel.nD Cert.WinKernel.τ).loc Cert.WinKernel.main_arg3) = m ((c.tc : Thread Cert.WinKernel.nD Cert.WinKernel.τ).loc Cert.WinKernel.main_arg3)
      ∧ r.2.mem ((c.tc : Thread Cert.WinKernel.nD Cert.WinKernel.τ).loc Cert.WinKernel.main_arg4) = m ((c.tc : Thread Cert.WinKernel.nD Cert.WinKernel.τ).loc Cert.WinKernel.main_arg4)
      ∧ r.2.mem ((c.tc : Thread Cert.WinKernel.nD Cert.WinKernel.τ).loc Cert.WinKernel.main_arg5) = m ((c.tc : Thread Cert.WinKernel.nD Cert.WinKernel.τ).loc Cert.WinKernel.main_arg5))
      ∧ r.2.sem = fun _ => 0)

def quiescent_WinKernelIdeal [hWinKernelIdeal : Cert.WinKernelIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg), Pre_WinKernelIdeal m →
    θ_run (Cert.WinKernelIdeal.defs (F := Ideal)) (onTc (τ := Cert.WinKernelIdeal.τ) (Cert.WinKernelIdeal.main (F := Ideal))) ⟨m, fun _ => 0, g⟩ (fun r => (∀ c : Dev Cert.WinKernelIdeal.nD,
      r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
      ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
      ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2)
      ∧ r.2.mem ((c.tc : Thread Cert.WinKernelIdeal.nD Cert.WinKernelIdeal.τ).loc Cert.WinKernelIdeal.main_arg3) = m ((c.tc : Thread Cert.WinKernelIdeal.nD Cert.WinKernelIdeal.τ).loc Cert.WinKernelIdeal.main_arg3)
      ∧ r.2.mem ((c.tc : Thread Cert.WinKernelIdeal.nD Cert.WinKernelIdeal.τ).loc Cert.WinKernelIdeal.main_arg4) = m ((c.tc : Thread Cert.WinKernelIdeal.nD Cert.WinKernelIdeal.τ).loc Cert.WinKernelIdeal.main_arg4)
      ∧ r.2.mem ((c.tc : Thread Cert.WinKernelIdeal.nD Cert.WinKernelIdeal.τ).loc Cert.WinKernelIdeal.main_arg5) = m ((c.tc : Thread Cert.WinKernelIdeal.nD Cert.WinKernelIdeal.τ).loc Cert.WinKernelIdeal.main_arg5))
      ∧ r.2.sem = fun _ => 0)

def quiescent_WinReferenceIdeal [hWinReferenceIdeal : Cert.WinReferenceIdeal.Facts] : Prop :=
  ∀ (m : (ℓ : Loc Cert.WinReferenceIdeal.nD Cert.WinReferenceIdeal.τ Cert.WinReferenceIdeal.sig) → Buf (Elt Ideal) ℓ) (g : Dev Cert.WinReferenceIdeal.nD → PrngReg), Pre_WinReferenceIdeal m →
    θ_run (Cert.WinReferenceIdeal.defs (F := Ideal)) (onTc (τ := Cert.WinReferenceIdeal.τ) (Cert.WinReferenceIdeal.main (F := Ideal))) ⟨m, fun _ => 0, g⟩ (fun r => (∀ c : Dev Cert.WinReferenceIdeal.nD,
      r.2.mem ((c.tc : Thread Cert.WinReferenceIdeal.nD Cert.WinReferenceIdeal.τ).loc Cert.WinReferenceIdeal.main_arg0) = m ((c.tc : Thread Cert.WinReferenceIdeal.nD Cert.WinReferenceIdeal.τ).loc Cert.WinReferenceIdeal.main_arg0)
      ∧ r.2.mem ((c.tc : Thread Cert.WinReferenceIdeal.nD Cert.WinReferenceIdeal.τ).loc Cert.WinReferenceIdeal.main_arg1) = m ((c.tc : Thread Cert.WinReferenceIdeal.nD Cert.WinReferenceIdeal.τ).loc Cert.WinReferenceIdeal.main_arg1)
      ∧ r.2.mem ((c.tc : Thread Cert.WinReferenceIdeal.nD Cert.WinReferenceIdeal.τ).loc Cert.WinReferenceIdeal.main_arg2) = m ((c.tc : Thread Cert.WinReferenceIdeal.nD Cert.WinReferenceIdeal.τ).loc Cert.WinReferenceIdeal.main_arg2)
      ∧ r.2.mem ((c.tc : Thread Cert.WinReferenceIdeal.nD Cert.WinReferenceIdeal.τ).loc Cert.WinReferenceIdeal.main_arg3) = m ((c.tc : Thread Cert.WinReferenceIdeal.nD Cert.WinReferenceIdeal.τ).loc Cert.WinReferenceIdeal.main_arg3)
      ∧ r.2.mem ((c.tc : Thread Cert.WinReferenceIdeal.nD Cert.WinReferenceIdeal.τ).loc Cert.WinReferenceIdeal.main_arg4) = m ((c.tc : Thread Cert.WinReferenceIdeal.nD Cert.WinReferenceIdeal.τ).loc Cert.WinReferenceIdeal.main_arg4)
      ∧ r.2.mem ((c.tc : Thread Cert.WinReferenceIdeal.nD Cert.WinReferenceIdeal.τ).loc Cert.WinReferenceIdeal.main_arg5) = m ((c.tc : Thread Cert.WinReferenceIdeal.nD Cert.WinReferenceIdeal.τ).loc Cert.WinReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_v159) = v1 c
          ∧ r.2.mem ((c.tc : Thread Cert.ReferenceIdeal.nD Cert.ReferenceIdeal.τ).loc Cert.ReferenceIdeal.main_v155) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_MlpKernel_MlpKernelIdeal : Prop :=
  True

def algebraic_MlpKernelIdeal_MlpReferenceIdeal [hMlpKernelIdeal : Cert.MlpKernelIdeal.Facts] [hMlpReferenceIdeal : Cert.MlpReferenceIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpKernelIdeal m →
    (∀ c : Dev Cert.MlpKernelIdeal.nD,
      m' ((c.tc : Thread Cert.MlpReferenceIdeal.nD Cert.MlpReferenceIdeal.τ).loc Cert.MlpReferenceIdeal.main_arg0) = m ((c.tc : Thread Cert.MlpKernelIdeal.nD Cert.MlpKernelIdeal.τ).loc Cert.MlpKernelIdeal.main_arg0)
      ∧ m' ((c.tc : Thread Cert.MlpReferenceIdeal.nD Cert.MlpReferenceIdeal.τ).loc Cert.MlpReferenceIdeal.main_arg1) = m ((c.tc : Thread Cert.MlpKernelIdeal.nD Cert.MlpKernelIdeal.τ).loc Cert.MlpKernelIdeal.main_arg1)
      ∧ m' ((c.tc : Thread Cert.MlpReferenceIdeal.nD Cert.MlpReferenceIdeal.τ).loc Cert.MlpReferenceIdeal.main_arg2) = m ((c.tc : Thread Cert.MlpKernelIdeal.nD Cert.MlpKernelIdeal.τ).loc Cert.MlpKernelIdeal.main_arg2)
      ∧ m' ((c.tc : Thread Cert.MlpReferenceIdeal.nD Cert.MlpReferenceIdeal.τ).loc Cert.MlpReferenceIdeal.main_arg3) = m ((c.tc : Thread Cert.MlpKernelIdeal.nD Cert.MlpKernelIdeal.τ).loc Cert.MlpKernelIdeal.main_arg3)
      ∧ m' ((c.tc : Thread Cert.MlpReferenceIdeal.nD Cert.MlpReferenceIdeal.τ).loc Cert.MlpReferenceIdeal.main_arg4) = m ((c.tc : Thread Cert.MlpKernelIdeal.nD Cert.MlpKernelIdeal.τ).loc Cert.MlpKernelIdeal.main_arg4)
      ∧ m' ((c.tc : Thread Cert.MlpReferenceIdeal.nD Cert.MlpReferenceIdeal.τ).loc Cert.MlpReferenceIdeal.main_arg5) = m ((c.tc : Thread Cert.MlpKernelIdeal.nD Cert.MlpKernelIdeal.τ).loc Cert.MlpKernelIdeal.main_arg5)
      ∧ m' ((c.tc : Thread Cert.MlpReferenceIdeal.nD Cert.MlpReferenceIdeal.τ).loc Cert.MlpReferenceIdeal.main_arg6) = m ((c.tc : Thread Cert.MlpKernelIdeal.nD Cert.MlpKernelIdeal.τ).loc Cert.MlpKernelIdeal.main_arg6)
      ∧ m' ((c.tc : Thread Cert.MlpReferenceIdeal.nD Cert.MlpReferenceIdeal.τ).loc Cert.MlpReferenceIdeal.main_arg7) = m ((c.tc : Thread Cert.MlpKernelIdeal.nD Cert.MlpKernelIdeal.τ).loc Cert.MlpKernelIdeal.main_arg7)) →
    ∃ (v0 : (c : Dev Cert.MlpKernelIdeal.nD) → Buf (Elt Ideal) ((c.tc : Thread Cert.MlpKernelIdeal.nD Cert.MlpKernelIdeal.τ).loc Cert.MlpKernelIdeal.main_v33_0)) (v1 : (c : Dev Cert.MlpKernelIdeal.nD) → Buf (Elt Ideal) ((c.tc : Thread Cert.MlpKernelIdeal.nD Cert.MlpKernelIdeal.τ).loc Cert.MlpKernelIdeal.main_v33_1)) (v2 : (c : Dev Cert.MlpKernelIdeal.nD) → Buf (Elt Ideal) ((c.tc : Thread Cert.MlpKernelIdeal.nD Cert.MlpKernelIdeal.τ).loc Cert.MlpKernelIdeal.main_v33_2)) (v3 : (c : Dev Cert.MlpKernelIdeal.nD) → Buf (Elt Ideal) ((c.tc : Thread Cert.MlpKernelIdeal.nD Cert.MlpKernelIdeal.τ).loc Cert.MlpKernelIdeal.main_v33_3)) (v4 : (c : Dev Cert.MlpKernelIdeal.nD) → Buf (Elt Ideal) ((c.tc : Thread Cert.MlpKernelIdeal.nD Cert.MlpKernelIdeal.τ).loc Cert.MlpKernelIdeal.main_v33_4)) (v5 : (c : Dev Cert.MlpKernelIdeal.nD) → Buf (Elt Ideal) ((c.tc : Thread Cert.MlpKernelIdeal.nD Cert.MlpKernelIdeal.τ).loc Cert.MlpKernelIdeal.main_v33_5)) (v6 : (c : Dev Cert.MlpKernelIdeal.nD) → Buf (Elt Ideal) ((c.tc : Thread Cert.MlpKernelIdeal.nD Cert.MlpKernelIdeal.τ).loc Cert.MlpKernelIdeal.main_v33_6)),
      θ_run (Cert.MlpKernelIdeal.defs (F := Ideal)) (onTc (τ := Cert.MlpKernelIdeal.τ) (Cert.MlpKernelIdeal.main (F := Ideal))) ⟨m, fun _ => 0, g⟩ (fun r => ∀ c : Dev Cert.MlpKernelIdeal.nD,
          r.2.mem ((c.tc : Thread Cert.MlpKernelIdeal.nD Cert.MlpKernelIdeal.τ).loc Cert.MlpKernelIdeal.main_v33_0) = v0 c
          ∧ r.2.mem ((c.tc : Thread Cert.MlpKernelIdeal.nD Cert.MlpKernelIdeal.τ).loc Cert.MlpKernelIdeal.main_v33_1) = v1 c
          ∧ r.2.mem ((c.tc : Thread Cert.MlpKernelIdeal.nD Cert.MlpKernelIdeal.τ).loc Cert.MlpKernelIdeal.main_v33_2) = v2 c
          ∧ r.2.mem ((c.tc : Thread Cert.MlpKernelIdeal.nD Cert.MlpKernelIdeal.τ).loc Cert.MlpKernelIdeal.main_v33_3) = v3 c
          ∧ r.2.mem ((c.tc : Thread Cert.MlpKernelIdeal.nD Cert.MlpKernelIdeal.τ).loc Cert.MlpKernelIdeal.main_v33_4) = v4 c
          ∧ r.2.mem ((c.tc : Thread Cert.MlpKernelIdeal.nD Cert.MlpKernelIdeal.τ).loc Cert.MlpKernelIdeal.main_v33_5) = v5 c
          ∧ r.2.mem ((c.tc : Thread Cert.MlpKernelIdeal.nD Cert.MlpKernelIdeal.τ).loc Cert.MlpKernelIdeal.main_v33_6) = v6 c
          ∧ r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
          ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
          ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
          ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
          ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4)
          ∧ r.2.mem ((c.tc : Thread Cert.MlpKernelIdeal.nD Cert.MlpKernelIdeal.τ).loc Cert.MlpKernelIdeal.main_arg5) = m ((c.tc : Thread Cert.MlpKernelIdeal.nD Cert.MlpKernelIdeal.τ).loc Cert.MlpKernelIdeal.main_arg5)
          ∧ r.2.mem ((c.tc : Thread Cert.MlpKernelIdeal.nD Cert.MlpKernelIdeal.τ).loc Cert.MlpKernelIdeal.main_arg6) = m ((c.tc : Thread Cert.MlpKernelIdeal.nD Cert.MlpKernelIdeal.τ).loc Cert.MlpKernelIdeal.main_arg6)
          ∧ r.2.mem ((c.tc : Thread Cert.MlpKernelIdeal.nD Cert.MlpKernelIdeal.τ).loc Cert.MlpKernelIdeal.main_arg7) = m ((c.tc : Thread Cert.MlpKernelIdeal.nD Cert.MlpKernelIdeal.τ).loc Cert.MlpKernelIdeal.main_arg7))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v70) = v0 c
          ∧ r.2.mem ((c.tc : Thread Cert.MlpReferenceIdeal.nD Cert.MlpReferenceIdeal.τ).loc Cert.MlpReferenceIdeal.main_v62) = v1 c
          ∧ r.2.mem ((c.tc : Thread Cert.MlpReferenceIdeal.nD Cert.MlpReferenceIdeal.τ).loc Cert.MlpReferenceIdeal.main_v71) = v2 c
          ∧ r.2.mem ((c.tc : Thread Cert.MlpReferenceIdeal.nD Cert.MlpReferenceIdeal.τ).loc Cert.MlpReferenceIdeal.main_v69) = v3 c
          ∧ r.2.mem ((c.tc : Thread Cert.MlpReferenceIdeal.nD Cert.MlpReferenceIdeal.τ).loc Cert.MlpReferenceIdeal.main_v63) = v4 c
          ∧ r.2.mem ((c.tc : Thread Cert.MlpReferenceIdeal.nD Cert.MlpReferenceIdeal.τ).loc Cert.MlpReferenceIdeal.main_v72) = v5 c
          ∧ r.2.mem ((c.tc : Thread Cert.MlpReferenceIdeal.nD Cert.MlpReferenceIdeal.τ).loc Cert.MlpReferenceIdeal.main_v74) = v6 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6)
          ∧ r.2.mem ((c.tc : Thread Cert.MlpReferenceIdeal.nD Cert.MlpReferenceIdeal.τ).loc Cert.MlpReferenceIdeal.main_arg7) = m' ((c.tc : Thread Cert.MlpReferenceIdeal.nD Cert.MlpReferenceIdeal.τ).loc Cert.MlpReferenceIdeal.main_arg7))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)) →
    ∃ (v0 : (c : Dev Cert.DownKernelIdeal.nD) → Buf (Elt Ideal) ((c.tc : Thread Cert.DownKernelIdeal.nD Cert.DownKernelIdeal.τ).loc Cert.DownKernelIdeal.main_v4_0)) (v1 : (c : Dev Cert.DownKernelIdeal.nD) → Buf (Elt Ideal) ((c.tc : Thread Cert.DownKernelIdeal.nD Cert.DownKernelIdeal.τ).loc Cert.DownKernelIdeal.main_v4_1)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v4_0) = v0 c
          ∧ r.2.mem ((c.tc : Thread Cert.DownKernelIdeal.nD Cert.DownKernelIdeal.τ).loc Cert.DownKernelIdeal.main_v4_1) = v1 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v9) = v0 c
          ∧ r.2.mem ((c.tc : Thread Cert.DownReferenceIdeal.nD Cert.DownReferenceIdeal.τ).loc Cert.DownReferenceIdeal.main_v10) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)) →
    ∃ (v0 : (c : Dev Cert.UpKernelIdeal.nD) → Buf (Elt Ideal) ((c.tc : Thread Cert.UpKernelIdeal.nD Cert.UpKernelIdeal.τ).loc Cert.UpKernelIdeal.main_v16_0)) (v1 : (c : Dev Cert.UpKernelIdeal.nD) → Buf (Elt Ideal) ((c.tc : Thread Cert.UpKernelIdeal.nD Cert.UpKernelIdeal.τ).loc Cert.UpKernelIdeal.main_v16_1)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v16_0) = v0 c
          ∧ r.2.mem ((c.tc : Thread Cert.UpKernelIdeal.nD Cert.UpKernelIdeal.τ).loc Cert.UpKernelIdeal.main_v16_1) = v1 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v22) = v0 c
          ∧ r.2.mem ((c.tc : Thread Cert.UpReferenceIdeal.nD Cert.UpReferenceIdeal.τ).loc Cert.UpReferenceIdeal.main_v23) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)
      ∧ m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5)
      ∧ m' ((c.tc : Thread Cert.InReferenceIdeal.nD Cert.InReferenceIdeal.τ).loc Cert.InReferenceIdeal.main_arg6) = m ((c.tc : Thread Cert.InKernelIdeal.nD Cert.InKernelIdeal.τ).loc Cert.InKernelIdeal.main_arg6)
      ∧ m' ((c.tc : Thread Cert.InReferenceIdeal.nD Cert.InReferenceIdeal.τ).loc Cert.InReferenceIdeal.main_arg7) = m ((c.tc : Thread Cert.InKernelIdeal.nD Cert.InKernelIdeal.τ).loc Cert.InKernelIdeal.main_arg7)) →
    ∃ (v0 : (c : Dev Cert.InKernelIdeal.nD) → Buf (Elt Ideal) ((c.tc : Thread Cert.InKernelIdeal.nD Cert.InKernelIdeal.τ).loc Cert.InKernelIdeal.main_v8_0)) (v1 : (c : Dev Cert.InKernelIdeal.nD) → Buf (Elt Ideal) ((c.tc : Thread Cert.InKernelIdeal.nD Cert.InKernelIdeal.τ).loc Cert.InKernelIdeal.main_v8_1)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v8_0) = v0 c
          ∧ r.2.mem ((c.tc : Thread Cert.InKernelIdeal.nD Cert.InKernelIdeal.τ).loc Cert.InKernelIdeal.main_v8_1) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
          ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
          ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
          ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v41) = v0 c
          ∧ r.2.mem ((c.tc : Thread Cert.InReferenceIdeal.nD Cert.InReferenceIdeal.τ).loc Cert.InReferenceIdeal.main_v42) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6)
          ∧ r.2.mem ((c.tc : Thread Cert.InReferenceIdeal.nD Cert.InReferenceIdeal.τ).loc Cert.InReferenceIdeal.main_arg7) = m' ((c.tc : Thread Cert.InReferenceIdeal.nD Cert.InReferenceIdeal.τ).loc Cert.InReferenceIdeal.main_arg7))

def preserves_WinKernel_WinKernelIdeal : Prop :=
  True

def algebraic_WinKernelIdeal_WinReferenceIdeal [hWinKernelIdeal : Cert.WinKernelIdeal.Facts] [hWinReferenceIdeal : Cert.WinReferenceIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg)
    (m' : (ℓ : Loc Cert.WinReferenceIdeal.nD Cert.WinReferenceIdeal.τ Cert.WinReferenceIdeal.sig) → Buf (Elt Ideal) ℓ) (g' : Dev Cert.WinReferenceIdeal.nD → PrngReg), Pre_WinKernelIdeal m →
    (∀ c : Dev Cert.WinKernelIdeal.nD,
      m' ((c.tc : Thread Cert.WinReferenceIdeal.nD Cert.WinReferenceIdeal.τ).loc Cert.WinReferenceIdeal.main_arg0) = m ((c.tc : Thread Cert.WinKernelIdeal.nD Cert.WinKernelIdeal.τ).loc Cert.WinKernelIdeal.main_arg0)
      ∧ m' ((c.tc : Thread Cert.WinReferenceIdeal.nD Cert.WinReferenceIdeal.τ).loc Cert.WinReferenceIdeal.main_arg1) = m ((c.tc : Thread Cert.WinKernelIdeal.nD Cert.WinKernelIdeal.τ).loc Cert.WinKernelIdeal.main_arg1)
      ∧ m' ((c.tc : Thread Cert.WinReferenceIdeal.nD Cert.WinReferenceIdeal.τ).loc Cert.WinReferenceIdeal.main_arg2) = m ((c.tc : Thread Cert.WinKernelIdeal.nD Cert.WinKernelIdeal.τ).loc Cert.WinKernelIdeal.main_arg2)
      ∧ m' ((c.tc : Thread Cert.WinReferenceIdeal.nD Cert.WinReferenceIdeal.τ).loc Cert.WinReferenceIdeal.main_arg3) = m ((c.tc : Thread Cert.WinKernelIdeal.nD Cert.WinKernelIdeal.τ).loc Cert.WinKernelIdeal.main_arg3)
      ∧ m' ((c.tc : Thread Cert.WinReferenceIdeal.nD Cert.WinReferenceIdeal.τ).loc Cert.WinReferenceIdeal.main_arg4) = m ((c.tc : Thread Cert.WinKernelIdeal.nD Cert.WinKernelIdeal.τ).loc Cert.WinKernelIdeal.main_arg4)
      ∧ m' ((c.tc : Thread Cert.WinReferenceIdeal.nD Cert.WinReferenceIdeal.τ).loc Cert.WinReferenceIdeal.main_arg5) = m ((c.tc : Thread Cert.WinKernelIdeal.nD Cert.WinKernelIdeal.τ).loc Cert.WinKernelIdeal.main_arg5)) →
    ∃ (v0 : (c : Dev Cert.WinKernelIdeal.nD) → Buf (Elt Ideal) ((c.tc : Thread Cert.WinKernelIdeal.nD Cert.WinKernelIdeal.τ).loc Cert.WinKernelIdeal.main_v19_0)) (v1 : (c : Dev Cert.WinKernelIdeal.nD) → Buf (Elt Ideal) ((c.tc : Thread Cert.WinKernelIdeal.nD Cert.WinKernelIdeal.τ).loc Cert.WinKernelIdeal.main_v19_1)),
      θ_run (Cert.WinKernelIdeal.defs (F := Ideal)) (onTc (τ := Cert.WinKernelIdeal.τ) (Cert.WinKernelIdeal.main (F := Ideal))) ⟨m, fun _ => 0, g⟩ (fun r => ∀ c : Dev Cert.WinKernelIdeal.nD,
          r.2.mem ((c.tc : Thread Cert.WinKernelIdeal.nD Cert.WinKernelIdeal.τ).loc Cert.WinKernelIdeal.main_v19_0) = v0 c
          ∧ r.2.mem ((c.tc : Thread Cert.WinKernelIdeal.nD Cert.WinKernelIdeal.τ).loc Cert.WinKernelIdeal.main_v19_1) = v1 c
          ∧ r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
          ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
          ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2)
          ∧ r.2.mem ((c.tc : Thread Cert.WinKernelIdeal.nD Cert.WinKernelIdeal.τ).loc Cert.WinKernelIdeal.main_arg3) = m ((c.tc : Thread Cert.WinKernelIdeal.nD Cert.WinKernelIdeal.τ).loc Cert.WinKernelIdeal.main_arg3)
          ∧ r.2.mem ((c.tc : Thread Cert.WinKernelIdeal.nD Cert.WinKernelIdeal.τ).loc Cert.WinKernelIdeal.main_arg4) = m ((c.tc : Thread Cert.WinKernelIdeal.nD Cert.WinKernelIdeal.τ).loc Cert.WinKernelIdeal.main_arg4)
          ∧ r.2.mem ((c.tc : Thread Cert.WinKernelIdeal.nD Cert.WinKernelIdeal.τ).loc Cert.WinKernelIdeal.main_arg5) = m ((c.tc : Thread Cert.WinKernelIdeal.nD Cert.WinKernelIdeal.τ).loc Cert.WinKernelIdeal.main_arg5))
      ∧ θ_run (Cert.WinReferenceIdeal.defs (F := Ideal)) (onTc (τ := Cert.WinReferenceIdeal.τ) (Cert.WinReferenceIdeal.main (F := Ideal))) ⟨m', fun _ => 0, g'⟩ (fun r => ∀ c : Dev Cert.WinReferenceIdeal.nD,
          r.2.mem ((c.tc : Thread Cert.WinReferenceIdeal.nD Cert.WinReferenceIdeal.τ).loc Cert.WinReferenceIdeal.main_v22) = v0 c
          ∧ r.2.mem ((c.tc : Thread Cert.WinReferenceIdeal.nD Cert.WinReferenceIdeal.τ).loc Cert.WinReferenceIdeal.main_v23) = v1 c
          ∧ r.2.mem ((c.tc : Thread Cert.WinReferenceIdeal.nD Cert.WinReferenceIdeal.τ).loc Cert.WinReferenceIdeal.main_arg0) = m' ((c.tc : Thread Cert.WinReferenceIdeal.nD Cert.WinReferenceIdeal.τ).loc Cert.WinReferenceIdeal.main_arg0)
          ∧ r.2.mem ((c.tc : Thread Cert.WinReferenceIdeal.nD Cert.WinReferenceIdeal.τ).loc Cert.WinReferenceIdeal.main_arg1) = m' ((c.tc : Thread Cert.WinReferenceIdeal.nD Cert.WinReferenceIdeal.τ).loc Cert.WinReferenceIdeal.main_arg1)
          ∧ r.2.mem ((c.tc : Thread Cert.WinReferenceIdeal.nD Cert.WinReferenceIdeal.τ).loc Cert.WinReferenceIdeal.main_arg2) = m' ((c.tc : Thread Cert.WinReferenceIdeal.nD Cert.WinReferenceIdeal.τ).loc Cert.WinReferenceIdeal.main_arg2)
          ∧ r.2.mem ((c.tc : Thread Cert.WinReferenceIdeal.nD Cert.WinReferenceIdeal.τ).loc Cert.WinReferenceIdeal.main_arg3) = m' ((c.tc : Thread Cert.WinReferenceIdeal.nD Cert.WinReferenceIdeal.τ).loc Cert.WinReferenceIdeal.main_arg3)
          ∧ r.2.mem ((c.tc : Thread Cert.WinReferenceIdeal.nD Cert.WinReferenceIdeal.τ).loc Cert.WinReferenceIdeal.main_arg4) = m' ((c.tc : Thread Cert.WinReferenceIdeal.nD Cert.WinReferenceIdeal.τ).loc Cert.WinReferenceIdeal.main_arg4)
          ∧ r.2.mem ((c.tc : Thread Cert.WinReferenceIdeal.nD Cert.WinReferenceIdeal.τ).loc Cert.WinReferenceIdeal.main_arg5) = m' ((c.tc : Thread Cert.WinReferenceIdeal.nD Cert.WinReferenceIdeal.τ).loc Cert.WinReferenceIdeal.main_arg5))

def Claim : Prop :=
  ∃ (hKernel : Cert.Kernel.Facts) (hKernelIdeal : Cert.KernelIdeal.Facts) (hReferenceIdeal : Cert.ReferenceIdeal.Facts) (hMlpKernel : Cert.MlpKernel.Facts) (hMlpKernelIdeal : Cert.MlpKernelIdeal.Facts) (hMlpReferenceIdeal : Cert.MlpReferenceIdeal.Facts) (hDownKernel : Cert.DownKernel.Facts) (hDownKernelIdeal : Cert.DownKernelIdeal.Facts) (hDownReferenceIdeal : Cert.DownReferenceIdeal.Facts) (hUpKernel : Cert.UpKernel.Facts) (hUpKernelIdeal : Cert.UpKernelIdeal.Facts) (hUpReferenceIdeal : Cert.UpReferenceIdeal.Facts) (hInKernel : Cert.InKernel.Facts) (hInKernelIdeal : Cert.InKernelIdeal.Facts) (hInReferenceIdeal : Cert.InReferenceIdeal.Facts) (hWinKernel : Cert.WinKernel.Facts) (hWinKernelIdeal : Cert.WinKernelIdeal.Facts) (hWinReferenceIdeal : Cert.WinReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MlpKernel (hMlpKernel := hMlpKernel)
    ∧ quiescent_MlpKernelIdeal (hMlpKernelIdeal := hMlpKernelIdeal)
    ∧ quiescent_MlpReferenceIdeal (hMlpReferenceIdeal := hMlpReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_WinKernel (hWinKernel := hWinKernel)
    ∧ quiescent_WinKernelIdeal (hWinKernelIdeal := hWinKernelIdeal)
    ∧ quiescent_WinReferenceIdeal (hWinReferenceIdeal := hWinReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_MlpKernel_MlpKernelIdeal
    ∧ algebraic_MlpKernelIdeal_MlpReferenceIdeal (hMlpKernelIdeal := hMlpKernelIdeal) (hMlpReferenceIdeal := hMlpReferenceIdeal)
    ∧ preserves_DownKernel_DownKernelIdeal
    ∧ algebraic_DownKernelIdeal_DownReferenceIdeal (hDownKernelIdeal := hDownKernelIdeal) (hDownReferenceIdeal := hDownReferenceIdeal)
    ∧ preserves_UpKernel_UpKernelIdeal
    ∧ algebraic_UpKernelIdeal_UpReferenceIdeal (hUpKernelIdeal := hUpKernelIdeal) (hUpReferenceIdeal := hUpReferenceIdeal)
    ∧ preserves_InKernel_InKernelIdeal
    ∧ algebraic_InKernelIdeal_InReferenceIdeal (hInKernelIdeal := hInKernelIdeal) (hInReferenceIdeal := hInReferenceIdeal)
    ∧ preserves_WinKernel_WinKernelIdeal
    ∧ algebraic_WinKernelIdeal_WinReferenceIdeal (hWinKernelIdeal := hWinKernelIdeal) (hWinReferenceIdeal := hWinReferenceIdeal)
-- ==== Pre_finite.lean ====
abbrev S8192x512 : Shape := ⟨2, ![8192, 512]⟩
abbrev S1x4x128x128 : Shape := ⟨4, ![1, 4, 128, 128]⟩
abbrev S1x512 : Shape := ⟨2, ![1, 512]⟩
abbrev S_ : Shape := ⟨0, ![]⟩

class Facts : Prop where
  bcast_S_S8192x512 : S_.BroadcastsInDim S8192x512 (![] : Fin 0 → Fin S8192x512.rank)
  bcast_S_S1x4x128x128 : S_.BroadcastsInDim S1x4x128x128 (![] : Fin 0 → Fin S1x4x128x128.rank)
  bcast_S_S1x512 : S_.BroadcastsInDim S1x512 (![] : Fin 0 → Fin S1x512.rank)

variable [Facts]

def fn {F : FTy → Type} [FloatOps F] (main_arg0 : FVec F S8192x512 .f32) (main_arg1 : FVec F S1x4x128x128 .f32) (main_arg2 : FVec F S1x512 .f32) (main_arg3 : FVec F S8192x512 .f32) : IVec S8192x512 1 × IVec S1x4x128x128 1 × IVec S1x512 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S1x4x128x128 .f32 := Host.absf main_arg1
  let main_cst_0 : FVec F S_ .f32 := constant S_ .f32 0x7F800000#32
  let main_v4 : FVec F S1x4x128x128 .f32 := broadcastInDim S1x4x128x128 ![] bcast_S_S1x4x128x128 main_cst_0
  let main_v5 : IVec S1x4x128x128 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  (main_v2, main_v5, main_v8, main_v11)
-- ==== Kernel.lean ====
abbrev S8192x512 : Shape := ⟨2, ![8192, 512]⟩
abbrev S1x4x128x128 : Shape := ⟨4, ![1, 4, 128, 128]⟩
abbrev S1x512 : Shape := ⟨2, ![1, 512]⟩
abbrev S4x128x128 : Shape := ⟨3, ![4, 128, 128]⟩
abbrev S2048x512 : Shape := ⟨2, ![2048, 512]⟩
abbrev S2048x1 : Shape := ⟨2, ![2048, 1]⟩
abbrev S2048x128 : Shape := ⟨2, ![2048, 128]⟩
abbrev S1x128 : Shape := ⟨2, ![1, 128]⟩
abbrev S1x128x128 : Shape := ⟨3, ![1, 128, 128]⟩
abbrev S128x128 : Shape := ⟨2, ![128, 128]⟩
abbrev S128 : Shape := ⟨1, ![128]⟩

abbrev nBuf : Space → Nat
  | .hbm => 9
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S1x4x128x128, .f32⟩
  | .hbm, ⟨2, _⟩ => ⟨S1x512, .f32⟩
  | .hbm, ⟨3, _⟩ => ⟨S8192x512, .f32⟩
  | .hbm, ⟨4, _⟩ => ⟨S4x128x128, .f32⟩
  | .hbm, ⟨5, _⟩ => ⟨S4x128x128, .bf16⟩
  | .hbm, ⟨6, _⟩ => ⟨S8192x512, .bf16⟩
  | .hbm, ⟨7, _⟩ => ⟨S4x128x128, .f32⟩
  | .hbm, ⟨8, _⟩ => ⟨S1x512, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S4x128x128, .bf16⟩
  | .local _ .vmem, ⟨5, _⟩ => ⟨S1x512, .f32⟩
  | .local _ .vmem, ⟨6, _⟩ => ⟨S2048x512, .bf16⟩
  | .local _ .vmem, ⟨7, _⟩ => ⟨S2048x512, .bf16⟩
  | .local _ .vmem, ⟨8, _⟩ => ⟨S4x128x128, .f32⟩
  | .local _ .vmem, ⟨9, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S8192x512 : Shape := ⟨2, ![8192, 512]⟩
abbrev S1x4x128x128 : Shape := ⟨4, ![1, 4, 128, 128]⟩
abbrev S1x512 : Shape := ⟨2, ![1, 512]⟩
abbrev S4x2048x512 : Shape := ⟨3, ![4, 2048, 512]⟩
abbrev S4x128x128 : Shape := ⟨3, ![4, 128, 128]⟩
abbrev S512 : Shape := ⟨1, ![512]⟩
abbrev S4x2048x4x128 : Shape := ⟨4, ![4, 2048, 4, 128]⟩
abbrev S_ : Shape := ⟨0, ![]⟩
abbrev S4x1x4x128 : Shape := ⟨4, ![4, 1, 4, 128]⟩
abbrev S4x2049x4x128 : Shape := ⟨4, ![4, 2049, 4, 128]⟩
abbrev S2048 : Shape := ⟨1, ![2048]⟩
abbrev S4x2049x1x128 : Shape := ⟨4, ![4, 2049, 1, 128]⟩
abbrev S4x2049x128 : Shape := ⟨3, ![4, 2049, 128]⟩
abbrev S4x1x128 : Shape := ⟨3, ![4, 1, 128]⟩
abbrev S4x2047x128 : Shape := ⟨3, ![4, 2047, 128]⟩
abbrev S4x2048x128 : Shape := ⟨3, ![4, 2048, 128]⟩
abbrev S1x2048x1 : Shape := ⟨3, ![1, 2048, 1]⟩
abbrev S4x3x128 : Shape := ⟨3, ![4, 3, 128]⟩
abbrev S4x2045x128 : Shape := ⟨3, ![4, 2045, 128]⟩
abbrev S4x7x128 : Shape := ⟨3, ![4, 7, 128]⟩
abbrev S4x2041x128 : Shape := ⟨3, ![4, 2041, 128]⟩
abbrev S4x15x128 : Shape := ⟨3, ![4, 15, 128]⟩
abbrev S4x2033x128 : Shape := ⟨3, ![4, 2033, 128]⟩
abbrev S4x2048x1x128 : Shape := ⟨4, ![4, 2048, 1, 128]⟩
abbrev S4x128x4x2048 : Shape := ⟨4, ![4, 128, 4, 2048]⟩
abbrev S1x1x512 : Shape := ⟨3, ![1, 1, 512]⟩
abbrev S4x4x2048x128 : Shape := ⟨4, ![4, 4, 2048, 128]⟩

abbrev nBuf : Space → Nat
  | .hbm => 200
  | .vmem => 0
  | .smem => 0
  | _ => 0

abbrev hbmTy0_0 (i : Nat) : BufTy := match i % 128 with
  | 0 => ⟨S8192x512, .f32⟩
  | 1 => ⟨S1x4x128x128, .f32⟩
  | 2 => ⟨S1x512, .f32⟩
  | 3 => ⟨S8192x512, .f32⟩
  | 4 => ⟨S4x2048x512, .f32⟩
  | 5 => ⟨S4x128x128, .f32⟩
  | 6 => ⟨S512, .f32⟩
  | 7 => ⟨S4x2048x4x128, .f32⟩
  | 8 => ⟨S_, .f32⟩
  | 9 => ⟨S4x1x4x128, .f32⟩
  | 10 => ⟨S_, .f32⟩
  | 11 => ⟨S_, .f32⟩
  | 12 => ⟨S4x2048x4x128, .f32⟩
  | 13 => ⟨S4x2049x4x128, .f32⟩
  | 14 => ⟨S_, .f32⟩
  | 15 => ⟨S4x1x4x128, .f32⟩
  | 16 => ⟨S2048, .i32⟩
  | 17 => ⟨S4x2049x1x128, .f32⟩
  | 18 => ⟨S4x2049x128, .f32⟩
  | 19 => ⟨S_, .f32⟩
  | 20 => ⟨S4x1x128, .f32⟩
  | 21 => ⟨S4x2047x128, .f32⟩
  | 22 => ⟨S4x2048x128, .f32⟩
  | 23 => ⟨S_, .f32⟩
  | 24 => ⟨S4x1x128, .f32⟩
  | 25 => ⟨S_, .i32⟩
  | 26 => ⟨S2048, .i32⟩
  | 27 => ⟨S2048, .i32⟩
  | 28 => ⟨S_, .i32⟩
  | 29 => ⟨S2048, .i32⟩
  | 30 => ⟨S2048, .i32⟩
  | 31 => ⟨S2048, .f32⟩
  | 32 => ⟨S1x2048x1, .f32⟩
  | 33 => ⟨S4x2048x128, .f32⟩
  | 34 => ⟨S4x2048x128, .f32⟩
  | 35 => ⟨S4x2048x128, .f32⟩
  | 36 => ⟨S4x2048x128, .f32⟩
  | 37 => ⟨S4x2049x1x128, .f32⟩
  | 38 => ⟨S4x2049x128, .f32⟩
  | 39 => ⟨S_, .f32⟩
  | 40 => ⟨S4x3x128, .f32⟩
  | 41 => ⟨S4x2045x128, .f32⟩
  | 42 => ⟨S4x2048x128, .f32⟩
  | 43 => ⟨S_, .f32⟩
  | 44 => ⟨S4x3x128, .f32⟩
  | 45 => ⟨S_, .i32⟩
  | 46 => ⟨S2048, .i32⟩
  | 47 => ⟨S2048, .i32⟩
  | 48 => ⟨S_, .i32⟩
  | 49 => ⟨S2048, .i32⟩
  | 50 => ⟨S2048, .i32⟩
  | 51 => ⟨S2048, .f32⟩
  | 52 => ⟨S1x2048x1, .f32⟩
  | 53 => ⟨S4x2048x128, .f32⟩
  | 54 => ⟨S4x2048x128, .f32⟩
  | 55 => ⟨S4x2048x128, .f32⟩
  | 56 => ⟨S4x2048x128, .f32⟩
  | 57 => ⟨S4x2049x1x128, .f32⟩
  | 58 => ⟨S4x2049x128, .f32⟩
  | 59 => ⟨S_, .f32⟩
  | 60 => ⟨S4x7x128, .f32⟩
  | 61 => ⟨S4x2041x128, .f32⟩
  | 62 => ⟨S4x2048x128, .f32⟩
  | 63 => ⟨S_, .f32⟩
  | 64 => ⟨S4x7x128, .f32⟩
  | 65 => ⟨S_, .i32⟩
  | 66 => ⟨S2048, .i32⟩
  | 67 => ⟨S2048, .i32⟩
  | 68 => ⟨S_, .i32⟩
  | 69 => ⟨S2048, .i32⟩
  | 70 => ⟨S2048, .i32⟩
  | 71 => ⟨S2048, .f32⟩
  | 72 => ⟨S1x2048x1, .f32⟩
  | 73 => ⟨S4x2048x128, .f32⟩
  | 74 => ⟨S4x2048x128, .f32⟩
  | 75 => ⟨S4x2048x128, .f32⟩
  | 76 => ⟨S4x2048x128, .f32⟩
  | 77 => ⟨S4x2049x1x128, .f32⟩
  | 78 => ⟨S4x2049x128, .f32⟩
  | 79 => ⟨S_, .f32⟩
  | 80 => ⟨S4x15x128, .f32⟩
  | 81 => ⟨S4x2033x128, .f32⟩
  | 82 => ⟨S4x2048x128, .f32⟩
  | 83 => ⟨S_, .f32⟩
  | 84 => ⟨S4x15x128, .f32⟩
  | 85 => ⟨S_, .i32⟩
  | 86 => ⟨S2048, .i32⟩
  | 87 => ⟨S2048, .i32⟩
  | 88 => ⟨S_, .i32⟩
  | 89 => ⟨S2048, .i32⟩
  | 90 => ⟨S2048, .i32⟩
  | 91 => ⟨S2048, .f32⟩
  | 92 => ⟨S1x2048x1, .f32⟩
  | 93 => ⟨S4x2048x128, .f32⟩
  | 94 => ⟨S4x2048x128, .f32⟩
  | 95 => ⟨S4x2048x128, .f32⟩
  | 96 => ⟨S4x2048x128, .f32⟩
  | 97 => ⟨S4x2048x1x128, .f32⟩
  | 98 => ⟨S4x2048x1x128, .f32⟩
  | 99 => ⟨S4x2048x1x128, .f32⟩
  | 100 => ⟨S4x2048x1x128, .f32⟩
  | 101 => ⟨S4x2048x4x128, .f32⟩
  | 102 => ⟨S4x2048x4x128, .f32⟩
  | 103 => ⟨S4x128x4x2048, .f32⟩
  | 104 => ⟨S4x2048x4x128, .f32⟩
  | 105 => ⟨S4x2048x512, .f32⟩
  | 106 => ⟨S1x1x512, .f32⟩
  | 107 => ⟨S4x2048x512, .f32⟩
  | 108 => ⟨S4x2048x512, .f32⟩
  | 109 => ⟨S4x2048x512, .f32⟩
  | 110 => ⟨S4x2048x512, .f32⟩
  | 111 => ⟨S_, .f32⟩
  | 112 => ⟨S512, .f32⟩
  | 113 => ⟨S1x1x512, .f32⟩
  | 114 => ⟨S4x2048x512, .f32⟩
  | 115 => ⟨S4x2048x512, .f32⟩
  | 116 => ⟨S_, .f32⟩
  | 117 => ⟨S512, .f32⟩
  | 118 => ⟨S4x2048x4x128, .f32⟩
  | 119 => ⟨S4x128x4x2048, .f32⟩
  | 120 => ⟨S4x4x2048x128, .f32⟩
  | 121 => ⟨S4x2048x4x128, .f32⟩
  | 122 => ⟨S4x128x128, .f32⟩
  | 123 => ⟨S4x128x128, .f32⟩
  | 124 => ⟨S4x2048x4x128, .f32⟩
  | 125 => ⟨S4x2048x1x128, .f32⟩
  | 126 => ⟨S4x2048x128, .f32⟩
  | 127 => ⟨S4x2048x1x128, .f32⟩
  | _ => ⟨S8192x512, .f32⟩

abbrev hbmTy0_1 (i : Nat) : BufTy := match i % 128 with
  | 0 => ⟨S4x2048x128, .f32⟩
  | 1 => ⟨S4x2048x1x128, .f32⟩
  | 2 => ⟨S4x2048x128, .f32⟩
  | 3 => ⟨S4x2048x1x128, .f32⟩
  | 4 => ⟨S4x2048x128, .f32⟩
  | 5 => ⟨S4x2048x128, .f32⟩
  | 6 => ⟨S4x2048x128, .f32⟩
  | 7 => ⟨S4x2048x128, .f32⟩
  | 8 => ⟨S_, .f32⟩
  | 9 => ⟨S4x2049x128, .f32⟩
  | 10 => ⟨S4x15x128, .f32⟩
  | 11 => ⟨S4x2033x128, .f32⟩
  | 12 => ⟨S_, .f32⟩
  | 13 => ⟨S4x2049x128, .f32⟩
  | 14 => ⟨S4x2049x128, .f32⟩
  | 15 => ⟨S4x2049x1x128, .f32⟩
  | 16 => ⟨S_, .f32⟩
  | 17 => ⟨S4x2049x4x128, .f32⟩
  | 18 => ⟨S4x2048x128, .f32⟩
  | 19 => ⟨S4x2048x128, .f32⟩
  | 20 => ⟨S4x2048x128, .f32⟩
  | 21 => ⟨S_, .f32⟩
  | 22 => ⟨S4x2049x128, .f32⟩
  | 23 => ⟨S4x7x128, .f32⟩
  | 24 => ⟨S4x2041x128, .f32⟩
  | 25 => ⟨S_, .f32⟩
  | 26 => ⟨S4x2049x128, .f32⟩
  | 27 => ⟨S4x2049x128, .f32⟩
  | 28 => ⟨S4x2049x1x128, .f32⟩
  | 29 => ⟨S_, .f32⟩
  | 30 => ⟨S4x2049x4x128, .f32⟩
  | 31 => ⟨S4x2049x4x128, .f32⟩
  | 32 => ⟨S4x2048x128, .f32⟩
  | 33 => ⟨S4x2048x128, .f32⟩
  | 34 => ⟨S4x2048x128, .f32⟩
  | 35 => ⟨S_, .f32⟩
  | 36 => ⟨S4x2049x128, .f32⟩
  | 37 => ⟨S4x3x128, .f32⟩
  | 38 => ⟨S4x2045x128, .f32⟩
  | 39 => ⟨S_, .f32⟩
  | 40 => ⟨S4x2049x128, .f32⟩
  | 41 => ⟨S4x2049x128, .f32⟩
  | 42 => ⟨S4x2049x1x128, .f32⟩
  | 43 => ⟨S_, .f32⟩
  | 44 => ⟨S4x2049x4x128, .f32⟩
  | 45 => ⟨S4x2049x4x128, .f32⟩
  | 46 => ⟨S4x2048x128, .f32⟩
  | 47 => ⟨S4x2048x128, .f32⟩
  | 48 => ⟨S4x2048x128, .f32⟩
  | 49 => ⟨S_, .f32⟩
  | 50 => ⟨S4x2049x128, .f32⟩
  | 51 => ⟨S4x1x128, .f32⟩
  | 52 => ⟨S4x2047x128, .f32⟩
  | 53 => ⟨S_, .f32⟩
  | 54 => ⟨S4x2049x128, .f32⟩
  | 55 => ⟨S4x2049x128, .f32⟩
  | 56 => ⟨S4x2049x1x128, .f32⟩
  | 57 => ⟨S_, .f32⟩
  | 58 => ⟨S4x2049x4x128, .f32⟩
  | 59 => ⟨S4x2049x4x128, .f32⟩
  | 60 => ⟨S4x1x4x128, .f32⟩
  | 61 => ⟨S4x2048x4x128, .f32⟩
  | 62 => ⟨S_, .f32⟩
  | 63 => ⟨S_, .f32⟩
  | 64 => ⟨S4x2048x4x128, .f32⟩
  | 65 => ⟨S4x2048x4x128, .f32⟩
  | 66 => ⟨S4x2048x512, .f32⟩
  | 67 => ⟨S1x512, .f32⟩
  | 68 => ⟨S1x4x128x128, .f32⟩
  | 69 => ⟨S8192x512, .f32⟩
  | 70 => ⟨S8192x512, .bf16⟩
  | 71 => ⟨S4x128x128, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_call0_call0_cst : Ref sig .tc := ⟨.hbm, 10, rfl⟩
abbrev main_call0_call0_v0 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_c_10 : Ref sig .tc := ⟨.hbm, 65, rfl⟩
abbrev main_v47 : Ref sig .tc := ⟨.hbm, 66, rfl⟩
abbrev main_v48 : Ref sig .tc := ⟨.hbm, 67, rfl⟩
abbrev main_c_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_13 : Ref sig .tc := ⟨.hbm, 83, rfl⟩
abbrev main_v62 : Ref sig .tc := ⟨.hbm, 84, rfl⟩
abbrev main_c_14 : Ref sig .tc := ⟨.hbm, 85, rfl⟩
abbrev main_v63 : Ref sig .tc := ⟨.hbm, 86, rfl⟩
abbrev main_v64 : Ref sig .tc := ⟨.hbm, 87, rfl⟩
abbrev main_c_15 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_16 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_17 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_cst_18 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_cst_19 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_cst_20 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_cst_21 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_cst_22 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_23 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_cst_24 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_cst_25 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_cst_26 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_cst_27 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_cst_28 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_cst_29 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_call1_call0_cst : Ref sig .tc := ⟨.hbm, 190, rfl⟩
abbrev main_call1_call0_v0 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩

abbrev nD : Nat := 1
abbrev τ : Topo := Topo.v7x

variable {F : FTy → Type} [FloatOps F]
-- ==== MlpKernel.lean ====
abbrev S8192x1024 : Shape := ⟨2, ![8192, 1024]⟩
abbrev S8192x512 : Shape := ⟨2, ![8192, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x4096 : Shape := ⟨2, ![1024, 4096]⟩
abbrev S8192x4096 : Shape := ⟨2, ![8192, 4096]⟩
abbrev S4096x1024 : Shape := ⟨2, ![4096, 1024]⟩
abbrev S8x128 : Shape := ⟨2, ![8, 128]⟩
abbrev S256x1024 : Shape := ⟨2, ![256, 1024]⟩
abbrev S256x4096 : Shape := ⟨2, ![256, 4096]⟩
abbrev S256x512 : Shape := ⟨2, ![256, 512]⟩
abbrev S2 : Shape := ⟨1, ![2]⟩
abbrev S256 : Shape := ⟨1, ![256]⟩
abbrev S256x1 : Shape := ⟨2, ![256, 1]⟩
abbrev S512x1024 : Shape := ⟨2, ![512, 1024]⟩
abbrev S1 : Shape := ⟨1, ![1]⟩

abbrev nBuf : Space → Nat
  | .hbm => 54
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1x1024x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1024x4096, .f32⟩
  | .hbm, ⟨30, _⟩ => ⟨S8192x4096, .f32⟩
  | .hbm, ⟨31, _⟩ => ⟨S_, .f32⟩
  | .hbm, ⟨32, _⟩ => ⟨S8192x4096, .f32⟩
  | .hbm, ⟨33, _⟩ => ⟨S8192x4096, .f32⟩
  | .hbm, ⟨34, _⟩ => ⟨S8192x1024, .bf16⟩
  | .hbm, ⟨35, _⟩ => ⟨S8192x4096, .f32⟩
  | .hbm, ⟨36, _⟩ => ⟨S8192x4096, .bf16⟩
  | .hbm, ⟨37, _⟩ => ⟨S4096x1024, .f32⟩
  | .hbm, ⟨38, _⟩ => ⟨S4096x1024, .bf16⟩
  | .hbm, ⟨39, _⟩ => ⟨S1024x4096, .f32⟩
  | .hbm, ⟨40, _⟩ => ⟨S1024x4096, .bf16⟩
  | .hbm, ⟨41, _⟩ => ⟨S1024x1024, .f32⟩
  | .hbm, ⟨42, _⟩ => ⟨S1024x1024, .bf16⟩
  | .hbm, ⟨43, _⟩ => ⟨S8192x512, .bf16⟩
  | .hbm, ⟨44, _⟩ => ⟨S8192x512, .bf16⟩
  | .hbm, ⟨45, _⟩ => ⟨S_, .f32⟩
  | .hbm, ⟨46, _⟩ => ⟨S8x128, .f32⟩
  | .hbm, ⟨47, _⟩ => ⟨S8192x4096, .bf16⟩
  | .hbm, ⟨48, _⟩ => ⟨S8192x1024, .f32⟩
  | .hbm, ⟨49, _⟩ => ⟨S8192x512, .bf16⟩
  | .hbm, ⟨50, _⟩ => ⟨S8192x512, .f32⟩
  | .hbm, ⟨51, _⟩ => ⟨S1x1024, .f32⟩
  | .hbm, ⟨52, _⟩ => ⟨S1024x1024, .f32⟩
  | .hbm, ⟨53, _⟩ => ⟨S1024x1024, .bf16⟩
  | .local _ .vmem, ⟨0, _⟩ => ⟨S256x1024, .bf16⟩
  | .local _ .vmem, ⟨1, _⟩ => ⟨S256x1024, .bf16⟩
  | .local _ .vmem, ⟨2, _⟩ => ⟨S256x4096, .bf16⟩
  | .local _ .vmem, ⟨3, _⟩ => ⟨S256x4096, .bf16⟩
  | .local _ .vmem, ⟨4, _⟩ => ⟨S4096x1024, .bf16⟩
  | .local _ .vmem, ⟨5, _⟩ => ⟨S1024x4096, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1024x1024, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S8x128, .f32⟩
  | .local _ .vmem, ⟨17, _⟩ => ⟨S256x4096, .bf16⟩
  | .local _ .vmem, ⟨18, _⟩ => ⟨S256x4096, .bf16⟩
  | .local _ .vmem, ⟨19, _⟩ => ⟨S256x1024, .f32⟩
  | .local _ .vmem, ⟨20, _⟩ => ⟨S256x1024, .f32⟩
  | .local _ .vmem, ⟨21, _⟩ => ⟨S256x512, .bf16⟩
  | .local _ .vmem, ⟨22, _⟩ => ⟨S256x512, .bf16⟩
  | .local _ .vmem, ⟨23, _⟩ => ⟨S256x512, .f32⟩
  | .local _ .vmem, ⟨24, _⟩ => ⟨S256x512, .f32⟩
  | .local _ .vmem, ⟨25, _⟩ => ⟨S1x1024, .f32⟩
  | .local _ .vmem, ⟨26, _⟩ => ⟨S1024x1024, .f32⟩
  | .local _ .vmem, ⟨27, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33_0 : Ref sig .tc := ⟨.hbm, 47, rfl⟩
abbrev main_v33_1 : Ref sig .tc := ⟨.hbm, 48, rfl⟩
abbrev main_v33_2 : Ref sig .tc := ⟨.hbm, 49, rfl⟩
abbrev main_v33_3 : Ref sig .tc := ⟨.hbm, 50, rfl⟩
abbrev main_v33_4 : Ref sig .tc := ⟨.hbm, 51, rfl⟩
abbrev main_v33_5 : Ref sig .tc := ⟨.hbm, 52, rfl⟩
abbrev main_v33_6 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MlpReferenceIdeal.lean ====
abbrev S8192x1024 : Shape := ⟨2, ![8192, 1024]⟩
abbrev S8192x512 : Shape := ⟨2, ![8192, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S_ : Shape := ⟨0, ![]⟩
abbrev S8192x4096 : Shape := ⟨2, ![8192, 4096]⟩
abbrev S1024x1024 : Shape := ⟨2, ![1024, 1024]⟩
abbrev S1024 : Shape := ⟨1, ![1024]⟩
abbrev S8192 : Shape := ⟨1, ![8192]⟩
abbrev S8192x1 : Shape := ⟨2, ![8192, 1]⟩
abbrev S1024x4096 : Shape := ⟨2, ![1024, 4096]⟩
abbrev S4096x1024 : Shape := ⟨2, ![4096, 1024]⟩

abbrev nBuf : Space → Nat
  | .hbm => 99
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1x1024x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S8192x1024, .f32⟩
  | .hbm, ⟨8, _⟩ => ⟨S_, .f32⟩
  | .hbm, ⟨9, _⟩ => ⟨S8192x4096, .f32⟩
  | .hbm, ⟨10, _⟩ => ⟨S8192x1024, .f32⟩
  | .hbm, ⟨11, _⟩ => ⟨S1024x1024, .f32⟩
  | .hbm, ⟨12, _⟩ => ⟨S8192x1024, .f32⟩
  | .hbm, ⟨13, _⟩ => ⟨S8192x1024, .f32⟩
  | .hbm, ⟨14, _⟩ => ⟨S1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S1024x4096, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S8192x4096, .f32⟩
  | .hbm, ⟨40, _⟩ => ⟨S8192x4096, .f32⟩
  | .hbm, ⟨41, _⟩ => ⟨S_, .f32⟩
  | .hbm, ⟨42, _⟩ => ⟨S8192x4096, .f32⟩
  | .hbm, ⟨43, _⟩ => ⟨S8192x4096, .i1⟩
  | .hbm, ⟨44, _⟩ => ⟨S_, .f32⟩
  | .hbm, ⟨45, _⟩ => ⟨S8192x4096, .f32⟩
  | .hbm, ⟨46, _⟩ => ⟨S8192x4096, .f32⟩
  | .hbm, ⟨47, _⟩ => ⟨S_, .f32⟩
  | .hbm, ⟨48, _⟩ => ⟨S8192x4096, .f32⟩
  | .hbm, ⟨49, _⟩ => ⟨S8192x4096, .f32⟩
  | .hbm, ⟨50, _⟩ => ⟨S4096x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x4096, .f32⟩
  | .hbm, ⟨56, _⟩ => ⟨S8192x4096, .f32⟩
  | .hbm, ⟨57, _⟩ => ⟨S_, .f32⟩
  | .hbm, ⟨58, _⟩ => ⟨S8192x4096, .f32⟩
  | .hbm, ⟨59, _⟩ => ⟨S8192x4096, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S8192x1024, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S1x1024, .f32⟩
  | .hbm, ⟨88, _⟩ => ⟨S1024x1024, .f32⟩
  | .hbm, ⟨89, _⟩ => ⟨S1024x1024, .f32⟩
  | .hbm, ⟨90, _⟩ => ⟨S8192x1024, .f32⟩
  | .hbm, ⟨91, _⟩ => ⟨S1x1024x1024, .f32⟩
  | .hbm, ⟨92, _⟩ => ⟨S8192x512, .f32⟩
  | .hbm, ⟨93, _⟩ => ⟨S8192x512, .f32⟩
  | .hbm, ⟨94, _⟩ => ⟨S8192x4096, .bf16⟩
  | .hbm, ⟨95, _⟩ => ⟨S8192x512, .bf16⟩
  | .hbm, ⟨96, _⟩ => ⟨S1024x1024, .f32⟩
  | .hbm, ⟨97, _⟩ => ⟨S1024x1024, .f32⟩
  | .hbm, ⟨98, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_cst : Ref sig .tc := ⟨.hbm, 38, rfl⟩
abbrev main_call0_v0 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]
-- ==== DownKernel.lean ====
abbrev S8192x4096 : Shape := ⟨2, ![8192, 4096]⟩
abbrev S8192x1024 : Shape := ⟨2, ![8192, 1024]⟩
abbrev S_ : Shape := ⟨0, ![]⟩
abbrev S8x512x1024 : Shape := ⟨3, ![8, 512, 1024]⟩
abbrev S1024x4096 : Shape := ⟨2, ![1024, 4096]⟩
abbrev S1024x1024 : Shape := ⟨2, ![1024, 1024]⟩
abbrev S2 : Shape := ⟨1, ![2]⟩
abbrev S1x512x1024 : Shape := ⟨3, ![1, 512, 1024]⟩
abbrev S512x1024 : Shape := ⟨2, ![512, 1024]⟩
abbrev S1024x512 : Shape := ⟨2, ![1024, 512]⟩
abbrev S1 : Shape := ⟨1, ![1]⟩

abbrev nBuf : Space → Nat
  | .hbm => 10
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S8192x1024, .bf16⟩
  | .hbm, ⟨8, _⟩ => ⟨S8x512x1024, .f32⟩
  | .hbm, ⟨9, _⟩ => ⟨S8x512x1024, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1024, .bf16⟩
  | .local _ .vmem, ⟨3, _⟩ => ⟨S1024x1024, .bf16⟩
  | .local _ .vmem, ⟨4, _⟩ => ⟨S8x512x1024, .f32⟩
  | .local _ .vmem, ⟨5, _⟩ => ⟨S8x512x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== DownReferenceIdeal.lean ====
abbrev S8192x4096 : Shape := ⟨2, ![8192, 4096]⟩
abbrev S8192x1024 : Shape := ⟨2, ![8192, 1024]⟩
abbrev S_ : Shape := ⟨0, ![]⟩
abbrev S1x4096x1024 : Shape := ⟨3, ![1, 4096, 1024]⟩
abbrev S4096x1024 : Shape := ⟨2, ![4096, 1024]⟩
abbrev S1024x4096 : Shape := ⟨2, ![1024, 4096]⟩
abbrev S8x512x1024 : Shape := ⟨3, ![8, 512, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S1x4096x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S4096x1024, .f32⟩
  | .hbm, ⟨9, _⟩ => ⟨S8192x1024, .f32⟩
  | .hbm, ⟨10, _⟩ => ⟨S1024x4096, .f32⟩
  | .hbm, ⟨11, _⟩ => ⟨S4096x1024, .f32⟩
  | .hbm, ⟨12, _⟩ => ⟨S1x4096x1024, .f32⟩
  | .hbm, ⟨13, _⟩ => ⟨S4096x1024, .f32⟩
  | .hbm, ⟨14, _⟩ => ⟨S8x512x1024, .f32⟩
  | .hbm, ⟨15, _⟩ => ⟨S8x512x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== UpKernel.lean ====
abbrev S8192x1024 : Shape := ⟨2, ![8192, 1024]⟩
abbrev S1x1024 : Shape := ⟨2, ![1, 1024]⟩
abbrev S8192x4096 : Shape := ⟨2, ![8192, 4096]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8x1024x512 : Shape := ⟨3, ![8, 1024, 512]⟩
abbrev S1024x1024 : Shape := ⟨2, ![1024, 1024]⟩
abbrev S1024x4096 : Shape := ⟨2, ![1024, 4096]⟩
abbrev S2 : Shape := ⟨1, ![2]⟩
abbrev S1x1024x512 : Shape := ⟨3, ![1, 1024, 512]⟩
abbrev S1024x512 : Shape := ⟨2, ![1024, 512]⟩
abbrev S1 : Shape := ⟨1, ![1]⟩

abbrev nBuf : Space → Nat
  | .hbm => 24
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x4096, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x4096, .bf16⟩
  | .hbm, ⟨22, _⟩ => ⟨S8x1024x512, .f32⟩
  | .hbm, ⟨23, _⟩ => ⟨S8x1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x4096, .bf16⟩
  | .local _ .vmem, ⟨3, _⟩ => ⟨S1024x4096, .bf16⟩
  | .local _ .vmem, ⟨4, _⟩ => ⟨S8x1024x512, .f32⟩
  | .local _ .vmem, ⟨5, _⟩ => ⟨S8x1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== UpReferenceIdeal.lean ====
abbrev S8192x1024 : Shape := ⟨2, ![8192, 1024]⟩
abbrev S1x1024 : Shape := ⟨2, ![1, 1024]⟩
abbrev S8192x4096 : Shape := ⟨2, ![8192, 4096]⟩
abbrev S_ : Shape := ⟨0, ![]⟩
abbrev S1x1024x4096 : Shape := ⟨3, ![1, 1024, 4096]⟩
abbrev S1024 : Shape := ⟨1, ![1024]⟩
abbrev S8192 : Shape := ⟨1, ![8192]⟩
abbrev S8192x1 : Shape := ⟨2, ![8192, 1]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x4096, .f32⟩
  | .hbm, ⟨3, _⟩ => ⟨S_, .f32⟩
  | .hbm, ⟨4, _⟩ => ⟨S1x1024x4096, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1024x4096, .f32⟩
  | .hbm, ⟨23, _⟩ => ⟨S8192x4096, .f32⟩
  | .hbm, ⟨24, _⟩ => ⟨S4096x1024, .f32⟩
  | .hbm, ⟨25, _⟩ => ⟨S1024x4096, .f32⟩
  | .hbm, ⟨26, _⟩ => ⟨S1x1024x4096, .f32⟩
  | .hbm, ⟨27, _⟩ => ⟨S1024x4096, .f32⟩
  | .hbm, ⟨28, _⟩ => ⟨S1024x8x512, .f32⟩
  | .hbm, ⟨29, _⟩ => ⟨S8x1024x512, .f32⟩
  | .hbm, ⟨30, _⟩ => ⟨S8x1024x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== InKernel.lean ====
abbrev S8192x512 : Shape := ⟨2, ![8192, 512]⟩
abbrev S8192x128 : Shape := ⟨2, ![8192, 128]⟩
abbrev S1x1024x1280 : Shape := ⟨3, ![1, 1024, 1280]⟩
abbrev S8192x1024 : Shape := ⟨2, ![8192, 1024]⟩
abbrev S1x1024 : Shape := ⟨2, ![1, 1024]⟩
abbrev S1024x1280 : Shape := ⟨2, ![1024, 1280]⟩
abbrev S1280x1024 : Shape := ⟨2, ![1280, 1024]⟩
abbrev S_ : Shape := ⟨0, ![]⟩
abbrev S8x128 : Shape := ⟨2, ![8, 128]⟩
abbrev S1024x512 : Shape := ⟨2, ![1024, 512]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 19
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8192x512, .f32⟩
  | .hbm, ⟨4, _⟩ => ⟨S1x1024x1280, .f32⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S8192x512, .bf16⟩
  | .hbm, ⟨9, _⟩ => ⟨S8192x128, .bf16⟩
  | .hbm, ⟨10, _⟩ => ⟨S8192x128, .bf16⟩
  | .hbm, ⟨11, _⟩ => ⟨S8192x512, .bf16⟩
  | .hbm, ⟨12, _⟩ => ⟨S1024x1280, .f32⟩
  | .hbm, ⟨13, _⟩ => ⟨S1280x1024, .f32⟩
  | .hbm, ⟨14, _⟩ => ⟨S1280x1024, .bf16⟩
  | .hbm, ⟨15, _⟩ => ⟨S_, .f32⟩
  | .hbm, ⟨16, _⟩ => ⟨S8x128, .f32⟩
  | .hbm, ⟨17, _⟩ => ⟨S8192x1024, .f32⟩
  | .hbm, ⟨18, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x512, .bf16⟩
  | .local _ .vmem, ⟨7, _⟩ => ⟨S1024x512, .bf16⟩
  | .local _ .vmem, ⟨8, _⟩ => ⟨S1280x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S8x128, .f32⟩
  | .local _ .vmem, ⟨15, _⟩ => ⟨S1024x1024, .f32⟩
  | .local _ .vmem, ⟨16, _⟩ => ⟨S1024x1024, .f32⟩
  | .local _ .vmem, ⟨17, _⟩ => ⟨S1x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1280x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InReferenceIdeal.lean ====
abbrev S8192x512 : Shape := ⟨2, ![8192, 512]⟩
abbrev S8192x128 : Shape := ⟨2, ![8192, 128]⟩
abbrev S1x1024x1280 : Shape := ⟨3, ![1, 1024, 1280]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x1280 : Shape := ⟨2, ![1024, 1280]⟩
abbrev S8192x1280 : Shape := ⟨2, ![8192, 1280]⟩

abbrev nBuf : Space → Nat
  | .hbm => 60
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8192x512, .f32⟩
  | .hbm, ⟨4, _⟩ => ⟨S1x1024x1280, .f32⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1024x1280, .f32⟩
  | .hbm, ⟨30, _⟩ => ⟨S8192x1280, .f32⟩
  | .hbm, ⟨31, _⟩ => ⟨S8192x1280, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S1x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== WinKernel.lean ====
abbrev S8192x512 : Shape := ⟨2, ![8192, 512]⟩
abbrev S8192x128 : Shape := ⟨2, ![8192, 128]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1280x1024 : Shape := ⟨2, ![1280, 1024]⟩
abbrev S1024x512 : Shape := ⟨2, ![1024, 512]⟩
abbrev S1024x128 : Shape := ⟨2, ![1024, 128]⟩
abbrev S1024x1024 : Shape := ⟨2, ![1024, 1024]⟩
abbrev S1024x1280 : Shape := ⟨2, ![1024, 1280]⟩

abbrev nBuf : Space → Nat
  | .hbm => 30
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8192x512, .f32⟩
  | .hbm, ⟨4, _⟩ => ⟨S8192x1024, .f32⟩
  | .hbm, ⟨5, _⟩ => ⟨S1x1024, .f32⟩
  | .hbm, ⟨6, _⟩ => ⟨S8192x512, .bf16⟩
  | .hbm, ⟨7, _⟩ => ⟨S8192x128, .bf16⟩
  | .hbm, ⟨8, _⟩ => ⟨S8192x128, .bf16⟩
  | .hbm, ⟨9, _⟩ => ⟨S8192x512, .bf16⟩
  | .hbm, ⟨10, _⟩ => ⟨S1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S1280x1024, .f32⟩
  | .hbm, ⟨29, _⟩ => ⟨S1280x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .bf16⟩
  | .local _ .vmem, ⟨9, _⟩ => ⟨S1024x1024, .bf16⟩
  | .local _ .vmem, ⟨10, _⟩ => ⟨S1280x1024, .f32⟩
  | .local _ .vmem, ⟨11, _⟩ => ⟨S1280x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v20 : BitVec 1 := Scalar.cmpi .eq arg0 c7_i32
  let v21 : BitVec 32 := Scalar.extui v20
  let c0_i32_14 : BitVec 32 := 0#32
  let v22 : BitVec 1 := Scalar.cmpi .ne v21 c0_i32_14
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1280x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1280x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== WinReferenceIdeal.lean ====
abbrev S8192x512 : Shape := ⟨2, ![8192, 512]⟩
abbrev S8192x128 : Shape := ⟨2, ![8192, 128]⟩
abbrev S8192x1024 : Shape := ⟨2, ![8192, 1024]⟩
abbrev S1x1024 : Shape := ⟨2, ![1, 1024]⟩
abbrev S_ : Shape := ⟨0, ![]⟩
abbrev S1x1024x1280 : Shape := ⟨3, ![1, 1024, 1280]⟩
abbrev S1024 : Shape := ⟨1, ![1024]⟩
abbrev S8192 : Shape := ⟨1, ![8192]⟩
abbrev S8192x1 : Shape := ⟨2, ![8192, 1]⟩
abbrev S1024x1280 : Shape := ⟨2, ![1024, 1280]⟩
abbrev S8192x1280 : Shape := ⟨2, ![8192, 1280]⟩
abbrev S1280x1024 : Shape := ⟨2, ![1280, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8192x512, .f32⟩
  | .hbm, ⟨4, _⟩ => ⟨S8192x1024, .f32⟩
  | .hbm, ⟨5, _⟩ => ⟨S1x1024, .f32⟩
  | .hbm, ⟨6, _⟩ => ⟨S_, .f32⟩
  | .hbm, ⟨7, _⟩ => ⟨S1x1024x1280, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1024x1280, .f32⟩
  | .hbm, ⟨26, _⟩ => ⟨S8192x1280, .f32⟩
  | .hbm, ⟨27, _⟩ => ⟨S8192x1280, .f32⟩
  | .hbm, ⟨28, _⟩ => ⟨S1280x1024, .f32⟩
  | .hbm, ⟨29, _⟩ => ⟨S1024x1280, .f32⟩
  | .hbm, ⟨30, _⟩ => ⟨S1x1024x1280, .f32⟩
  | .hbm, ⟨31, _⟩ => ⟨S1024x1280, .f32⟩
  | .hbm, ⟨32, _⟩ => ⟨S1280x1024, .f32⟩
  | .hbm, ⟨33, _⟩ => ⟨S1280x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Proof.MlpKit.lean ====
module
public import proofs.«01_k».proof.Proof.Gen.MlpKernelIdeal.Frame
public import proofs.«01_k».proof.Proof.Gen.MlpKernelIdeal.Skeleton
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
@[expose] public section
set_option maxRecDepth 16384
noncomputable section
namespace Cert.MlpKernelIdeal.Mlp
open Cert.MlpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)
set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain
theorem beforeD_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem beforeD_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem beforeD_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem beforeD_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem beforeD_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem beforeD_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem beforeD_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem beforeD_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem beforeD_8_of {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem beforeD_9_of {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem beforeD_10_of {c : Dev nD} (dat : Dat τ (Elt F) Unit ℕ (Pipeline.UD sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
def R0 : Finset (Ref sig .tc) := {main_v33_5, main_v33_6}
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)
abbrev cond0_1 (i : grid0.Coords) : Prop := (Scalar.cmpi .ne (Scalar.extui (Scalar.cmpi .eq (BitVec.ofNat 32 (i 0).val) 31#32)) 0#32) = 1#1
theorem hcond0_1 : ∀ t : Fin cfg0.N, cond0_1 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_1, e0]
    word_cmp
   : ∀ t : Fin grid0.N, cond0_1 (grid0.coords t) ↔ t.val % 32 = 31)
abbrev scM0_0 : Memref sig .tc .vmem S1024x1024 .f32 := Memref.whole cc0_scratch0
abbrev scM0_1 : Memref sig .tc .vmem S1024x1024 .bf16 := Memref.whole cc0_scratch1
abbrev hbM0_0 : Memref sig .tc .hbm S1024x1024 .f32 := Memref.whole main_v33_5
abbrev hbM0_1 : Memref sig .tc .hbm S1024x1024 .bf16 := Memref.whole main_v33_6
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f
abbrev osem0 : Fin 2 → SemLoc sig := fun j => (![SemLoc.dma 26, SemLoc.dma 27] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 26) 0 ∗ semVal ((c : Thread nD τ), SemLoc.dma 27) 0) := by
  rw [Pipeline.ownSems0_eq_of_list c osem0 [0, 1] (by decide) (by decide)]; rfl
def H0 : Finset (Ref sig .tc) := {}
theorem H0_sub : H0 ⊆ Pipeline.restRefs sig spec0 := by decide
theorem R0_sub : R0 ⊆ Pipeline.restRefs sig spec0 \ H0 := by decide
theorem hbmPts0_eq (c : Dev nD) :
    (bigSep H0 (fun b => ((c : Thread nD τ).loc b) ↦{fullShare} V m c b) : sProp 𝕄) = iprop(emp) := by
  rw [BI.bigSep_eq_bigSepL_of_eq [] (by decide) (by decide)]; rfl

/-- The buffers one grid point works in: the windows' slots and the two scratch buffers. -/
structure Mems where
  a1 : Memref sig .tc .vmem S256x1024 .bf16
  h1 : a1.IsWhole
  a2 : Memref sig .tc .vmem S256x4096 .bf16
  h2 : a2.IsWhole
  a3 : Memref sig .tc .vmem S4096x1024 .bf16
  h3 : a3.IsWhole
  a4 : Memref sig .tc .vmem S1024x4096 .bf16
  h4 : a4.IsWhole
  a5 : Memref sig .tc .vmem S256x1024 .f32
  h5 : a5.IsWhole
  a6 : Memref sig .tc .vmem S256x1024 .f32
  h6 : a6.IsWhole
  a7 : Memref sig .tc .vmem S1x1024 .f32
  h7 : a7.IsWhole
  a8 : Memref sig .tc .vmem S1024x1024 .bf16
  h8 : a8.IsWhole
  a9 : Memref sig .tc .vmem S256x512 .bf16
  h9 : a9.IsWhole
  a10 : Memref sig .tc .vmem S256x512 .bf16
  h10 : a10.IsWhole
  a11 : Memref sig .tc .vmem S8x128 .f32
  h11 : a11.IsWhole
  a12 : Memref sig .tc .vmem S256x4096 .bf16
  h12 : a12.IsWhole
  a13 : Memref sig .tc .vmem S256x1024 .f32
  h13 : a13.IsWhole
  a14 : Memref sig .tc .vmem S256x512 .bf16
  h14 : a14.IsWhole
  a15 : Memref sig .tc .vmem S256x512 .f32
  h15 : a15.IsWhole
  a16 : Memref sig .tc .vmem S1x1024 .f32
  h16 : a16.IsWhole
  a19 : Memref sig .tc .vmem S1024x1024 .f32
  h19 : a19.IsWhole
  a20 : Memref sig .tc .vmem S1024x1024 .bf16
  h20 : a20.IsWhole

/-- The blocks one grid point reads. -/
structure Ins (F : FTy → Type) where
  x0 : Vec F S256x1024 .bf16
  x1 : Vec F S256x4096 .bf16
  x2 : Vec F S4096x1024 .bf16
  x3 : Vec F S1024x4096 .bf16
  x4 : Vec F S256x1024 .f32
  x5 : Vec F S256x1024 .f32
  x6 : Vec F S1x1024 .f32
  x7 : Vec F S1024x1024 .bf16
  x8 : Vec F S256x512 .bf16
  x9 : Vec F S256x512 .bf16
  x10 : Vec F S8x128 .f32

/-- The buffers of point `t`. -/
abbrev mems (t : Fin cfg0.N) : Mems where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := win0_9.stage (cfg0.slots t 9)
  h10 := hstage0_9 ((cfg0.slots t 9).cast nbuf0_9)
  a11 := win0_10.stage (cfg0.slots t 10)
  h11 := hstage0_10 ((cfg0.slots t 10).cast nbuf0_10)
  a12 := win0_11.stage (cfg0.slots t 11)
  h12 := hstage0_11 ((cfg0.slots t 11).cast nbuf0_11)
  a13 := win0_12.stage (cfg0.slots t 12)
  h13 := hstage0_12 ((cfg0.slots t 12).cast nbuf0_12)
  a14 := win0_13.stage (cfg0.slots t 13)
  h14 := hstage0_13 ((cfg0.slots t 13).cast nbuf0_13)
  a15 := win0_14.stage (cfg0.slots t 14)
  h15 := hstage0_14 ((cfg0.slots t 14).cast nbuf0_14)
  a16 := win0_15.stage (cfg0.slots t 15)
  h16 := hstage0_15 ((cfg0.slots t 15).cast nbuf0_15)
  a19 := scM0_0
  h19 := Memref.isWhole_whole _
  a20 := scM0_1
  h20 := Memref.isWhole_whole _

/-- The blocks point `t` reads. -/
abbrev ins (c : Dev nD) (t : Fin cfg0.N) : Ins F where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
end Cert.MlpKernelIdeal.Mlp
end
-- ==== Proof.MlpRunA.lean ====
module
public import proofs.«01_k».proof.Proof.MlpKit
@[expose] public section
set_option maxRecDepth 16384
noncomputable section
namespace Cert.MlpKernelIdeal.Mlp
open Cert.MlpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
set_option maxHeartbeats 4000000 in
/-- One run of the body at a grid point of kind A: the blocks read are kept, and what is written is listed piece by piece. -/
noncomputable def runA (c : Dev nD) (i : grid0.Coords) (M : Mems) (hc0 : cond0_0 i) (hc1 : ¬cond0_1 i) (X : Ins F) :
    Σ' (L11 : List (View.Piece (Elt F) S256x4096 .bf16)), Σ' (L12 : List (View.Piece (Elt F) S256x1024 .f32)), Σ' (L13 : List (View.Piece (Elt F) S256x512 .bf16)), Σ' (L14 : List (View.Piece (Elt F) S256x512 .f32)), Σ' (L15 : List (View.Piece (Elt F) S1x1024 .f32)), { LS : List (View.Piece (Elt F) S1024x1024 .f32) //
      ∀ (W : Waits sig Unit) (K : PUnit → sProp 𝕄),
        iprop(owns (c : Thread nD τ) M.a1 fullShare X.x0 ∗ owns (c : Thread nD τ) M.a2 fullShare X.x1 ∗ owns (c : Thread nD τ) M.a3 fullShare X.x2 ∗ owns (c : Thread nD τ) M.a4 fullShare X.x3 ∗ owns (c : Thread nD τ) M.a5 fullShare X.x4 ∗ owns (c : Thread nD τ) M.a6 fullShare X.x5 ∗ owns (c : Thread nD τ) M.a7 fullShare X.x6 ∗ owns (c : Thread nD τ) M.a8 fullShare X.x7 ∗ owns (c : Thread nD τ) M.a9 fullShare X.x8 ∗ owns (c : Thread nD τ) M.a10 fullShare X.x9 ∗ owns (c : Thread nD τ) M.a11 fullShare X.x10 ∗ (∃ d, owns (c : Thread nD τ) M.a12 fullShare d) ∗ (∃ d, owns (c : Thread nD τ) M.a13 fullShare d) ∗ (∃ d, owns (c : Thread nD τ) M.a14 fullShare d) ∗ (∃ d, owns (c : Thread nD τ) M.a15 fullShare d) ∗ (∃ d, owns (c : Thread nD τ) M.a16 fullShare d) ∗ (∃ d, owns (c : Thread nD τ) M.a19 fullShare d) ∗ (∃ d, owns (c : Thread nD τ) M.a20 fullShare d) ∗ semVal ((c : Thread nD τ), SemLoc.dma 26) 0 ∗ semVal ((c : Thread nD τ), SemLoc.dma 27) 0 ∗ (∃ f, hbPt0 c hbM0_0 f) ∗ (∃ f, hbPt0 c hbM0_1 f) ∗ owes (c : Thread nD τ) 0 W
            ∗ (iprop(owns (c : Thread nD τ) M.a1 fullShare X.x0 ∗ owns (c : Thread nD τ) M.a2 fullShare X.x1 ∗ owns (c : Thread nD τ) M.a3 fullShare X.x2 ∗ owns (c : Thread nD τ) M.a4 fullShare X.x3 ∗ owns (c : Thread nD τ) M.a5 fullShare X.x4 ∗ owns (c : Thread nD τ) M.a6 fullShare X.x5 ∗ owns (c : Thread nD τ) M.a7 fullShare X.x6 ∗ owns (c : Thread nD τ) M.a8 fullShare X.x7 ∗ owns (c : Thread nD τ) M.a9 fullShare X.x8 ∗ owns (c : Thread nD τ) M.a10 fullShare X.x9 ∗ owns (c : Thread nD τ) M.a11 fullShare X.x10 ∗ (∃ f, M.a12.view.loc (c : Thread nD τ) ↦[M.a12.view.set]{fullShare} M.a12.view.writes (Elt F) f L11) ∗ (∃ f, M.a13.view.loc (c : Thread nD τ) ↦[M.a13.view.set]{fullShare} M.a13.view.writes (Elt F) f L12) ∗ (∃ f, M.a14.view.loc (c : Thread nD τ) ↦[M.a14.view.set]{fullShare} M.a14.view.writes (Elt F) f L13) ∗ (∃ f, M.a15.view.loc (c : Thread nD τ) ↦[M.a15.view.set]{fullShare} M.a15.view.writes (Elt F) f L14) ∗ (∃ f, M.a16.view.loc (c : Thread nD τ) ↦[M.a16.view.set]{fullShare} M.a16.view.writes (Elt F) f L15) ∗ (∃ f, M.a19.view.loc (c : Thread nD τ) ↦[M.a19.view.set]{fullShare} M.a19.view.writes (Elt F) f LS) ∗ (∃ d, owns (c : Thread nD τ) M.a20 fullShare d) ∗ semVal ((c : Thread nD τ), SemLoc.dma 26) 0 ∗ semVal ((c : Thread nD τ), SemLoc.dma 27) 0 ∗ (∃ f, hbPt0 c hbM0_0 f) ∗ (∃ f, hbPt0 c hbM0_1 f) ∗ (∃ W', owes (c : Thread nD τ) 0 W')) -∗ K ⟨⟩))
          ⊢ wp frame (wpE (defs₀ (F := F)) Variants.none c none) Set.univ (cc0_mlp_backward_data i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 (Memref.whole main_v33_5) (Memref.isWhole_whole _) (Memref.whole main_v33_6) (Memref.isWhole_whole _) M.a19 M.h19 M.a20 M.h20 cc0_scratch2) K } := by
  refine ⟨?_, ?_, ?_, ?_, ?_, ?_, fun W K => ?run⟩
  case run =>
    simp only [cc0_mlp_backward_data_eq_skeleton]; unfold cc0_mlp_backward_data_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, Hq0, Hq1, ⟨%fw0, Hh0⟩, ⟨%fw1, Hh1⟩, HW, Hk⟩
    obtain rfl := M.h1.eq_unread hf0; obtain rfl := M.h2.eq_unread hf1; obtain rfl := M.h3.eq_unread hf2; obtain rfl := M.h4.eq_unread hf3; obtain rfl := M.h5.eq_unread hf4; obtain rfl := M.h6.eq_unread hf5; obtain rfl := M.h7.eq_unread hf6; obtain rfl := M.h8.eq_unread hf7; obtain rfl := M.h9.eq_unread hf8; obtain rfl := M.h10.eq_unread hf9; obtain rfl := M.h11.eq_unread hf10
    sl_exec (disch := first | sl_exact hc0 | sl_exact hc1)
    sl_step
    iapply Hk
    isplitl [H0]
    · iexists _; isplitr; · ipureintro; exact M.h1.read_unread _
      iexact H0
    isplitl [H1]
    · iexists _; isplitr; · ipureintro; exact M.h2.read_unread _
      iexact H1
    isplitl [H2]
    · iexists _; isplitr; · ipureintro; exact M.h3.read_unread _
      iexact H2
    isplitl [H3]
    · iexists _; isplitr; · ipureintro; exact M.h4.read_unread _
      iexact H3
    isplitl [H4]
    · iexists _; isplitr; · ipureintro; exact M.h5.read_unread _
      iexact H4
    isplitl [H5]
    · iexists _; isplitr; · ipureintro; exact M.h6.read_unread _
      iexact H5
    isplitl [H6]
    · iexists _; isplitr; · ipureintro; exact M.h7.read_unread _
      iexact H6
    isplitl [H7]
    · iexists _; isplitr; · ipureintro; exact M.h8.read_unread _
      iexact H7
    isplitl [H8]
    · iexists _; isplitr; · ipureintro; exact M.h9.read_unread _
      iexact H8
    isplitl [H9]
    · iexists _; isplitr; · ipureintro; exact M.h10.read_unread _
      iexact H9
    isplitl [H10]
    · iexists _; isplitr; · ipureintro; exact M.h11.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexists _; iexact HS0
    isplitl [HS1]
    · iexists _, _; isplitr; swap; · iexact HS1
      ipureintro; rfl
    isplitl [Hq0]; · iexact Hq0
    isplitl [Hq1]; · iexact Hq1
    isplitl [Hh0]; · iexists _; iexact Hh0
    isplitl [Hh1]; · iexists _; iexact Hh1
    iexists _; iexact HW
end Cert.MlpKernelIdeal.Mlp
end
-- ==== Proof.MlpOuts.lean ====
module
public import proofs.«01_k».proof.Proof.MlpKit
public import Idealize.ShloMosaic.Lib.Pipeline.ReadBack
public import Idealize.ShloMosaic.Lib.Pipeline.ValueKit.Acc
@[expose] public section
set_option maxRecDepth 16384
noncomputable section
namespace Cert.MlpKernelIdeal.Mlp
open Cert.MlpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ

/-- Column chunk `g` of the activation's gradient, row chunk `g` of the second weight, and the two halves of the output weight's gradient. -/
abbrev rCl (g : Fin 4) : Rect S256x4096 :=
  Rect.unit ![0, g.val * 1024] ![256, 1024] (fun a => by match a with | 0 => exact Nat.le_refl _ | 1 => show g.val * 1024 + 1024 ≤ 4096; omega)
abbrev rRw (g : Fin 4) : Rect S4096x1024 :=
  Rect.unit ![g.val * 1024, 0] ![1024, 1024] (fun a => by match a with | 0 => show g.val * 1024 + 1024 ≤ 4096; omega | 1 => exact Nat.le_refl _)
abbrev rHf (g : Fin 2) : Rect S1024x1024 :=
  Rect.unit ![g.val * 512, 0] ![512, 1024] (fun a => by match a with | 0 => show g.val * 512 + 512 ≤ 1024; omega | 1 => exact Nat.le_refl _)

variable (X : Ins F)

/-- The activation's gradient, chunk by chunk, and assembled. -/
abbrev LDA : List (View.Piece (Elt F) S256x4096 .bf16) :=
  [3, 2, 1, 0].map fun g : Fin 4 => ⟨rCl g, k0_pay7 X.x0 (View.ld X.x2 (rRw g)) (View.ld X.x1 (rCl g))⟩
def daV : Vec F S256x4096 .bf16 := View.canon (LDA X)

/-- The values the five results of a point and the running sums are made of. -/
def dnV : FVec F S256x1024 .f32 := k0_pay13 (daV X) X.x3
def rrV : FVec F S256x1 .f32 := k0_pay15 X.x5
def xnV : FVec F S256x1024 .f32 := k0_pay16 X.x5
def dsV : FVec F S256x1024 .f32 := k0_pay17 (daV X) X.x3 X.x6
def prV : FVec F S256x1024 .f32 := k0_pay18 (daV X) X.x3 X.x5 X.x6
def dxV : Vec F S256x1024 .f32 := k0_pay21 (rrV X) (xnV X) (dsV X) (prV X) X.x4
def dxB : FVec F S256x1024 .bf16 := k0_pay22 (rrV X) (xnV X) (dsV X) (prV X) X.x4
def atV : Vec F S256x512 .bf16 := k0_pay24 (rrV X) (xnV X) (dsV X) (prV X) X.x4 X.x7
def poV : Vec F S256x512 .f32 := k0_pay25 (rrV X) (xnV X) (dsV X) (prV X) X.x4 X.x7
def dgV (o : Vec F S1x1024 .f32) : Vec F S1x1024 .f32 := k0_pay19 (dnV X) (xnV X) o
abbrev LAC (a : Vec F S1024x1024 .f32) : List (View.Piece (Elt F) S1024x1024 .f32) :=
  [⟨rHf 1, k0_pay2 (dxB X) (View.ld a (rHf 1)) X.x9⟩, ⟨rHf 0, k0_pay1 (dxB X) (View.ld a (rHf 0)) X.x8⟩]
def acV (a : Vec F S1024x1024 .f32) : Vec F S1024x1024 .f32 := View.canon (LAC X a)

theorem readCov_whole {sg : RefSig} {κ : Kind} {sp : Space} {S : Shape} {e : EltTy} (v : View sg κ sp S e) (L : List (View.Piece (Elt F) S e))
    {off : Fin S.rank → Nat} (inb : ∀ a, off a + S.size a ≤ S.size a) (h : ∀ a, off a = 0) :
    v.readCov L (Rect.unit off (no_index S.size) inb).toLoadRect = View.canon L :=
  (View.readCov_eq_canon' v L _).trans (View.ld_unit_lit inb (View.canon L) h)

theorem canon_drop {S : Shape} {e : EltTy} (L L' : List (View.Piece (Elt F) S e)) (h : ∀ y, ∃ p ∈ L, y ∈ p.1.set) : View.canon (L ++ L') = View.canon L := by
  funext y
  have key : ∀ L : List (View.Piece (Elt F) S e), (∃ p ∈ L, y ∈ p.1.set) → View.canon (L ++ L') y = View.canon L y := by
    intro L
    induction L with
    | nil => rintro ⟨p, hp, -⟩; cases hp
    | cons p L ih =>
      rintro ⟨q, hq, hy⟩
      by_cases hp : y ∈ p.1.set
      · obtain ⟨x, rfl⟩ := p.1.exists_idx_of_mem hp
        rw [List.cons_append]
        exact (View.canon_cons_emb p.1 p.2 _ x).trans (View.canon_cons_emb p.1 p.2 _ x).symm
      · rw [List.cons_append, View.canon_cons_of_not_mem p _ hp, View.canon_cons_of_not_mem p _ hp]
        refine ih ?_
        rcases List.mem_cons.mp hq with rfl | hq
        · exact absurd hy hp
        · exact ⟨q, hq, hy⟩
  exact key L (h y)
end Cert.MlpKernelIdeal.Mlp
end
-- ==== Proof.MlpValA.lean ====
module
public import proofs.«01_k».proof.Proof.MlpRunA
public import proofs.«01_k».proof.Proof.MlpOuts
@[expose] public section
set_option maxRecDepth 16384
noncomputable section
namespace Cert.MlpKernelIdeal.Mlp
open Cert.MlpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (c : Dev nD) (i : grid0.Coords) (M : Mems) (hc0 : cond0_0 i) (hc1 : ¬cond0_1 i) (X : Ins F)

theorem covA_11 : ∀ y, ∃ pc ∈ (runA c i M hc0 hc1 X).1, y ∈ pc.1.set := fun y =>
  View.cover_of_tiledL (runA c i M hc0 hc1 X).1 S256x1024.size (by sl_kernel_rfl) y
theorem valA_11 : View.canon (runA c i M hc0 hc1 X).1 = daV X := by
  unfold runA; dsimp only; sl_unfold_words
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread]
  simp (disch := first | decide +kernel | (intro a; fin_cases a <;> rfl)) only [↓View.readCov_skip, ↓View.readCov_fill, View.canon_cons_unit_lit', View.ld_unit_lit', readCov_whole]
  unfold daV
  rfl
theorem covA_12 : ∀ y, ∃ pc ∈ (runA c i M hc0 hc1 X).2.1, y ∈ pc.1.set := fun y =>
  View.cover_of_tiledL (runA c i M hc0 hc1 X).2.1 S256x1024.size (by sl_kernel_rfl) y
theorem valA_12 : View.canon (runA c i M hc0 hc1 X).2.1 = dxV X := by
  unfold runA; dsimp only; sl_unfold_words
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread]
  simp (disch := first | decide +kernel | (intro a; fin_cases a <;> rfl)) only [↓View.readCov_skip, ↓View.readCov_fill, View.canon_cons_unit_lit', View.ld_unit_lit', readCov_whole]
  unfold dxV rrV xnV dsV prV daV
  rfl
theorem covA_13 : ∀ y, ∃ pc ∈ (runA c i M hc0 hc1 X).2.2.1, y ∈ pc.1.set := fun y =>
  View.cover_of_tiledL (runA c i M hc0 hc1 X).2.2.1 S256x512.size (by sl_kernel_rfl) y
theorem valA_13 : View.canon (runA c i M hc0 hc1 X).2.2.1 = atV X := by
  unfold runA; dsimp only; sl_unfold_words
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread]
  simp (disch := first | decide +kernel | (intro a; fin_cases a <;> rfl)) only [↓View.readCov_skip, ↓View.readCov_fill, View.canon_cons_unit_lit', View.ld_unit_lit', readCov_whole]
  unfold atV rrV xnV dsV prV daV
  rfl
theorem covA_14 : ∀ y, ∃ pc ∈ (runA c i M hc0 hc1 X).2.2.2.1, y ∈ pc.1.set := fun y =>
  View.cover_of_tiledL (runA c i M hc0 hc1 X).2.2.2.1 S256x512.size (by sl_kernel_rfl) y
theorem valA_14 : View.canon (runA c i M hc0 hc1 X).2.2.2.1 = poV X := by
  unfold runA; dsimp only; sl_unfold_words
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread]
  simp (disch := first | decide +kernel | (intro a; fin_cases a <;> rfl)) only [↓View.readCov_skip, ↓View.readCov_fill, View.canon_cons_unit_lit', View.ld_unit_lit', readCov_whole]
  unfold poV rrV xnV dsV prV daV
  rfl
theorem covA_15 : ∀ y, ∃ pc ∈ (runA c i M hc0 hc1 X).2.2.2.2.1, y ∈ pc.1.set := fun y =>
  View.cover_of_tiledL (runA c i M hc0 hc1 X).2.2.2.2.1 S1x1024.size (by sl_kernel_rfl) y
theorem valA_15 : View.canon (runA c i M hc0 hc1 X).2.2.2.2.1 = dgV X k0_pay4 := by
  unfold runA; dsimp only; sl_unfold_words
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread]
  simp (disch := first | decide +kernel | (intro a; fin_cases a <;> rfl)) only [↓View.readCov_skip, ↓View.readCov_fill, View.canon_cons_unit_lit', View.ld_unit_lit', readCov_whole]
  unfold dgV dnV xnV daV
  rfl
theorem covA_S : ∀ y, ∃ pc ∈ (runA c i M hc0 hc1 X).2.2.2.2.2.1, y ∈ pc.1.set := fun y =>
  View.cover_of_tiledL (runA c i M hc0 hc1 X).2.2.2.2.2.1 S512x1024.size (by sl_kernel_rfl) y
theorem valA_S : View.canon (runA c i M hc0 hc1 X).2.2.2.2.2.1 = acV X k0_pay5 := by
  unfold runA; dsimp only; sl_unfold_words
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread]
  simp (disch := first | decide +kernel | (intro a; fin_cases a <;> rfl)) only [↓View.readCov_skip, ↓View.readCov_fill, View.canon_cons_unit_lit', View.ld_unit_lit', readCov_whole]
  unfold acV LAC dxB rrV xnV dsV prV daV
  refine canon_drop (S := S1024x1024) [_, _] [_] ?_
  intro y
  exact View.cover_of_tiledL (s := S1024x1024) _ S512x1024.size (by sl_kernel_rfl) y
end Cert.MlpKernelIdeal.Mlp
end
-- ==== Proof.MlpRunB.lean ====
module
public import proofs.«01_k».proof.Proof.MlpKit
@[expose] public section
set_option maxRecDepth 16384
noncomputable section
namespace Cert.MlpKernelIdeal.Mlp
open Cert.MlpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
set_option maxHeartbeats 4000000 in
/-- One run of the body at a grid point of kind B: the blocks read are kept, and what is written is listed piece by piece. -/
noncomputable def runB (c : Dev nD) (i : grid0.Coords) (M : Mems) (hc0 : ¬cond0_0 i) (hc1 : ¬cond0_1 i) (X : Ins F) (xo : Vec F S1x1024 .f32) (xs : Vec F S1024x1024 .f32) :
    Σ' (L11 : List (View.Piece (Elt F) S256x4096 .bf16)), Σ' (L12 : List (View.Piece (Elt F) S256x1024 .f32)), Σ' (L13 : List (View.Piece (Elt F) S256x512 .bf16)), Σ' (L14 : List (View.Piece (Elt F) S256x512 .f32)), Σ' (L15 : List (View.Piece (Elt F) S1x1024 .f32)), { LS : List (View.Piece (Elt F) S1024x1024 .f32) //
      ∀ (W : Waits sig Unit) (K : PUnit → sProp 𝕄),
        iprop(owns (c : Thread nD τ) M.a1 fullShare X.x0 ∗ owns (c : Thread nD τ) M.a2 fullShare X.x1 ∗ owns (c : Thread nD τ) M.a3 fullShare X.x2 ∗ owns (c : Thread nD τ) M.a4 fullShare X.x3 ∗ owns (c : Thread nD τ) M.a5 fullShare X.x4 ∗ owns (c : Thread nD τ) M.a6 fullShare X.x5 ∗ owns (c : Thread nD τ) M.a7 fullShare X.x6 ∗ owns (c : Thread nD τ) M.a8 fullShare X.x7 ∗ owns (c : Thread nD τ) M.a9 fullShare X.x8 ∗ owns (c : Thread nD τ) M.a10 fullShare X.x9 ∗ owns (c : Thread nD τ) M.a11 fullShare X.x10 ∗ (∃ d, owns (c : Thread nD τ) M.a12 fullShare d) ∗ (∃ d, owns (c : Thread nD τ) M.a13 fullShare d) ∗ (∃ d, owns (c : Thread nD τ) M.a14 fullShare d) ∗ (∃ d, owns (c : Thread nD τ) M.a15 fullShare d) ∗ owns (c : Thread nD τ) M.a16 fullShare xo ∗ owns (c : Thread nD τ) M.a19 fullShare xs ∗ (∃ d, owns (c : Thread nD τ) M.a20 fullShare d) ∗ semVal ((c : Thread nD τ), SemLoc.dma 26) 0 ∗ semVal ((c : Thread nD τ), SemLoc.dma 27) 0 ∗ (∃ f, hbPt0 c hbM0_0 f) ∗ (∃ f, hbPt0 c hbM0_1 f) ∗ owes (c : Thread nD τ) 0 W
            ∗ (iprop(owns (c : Thread nD τ) M.a1 fullShare X.x0 ∗ owns (c : Thread nD τ) M.a2 fullShare X.x1 ∗ owns (c : Thread nD τ) M.a3 fullShare X.x2 ∗ owns (c : Thread nD τ) M.a4 fullShare X.x3 ∗ owns (c : Thread nD τ) M.a5 fullShare X.x4 ∗ owns (c : Thread nD τ) M.a6 fullShare X.x5 ∗ owns (c : Thread nD τ) M.a7 fullShare X.x6 ∗ owns (c : Thread nD τ) M.a8 fullShare X.x7 ∗ owns (c : Thread nD τ) M.a9 fullShare X.x8 ∗ owns (c : Thread nD τ) M.a10 fullShare X.x9 ∗ owns (c : Thread nD τ) M.a11 fullShare X.x10 ∗ (∃ f, M.a12.view.loc (c : Thread nD τ) ↦[M.a12.view.set]{fullShare} M.a12.view.writes (Elt F) f L11) ∗ (∃ f, M.a13.view.loc (c : Thread nD τ) ↦[M.a13.view.set]{fullShare} M.a13.view.writes (Elt F) f L12) ∗ (∃ f, M.a14.view.loc (c : Thread nD τ) ↦[M.a14.view.set]{fullShare} M.a14.view.writes (Elt F) f L13) ∗ (∃ f, M.a15.view.loc (c : Thread nD τ) ↦[M.a15.view.set]{fullShare} M.a15.view.writes (Elt F) f L14) ∗ (∃ f, M.a16.view.loc (c : Thread nD τ) ↦[M.a16.view.set]{fullShare} M.a16.view.writes (Elt F) f L15) ∗ (∃ f, M.a19.view.loc (c : Thread nD τ) ↦[M.a19.view.set]{fullShare} M.a19.view.writes (Elt F) f LS) ∗ (∃ d, owns (c : Thread nD τ) M.a20 fullShare d) ∗ semVal ((c : Thread nD τ), SemLoc.dma 26) 0 ∗ semVal ((c : Thread nD τ), SemLoc.dma 27) 0 ∗ (∃ f, hbPt0 c hbM0_0 f) ∗ (∃ f, hbPt0 c hbM0_1 f) ∗ (∃ W', owes (c : Thread nD τ) 0 W')) -∗ K ⟨⟩))
          ⊢ wp frame (wpE (defs₀ (F := F)) Variants.none c none) Set.univ (cc0_mlp_backward_data i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 (Memref.whole main_v33_5) (Memref.isWhole_whole _) (Memref.whole main_v33_6) (Memref.isWhole_whole _) M.a19 M.h19 M.a20 M.h20 cc0_scratch2) K } := by
  refine ⟨?_, ?_, ?_, ?_, ?_, ?_, fun W K => ?run⟩
  case run =>
    simp only [cc0_mlp_backward_data_eq_skeleton]; unfold cc0_mlp_backward_data_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, ⟨%fs0, %hfs0, HS0⟩, ⟨%ds1, %fs1, -, HS1⟩, Hq0, Hq1, ⟨%fw0, Hh0⟩, ⟨%fw1, Hh1⟩, HW, Hk⟩
    obtain rfl := M.h1.eq_unread hf0; obtain rfl := M.h2.eq_unread hf1; obtain rfl := M.h3.eq_unread hf2; obtain rfl := M.h4.eq_unread hf3; obtain rfl := M.h5.eq_unread hf4; obtain rfl := M.h6.eq_unread hf5; obtain rfl := M.h7.eq_unread hf6; obtain rfl := M.h8.eq_unread hf7; obtain rfl := M.h9.eq_unread hf8; obtain rfl := M.h10.eq_unread hf9; obtain rfl := M.h11.eq_unread hf10; obtain rfl := M.h16.eq_unread hf15; obtain rfl := M.h19.eq_unread hfs0
    sl_exec (disch := first | sl_exact hc0 | sl_exact hc1)
    sl_step
    iapply Hk
    isplitl [H0]
    · iexists _; isplitr; · ipureintro; exact M.h1.read_unread _
      iexact H0
    isplitl [H1]
    · iexists _; isplitr; · ipureintro; exact M.h2.read_unread _
      iexact H1
    isplitl [H2]
    · iexists _; isplitr; · ipureintro; exact M.h3.read_unread _
      iexact H2
    isplitl [H3]
    · iexists _; isplitr; · ipureintro; exact M.h4.read_unread _
      iexact H3
    isplitl [H4]
    · iexists _; isplitr; · ipureintro; exact M.h5.read_unread _
      iexact H4
    isplitl [H5]
    · iexists _; isplitr; · ipureintro; exact M.h6.read_unread _
      iexact H5
    isplitl [H6]
    · iexists _; isplitr; · ipureintro; exact M.h7.read_unread _
      iexact H6
    isplitl [H7]
    · iexists _; isplitr; · ipureintro; exact M.h8.read_unread _
      iexact H7
    isplitl [H8]
    · iexists _; isplitr; · ipureintro; exact M.h9.read_unread _
      iexact H8
    isplitl [H9]
    · iexists _; isplitr; · ipureintro; exact M.h10.read_unread _
      iexact H9
    isplitl [H10]
    · iexists _; isplitr; · ipureintro; exact M.h11.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexists _; iexact HS0
    isplitl [HS1]
    · iexists _, _; isplitr; swap; · iexact HS1
      ipureintro; rfl
    isplitl [Hq0]; · iexact Hq0
    isplitl [Hq1]; · iexact Hq1
    isplitl [Hh0]; · iexists _; iexact Hh0
    isplitl [Hh1]; · iexists _; iexact Hh1
    iexists _; iexact HW
end Cert.MlpKernelIdeal.Mlp
end
-- ==== Proof.MlpValB.lean ====
module
public import proofs.«01_k».proof.Proof.MlpRunB
public import proofs.«01_k».proof.Proof.MlpOuts
@[expose] public section
set_option maxRecDepth 16384
noncomputable section
namespace Cert.MlpKernelIdeal.Mlp
open Cert.MlpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (c : Dev nD) (i : grid0.Coords) (M : Mems) (hc0 : ¬cond0_0 i) (hc1 : ¬cond0_1 i) (X : Ins F) (xo : Vec F S1x1024 .f32) (xs : Vec F S1024x1024 .f32)

theorem covB_11 : ∀ y, ∃ pc ∈ (runB c i M hc0 hc1 X xo xs).1, y ∈ pc.1.set := fun y =>
  View.cover_of_tiledL (runB c i M hc0 hc1 X xo xs).1 S256x1024.size (by sl_kernel_rfl) y
theorem valB_11 : View.canon (runB c i M hc0 hc1 X xo xs).1 = daV X := by
  unfold runB; dsimp only; sl_unfold_words
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h16.read_unread, M.h19.read_unread]
  simp (disch := first | decide +kernel | (intro a; fin_cases a <;> rfl)) only [↓View.readCov_skip, View.canon_cons_unit_lit', View.ld_unit_lit', readCov_whole]
  unfold daV
  rfl
theorem covB_12 : ∀ y, ∃ pc ∈ (runB c i M hc0 hc1 X xo xs).2.1, y ∈ pc.1.set := fun y =>
  View.cover_of_tiledL (runB c i M hc0 hc1 X xo xs).2.1 S256x1024.size (by sl_kernel_rfl) y
theorem valB_12 : View.canon (runB c i M hc0 hc1 X xo xs).2.1 = dxV X := by
  unfold runB; dsimp only; sl_unfold_words
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h16.read_unread, M.h19.read_unread]
  simp (disch := first | decide +kernel | (intro a; fin_cases a <;> rfl)) only [↓View.readCov_skip, View.canon_cons_unit_lit', View.ld_unit_lit', readCov_whole]
  unfold dxV rrV xnV dsV prV daV
  rfl
theorem covB_13 : ∀ y, ∃ pc ∈ (runB c i M hc0 hc1 X xo xs).2.2.1, y ∈ pc.1.set := fun y =>
  View.cover_of_tiledL (runB c i M hc0 hc1 X xo xs).2.2.1 S256x512.size (by sl_kernel_rfl) y
theorem valB_13 : View.canon (runB c i M hc0 hc1 X xo xs).2.2.1 = atV X := by
  unfold runB; dsimp only; sl_unfold_words
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h16.read_unread, M.h19.read_unread]
  simp (disch := first | decide +kernel | (intro a; fin_cases a <;> rfl)) only [↓View.readCov_skip, View.canon_cons_unit_lit', View.ld_unit_lit', readCov_whole]
  unfold atV rrV xnV dsV prV daV
  rfl
theorem covB_14 : ∀ y, ∃ pc ∈ (runB c i M hc0 hc1 X xo xs).2.2.2.1, y ∈ pc.1.set := fun y =>
  View.cover_of_tiledL (runB c i M hc0 hc1 X xo xs).2.2.2.1 S256x512.size (by sl_kernel_rfl) y
theorem valB_14 : View.canon (runB c i M hc0 hc1 X xo xs).2.2.2.1 = poV X := by
  unfold runB; dsimp only; sl_unfold_words
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h16.read_unread, M.h19.read_unread]
  simp (disch := first | decide +kernel | (intro a; fin_cases a <;> rfl)) only [↓View.readCov_skip, View.canon_cons_unit_lit', View.ld_unit_lit', readCov_whole]
  unfold poV rrV xnV dsV prV daV
  rfl
theorem covB_15 : ∀ y, ∃ pc ∈ (runB c i M hc0 hc1 X xo xs).2.2.2.2.1, y ∈ pc.1.set := fun y =>
  View.cover_of_tiledL (runB c i M hc0 hc1 X xo xs).2.2.2.2.1 S1x1024.size (by sl_kernel_rfl) y
theorem valB_15 : View.canon (runB c i M hc0 hc1 X xo xs).2.2.2.2.1 = dgV X xo := by
  unfold runB; dsimp only; sl_unfold_words
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h16.read_unread, M.h19.read_unread]
  simp (disch := first | decide +kernel | (intro a; fin_cases a <;> rfl)) only [↓View.readCov_skip, View.canon_cons_unit_lit', View.ld_unit_lit', readCov_whole]
  unfold dgV dnV xnV daV
  rfl
theorem covB_S : ∀ y, ∃ pc ∈ (runB c i M hc0 hc1 X xo xs).2.2.2.2.2.1, y ∈ pc.1.set := fun y =>
  View.cover_of_tiledL (runB c i M hc0 hc1 X xo xs).2.2.2.2.2.1 S512x1024.size (by sl_kernel_rfl) y
theorem valB_S : View.canon (runB c i M hc0 hc1 X xo xs).2.2.2.2.2.1 = acV X xs := by
  unfold runB; dsimp only; sl_unfold_words
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h16.read_unread, M.h19.read_unread]
  simp (disch := first | decide +kernel | (intro a; fin_cases a <;> rfl)) only [↓View.readCov_skip, View.canon_cons_unit_lit', View.ld_unit_lit', readCov_whole]
  unfold acV LAC dxB rrV xnV dsV prV daV
  rfl
end Cert.MlpKernelIdeal.Mlp
end
-- ==== Proof.MlpRunC.lean ====
module
public import proofs.«01_k».proof.Proof.MlpKit
@[expose] public section
set_option maxRecDepth 16384
noncomputable section
namespace Cert.MlpKernelIdeal.Mlp
open Cert.MlpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
set_option maxHeartbeats 4000000 in
/-- One run of the body at a grid point of kind C: the blocks read are kept, and what is written is listed piece by piece. -/
noncomputable def runC (c : Dev nD) (i : grid0.Coords) (M : Mems) (hc0 : ¬cond0_0 i) (hc1 : cond0_1 i) (X : Ins F) (xo : Vec F S1x1024 .f32) (xs : Vec F S1024x1024 .f32) :
    Σ' (L11 : List (View.Piece (Elt F) S256x4096 .bf16)), Σ' (L12 : List (View.Piece (Elt F) S256x1024 .f32)), Σ' (L13 : List (View.Piece (Elt F) S256x512 .bf16)), Σ' (L14 : List (View.Piece (Elt F) S256x512 .f32)), Σ' (L15 : List (View.Piece (Elt F) S1x1024 .f32)), Σ' (LT : List (View.Piece (Elt F) S1024x1024 .bf16)), { LS : List (View.Piece (Elt F) S1024x1024 .f32) //
      ∀ (W : Waits sig Unit) (K : PUnit → sProp 𝕄),
        iprop(owns (c : Thread nD τ) M.a1 fullShare X.x0 ∗ owns (c : Thread nD τ) M.a2 fullShare X.x1 ∗ owns (c : Thread nD τ) M.a3 fullShare X.x2 ∗ owns (c : Thread nD τ) M.a4 fullShare X.x3 ∗ owns (c : Thread nD τ) M.a5 fullShare X.x4 ∗ owns (c : Thread nD τ) M.a6 fullShare X.x5 ∗ owns (c : Thread nD τ) M.a7 fullShare X.x6 ∗ owns (c : Thread nD τ) M.a8 fullShare X.x7 ∗ owns (c : Thread nD τ) M.a9 fullShare X.x8 ∗ owns (c : Thread nD τ) M.a10 fullShare X.x9 ∗ owns (c : Thread nD τ) M.a11 fullShare X.x10 ∗ (∃ d, owns (c : Thread nD τ) M.a12 fullShare d) ∗ (∃ d, owns (c : Thread nD τ) M.a13 fullShare d) ∗ (∃ d, owns (c : Thread nD τ) M.a14 fullShare d) ∗ (∃ d, owns (c : Thread nD τ) M.a15 fullShare d) ∗ owns (c : Thread nD τ) M.a16 fullShare xo ∗ owns (c : Thread nD τ) M.a19 fullShare xs ∗ (∃ d, owns (c : Thread nD τ) M.a20 fullShare d) ∗ semVal ((c : Thread nD τ), SemLoc.dma 26) 0 ∗ semVal ((c : Thread nD τ), SemLoc.dma 27) 0 ∗ (∃ f, hbPt0 c hbM0_0 f) ∗ (∃ f, hbPt0 c hbM0_1 f) ∗ owes (c : Thread nD τ) 0 W
            ∗ (iprop(owns (c : Thread nD τ) M.a1 fullShare X.x0 ∗ owns (c : Thread nD τ) M.a2 fullShare X.x1 ∗ owns (c : Thread nD τ) M.a3 fullShare X.x2 ∗ owns (c : Thread nD τ) M.a4 fullShare X.x3 ∗ owns (c : Thread nD τ) M.a5 fullShare X.x4 ∗ owns (c : Thread nD τ) M.a6 fullShare X.x5 ∗ owns (c : Thread nD τ) M.a7 fullShare X.x6 ∗ owns (c : Thread nD τ) M.a8 fullShare X.x7 ∗ owns (c : Thread nD τ) M.a9 fullShare X.x8 ∗ owns (c : Thread nD τ) M.a10 fullShare X.x9 ∗ owns (c : Thread nD τ) M.a11 fullShare X.x10 ∗ (∃ f, M.a12.view.loc (c : Thread nD τ) ↦[M.a12.view.set]{fullShare} M.a12.view.writes (Elt F) f L11) ∗ (∃ f, M.a13.view.loc (c : Thread nD τ) ↦[M.a13.view.set]{fullShare} M.a13.view.writes (Elt F) f L12) ∗ (∃ f, M.a14.view.loc (c : Thread nD τ) ↦[M.a14.view.set]{fullShare} M.a14.view.writes (Elt F) f L13) ∗ (∃ f, M.a15.view.loc (c : Thread nD τ) ↦[M.a15.view.set]{fullShare} M.a15.view.writes (Elt F) f L14) ∗ (∃ f, M.a16.view.loc (c : Thread nD τ) ↦[M.a16.view.set]{fullShare} M.a16.view.writes (Elt F) f L15) ∗ (∃ f, M.a19.view.loc (c : Thread nD τ) ↦[M.a19.view.set]{fullShare} M.a19.view.writes (Elt F) f LS) ∗ (∃ d, owns (c : Thread nD τ) M.a20 fullShare d) ∗ semVal ((c : Thread nD τ), SemLoc.dma 26) 0 ∗ semVal ((c : Thread nD τ), SemLoc.dma 27) 0 ∗ (∃ f g, hbPt0 c hbM0_0 (View.write (Elt F) hbM0_0.view f (View.read (Elt F) M.a19.view (M.a19.view.writes (Elt F) g LS)) Finset.univ)) ∗ (∃ f g, hbPt0 c hbM0_1 (View.write (Elt F) hbM0_1.view f (View.read (Elt F) M.a20.view (M.a20.view.writes (Elt F) g LT)) Finset.univ)) ∗ (∃ W', owes (c : Thread nD τ) 0 W')) -∗ K ⟨⟩))
          ⊢ wp frame (wpE (defs₀ (F := F)) Variants.none c none) Set.univ (cc0_mlp_backward_data i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 (Memref.whole main_v33_5) (Memref.isWhole_whole _) (Memref.whole main_v33_6) (Memref.isWhole_whole _) M.a19 M.h19 M.a20 M.h20 cc0_scratch2) K } := by
  refine ⟨?_, ?_, ?_, ?_, ?_, ?_, ?_, fun W K => ?run⟩
  case run =>
    simp only [cc0_mlp_backward_data_eq_skeleton]; unfold cc0_mlp_backward_data_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, ⟨%fs0, %hfs0, HS0⟩, ⟨%ds1, %fs1, -, HS1⟩, Hq0, Hq1, ⟨%fw0, Hh0⟩, ⟨%fw1, Hh1⟩, HW, Hk⟩
    obtain rfl := M.h1.eq_unread hf0; obtain rfl := M.h2.eq_unread hf1; obtain rfl := M.h3.eq_unread hf2; obtain rfl := M.h4.eq_unread hf3; obtain rfl := M.h5.eq_unread hf4; obtain rfl := M.h6.eq_unread hf5; obtain rfl := M.h7.eq_unread hf6; obtain rfl := M.h8.eq_unread hf7; obtain rfl := M.h9.eq_unread hf8; obtain rfl := M.h10.eq_unread hf9; obtain rfl := M.h11.eq_unread hf10; obtain rfl := M.h16.eq_unread hf15; obtain rfl := M.h19.eq_unread hfs0
    set_option sl_exec.lendShare "HS0" in sl_exec (disch := first | sl_exact hc0 | sl_exact hc1)
    sl_step
    iapply Hk
    isplitl [H0]
    · iexists _; isplitr; · ipureintro; exact M.h1.read_unread _
      iexact H0
    isplitl [H1]
    · iexists _; isplitr; · ipureintro; exact M.h2.read_unread _
      iexact H1
    isplitl [H2]
    · iexists _; isplitr; · ipureintro; exact M.h3.read_unread _
      iexact H2
    isplitl [H3]
    · iexists _; isplitr; · ipureintro; exact M.h4.read_unread _
      iexact H3
    isplitl [H4]
    · iexists _; isplitr; · ipureintro; exact M.h5.read_unread _
      iexact H4
    isplitl [H5]
    · iexists _; isplitr; · ipureintro; exact M.h6.read_unread _
      iexact H5
    isplitl [H6]
    · iexists _; isplitr; · ipureintro; exact M.h7.read_unread _
      iexact H6
    isplitl [H7]
    · iexists _; isplitr; · ipureintro; exact M.h8.read_unread _
      iexact H7
    isplitl [H8]
    · iexists _; isplitr; · ipureintro; exact M.h9.read_unread _
      iexact H8
    isplitl [H9]
    · iexists _; isplitr; · ipureintro; exact M.h10.read_unread _
      iexact H9
    isplitl [H10]
    · iexists _; isplitr; · ipureintro; exact M.h11.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexists _; iexact HS0
    isplitl [HS1]
    · iexists _, _; isplitr; swap; · iexact HS1
      ipureintro; rfl
    isplitl [Hq0]; · iexact Hq0
    isplitl [Hq1]; · iexact Hq1
    isplitl [Hh0]; · iexists _, _; iexact Hh0
    isplitl [Hh1]; · unfold runC.sl.dma43; iexists fw1, fs1; iexact Hh1
    iexists _; iexact HW
end Cert.MlpKernelIdeal.Mlp
end
-- ==== Proof.MlpValC.lean ====
module
public import proofs.«01_k».proof.Proof.MlpRunC
public import proofs.«01_k».proof.Proof.MlpOuts
@[expose] public section
set_option maxRecDepth 16384
noncomputable section
namespace Cert.MlpKernelIdeal.Mlp
open Cert.MlpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (c : Dev nD) (i : grid0.Coords) (M : Mems) (hc0 : ¬cond0_0 i) (hc1 : cond0_1 i) (X : Ins F) (xo : Vec F S1x1024 .f32) (xs : Vec F S1024x1024 .f32)

theorem covC_11 : ∀ y, ∃ pc ∈ (runC c i M hc0 hc1 X xo xs).1, y ∈ pc.1.set := fun y =>
  View.cover_of_tiledL (runC c i M hc0 hc1 X xo xs).1 S256x1024.size (by sl_kernel_rfl) y
theorem valC_11 : View.canon (runC c i M hc0 hc1 X xo xs).1 = daV X := by
  unfold runC; dsimp only; sl_unfold_words
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h16.read_unread, M.h19.read_unread]
  simp (disch := first | decide +kernel | (intro a; fin_cases a <;> rfl)) only [↓View.readCov_skip, View.canon_cons_unit_lit', View.ld_unit_lit', readCov_whole]
  unfold daV
  rfl
theorem covC_12 : ∀ y, ∃ pc ∈ (runC c i M hc0 hc1 X xo xs).2.1, y ∈ pc.1.set := fun y =>
  View.cover_of_tiledL (runC c i M hc0 hc1 X xo xs).2.1 S256x1024.size (by sl_kernel_rfl) y
theorem valC_12 : View.canon (runC c i M hc0 hc1 X xo xs).2.1 = dxV X := by
  unfold runC; dsimp only; sl_unfold_words
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h16.read_unread, M.h19.read_unread]
  simp (disch := first | decide +kernel | (intro a; fin_cases a <;> rfl)) only [↓View.readCov_skip, View.canon_cons_unit_lit', View.ld_unit_lit', readCov_whole]
  unfold dxV rrV xnV dsV prV daV
  rfl
theorem covC_13 : ∀ y, ∃ pc ∈ (runC c i M hc0 hc1 X xo xs).2.2.1, y ∈ pc.1.set := fun y =>
  View.cover_of_tiledL (runC c i M hc0 hc1 X xo xs).2.2.1 S256x512.size (by sl_kernel_rfl) y
theorem valC_13 : View.canon (runC c i M hc0 hc1 X xo xs).2.2.1 = atV X := by
  unfold runC; dsimp only; sl_unfold_words
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h16.read_unread, M.h19.read_unread]
  simp (disch := first | decide +kernel | (intro a; fin_cases a <;> rfl)) only [↓View.readCov_skip, View.canon_cons_unit_lit', View.ld_unit_lit', readCov_whole]
  unfold atV rrV xnV dsV prV daV
  rfl
theorem covC_14 : ∀ y, ∃ pc ∈ (runC c i M hc0 hc1 X xo xs).2.2.2.1, y ∈ pc.1.set := fun y =>
  View.cover_of_tiledL (runC c i M hc0 hc1 X xo xs).2.2.2.1 S256x512.size (by sl_kernel_rfl) y
theorem valC_14 : View.canon (runC c i M hc0 hc1 X xo xs).2.2.2.1 = poV X := by
  unfold runC; dsimp only; sl_unfold_words
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h16.read_unread, M.h19.read_unread]
  simp (disch := first | decide +kernel | (intro a; fin_cases a <;> rfl)) only [↓View.readCov_skip, View.canon_cons_unit_lit', View.ld_unit_lit', readCov_whole]
  unfold poV rrV xnV dsV prV daV
  rfl
theorem covC_15 : ∀ y, ∃ pc ∈ (runC c i M hc0 hc1 X xo xs).2.2.2.2.1, y ∈ pc.1.set := fun y =>
  View.cover_of_tiledL (runC c i M hc0 hc1 X xo xs).2.2.2.2.1 S1x1024.size (by sl_kernel_rfl) y
theorem valC_15 : View.canon (runC c i M hc0 hc1 X xo xs).2.2.2.2.1 = dgV X xo := by
  unfold runC; dsimp only; sl_unfold_words
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h16.read_unread, M.h19.read_unread]
  simp (disch := first | decide +kernel | (intro a; fin_cases a <;> rfl)) only [↓View.readCov_skip, View.canon_cons_unit_lit', View.ld_unit_lit', readCov_whole]
  unfold dgV dnV xnV daV
  rfl
theorem covC_LT : ∀ y, ∃ pc ∈ (runC c i M hc0 hc1 X xo xs).2.2.2.2.2.1, y ∈ pc.1.set := fun y =>
  View.cover_of_tiledL (runC c i M hc0 hc1 X xo xs).2.2.2.2.2.1 S1024x1024.size (by sl_kernel_rfl) y
theorem valC_LT : View.canon (runC c i M hc0 hc1 X xo xs).2.2.2.2.2.1 = k0_pay3 (acV X xs) := by
  unfold runC; dsimp only; sl_unfold_words
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h16.read_unread, M.h19.read_unread]
  simp (disch := first | decide +kernel | (intro a; fin_cases a <;> rfl)) only [↓View.readCov_skip, View.canon_cons_unit_lit', View.ld_unit_lit', readCov_whole]
  unfold acV LAC dxB rrV xnV dsV prV daV
  rfl
theorem covC_S : ∀ y, ∃ pc ∈ (runC c i M hc0 hc1 X xo xs).2.2.2.2.2.2.1, y ∈ pc.1.set := fun y =>
  View.cover_of_tiledL (runC c i M hc0 hc1 X xo xs).2.2.2.2.2.2.1 S512x1024.size (by sl_kernel_rfl) y
theorem valC_S : View.canon (runC c i M hc0 hc1 X xo xs).2.2.2.2.2.2.1 = acV X xs := by
  unfold runC; dsimp only; sl_unfold_words
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h16.read_unread, M.h19.read_unread]
  simp (disch := first | decide +kernel | (intro a; fin_cases a <;> rfl)) only [↓View.readCov_skip, View.canon_cons_unit_lit', View.ld_unit_lit', readCov_whole]
  unfold acV LAC dxB rrV xnV dsV prV daV
  rfl
end Cert.MlpKernelIdeal.Mlp
end
-- ==== Proof.MlpFrame.lean ====
module
public import proofs.«01_k».proof.Proof.MlpValA
public import proofs.«01_k».proof.Proof.MlpValB
public import proofs.«01_k».proof.Proof.MlpValC
@[expose] public section
set_option maxRecDepth 16384
noncomputable section
namespace Cert.MlpKernelIdeal.Mlp
open Cert.MlpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)

theorem own_of_writes (c : Dev nD) {sp : Space} {S : Shape} {e : EltTy} (a : Memref sig .tc sp S e) (L : List (View.Piece (Elt F) S e)) (v : Vec F S e)
    (hc : ∀ y, ∃ p ∈ L, y ∈ p.1.set) (hv : View.canon L = v) :
    iprop(∃ f, a.view.loc (c : Thread nD τ) ↦[a.view.set]{fullShare} a.view.writes (Elt F) f L) ⊢ (owns (c : Thread nD τ) a fullShare v : sProp 𝕄) := by
  subst hv; unfold owns
  iintro ⟨%f, H⟩
  iexists _; isplitr
  swap; · iexact H
  ipureintro; exact View.read_writes_eq_canon _ _ _ hc

theorem whole_eq {b : Ref sig .tc} {sp : Space} {S : Shape} {e : EltTy} (f w : b.ty.Contents (Elt F)) (v : b.ty.Contents (Elt F)) (h : w = v) :
    View.write (Elt F) (View.whole b) f w Finset.univ = v := (View.write_whole_univ _ _ _).trans h

/-- The running sums after point `n`: the gain's gradient and the output weight's. -/
def accs (c : Dev nD) : (n : ℕ) → n < cfg0.N → Vec F S1x1024 .f32 × Vec F S1024x1024 .f32
  | 0, h => (dgV (ins m c ⟨0, h⟩) k0_pay4, acV (ins m c ⟨0, h⟩) k0_pay5)
  | n + 1, h => (dgV (ins m c ⟨n + 1, h⟩) (accs c n (Nat.lt_of_succ_lt h)).1, acV (ins m c ⟨n + 1, h⟩) (accs c n (Nat.lt_of_succ_lt h)).2)

theorem accs_zero (c : Dev nD) (t : Fin cfg0.N) (h : t.val = 0) : accs m c t.val t.isLt = (dgV (ins m c t) k0_pay4, acV (ins m c t) k0_pay5) := by
  obtain ⟨n, hn⟩ := t; dsimp only at h; subst h; rfl

theorem accs_pos (c : Dev nD) (t : Fin cfg0.N) (h : t.val ≠ 0) : accs m c t.val t.isLt
    = (dgV (ins m c t) (accs m c (t.val - 1) (Nat.lt_of_le_of_lt (Nat.sub_le _ _) t.isLt)).1, acV (ins m c t) (accs m c (t.val - 1) (Nat.lt_of_le_of_lt (Nat.sub_le _ _) t.isLt)).2) := by
  obtain ⟨n, hn⟩ := t
  cases n with
  | zero => exact absurd rfl h
  | succ n => rfl

theorem lt31 : 31 < cfg0.N := by rw [show cfg0.N = 32 from N_0]; decide

/-- What the two results in HBM hold at the end. -/
def g5 (c : Dev nD) : Vec F S1024x1024 .f32 := (accs m c 31 lt31).2
def g6 (c : Dev nD) : Vec F S1024x1024 .bf16 := k0_pay3 (g5 m c)

/-- The two results in HBM after `n` points: named contents once the last point is done. -/
def hbs (c : Dev nD) (n : ℕ) : sProp 𝕄 :=
  if n = 32 then iprop(hbPt0 c hbM0_0 (g5 m c) ∗ hbPt0 c hbM0_1 (g6 m c)) else iprop((∃ f, hbPt0 c hbM0_0 f) ∗ (∃ f, hbPt0 c hbM0_1 f))

theorem hbs_last (c : Dev nD) (n : ℕ) (h : n = 32) : hbs m c n = iprop(hbPt0 c hbM0_0 (g5 m c) ∗ hbPt0 c hbM0_1 (g6 m c)) := if_pos h
theorem hbs_other (c : Dev nD) (n : ℕ) (h : n ≠ 32) : hbs m c n = iprop((∃ f, hbPt0 c hbM0_0 f) ∗ (∃ f, hbPt0 c hbM0_1 f)) := if_neg h

theorem routed_eq (c : Dev nD) (W : (b : Ref sig .tc) → Buf (Elt F) ((c : Thread nD τ).loc b)) :
    (Pipeline.routed R0 c W : sProp 𝕄) = iprop(hbPt0 c hbM0_0 (W main_v33_5) ∗ hbPt0 c hbM0_1 (W main_v33_6)) := by
  unfold Pipeline.routed; rw [BI.bigSep_eq_bigSepL_of_eq [main_v33_5, main_v33_6] (by decide) (by decide)]; rfl

theorem Phi_eq (G : (c : Dev nD) → (b : Ref sig .tc) → Buf (Elt F) ((c : Thread nD τ).loc b)) (c : Dev nD) :
    (Pipeline.ΦDRG osem0 spec0 H0 R0 (V m) G c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 26) 0 ∗ semVal ((c : Thread nD τ), SemLoc.dma 27) 0) ∗ iprop(emp) ∗ iprop(hbPt0 c hbM0_0 (G c main_v33_5) ∗ hbPt0 c hbM0_1 (G c main_v33_6))) := by
  rw [Pipeline.ΦDRG_eq, scopedRest0_eq, ownSems00_eq, hbmPts0_eq, routed_eq]; simp only [scM0_0, scM0_1, owns_whole]; try rfl

/-- What holds before point `n`. -/
def PhiS (c : Dev nD) : (n : ℕ) → n ≤ cfg0.N → sProp 𝕄
  | 0, _ => Pipeline.ΦDRG osem0 spec0 H0 R0 (V m) (V m) c
  | n + 1, hn => iprop(iprop(owns (c : Thread nD τ) scM0_0 fullShare ((accs m c n hn).2) ∗ (∃ d, owns (c : Thread nD τ) scM0_1 fullShare d)) ∗ (∃ r, prngReg c r) ∗ iprop(semVal ((c : Thread nD τ), SemLoc.dma 26) 0 ∗ semVal ((c : Thread nD τ), SemLoc.dma 27) 0) ∗ iprop(emp) ∗ hbs m c (n + 1))
theorem PhiS_zero (c : Dev nD) (n : ℕ) (h : n ≤ cfg0.N) (hz : n = 0) : PhiS m c n h = Pipeline.ΦDRG osem0 spec0 H0 R0 (V m) (V m) c := by
  subst hz; rfl
theorem PhiS_succ (c : Dev nD) (n : ℕ) (hn : n < cfg0.N) :
    PhiS m c (n + 1) hn = iprop(iprop(owns (c : Thread nD τ) scM0_0 fullShare ((accs m c n hn).2) ∗ (∃ d, owns (c : Thread nD τ) scM0_1 fullShare d)) ∗ (∃ r, prngReg c r) ∗ iprop(semVal ((c : Thread nD τ), SemLoc.dma 26) 0 ∗ semVal ((c : Thread nD τ), SemLoc.dma 27) 0) ∗ iprop(emp) ∗ hbs m c (n + 1)) := rfl
theorem PhiS_pos (c : Dev nD) (n : ℕ) (h : n ≤ cfg0.N) (hz : n ≠ 0) :
    PhiS m c n h = iprop(iprop(owns (c : Thread nD τ) scM0_0 fullShare ((accs m c (n - 1) (by omega)).2) ∗ (∃ d, owns (c : Thread nD τ) scM0_1 fullShare d)) ∗ (∃ r, prngReg c r) ∗ iprop(semVal ((c : Thread nD τ), SemLoc.dma 26) 0 ∗ semVal ((c : Thread nD τ), SemLoc.dma 27) 0) ∗ iprop(emp) ∗ hbs m c n) := by
  cases n with
  | zero => exact absurd rfl hz
  | succ n => rfl

/-- What the windows' slots hold around each point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => daV (ins m c t)
    | ⟨12, _⟩ => dxV (ins m c t)
    | ⟨13, _⟩ => atV (ins m c t)
    | ⟨14, _⟩ => poV (ins m c t)
    | ⟨15, _⟩ => (accs m c t.val t.isLt).1
    | ⟨_ + 16, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = daV (ins m c t) := by dsimp only [dats]
theorem after_12 (c : Dev nD) (t : Fin cfg0.N) : (dats m 0 c).after 12 t = dxV (ins m c t) := by dsimp only [dats]
theorem after_13 (c : Dev nD) (t : Fin cfg0.N) : (dats m 0 c).after 13 t = atV (ins m c t) := by dsimp only [dats]
theorem after_14 (c : Dev nD) (t : Fin cfg0.N) : (dats m 0 c).after 14 t = poV (ins m c t) := by dsimp only [dats]
theorem after_15 (c : Dev nD) (t : Fin cfg0.N) : (dats m 0 c).after 15 t = (accs m c t.val t.isLt).1 := by dsimp only [dats]
theorem before_0 (c : Dev nD) (t : Fin cfg0.N) (d) : (dats m 0 c).before 0 t d = iblk m c 0 t :=
  beforeD_0_of m (dats m 0 c) (A_eq m c 0) (after_0 m c) t d
theorem before_1 (c : Dev nD) (t : Fin cfg0.N) (d) : (dats m 0 c).before 1 t d = iblk m c 1 t :=
  beforeD_1_of m (dats m 0 c) (A_eq m c 1) (after_1 m c) t d
theorem before_2 (c : Dev nD) (t : Fin cfg0.N) (d) : (dats m 0 c).before 2 t d = iblk m c 2 t :=
  beforeD_2_of m (dats m 0 c) (A_eq m c 2) (after_2 m c) t d
theorem before_3 (c : Dev nD) (t : Fin cfg0.N) (d) : (dats m 0 c).before 3 t d = iblk m c 3 t :=
  beforeD_3_of m (dats m 0 c) (A_eq m c 3) (after_3 m c) t d
theorem before_4 (c : Dev nD) (t : Fin cfg0.N) (d) : (dats m 0 c).before 4 t d = iblk m c 4 t :=
  beforeD_4_of m (dats m 0 c) (A_eq m c 4) (after_4 m c) t d
theorem before_5 (c : Dev nD) (t : Fin cfg0.N) (d) : (dats m 0 c).before 5 t d = iblk m c 5 t :=
  beforeD_5_of m (dats m 0 c) (A_eq m c 5) (after_5 m c) t d
theorem before_6 (c : Dev nD) (t : Fin cfg0.N) (d) : (dats m 0 c).before 6 t d = iblk m c 6 t :=
  beforeD_6_of m (dats m 0 c) (A_eq m c 6) (after_6 m c) t d
theorem before_7 (c : Dev nD) (t : Fin cfg0.N) (d) : (dats m 0 c).before 7 t d = iblk m c 7 t :=
  beforeD_7_of m (dats m 0 c) (A_eq m c 7) (after_7 m c) t d
theorem before_8 (c : Dev nD) (t : Fin cfg0.N) (d) : (dats m 0 c).before 8 t d = iblk m c 8 t :=
  beforeD_8_of m (dats m 0 c) (A_eq m c 8) (after_8 m c) t d
theorem before_9 (c : Dev nD) (t : Fin cfg0.N) (d) : (dats m 0 c).before 9 t d = iblk m c 9 t :=
  beforeD_9_of m (dats m 0 c) (A_eq m c 9) (after_9 m c) t d
theorem before_10 (c : Dev nD) (t : Fin cfg0.N) (d) : (dats m 0 c).before 10 t d = iblk m c 10 t :=
  beforeD_10_of m (dats m 0 c) (A_eq m c 10) (after_10 m c) t d
theorem before_15 (c : Dev nD) (t : Fin cfg0.N) (h0 : ¬t.val % 32 = 0) (d) :
    (dats m 0 c).before 15 t d = (accs m c (t.val - 1) (Nat.lt_of_le_of_lt (Nat.sub_le _ _) t.isLt)).1 := by
  have hN : t.val < 32 := lt_of_lt_of_eq t.isLt (show cfg0.N = 32 from N_0)
  rw [Dat.before_out_kept _ 15 rfl t (by omega) (Bool.eq_false_iff.mpr fun h => by have := (flush0_15 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (mems t).a1 fullShare ((dats m 0 c).before 0 t d))
    ∗ (∃ d, owns (c : Thread nD τ) (mems t).a2 fullShare ((dats m 0 c).before 1 t d))
    ∗ (∃ d, owns (c : Thread nD τ) (mems t).a3 fullShare ((dats m 0 c).before 2 t d))
    ∗ (∃ d, owns (c : Thread nD τ) (mems t).a4 fullShare ((dats m 0 c).before 3 t d))
    ∗ (∃ d, owns (c : Thread nD τ) (mems t).a5 fullShare ((dats m 0 c).before 4 t d))
    ∗ (∃ d, owns (c : Thread nD τ) (mems t).a6 fullShare ((dats m 0 c).before 5 t d))
    ∗ (∃ d, owns (c : Thread nD τ) (mems t).a7 fullShare ((dats m 0 c).before 6 t d))
    ∗ (∃ d, owns (c : Thread nD τ) (mems t).a8 fullShare ((dats m 0 c).before 7 t d))
    ∗ (∃ d, owns (c : Thread nD τ) (mems t).a9 fullShare ((dats m 0 c).before 8 t d))
    ∗ (∃ d, owns (c : Thread nD τ) (mems t).a10 fullShare ((dats m 0 c).before 9 t d))
    ∗ (∃ d, owns (c : Thread nD τ) (mems t).a11 fullShare ((dats m 0 c).before 10 t d))
    ∗ (∃ d, owns (c : Thread nD τ) (mems t).a12 fullShare ((dats m 0 c).before 11 t d))
    ∗ (∃ d, owns (c : Thread nD τ) (mems t).a13 fullShare ((dats m 0 c).before 12 t d))
    ∗ (∃ d, owns (c : Thread nD τ) (mems t).a14 fullShare ((dats m 0 c).before 13 t d))
    ∗ (∃ d, owns (c : Thread nD τ) (mems t).a15 fullShare ((dats m 0 c).before 14 t d))
    ∗ (∃ d, owns (c : Thread nD τ) (mems t).a16 fullShare ((dats m 0 c).before 15 t d)))
def bodyPost (c : Dev nD) (t : Fin cfg0.N) : sProp 𝕄 :=
  iprop((dats m 0 c).Φ t.succ ∗ (dats m 0 c).owesAt () t.succ
    ∗ owns (c : Thread nD τ) (mems t).a1 fullShare ((dats m 0 c).after 0 t)
    ∗ owns (c : Thread nD τ) (mems t).a2 fullShare ((dats m 0 c).after 1 t)
    ∗ owns (c : Thread nD τ) (mems t).a3 fullShare ((dats m 0 c).after 2 t)
    ∗ owns (c : Thread nD τ) (mems t).a4 fullShare ((dats m 0 c).after 3 t)
    ∗ owns (c : Thread nD τ) (mems t).a5 fullShare ((dats m 0 c).after 4 t)
    ∗ owns (c : Thread nD τ) (mems t).a6 fullShare ((dats m 0 c).after 5 t)
    ∗ owns (c : Thread nD τ) (mems t).a7 fullShare ((dats m 0 c).after 6 t)
    ∗ owns (c : Thread nD τ) (mems t).a8 fullShare ((dats m 0 c).after 7 t)
    ∗ owns (c : Thread nD τ) (mems t).a9 fullShare ((dats m 0 c).after 8 t)
    ∗ owns (c : Thread nD τ) (mems t).a10 fullShare ((dats m 0 c).after 9 t)
    ∗ owns (c : Thread nD τ) (mems t).a11 fullShare ((dats m 0 c).after 10 t)
    ∗ owns (c : Thread nD τ) (mems t).a12 fullShare ((dats m 0 c).after 11 t)
    ∗ owns (c : Thread nD τ) (mems t).a13 fullShare ((dats m 0 c).after 12 t)
    ∗ owns (c : Thread nD τ) (mems t).a14 fullShare ((dats m 0 c).after 13 t)
    ∗ owns (c : Thread nD τ) (mems t).a15 fullShare ((dats m 0 c).after 14 t)
    ∗ owns (c : Thread nD τ) (mems t).a16 fullShare ((dats m 0 c).after 15 t))

set_option maxHeartbeats 19200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = PhiS m c (t.val + 1) t.isLt from rfl, PhiS_succ,
    after_0, after_1, after_2, after_3, after_4, after_5, after_6, after_7, after_8, after_9, after_10, after_11, after_12, after_13, after_14, after_15]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · have h1 : ¬t.val % 32 = 31 := by omega
    have hz : t.val = 0 := by omega
    rw [PhiS_castSucc m c t, PhiS_zero m c _ _ hz, Phi_eq, hbs_other m c (t.val + 1) (by omega)]
    rw [accs_zero m c t hz]
    iintro ⟨⟨⟨HS0, HS1⟩, Hg, ⟨Hq0, Hq1⟩, -, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((runA c (grid0.coords t) (mems t) ((hcond0_0 t).mpr h0) (fun h => h1 ((hcond0_1 t).mp h)) (ins m c t)).2.2.2.2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexact HS0
    isplitl [HS1]; · iexact HS1
    isplitl [Hq0]; · iexact Hq0
    isplitl [Hq1]; · iexact Hq1
    isplitl [Hh0]; · iexists _; iexact Hh0
    isplitl [Hh1]; · iexists _; iexact Hh1
    isplitl [HW]; · iexact HW
    iintro ⟨H0, H1, H2, H3, H4, H5, H6, H7, H8, H9, H10, H11, H12, H13, H14, H15, HS0, HS1, Hq0, Hq1, Hh0, Hh1, ⟨%W', HW'⟩⟩
    isplitl [HS0 HS1 Hg Hq0 Hq1 Hh0 Hh1]
    · isplitl [HS0 HS1]
      · isplitl [HS0]
        · iapply (own_of_writes c _ _ _ (covA_S c (grid0.coords t) (mems t) ((hcond0_0 t).mpr h0) (fun h => h1 ((hcond0_1 t).mp h)) (ins m c t)) (valA_S c (grid0.coords t) (mems t) ((hcond0_0 t).mpr h0) (fun h => h1 ((hcond0_1 t).mp h)) (ins m c t))); iexact HS0
        iexact HS1
      isplitl [Hg]; · iexact Hg
      isplitl [Hq0 Hq1]
      · isplitl [Hq0]; · iexact Hq0
        iexact Hq1
      isplitr; · iempintro
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iapply (own_of_writes c _ _ _ (covA_11 c (grid0.coords t) (mems t) ((hcond0_0 t).mpr h0) (fun h => h1 ((hcond0_1 t).mp h)) (ins m c t)) (valA_11 c (grid0.coords t) (mems t) ((hcond0_0 t).mpr h0) (fun h => h1 ((hcond0_1 t).mp h)) (ins m c t))); iexact H11
    isplitl [H12]; · iapply (own_of_writes c _ _ _ (covA_12 c (grid0.coords t) (mems t) ((hcond0_0 t).mpr h0) (fun h => h1 ((hcond0_1 t).mp h)) (ins m c t)) (valA_12 c (grid0.coords t) (mems t) ((hcond0_0 t).mpr h0) (fun h => h1 ((hcond0_1 t).mp h)) (ins m c t))); iexact H12
    isplitl [H13]; · iapply (own_of_writes c _ _ _ (covA_13 c (grid0.coords t) (mems t) ((hcond0_0 t).mpr h0) (fun h => h1 ((hcond0_1 t).mp h)) (ins m c t)) (valA_13 c (grid0.coords t) (mems t) ((hcond0_0 t).mpr h0) (fun h => h1 ((hcond0_1 t).mp h)) (ins m c t))); iexact H13
    isplitl [H14]; · iapply (own_of_writes c _ _ _ (covA_14 c (grid0.coords t) (mems t) ((hcond0_0 t).mpr h0) (fun h => h1 ((hcond0_1 t).mp h)) (ins m c t)) (valA_14 c (grid0.coords t) (mems t) ((hcond0_0 t).mpr h0) (fun h => h1 ((hcond0_1 t).mp h)) (ins m c t))); iexact H14
    iapply (own_of_writes c _ _ _ (covA_15 c (grid0.coords t) (mems t) ((hcond0_0 t).mpr h0) (fun h => h1 ((hcond0_1 t).mp h)) (ins m c t)) (valA_15 c (grid0.coords t) (mems t) ((hcond0_0 t).mpr h0) (fun h => h1 ((hcond0_1 t).mp h)) (ins m c t))); iexact H15
  · have hz : t.val ≠ 0 := by omega
    by_cases h1 : t.val % 32 = 31
    · skip
      rw [PhiS_castSucc m c t, PhiS_pos m c _ _ hz, hbs_other m c t.val (by omega), hbs_last m c (t.val + 1) (by omega)]
      rw [accs_pos m c t hz]
      simp only [before_15 m c t h0]
      have e5 : g5 m c = acV (ins m c t) (accs m c (t.val - 1) (Nat.lt_of_le_of_lt (Nat.sub_le _ _) t.isLt)).2 := by
        have := accs_pos m c t hz
        have ht : t = ⟨31, lt31⟩ := Fin.ext (by dsimp only; omega)
        unfold g5; subst ht; exact congrArg Prod.snd this
      iintro ⟨⟨⟨HS0, HS1⟩, Hg, ⟨Hq0, Hq1⟩, -, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runC c (grid0.coords t) (mems t) (fun h => h0 ((hcond0_0 t).mp h)) ((hcond0_1 t).mpr h1) (ins m c t) _ _).2.2.2.2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [H15]; · iexact H15
      isplitl [HS0]; · iexact HS0
      isplitl [HS1]; · iexact HS1
      isplitl [Hq0]; · iexact Hq0
      isplitl [Hq1]; · iexact Hq1
      isplitl [Hh0]; · iexact Hh0
      isplitl [Hh1]; · iexact Hh1
      isplitl [HW]; · iexact HW
      iintro ⟨H0, H1, H2, H3, H4, H5, H6, H7, H8, H9, H10, H11, H12, H13, H14, H15, HS0, HS1, Hq0, Hq1, ⟨%u0, %v0, Hh0⟩, ⟨%u1, %v1, Hh1⟩, ⟨%W', HW'⟩⟩
      isplitl [HS0 HS1 Hg Hq0 Hq1 Hh0 Hh1]
      · isplitl [HS0 HS1]
        · isplitl [HS0]
          · iapply (own_of_writes c _ _ _ (covC_S c (grid0.coords t) (mems t) (fun h => h0 ((hcond0_0 t).mp h)) ((hcond0_1 t).mpr h1) (ins m c t) _ _) (valC_S c (grid0.coords t) (mems t) (fun h => h0 ((hcond0_0 t).mp h)) ((hcond0_1 t).mpr h1) (ins m c t) _ _)); iexact HS0
          iexact HS1
        isplitl [Hg]; · iexact Hg
        isplitl [Hq0 Hq1]
        · isplitl [Hq0]; · iexact Hq0
          iexact Hq1
        isplitr; · iempintro
        isplitl [Hh0]
        · rw [e5, ← View.write_whole_univ (Val := Elt F) main_v33_5 u0 (acV (ins m c t) _), ← valC_S c (grid0.coords t) (mems t) (fun h => h0 ((hcond0_0 t).mp h)) ((hcond0_1 t).mpr h1) (ins m c t) _ _, ← View.read_writes_eq_canon (mems t).a19.view v0 _ (covC_S c (grid0.coords t) (mems t) (fun h => h0 ((hcond0_0 t).mp h)) ((hcond0_1 t).mpr h1) (ins m c t) _ _)]
          iexact Hh0
        rw [show g6 m c = k0_pay3 (acV (ins m c t) (accs m c (t.val - 1) (Nat.lt_of_le_of_lt (Nat.sub_le _ _) t.isLt)).2) from congrArg k0_pay3 e5,
          ← View.write_whole_univ (Val := Elt F) main_v33_6 u1 (k0_pay3 (acV (ins m c t) _)), ← valC_LT c (grid0.coords t) (mems t) (fun h => h0 ((hcond0_0 t).mp h)) ((hcond0_1 t).mpr h1) (ins m c t) _ _, ← View.read_writes_eq_canon (mems t).a20.view v1 _ (covC_LT c (grid0.coords t) (mems t) (fun h => h0 ((hcond0_0 t).mp h)) ((hcond0_1 t).mpr h1) (ins m c t) _ _)]
        iexact Hh1
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iapply (own_of_writes c _ _ _ (covC_11 c (grid0.coords t) (mems t) (fun h => h0 ((hcond0_0 t).mp h)) ((hcond0_1 t).mpr h1) (ins m c t) _ _) (valC_11 c (grid0.coords t) (mems t) (fun h => h0 ((hcond0_0 t).mp h)) ((hcond0_1 t).mpr h1) (ins m c t) _ _)); iexact H11
      isplitl [H12]; · iapply (own_of_writes c _ _ _ (covC_12 c (grid0.coords t) (mems t) (fun h => h0 ((hcond0_0 t).mp h)) ((hcond0_1 t).mpr h1) (ins m c t) _ _) (valC_12 c (grid0.coords t) (mems t) (fun h => h0 ((hcond0_0 t).mp h)) ((hcond0_1 t).mpr h1) (ins m c t) _ _)); iexact H12
      isplitl [H13]; · iapply (own_of_writes c _ _ _ (covC_13 c (grid0.coords t) (mems t) (fun h => h0 ((hcond0_0 t).mp h)) ((hcond0_1 t).mpr h1) (ins m c t) _ _) (valC_13 c (grid0.coords t) (mems t) (fun h => h0 ((hcond0_0 t).mp h)) ((hcond0_1 t).mpr h1) (ins m c t) _ _)); iexact H13
      isplitl [H14]; · iapply (own_of_writes c _ _ _ (covC_14 c (grid0.coords t) (mems t) (fun h => h0 ((hcond0_0 t).mp h)) ((hcond0_1 t).mpr h1) (ins m c t) _ _) (valC_14 c (grid0.coords t) (mems t) (fun h => h0 ((hcond0_0 t).mp h)) ((hcond0_1 t).mpr h1) (ins m c t) _ _)); iexact H14
      iapply (own_of_writes c _ _ _ (covC_15 c (grid0.coords t) (mems t) (fun h => h0 ((hcond0_0 t).mp h)) ((hcond0_1 t).mpr h1) (ins m c t) _ _) (valC_15 c (grid0.coords t) (mems t) (fun h => h0 ((hcond0_0 t).mp h)) ((hcond0_1 t).mpr h1) (ins m c t) _ _)); iexact H15
    · skip
      rw [PhiS_castSucc m c t, PhiS_pos m c _ _ hz, hbs_other m c t.val (by omega), hbs_other m c (t.val + 1) (by omega)]
      rw [accs_pos m c t hz]
      simp only [before_15 m c t h0]
      iintro ⟨⟨⟨HS0, HS1⟩, Hg, ⟨Hq0, Hq1⟩, -, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runB c (grid0.coords t) (mems t) (fun h => h0 ((hcond0_0 t).mp h)) (fun h => h1 ((hcond0_1 t).mp h)) (ins m c t) _ _).2.2.2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [H15]; · iexact H15
      isplitl [HS0]; · iexact HS0
      isplitl [HS1]; · iexact HS1
      isplitl [Hq0]; · iexact Hq0
      isplitl [Hq1]; · iexact Hq1
      isplitl [Hh0]; · iexact Hh0
      isplitl [Hh1]; · iexact Hh1
      isplitl [HW]; · iexact HW
      iintro ⟨H0, H1, H2, H3, H4, H5, H6, H7, H8, H9, H10, H11, H12, H13, H14, H15, HS0, HS1, Hq0, Hq1, Hh0, Hh1, ⟨%W', HW'⟩⟩
      isplitl [HS0 HS1 Hg Hq0 Hq1 Hh0 Hh1]
      · isplitl [HS0 HS1]
        · isplitl [HS0]
          · iapply (own_of_writes c _ _ _ (covB_S c (grid0.coords t) (mems t) (fun h => h0 ((hcond0_0 t).mp h)) (fun h => h1 ((hcond0_1 t).mp h)) (ins m c t) _ _) (valB_S c (grid0.coords t) (mems t) (fun h => h0 ((hcond0_0 t).mp h)) (fun h => h1 ((hcond0_1 t).mp h)) (ins m c t) _ _)); iexact HS0
          iexact HS1
        isplitl [Hg]; · iexact Hg
        isplitl [Hq0 Hq1]
        · isplitl [Hq0]; · iexact Hq0
          iexact Hq1
        isplitr; · iempintro
        isplitl [Hh0]; · iexact Hh0
        iexact Hh1
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iapply (own_of_writes c _ _ _ (covB_11 c (grid0.coords t) (mems t) (fun h => h0 ((hcond0_0 t).mp h)) (fun h => h1 ((hcond0_1 t).mp h)) (ins m c t) _ _) (valB_11 c (grid0.coords t) (mems t) (fun h => h0 ((hcond0_0 t).mp h)) (fun h => h1 ((hcond0_1 t).mp h)) (ins m c t) _ _)); iexact H11
      isplitl [H12]; · iapply (own_of_writes c _ _ _ (covB_12 c (grid0.coords t) (mems t) (fun h => h0 ((hcond0_0 t).mp h)) (fun h => h1 ((hcond0_1 t).mp h)) (ins m c t) _ _) (valB_12 c (grid0.coords t) (mems t) (fun h => h0 ((hcond0_0 t).mp h)) (fun h => h1 ((hcond0_1 t).mp h)) (ins m c t) _ _)); iexact H12
      isplitl [H13]; · iapply (own_of_writes c _ _ _ (covB_13 c (grid0.coords t) (mems t) (fun h => h0 ((hcond0_0 t).mp h)) (fun h => h1 ((hcond0_1 t).mp h)) (ins m c t) _ _) (valB_13 c (grid0.coords t) (mems t) (fun h => h0 ((hcond0_0 t).mp h)) (fun h => h1 ((hcond0_1 t).mp h)) (ins m c t) _ _)); iexact H13
      isplitl [H14]; · iapply (own_of_writes c _ _ _ (covB_14 c (grid0.coords t) (mems t) (fun h => h0 ((hcond0_0 t).mp h)) (fun h => h1 ((hcond0_1 t).mp h)) (ins m c t) _ _) (valB_14 c (grid0.coords t) (mems t) (fun h => h0 ((hcond0_0 t).mp h)) (fun h => h1 ((hcond0_1 t).mp h)) (ins m c t) _ _)); iexact H14
      iapply (own_of_writes c _ _ _ (covB_15 c (grid0.coords t) (mems t) (fun h => h0 ((hcond0_0 t).mp h)) (fun h => h1 ((hcond0_1 t).mp h)) (ins m c t) _ _) (valB_15 c (grid0.coords t) (mems t) (fun h => h0 ((hcond0_0 t).mp h)) (fun h => h1 ((hcond0_1 t).mp h)) (ins m c t) _ _)); iexact H15

theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the two results in HBM end with, as contents of every buffer. -/
def G (c : Dev nD) : (b : Ref sig .tc) → Buf (Elt F) ((c : Thread nD τ).loc b) :=
  Function.update (Function.update (V m c) main_v33_5 (g5 m c)) main_v33_6 (g6 m c)
theorem G_5 (c : Dev nD) : G m c main_v33_5 = g5 m c :=
  (Function.update_of_ne (by decide) _ _).trans (Function.update_self _ _ _)
theorem G_6 (c : Dev nD) : G m c main_v33_6 = g6 m c := Function.update_self _ _ _

theorem hin (c : Dev nD) : Pipeline.ΦDRG osem0 spec0 H0 R0 (V m) (V m) c ⊢ (dats m 0 c).Φ 0 := by
  rw [show (dats m 0 c).Φ 0 = PhiS m c 0 (Nat.zero_le _) from rfl, PhiS_zero m c 0 _ rfl]
  try exact Idealize.SL.BI.Entails.refl _
theorem hout (c : Dev nD) : (dats m 0 c).Φ (Fin.last cfg0.N) ⊢ Pipeline.ΦDRG osem0 spec0 H0 R0 (V m) (G m) c := by
  have hN : cfg0.N = 32 := N_0
  rw [show (dats m 0 c).Φ (Fin.last cfg0.N) = PhiS m c cfg0.N le_rfl from rfl, PhiS_pos m c _ _ (by omega), Phi_eq, G_5, G_6, hbs_last m c _ hN]
  iintro ⟨⟨HS0, HS1⟩, Hg, ⟨Hq0, Hq1⟩, He, ⟨Hh0, Hh1⟩⟩
  isplitl [HS0 HS1]
  · isplitl [HS0]
    · iexists _; iexact HS0
    iexact HS1
  isplitl [Hg]; · iexact Hg
  isplitl [Hq0 Hq1]
  · isplitl [Hq0]; · iexact Hq0
    iexact Hq1
  isplitl [He]; · iexact He
  isplitl [Hh0]; · iexact Hh0
  iexact Hh1

set_option backward.isDefEq.respectTransparency.types false in
theorem run_main : θ_run defs (onTc (τ := τ) (main (F := F))) (s₀ m ρ) (fun r => (Pipeline.FramePostRG cfgs (dats m) 0 R0 (V m) (G m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m) (G := G m)
    (hin := hin m) (hout := hout m)
end Cert.MlpKernelIdeal.Mlp
end
-- ==== Proof.MlpKept.lean ====
module

public import proofs.«01_k».proof.Proof.MlpFrame

@[expose] public section

/-! After the run the arguments are as launched. -/

set_option maxRecDepth 16384

noncomputable section

namespace Cert.MlpKernelIdeal.Mlp

open Cert.MlpKernelIdeal Cert.MlpKernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The eight arguments in `M` are those of `m`. -/
abbrev Kept (M : (ℓ : Loc nD τ sig) → Buf (Elt F) ℓ) (c : Dev nD) : Prop :=
  M ((c : Thread nD τ).loc main_arg0) = m ((c : Thread nD τ).loc main_arg0)
  ∧ M ((c : Thread nD τ).loc main_arg1) = m ((c : Thread nD τ).loc main_arg1)
  ∧ M ((c : Thread nD τ).loc main_arg2) = m ((c : Thread nD τ).loc main_arg2)
  ∧ M ((c : Thread nD τ).loc main_arg3) = m ((c : Thread nD τ).loc main_arg3)
  ∧ M ((c : Thread nD τ).loc main_arg4) = m ((c : Thread nD τ).loc main_arg4)
  ∧ M ((c : Thread nD τ).loc main_arg5) = m ((c : Thread nD τ).loc main_arg5)
  ∧ M ((c : Thread nD τ).loc main_arg6) = m ((c : Thread nD τ).loc main_arg6)
  ∧ M ((c : Thread nD τ).loc main_arg7) = m ((c : Thread nD τ).loc main_arg7)

theorem kept (r : PUnit × MemSt nD τ sig (Elt F)) (h : Pipeline.FramePostRG cfgs (dats m) 0 R0 (V m) (G m) r ∧ r.2.sem = fun _ => 0) (c : Dev nD) : Kept m r.2.mem c :=
  ⟨((h.1.1 c).2 main_arg0 (Finset.mem_sdiff.mpr ⟨Pipeline.mem_restRefs_of main_arg0 (by decide) (by decide), by decide⟩)).trans (V_main_arg0 m c),
    ((h.1.1 c).2 main_arg1 (Finset.mem_sdiff.mpr ⟨Pipeline.mem_restRefs_of main_arg1 (by decide) (by decide), by decide⟩)).trans (V_main_arg1 m c),
    ((h.1.1 c).2 main_arg2 (Finset.mem_sdiff.mpr ⟨Pipeline.mem_restRefs_of main_arg2 (by decide) (by decide), by decide⟩)).trans (V_main_arg2 m c),
    ((h.1.1 c).2 main_arg3 (Finset.mem_sdiff.mpr ⟨Pipeline.mem_restRefs_of main_arg3 (by decide) (by decide), by decide⟩)).trans (V_main_arg3 m c),
    ((h.1.1 c).1 6).trans (((dats m 0 c).arrAt_in 6 rfl _).trans ((A_eq m c 6).trans (V_main_arg4 m c))),
    ((h.1.1 c).2 main_arg5 (Finset.mem_sdiff.mpr ⟨Pipeline.mem_restRefs_of main_arg5 (by decide) (by decide), by decide⟩)).trans (V_main_arg5 m c),
    ((h.1.1 c).2 main_arg6 (Finset.mem_sdiff.mpr ⟨Pipeline.mem_restRefs_of main_arg6 (by decide) (by decide), by decide⟩)).trans (V_main_arg6 m c),
    ((h.1.1 c).1 4).trans (((dats m 0 c).arrAt_in 4 rfl _).trans ((A_eq m c 4).trans (V_main_arg7 m c)))⟩

theorem run_quiet : θ_run defs (onTc (τ := τ) (main (F := F))) ⟨m, fun _ => 0, ρ⟩ (fun r => (∀ c : Dev nD, Kept m r.2.mem c) ∧ r.2.sem = fun _ => 0) :=
  (θ_run defs _ _).mono (fun r h => ⟨fun c => kept m r h c, h.2⟩) (run_main m ρ)

end Cert.MlpKernelIdeal.Mlp

end
-- ==== Proof.MlpSpec.lean ====
module

public import Idealize.ShloMosaic.Lib.Pointwise
public import Idealize.ShloMosaic.Lib.Claim
public import Idealize.ShloMosaic.Lib.Pipeline.Value

@[expose] public section

/-! What the gradient of the feed-forward block computes, row by row, as sums over the extended reals, and why the two
    ways of writing the gradient of the root-mean-square norm agree at every argument. -/

noncomputable section

namespace Cert.Mlp

open Idealize.ShloMosaic

/-- An array of two axes and one of three. -/
abbrev A2 (a b : ℕ) : Type := (⟨2, ![a, b]⟩ : Shape).Idx → EReal
abbrev A3 (a b c : ℕ) : Type := (⟨3, ![a, b, c]⟩ : Shape).Idx → EReal

/-- The row length, the norm's small constant, minus a half and two, as the programs write them. -/
def cN : EReal := Ideal.ofBits .f32 0x44800000#32
def cE : EReal := Ideal.ofBits .f32 0x358637BD#32
def cH : EReal := Ideal.ofBits .f32 0xBF000000#32
def cT : EReal := Ideal.ofBits .f32 0x40000000#32

theorem cN_eq : cN = ((1024 : ℝ) : EReal) := by
  unfold cN; simp [Ideal.ofBits, Ideal.ieee]; rw [← EReal.coe_mul]; norm_num
theorem cH_eq : cH = ((-(1 / 2) : ℝ) : EReal) := by
  unfold cH; simp [Ideal.ofBits, Ideal.ieee]; rw [← EReal.coe_mul]; norm_num
theorem cT_eq : cT = ((2 : ℝ) : EReal) := by
  unfold cT; simp [Ideal.ofBits, Ideal.ieee]; rw [← EReal.coe_mul]; norm_num
theorem cE_pos : ∃ e : ℝ, 0 < e ∧ cE = (e : EReal) := by
  unfold cE; simp only [Ideal.ofBits, Ideal.ieee]
  simp
  first
    | exact ⟨_, by norm_num, rfl⟩
    | skip

/-- A row's mean square with the small constant, and the inverse of its root. -/
def msq (x : Fin 1024 → EReal) : EReal := Ideal.div (∑ j, x j * x j) cN + cE
def rms (x : Fin 1024 → EReal) : EReal := Ideal.rsqrt (msq x)

/-- The gradient of a row through the norm, as the kernel writes it. -/
def dxR (y : EReal) (x d : Fin 1024 → EReal) (j : Fin 1024) : EReal :=
  y + rms x * (d j - (x j * rms x) * Ideal.div (∑ k, d k * (x k * rms x)) cN)

/-- The same as the derivative of the norm writes it. -/
def dxD (x d : Fin 1024 → EReal) : EReal := Ideal.div ((∑ k, x k * d k) * (cH * Ideal.div (rms x) (msq x))) cN
def dxT (y : EReal) (x d : Fin 1024 → EReal) (j : Fin 1024) : EReal :=
  ((y + d j * rms x) + x j * dxD x d) + dxD x d * x j

theorem sq_nonneg' (x : EReal) : 0 ≤ x * x := by
  rcases le_total 0 x with h | h
  · exact EReal.mul_nonneg h h
  · rw [← neg_mul_neg]; exact EReal.mul_nonneg (EReal.neg_nonneg.mpr h) (EReal.neg_nonneg.mpr h)

theorem div_cN (x : EReal) : Ideal.div x cN = x * ((1 / 1024 : ℝ) : EReal) := by
  rw [cN_eq, Ideal.div_coe (by norm_num)]

/-- Multiplying a sum by a positive real. -/
theorem sum_mul_pos {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top _) _ _

theorem twice (S : EReal) (a : ℝ) : S * (a : EReal) + S * (a : EReal) = S * ((2 * a : ℝ) : EReal) := by
  induction S with
  | coe s => rw [← EReal.coe_mul, ← EReal.coe_mul, ← EReal.coe_add]; congr 1; ring
  | top =>
    rcases lt_trichotomy a 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy a 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- Either a row's mean square is infinite, or it is a positive real and the whole row is real. -/
theorem msq_cases (x : Fin 1024 → EReal) : msq x = ⊤ ∨ ((∃ v : ℝ, 0 < v ∧ msq x = (v : EReal)) ∧ ∀ j, ∃ a : ℝ, x j = (a : EReal)) := by
  obtain ⟨e, he, hE⟩ := cE_pos
  have hs : 0 ≤ ∑ j, x j * x j := Finset.sum_nonneg fun j _ => sq_nonneg' (x j)
  unfold msq
  rw [div_cN, hE]
  by_cases ht : (∑ j, x j * x j) = ⊤
  · left; rw [ht, EReal.top_mul_coe_of_pos (by norm_num)]; rfl
  · right
    constructor
    · obtain ⟨s, hs'⟩ : ∃ s : ℝ, (∑ j, x j * x j) = (s : EReal) :=
        ⟨_, (EReal.coe_toReal ht (ne_of_gt (lt_of_lt_of_le EReal.bot_lt_zero hs))).symm⟩
      rw [hs'] at hs ⊢
      have : 0 ≤ s := EReal.coe_nonneg.mp hs
      exact ⟨s * (1 / 1024) + e, by positivity, by rw [EReal.coe_add, EReal.coe_mul]⟩
    · intro j
      have hle : x j * x j ≤ ∑ j, x j * x j := Finset.single_le_sum (f := fun j => x j * x j) (fun j _ => sq_nonneg' (x j)) (Finset.mem_univ j)
      induction hx : x j with
      | coe a => exact ⟨a, rfl⟩
      | top => rw [hx, EReal.top_mul_top, top_le_iff] at hle; exact absurd hle ht
      | bot => rw [hx, EReal.bot_mul_bot, top_le_iff] at hle; exact absurd hle ht

/-- The two ways agree. -/
theorem dxT_eq (y : EReal) (x d : Fin 1024 → EReal) (j : Fin 1024) : dxT y x d j = dxR y x d j := by
  unfold dxT dxR dxD
  rcases msq_cases x with h | ⟨⟨v, hv, h⟩, hx⟩
  · have hr : rms x = 0 := by unfold rms; rw [h]; rfl
    rw [hr, h, div_cN]
    simp [Ideal.div]
  · have hr : rms x = ((Real.sqrt v)⁻¹ : ℝ) := by
      unfold rms; rw [h, Ideal.rsqrt_coe, if_neg (not_lt.mpr hv.le), if_neg hv.ne']
    obtain ⟨a, ha⟩ := hx j
    have hsum : (∑ k, d k * (x k * rms x)) = (∑ k, x k * d k) * (((Real.sqrt v)⁻¹ : ℝ) : EReal) := by
      rw [sum_mul_pos _ _ _ (by positivity), hr]
      exact Finset.sum_congr rfl fun k _ => by rw [← mul_assoc, mul_comm (d k)]
    rw [hsum, hr, h, ha, div_cN, div_cN, Ideal.div_coe hv.ne', cH_eq]
    generalize (∑ k, x k * d k) = S
    generalize hq : (Real.sqrt v)⁻¹ = q
    have hq0 : 0 ≤ q := by rw [← hq]; positivity
    have hqv : q * q = 1 / v := by
      rw [← hq, ← mul_inv, Real.mul_self_sqrt hv.le, one_div]
    rw [sub_eq_add_neg, EReal.left_distrib_of_nonneg_of_ne_top (EReal.coe_nonneg.mpr hq0) (EReal.coe_ne_top _)]
    rw [add_assoc, add_assoc, mul_comm (d j)]
    congr 2
    have e1 : S * (((-(1 / 2) : ℝ) : EReal) * ((q : EReal) * ((1 / v : ℝ) : EReal))) * ((1 / 1024 : ℝ) : EReal) = S * ((-(1 / 2) * (q * (1 / v)) * (1 / 1024) : ℝ) : EReal) := by
      rw [mul_assoc, EReal.coe_mul, EReal.coe_mul, EReal.coe_mul]
    rw [e1, mul_comm (a : EReal), mul_assoc, ← EReal.coe_mul, twice]
    have e2 : (q : EReal) * -((a : EReal) * (q : EReal) * (S * (q : EReal) * ((1 / 1024 : ℝ) : EReal))) = S * ((-(q * (a * q * (q * (1 / 1024)))) : ℝ) : EReal) := by
      rw [EReal.coe_neg, mul_neg, mul_neg, EReal.coe_mul, EReal.coe_mul, EReal.coe_mul, EReal.coe_mul]
      congr 1; ac_rfl
    rw [e2]
    congr 2
    rw [← hqv]; ring

/-- The gradient through the squared rectifier: a choice by sign, or the doubled rectified value. -/
theorem relu_eq (s a : EReal) : (if 0 < a then s * (cT * max a 0) else 0) = s * (max a 0 + max a 0) := by
  split
  · congr 1
    have := twice (max a 0) 1
    rw [EReal.coe_one, mul_one] at this
    rw [this, cT_eq, mul_comm]; norm_num
  · next h => rw [max_eq_right (not_lt.mp h), add_zero, mul_zero]

/-- Two arrays side by side. -/
theorem concat_cat (a b : A2 8192 512) (h : Shape.Concatenates [(⟨2, ![8192, 512]⟩ : Shape), ⟨2, ![8192, 512]⟩] ⟨2, ![8192, 1024]⟩ 1) (t : Fin 8192) (k : Fin 1024) :
    concatenate (α := EReal) ⟨2, ![8192, 1024]⟩ 1 [⟨⟨2, ![8192, 512]⟩, a⟩, ⟨⟨2, ![8192, 512]⟩, b⟩] h (ix2 t k)
      = if h : k.val < 512 then a (ix2 t ⟨k.val, h⟩) else b (ix2 t ⟨k.val - 512, by omega⟩) := by
  split
  · next hk =>
    refine concatenate_pair_apply_left 1 a b h (ix2 t k) rfl (ix2 t ⟨k.val, hk⟩) fun c => ?_
    match c with
    | ⟨0, _⟩ => rfl
    | ⟨1, _⟩ => rfl
  · next hk =>
    refine concatenate_pair_apply_right 1 a b h (ix2 t k) rfl rfl (ix2 t ⟨k.val - 512, by omega⟩) (fun c hc => ?_) ?_
    · match c with
      | ⟨0, _⟩ => rfl
      | ⟨1, _⟩ => exact absurd rfl hc
    · show k.val - 512 + 512 = k.val; omega

/-- The eight arguments. -/
structure Args where
  x : A2 8192 1024
  at' : A2 8192 512
  po : A2 8192 512
  wo : A3 1 1024 1024
  g : A2 1 1024
  wu : A3 1 1024 4096
  wd : A3 1 4096 1024
  dy : A2 8192 1024

variable (A : Args) (t : Fin 8192)

/-- The forward pass's saved values: the mixers' outputs side by side, the residual stream after them, the doubled
    rectified activations. -/
def cat (k : Fin 1024) : EReal := if h : k.val < 512 then A.at' (ix2 t ⟨k.val, h⟩) else A.po (ix2 t ⟨k.val - 512, by omega⟩)
def x2 (j : Fin 1024) : EReal := A.x (ix2 t j) + ∑ k : Fin 1024, cat A t k * A.wo (ix3 0 k j)
def act (f : Fin 4096) : EReal := ∑ j : Fin 1024, (x2 A t j * rms (x2 A t)) * A.g (ix2 0 j) * A.wu (ix3 0 j f)
def slope (f : Fin 4096) : EReal := max (act A t f) 0 + max (act A t f) 0

/-- The gradients of the activations, of the normed rows, of the rows. -/
def da (f : Fin 4096) : EReal := (∑ j : Fin 1024, A.dy (ix2 t j) * A.wd (ix3 0 f j)) * slope A t f
def dn (j : Fin 1024) : EReal := ∑ f : Fin 4096, da A t f * A.wu (ix3 0 j f)
def dx (j : Fin 1024) : EReal := dxR (A.dy (ix2 t j)) (x2 A t) (fun k => dn A t k * A.g (ix2 0 k)) j
def dc (k : Fin 1024) : EReal := ∑ j : Fin 1024, dx A t j * A.wo (ix3 0 k j)

/-- The seven results. -/
def resA : A2 8192 4096 := fun i => da A (i 0) (i 1)
def resX : A2 8192 1024 := fun i => dx A (i 0) (i 1)
def resT : A2 8192 512 := fun i => dc A (i 0) ⟨(i 1).val, lt_trans (i 1).isLt (by decide : (512 : ℕ) < 1024)⟩
def resP : A2 8192 512 := fun i => dc A (i 0) ⟨512 + (i 1).val, Nat.add_lt_add_left (i 1).isLt 512⟩
def resG : A2 1 1024 := fun i => ∑ t : Fin 8192, dn A t (i 1) * (x2 A t (i 1) * rms (x2 A t))
def resW : A2 1024 1024 := fun i => ∑ t : Fin 8192, cat A t (i 0) * dx A t (i 1)

end Cert.Mlp

end
-- ==== Proof.MlpBlock.lean ====
module

public import proofs.«01_k».proof.Proof.MlpOuts
public import proofs.«01_k».proof.Proof.MlpSpec

@[expose] public section

/-! One tile of the feed-forward gradient over the extended reals: the values the kernel computes at a point, read at
    an index. -/

set_option maxRecDepth 16384

noncomputable section

namespace Cert.MlpKernelIdeal.Block

open Cert.MlpKernelIdeal Cert.MlpKernelIdeal.Gen Cert.MlpKernelIdeal.Mlp Idealize.ShloMosaic Idealize.ShloMosaic.TcCoe Cert.Mlp

theorem pay7_apply (a : Vec Ideal S256x1024 .bf16) (w : Vec Ideal S1024x1024 .bf16) (s : Vec Ideal S256x1024 .bf16) (p : Fin 256) (c : Fin 1024) :
    k0_pay7 (F := Ideal) a w s (ix2 p c) = (∑ j : Fin 1024, a (ix2 p j) * w (ix2 c j)) * s (ix2 p c) := by
  pointwise [k0_pay7, k0_pay6]

theorem pay13_apply (a : Vec Ideal S256x4096 .bf16) (w : Vec Ideal S1024x4096 .bf16) (p : Fin 256) (c : Fin 1024) :
    k0_pay13 (F := Ideal) a w (ix2 p c) = ∑ f : Fin 4096, a (ix2 p f) * w (ix2 c f) := by
  pointwise [k0_pay13]

theorem pay15_apply (x : Vec Ideal S256x1024 .f32) (p : Fin 256) :
    k0_pay15 (F := Ideal) x (ix2 p 0) = rms (fun k => x (ix2 p k)) := by
  pointwise [k0_pay15, k0_pay14, rms, msq, cN, cE]

theorem pay16_apply (x : Vec Ideal S256x1024 .f32) (p : Fin 256) (j : Fin 1024) :
    k0_pay16 (F := Ideal) x (ix2 p j) = x (ix2 p j) * rms (fun k => x (ix2 p k)) := by
  rw [← pay15_apply]
  unfold k0_pay16
  generalize k0_pay15 (F := Ideal) x = r
  pointwise [k0_pay14]

theorem pay17_apply (a : Vec Ideal S256x4096 .bf16) (w : Vec Ideal S1024x4096 .bf16) (g : Vec Ideal S1x1024 .f32) (p : Fin 256) (j : Fin 1024) :
    k0_pay17 (F := Ideal) a w g (ix2 p j) = k0_pay13 (F := Ideal) a w (ix2 p j) * g (ix2 0 j) := by
  unfold k0_pay17
  generalize k0_pay13 (F := Ideal) a w = r
  pointwise []

theorem pay18_apply (a : Vec Ideal S256x4096 .bf16) (w : Vec Ideal S1024x4096 .bf16) (x : Vec Ideal S256x1024 .f32) (g : Vec Ideal S1x1024 .f32) (p : Fin 256) (j : Fin 1024) :
    k0_pay18 (F := Ideal) a w x g (ix2 p j) = k0_pay17 (F := Ideal) a w g (ix2 p j) * k0_pay16 (F := Ideal) x (ix2 p j) := by
  unfold k0_pay18
  generalize k0_pay17 (F := Ideal) a w g = r
  generalize k0_pay16 (F := Ideal) x = s
  pointwise []

variable (r : FVec Ideal S256x1 .f32) (n d q : FVec Ideal S256x1024 .f32) (y : Vec Ideal S256x1024 .f32) (w : Vec Ideal S1024x1024 .bf16)

theorem pay20_apply (p : Fin 256) (j : Fin 1024) :
    k0_pay20 (F := Ideal) r n d q y (ix2 p j) = y (ix2 p j) + r (ix2 p 0) * (d (ix2 p j) - n (ix2 p j) * Ideal.div (∑ k : Fin 1024, q (ix2 p k)) cN) := by
  pointwise [k0_pay20, cN]

theorem pay21_apply (p : Fin 256) (j : Fin 1024) :
    k0_pay21 (F := Ideal) r n d q y (ix2 p j) = k0_pay20 (F := Ideal) r n d q y (ix2 p j) := by
  unfold k0_pay21
  generalize k0_pay20 (F := Ideal) r n d q y = z
  pointwise []

theorem pay22_apply (p : Fin 256) (j : Fin 1024) :
    k0_pay22 (F := Ideal) r n d q y (ix2 p j) = k0_pay20 (F := Ideal) r n d q y (ix2 p j) := by
  unfold k0_pay22
  generalize k0_pay20 (F := Ideal) r n d q y = z
  pointwise []

theorem pay23_apply (p : Fin 256) (c : Fin 1024) :
    k0_pay23 (F := Ideal) r n d q y w (ix2 p c) = ∑ j : Fin 1024, k0_pay22 (F := Ideal) r n d q y (ix2 p j) * w (ix2 c j) := by
  unfold k0_pay23
  generalize k0_pay22 (F := Ideal) r n d q y = z
  pointwise []

theorem pay24_apply (p : Fin 256) (c : Fin 512) :
    k0_pay24 (F := Ideal) r n d q y w (ix2 p c) = k0_pay23 (F := Ideal) r n d q y w (ix2 p ⟨c.val, by omega⟩) := by
  unfold k0_pay24
  generalize k0_pay23 (F := Ideal) r n d q y w = z
  pointwise []

theorem pay25_apply (p : Fin 256) (c : Fin 512) :
    k0_pay25 (F := Ideal) r n d q y w (ix2 p c) = k0_pay23 (F := Ideal) r n d q y w (ix2 p ⟨512 + c.val, by omega⟩) := by
  unfold k0_pay25
  generalize k0_pay23 (F := Ideal) r n d q y w = z
  pointwise []

theorem pay19_apply (a b : FVec Ideal S256x1024 .f32) (o : Vec Ideal S1x1024 .f32) (j : Fin 1024) :
    k0_pay19 (F := Ideal) a b o (ix2 0 j) = o (ix2 0 j) + ∑ p : Fin 256, a (ix2 p j) * b (ix2 p j) := by
  pointwise [k0_pay19]

theorem pay1_apply (z : FVec Ideal S256x1024 .bf16) (a : Vec Ideal S512x1024 .f32) (b : Vec Ideal S256x512 .bf16) (k : Fin 512) (j : Fin 1024) :
    k0_pay1 (F := Ideal) z a b (ix2 k j) = a (ix2 k j) + ∑ p : Fin 256, b (ix2 p k) * z (ix2 p j) := by
  pointwise [k0_pay1]

theorem pay2_apply (z : FVec Ideal S256x1024 .bf16) (a : Vec Ideal S512x1024 .f32) (b : Vec Ideal S256x512 .bf16) (k : Fin 512) (j : Fin 1024) :
    k0_pay2 (F := Ideal) z a b (ix2 k j) = a (ix2 k j) + ∑ p : Fin 256, b (ix2 p k) * z (ix2 p j) := by
  pointwise [k0_pay2]

theorem pay3_apply (a : Vec Ideal S1024x1024 .f32) (k j : Fin 1024) : k0_pay3 (F := Ideal) a (ix2 k j) = a (ix2 k j) := by
  pointwise [k0_pay3]
theorem pay4_apply (j : Fin 1024) : k0_pay4 (F := Ideal) (ix2 0 j) = (0 : EReal) := by
  pointwise [k0_pay4]
theorem pay5_apply (k j : Fin 1024) : k0_pay5 (F := Ideal) (ix2 k j) = (0 : EReal) := by
  pointwise [k0_pay5]

end Cert.MlpKernelIdeal.Block

end
-- ==== Proof.MlpPoint.lean ====
module

public import proofs.«01_k».proof.Proof.MlpBlock
public import Idealize.ShloMosaic.Lib.Pipeline.ReadBack

@[expose] public section

/-! What one point of the grid leaves, as the specification's row sums over the point's windows. -/

set_option maxRecDepth 16384

noncomputable section

namespace Cert.MlpKernelIdeal.Block

open Cert.MlpKernelIdeal Cert.MlpKernelIdeal.Gen Cert.MlpKernelIdeal.Mlp Idealize.ShloMosaic Idealize.ShloMosaic.TcCoe Cert.Mlp

variable (X : Ins Ideal)

/-- The rows of a point. -/
def bx (p : Fin 256) : Fin 1024 → EReal := fun k => X.x5 (ix2 p k)
def bda (p : Fin 256) (f : Fin 4096) : EReal := (∑ j : Fin 1024, X.x0 (ix2 p j) * X.x2 (ix2 f j)) * X.x1 (ix2 p f)
def bdn (p : Fin 256) (j : Fin 1024) : EReal := ∑ f : Fin 4096, bda X p f * X.x3 (ix2 j f)
def bdx (p : Fin 256) (j : Fin 1024) : EReal := dxR (X.x4 (ix2 p j)) (bx X p) (fun k => bdn X p k * X.x6 (ix2 0 k)) j
def bdc (p : Fin 256) (k : Fin 1024) : EReal := ∑ j : Fin 1024, bdx X p j * X.x7 (ix2 k j)
def bcat (p : Fin 256) (k : Fin 1024) : EReal := if h : k.val < 512 then X.x8 (ix2 p ⟨k.val, h⟩) else X.x9 (ix2 p ⟨k.val - 512, by omega⟩)

/-- A column of the activations as a chunk and a column of it. -/
def fc (g : Fin 4) (c : Fin 1024) : Fin 4096 := ⟨g.val * 1024 + c.val, by omega⟩
def hf (g : Fin 2) (c : Fin 512) : Fin 1024 := ⟨g.val * 512 + c.val, by omega⟩

theorem idx_eta {a b : ℕ} (i : (⟨2, ![a, b]⟩ : Shape).Idx) : i = ix2 (i 0) (i 1) := funext fun a => match a with | 0 => rfl | 1 => rfl

theorem ldRw (g : Fin 4) (c j : Fin 1024) : View.ld (Val := Elt Ideal) (e' := .bf16) X.x2 (rRw g) (ix2 c j : S1024x1024.Idx) = X.x2 (ix2 (fc g c) j) := by
  refine congrArg X.x2 (funext fun a => Fin.ext ?_)
  match a with
  | 0 => show g.val * 1024 + 1 * c.val = g.val * 1024 + c.val; omega
  | 1 => show 0 + 1 * j.val = j.val; omega
theorem ldCl (g : Fin 4) (p : Fin 256) (c : Fin 1024) : View.ld (Val := Elt Ideal) (e' := .bf16) X.x1 (rCl g) (ix2 p c : S256x1024.Idx) = X.x1 (ix2 p (fc g c)) := by
  refine congrArg X.x1 (funext fun a => Fin.ext ?_)
  match a with
  | 0 => show 0 + 1 * p.val = p.val; omega
  | 1 => show g.val * 1024 + 1 * c.val = g.val * 1024 + c.val; omega
theorem embCl (g : Fin 4) (p : Fin 256) (c : Fin 1024) : (rCl g).emb (ix2 p c : S256x1024.Idx) = ix2 p (fc g c) := by
  refine funext fun a => Fin.ext ?_
  match a with
  | 0 => show 0 + 1 * p.val = p.val; omega
  | 1 => show g.val * 1024 + 1 * c.val = g.val * 1024 + c.val; omega
theorem ldHf (a : Vec Ideal S1024x1024 .f32) (g : Fin 2) (k : Fin 512) (j : Fin 1024) : View.ld (Val := Elt Ideal) (e' := .f32) a (rHf g) (ix2 k j : S512x1024.Idx) = a (ix2 (hf g k) j) := by
  refine congrArg a (funext fun b => Fin.ext ?_)
  match b with
  | 0 => show g.val * 512 + 1 * k.val = g.val * 512 + k.val; omega
  | 1 => show 0 + 1 * j.val = j.val; omega
theorem embHf (g : Fin 2) (k : Fin 512) (j : Fin 1024) : (rHf g).emb (ix2 k j : S512x1024.Idx) = ix2 (hf g k) j := by
  refine funext fun b => Fin.ext ?_
  match b with
  | 0 => show g.val * 512 + 1 * k.val = g.val * 512 + k.val; omega
  | 1 => show 0 + 1 * j.val = j.val; omega

/-- The activation's gradient as one array. -/
def oA : Vec Ideal S256x4096 .bf16 := fun i => bda X (i 0) (i 1)

theorem pieceA (g : Fin 4) (i : (rCl g).shape.Idx) :
    k0_pay7 (F := Ideal) X.x0 (View.ld X.x2 (rRw g)) (View.ld X.x1 (rCl g)) i = oA X ((rCl g).emb i) := by
  obtain ⟨p, c, rfl⟩ : ∃ (p : Fin 256) (c : Fin 1024), i = (ix2 p c : S256x1024.Idx) := ⟨i 0, i 1, funext fun a => by match a with | 0 => rfl | 1 => rfl⟩
  rw [embCl]
  refine (pay7_apply _ _ _ p c).trans ?_
  exact congrArg₂ (· * ·) (Finset.sum_congr rfl fun j _ => congrArg (_ * ·) (ldRw X g c j)) (ldCl X g p c)

theorem keyA (i : S256x4096.Idx) (g : Fin 4) (c : Fin 1024) (h : g.val * 1024 + c.val = (i 1).val) : i ∈ (rCl g).set := by
  have e : (rCl g).emb (ix2 (i 0 : Fin 256) c : S256x1024.Idx) = i := by
    refine (embCl g (i 0) c).trans (funext fun a => Fin.ext ?_)
    match a with
    | 0 => rfl
    | 1 => exact h
  exact Eq.subst (motive := fun q => q ∈ (rCl g).set) e ((rCl g).idx_mem _)

theorem memA (i : S256x4096.Idx) : ∃ q ∈ LDA (F := Ideal) X, i ∈ q.1.set := by
  have hf : (i 1).val < 4096 := (i 1).isLt
  have hg : (i 1).val / 1024 < 4 := by omega
  exact ⟨_, List.mem_map_of_mem ((by decide : ∀ g : Fin 4, g ∈ ([3, 2, 1, 0] : List (Fin 4))) ⟨(i 1).val / 1024, hg⟩),
    keyA i ⟨(i 1).val / 1024, hg⟩ ⟨(i 1).val % 1024, Nat.mod_lt _ (by decide)⟩ (by show (i 1).val / 1024 * 1024 + (i 1).val % 1024 = (i 1).val; omega)⟩

theorem daV_eq : daV X = oA X := by
  funext i
  have h : View.PiecesOf (oA X) (LDA (F := Ideal) X) := ⟨pieceA X 3, pieceA X 2, pieceA X 1, pieceA X 0, trivial⟩
  have := View.canon_append_of_piecesOf (oA X) [] (LDA (F := Ideal) X) h i (memA X i)
  rwa [List.append_nil] at this

theorem dnV_apply (p : Fin 256) (j : Fin 1024) : dnV X (ix2 p j) = bdn X p j := by
  unfold dnV; rw [daV_eq]; exact pay13_apply (oA X) X.x3 p j
theorem rrV_apply (p : Fin 256) : rrV X (ix2 p 0) = rms (bx X p) := pay15_apply X.x5 p
theorem xnV_apply (p : Fin 256) (j : Fin 1024) : xnV X (ix2 p j) = bx X p j * rms (bx X p) := pay16_apply X.x5 p j
theorem dsV_apply (p : Fin 256) (j : Fin 1024) : dsV X (ix2 p j) = bdn X p j * X.x6 (ix2 0 j) :=
  (pay17_apply (daV X) X.x3 X.x6 p j).trans (congrArg (· * _) (dnV_apply X p j))
theorem prV_apply (p : Fin 256) (j : Fin 1024) : prV X (ix2 p j) = (bdn X p j * X.x6 (ix2 0 j)) * (bx X p j * rms (bx X p)) :=
  (pay18_apply (daV X) X.x3 X.x5 X.x6 p j).trans (congrArg₂ (· * ·) (dsV_apply X p j) (xnV_apply X p j))
theorem dx20_apply (p : Fin 256) (j : Fin 1024) : k0_pay20 (F := Ideal) (rrV X) (xnV X) (dsV X) (prV X) X.x4 (ix2 p j) = bdx X p j := by
  rw [pay20_apply, rrV_apply, dsV_apply, xnV_apply]
  simp only [prV_apply]; rfl
theorem dxV_apply (p : Fin 256) (j : Fin 1024) : dxV X (ix2 p j) = bdx X p j := (pay21_apply _ _ _ _ _ p j).trans (dx20_apply X p j)
theorem dxB_apply (p : Fin 256) (j : Fin 1024) : dxB X (ix2 p j) = bdx X p j := (pay22_apply _ _ _ _ _ p j).trans (dx20_apply X p j)
theorem dc_apply (p : Fin 256) (k : Fin 1024) : k0_pay23 (F := Ideal) (rrV X) (xnV X) (dsV X) (prV X) X.x4 X.x7 (ix2 p k) = bdc X p k :=
  (pay23_apply _ _ _ _ _ _ p k).trans (Finset.sum_congr rfl fun j _ => congrArg (· * _) (dxB_apply X p j))
theorem atV_apply (p : Fin 256) (c : Fin 512) : atV X (ix2 p c) = bdc X p ⟨c.val, by omega⟩ := (pay24_apply _ _ _ _ _ _ p c).trans (dc_apply X p _)
theorem poV_apply (p : Fin 256) (c : Fin 512) : poV X (ix2 p c) = bdc X p ⟨512 + c.val, by omega⟩ := (pay25_apply _ _ _ _ _ _ p c).trans (dc_apply X p _)
theorem dgV_apply (o : Vec Ideal S1x1024 .f32) (j : Fin 1024) :
    dgV X o (ix2 0 j) = o (ix2 0 j) + ∑ p : Fin 256, bdn X p j * (bx X p j * rms (bx X p)) :=
  (pay19_apply _ _ _ j).trans (congrArg (_ + ·) (Finset.sum_congr rfl fun p _ => congrArg₂ (· * ·) (dnV_apply X p j) (xnV_apply X p j)))

variable (a : Vec Ideal S1024x1024 .f32)

/-- The output weight's gradient a point leaves over `a`. -/
def oC : Vec Ideal S1024x1024 .f32 := fun i => a i + ∑ p : Fin 256, bcat X p (i 0) * bdx X p (i 1)

theorem pieceC0 (i : (rHf 0).shape.Idx) : k0_pay1 (F := Ideal) (dxB X) (View.ld a (rHf 0)) X.x8 i = oC X a ((rHf 0).emb i) := by
  obtain ⟨k, j, rfl⟩ : ∃ (k : Fin 512) (j : Fin 1024), i = (ix2 k j : S512x1024.Idx) := ⟨i 0, i 1, funext fun a => by match a with | 0 => rfl | 1 => rfl⟩
  rw [embHf]
  refine (pay1_apply _ _ _ k j).trans ?_
  refine congrArg₂ (· + ·) (ldHf a 0 k j) (Finset.sum_congr rfl fun p _ => congrArg₂ (· * ·) ?_ (dxB_apply X p j))
  show _ = bcat X p (hf 0 k)
  unfold bcat
  have hk : (hf 0 k).val = k.val := by show 0 * 512 + k.val = k.val; omega
  rw [dif_pos (by rw [hk]; exact k.isLt)]
  exact congrArg (fun q : Fin 512 => X.x8 (ix2 p q)) (Fin.ext hk.symm)
theorem pieceC1 (i : (rHf 1).shape.Idx) : k0_pay2 (F := Ideal) (dxB X) (View.ld a (rHf 1)) X.x9 i = oC X a ((rHf 1).emb i) := by
  obtain ⟨k, j, rfl⟩ : ∃ (k : Fin 512) (j : Fin 1024), i = (ix2 k j : S512x1024.Idx) := ⟨i 0, i 1, funext fun a => by match a with | 0 => rfl | 1 => rfl⟩
  rw [embHf]
  refine (pay2_apply _ _ _ k j).trans ?_
  refine congrArg₂ (· + ·) (ldHf a 1 k j) (Finset.sum_congr rfl fun p _ => congrArg₂ (· * ·) ?_ (dxB_apply X p j))
  show _ = bcat X p (hf 1 k)
  unfold bcat
  have hk : (hf 1 k).val = 512 + k.val := by show 1 * 512 + k.val = 512 + k.val; omega
  rw [dif_neg (by rw [hk]; omega)]
  exact congrArg (fun q : Fin 512 => X.x9 (ix2 p q)) (Fin.ext (by show k.val = (hf 1 k).val - 512; rw [hk]; omega))

theorem memC (i : S1024x1024.Idx) : ∃ q ∈ LAC (F := Ideal) X a, i ∈ q.1.set := by
  have hi : (i 0).val < 1024 := (i 0).isLt
  have key (g : Fin 2) (k : Fin 512) (h : g.val * 512 + k.val = (i 0).val) : i ∈ (rHf g).set := by
    have e : (rHf g).emb (ix2 k (i 1 : Fin 1024) : S512x1024.Idx) = i := by
      refine (embHf g k (i 1)).trans (funext fun b => Fin.ext ?_)
      match b with
      | 0 => exact h
      | 1 => rfl
    exact Eq.subst (motive := fun q => q ∈ (rHf g).set) e ((rHf g).idx_mem _)
  by_cases h : (i 0).val < 512
  · exact ⟨_, List.mem_cons_of_mem _ List.mem_cons_self, key 0 ⟨(i 0).val, h⟩ (by show 0 * 512 + (i 0).val = (i 0).val; omega)⟩
  · exact ⟨_, List.mem_cons_self, key 1 ⟨(i 0).val - 512, by omega⟩ (by show 1 * 512 + ((i 0).val - 512) = (i 0).val; omega)⟩

theorem acV_eq : acV X a = oC X a := by
  funext i
  have h : View.PiecesOf (oC X a) (LAC (F := Ideal) X a) := ⟨pieceC1 X a, pieceC0 X a, trivial⟩
  have := View.canon_append_of_piecesOf (oC X a) [] (LAC (F := Ideal) X a) h i (memC X a i)
  rwa [List.append_nil] at this

end Cert.MlpKernelIdeal.Block

end
-- ==== Proof.MlpHost.lean ====
module

public import proofs.«01_k».proof.Proof.MlpSpec
public import proofs.«01_k».proof.Proof.Gen.MlpKernelIdeal.Frame
public import Idealize.ShloMosaic.Lib.Pointwise

@[expose] public section

/-! The arrays the host prepares for the call, read at an index over the specification's saved values. -/

set_option maxRecDepth 16384

noncomputable section

namespace Cert.MlpKernelIdeal.Host'

open Cert.MlpKernelIdeal Cert.MlpKernelIdeal.Gen Idealize.ShloMosaic Idealize.ShloMosaic.TcCoe Idealize.SL.Sem Cert.Mlp

/-! ## The host's stages -/

def hCat (a p : FVec Ideal S8192x512 .f32) : FVec Ideal S8192x1024 .f32 :=
  concatenate S8192x1024 1 [⟨S8192x512, a⟩, ⟨S8192x512, p⟩] concatenates_S8192x512_S8192x512_S8192x1024_d1
def hProj (u : FVec Ideal S8192x1024 .f32) (w : FVec Ideal S1x1024x1024 .f32) : FVec Ideal S8192x1024 .f32 :=
  Host.dotGeneral dot_S8192x1024_S1024x1024_S8192x1024_1_0_0_1_n_n none u (shapeCast S1024x1024 w shapeCasts_S1x1024x1024_S1024x1024)
def hRes (x v : FVec Ideal S8192x1024 .f32) : FVec Ideal S8192x1024 .f32 := addf x v
def hSum (x : FVec Ideal S8192x1024 .f32) : FVec Ideal S8192 .f32 :=
  Host.reduceAdd (mulf x x) (constant S_ .f32 0x00000000#32) reducesTo_S8192x1024_S8192_d1 h_S_
def hMean (v : FVec Ideal S8192 .f32) : FVec Ideal S8192x1 .f32 :=
  addf (Host.divf (broadcastInDim S8192x1 ![0] bcast_S8192_S8192x1_0 v) (broadcastInDim S8192x1 ![] bcast_S_S8192x1 (constant S_ .f32 0x44800000#32)))
    (broadcastInDim S8192x1 ![] bcast_S_S8192x1 (constant S_ .f32 0x358637BD#32))
def hNorm (x : FVec Ideal S8192x1024 .f32) (v : FVec Ideal S8192x1 .f32) : FVec Ideal S8192x1024 .f32 :=
  mulf x (broadcastInDim S8192x1024 ![0, 1] bcast_S8192x1_S8192x1024_0_1 (Host.rsqrt v))
def hGain (n : FVec Ideal S8192x1024 .f32) (g : FVec Ideal S1x1024 .f32) : FVec Ideal S8192x1024 .f32 :=
  mulf n (broadcastInDim S8192x1024 ![0, 1] bcast_S1x1024_S8192x1024_0_1 (broadcastInDim S1x1024 ![1] bcast_S1024_S1x1024_1 (shapeCast S1024 g shapeCasts_S1x1024_S1024)))
def hUp (n : FVec Ideal S8192x1024 .f32) (w : FVec Ideal S1x1024x4096 .f32) : FVec Ideal S8192x4096 .f32 :=
  Host.dotGeneral dot_S8192x1024_S1024x4096_S8192x4096_1_0_0_1_n_n none n (shapeCast S1024x4096 w shapeCasts_S1x1024x4096_S1024x4096)
def hRelu (a : FVec Ideal S8192x4096 .f32) : FVec Ideal S8192x4096 .f32 :=
  maximumf a (broadcastInDim S8192x4096 ![] bcast_S_S8192x4096 (constant S_ .f32 0x00000000#32))
def hSlope (a : FVec Ideal S8192x4096 .f32) : FVec Ideal S8192x4096 .bf16 := truncf .bf16 (addf a a) bitsLt_bf16_f32

/-! ## Each read at an index -/

theorem hCat_apply (a p : FVec Ideal S8192x512 .f32) (t : Fin 8192) (k : Fin 1024) :
    hCat a p (ix2 t k) = if h : k.val < 512 then a (ix2 t ⟨k.val, h⟩) else p (ix2 t ⟨k.val - 512, by omega⟩) :=
  concat_cat a p _ t k
theorem castO (w : FVec Ideal S1x1024x1024 .f32) (k j : Fin 1024) :
    (shapeCast S1024x1024 w shapeCasts_S1x1024x1024_S1024x1024 : FVec Ideal S1024x1024 .f32) (ix2 k j) = w (ix3 0 k j) := by pointwise []
theorem castU (w : FVec Ideal S1x1024x4096 .f32) (k : Fin 1024) (f : Fin 4096) :
    (shapeCast S1024x4096 w shapeCasts_S1x1024x4096_S1024x4096 : FVec Ideal S1024x4096 .f32) (ix2 k f) = w (ix3 0 k f) := by pointwise []
theorem castD (w : FVec Ideal S1x4096x1024 .f32) (f : Fin 4096) (j : Fin 1024) :
    (shapeCast S4096x1024 w shapeCasts_S1x4096x1024_S4096x1024 : FVec Ideal S4096x1024 .f32) (ix2 f j) = w (ix3 0 f j) := by pointwise []
theorem hProj_apply (u : FVec Ideal S8192x1024 .f32) (w : FVec Ideal S1x1024x1024 .f32) (t : Fin 8192) (j : Fin 1024) :
    hProj u w (ix2 t j) = ∑ k : Fin 1024, u (ix2 t k) * w (ix3 0 k j) := by
  unfold hProj
  simp only [← castO]
  generalize shapeCast S1024x1024 w shapeCasts_S1x1024x1024_S1024x1024 = z
  pointwise []
theorem hUp_apply (n : FVec Ideal S8192x1024 .f32) (w : FVec Ideal S1x1024x4096 .f32) (t : Fin 8192) (f : Fin 4096) :
    hUp n w (ix2 t f) = ∑ j : Fin 1024, n (ix2 t j) * w (ix3 0 j f) := by
  unfold hUp
  simp only [← castU]
  generalize shapeCast S1024x4096 w shapeCasts_S1x1024x4096_S1024x4096 = z
  pointwise []
theorem hRes_apply (x v : FVec Ideal S8192x1024 .f32) (i : S8192x1024.Idx) : hRes x v i = x i + v i := rfl
theorem hSum_apply (x : FVec Ideal S8192x1024 .f32) (t : Fin 8192) : hSum x (ix1 t) = ∑ j : Fin 1024, x (ix2 t j) * x (ix2 t j) := by
  pointwise [hSum]
theorem hMean_apply (v : FVec Ideal S8192 .f32) (t : Fin 8192) : hMean v (ix2 t 0) = Ideal.div (v (ix1 t)) cN + cE := by
  pointwise [hMean]; rfl
theorem hNorm_apply (x : FVec Ideal S8192x1024 .f32) (v : FVec Ideal S8192x1 .f32) (t : Fin 8192) (j : Fin 1024) :
    hNorm x v (ix2 t j) = x (ix2 t j) * Ideal.rsqrt (v (ix2 t 0)) := by
  pointwise [hNorm]
theorem hGain_apply (n : FVec Ideal S8192x1024 .f32) (g : FVec Ideal S1x1024 .f32) (t : Fin 8192) (j : Fin 1024) :
    hGain n g (ix2 t j) = n (ix2 t j) * g (ix2 0 j) := by
  pointwise [hGain]
theorem hRelu_apply (a : FVec Ideal S8192x4096 .f32) (t : Fin 8192) (f : Fin 4096) : hRelu a (ix2 t f) = max (a (ix2 t f)) 0 := by
  pointwise [hRelu]
theorem hSlope_apply (a : FVec Ideal S8192x4096 .f32) (i : S8192x4096.Idx) : hSlope a i = a i + a i := rfl

/-! ## The call's arrays -/

variable (m : (ℓ : Loc nD τ sig) → Buf (Elt Ideal) ℓ) (c : Dev nD)

/-- The eight arguments. -/
def args : Args where
  x := m ((c : Thread nD τ).loc main_arg0)
  at' := m ((c : Thread nD τ).loc main_arg1)
  po := m ((c : Thread nD τ).loc main_arg2)
  wo := m ((c : Thread nD τ).loc main_arg3)
  g := m ((c : Thread nD τ).loc main_arg4)
  wu := m ((c : Thread nD τ).loc main_arg5)
  wd := m ((c : Thread nD τ).loc main_arg6)
  dy := m ((c : Thread nD τ).loc main_arg7)

def hX2 (A : Args) : FVec Ideal S8192x1024 .f32 := hRes A.x (hProj (hCat A.at' A.po) A.wo)
def hS (A : Args) : FVec Ideal S8192x4096 .bf16 := hSlope (hRelu (hUp (hGain (hNorm (hX2 A) (hMean (hSum (hX2 A)))) A.g) A.wu))

theorem hX2_apply (A : Args) (t : Fin 8192) (j : Fin 1024) : hX2 A (ix2 t j) = x2 A t j := by
  unfold hX2
  rw [hRes_apply, hProj_apply]
  exact congrArg (_ + ·) (Finset.sum_congr rfl fun k _ => congrArg (· * _) (hCat_apply A.at' A.po t k))

theorem hS_apply (A : Args) (t : Fin 8192) (f : Fin 4096) : hS A (ix2 t f) = slope A t f := by
  have h : hUp (hGain (hNorm (hX2 A) (hMean (hSum (hX2 A)))) A.g) A.wu (ix2 t f) = act A t f := by
    rw [hUp_apply]
    refine Finset.sum_congr rfl fun j _ => congrArg (· * _) ?_
    rw [hGain_apply, hNorm_apply, hMean_apply, hSum_apply]
    simp only [hX2_apply]
    rfl
  unfold hS
  rw [hSlope_apply, hRelu_apply, h]; rfl

theorem V_v3 : V m c main_v3 = hX2 (args m c) := by
  unfold_abbrev_sides
  simp only [hostOps0, hostOps0_1, hostOps0_2, List.flatten_cons, List.flatten_nil, List.append_nil, List.cons_append, List.nil_append]
  after_results_simp
  rfl
theorem V_v23 : V m c main_v23 = hS (args m c) := by
  unfold_abbrev_sides
  simp only [hostOps0, hostOps0_1, hostOps0_2, List.flatten_cons, List.flatten_nil, List.append_nil, List.cons_append, List.nil_append]
  after_results_simp
  rfl
theorem V_v21 : V m c main_v21 = (truncf .bf16 ((args m c).dy : FVec Ideal S8192x1024 .f32) bitsLt_bf16_f32 : FVec Ideal S8192x1024 .bf16) := by
  unfold_abbrev_sides
  simp only [hostOps0, hostOps0_1, hostOps0_2, List.flatten_cons, List.flatten_nil, List.append_nil, List.cons_append, List.nil_append]
  after_results_simp
  rfl
theorem V_v25 : V m c main_v25 = (truncf .bf16 (shapeCast S4096x1024 ((args m c).wd : FVec Ideal S1x4096x1024 .f32) shapeCasts_S1x4096x1024_S4096x1024 : FVec Ideal S4096x1024 .f32) bitsLt_bf16_f32 : FVec Ideal S4096x1024 .bf16) := by
  unfold_abbrev_sides
  simp only [hostOps0, hostOps0_1, hostOps0_2, List.flatten_cons, List.flatten_nil, List.append_nil, List.cons_append, List.nil_append]
  after_results_simp
  rfl
theorem V_v27 : V m c main_v27 = (truncf .bf16 (shapeCast S1024x4096 ((args m c).wu : FVec Ideal S1x1024x4096 .f32) shapeCasts_S1x1024x4096_S1024x4096 : FVec Ideal S1024x4096 .f32) bitsLt_bf16_f32 : FVec Ideal S1024x4096 .bf16) := by
  unfold_abbrev_sides
  simp only [hostOps0, hostOps0_1, hostOps0_2, List.flatten_cons, List.flatten_nil, List.append_nil, List.cons_append, List.nil_append]
  after_results_simp
  rfl
theorem V_v29 : V m c main_v29 = (truncf .bf16 (shapeCast S1024x1024 ((args m c).wo : FVec Ideal S1x1024x1024 .f32) shapeCasts_S1x1024x1024_S1024x1024 : FVec Ideal S1024x1024 .f32) bitsLt_bf16_f32 : FVec Ideal S1024x1024 .bf16) := by
  unfold_abbrev_sides
  simp only [hostOps0, hostOps0_1, hostOps0_2, List.flatten_cons, List.flatten_nil, List.append_nil, List.cons_append, List.nil_append]
  after_results_simp
  rfl
theorem V_v30 : V m c main_v30 = (truncf .bf16 ((args m c).at' : FVec Ideal S8192x512 .f32) bitsLt_bf16_f32 : FVec Ideal S8192x512 .bf16) := by
  unfold_abbrev_sides
  simp only [hostOps0, hostOps0_1, hostOps0_2, List.flatten_cons, List.flatten_nil, List.append_nil, List.cons_append, List.nil_append]
  after_results_simp
  rfl
theorem V_v31 : V m c main_v31 = (truncf .bf16 ((args m c).po : FVec Ideal S8192x512 .f32) bitsLt_bf16_f32 : FVec Ideal S8192x512 .bf16) := by
  unfold_abbrev_sides
  simp only [hostOps0, hostOps0_1, hostOps0_2, List.flatten_cons, List.flatten_nil, List.append_nil, List.cons_append, List.nil_append]
  after_results_simp
  rfl

end Cert.MlpKernelIdeal.Host'

end
-- ==== Proof.MlpValue.lean ====
module

public import proofs.«01_k».proof.Proof.MlpKept
public import proofs.«01_k».proof.Proof.MlpPoint
public import proofs.«01_k».proof.Proof.MlpHost

@[expose] public section

/-! The call's final arrays: the blocks its points leave, put together over the grid, and the two sums over it. -/

set_option maxRecDepth 16384

noncomputable section

namespace Cert.MlpKernelIdeal.MlpValue

open Cert.MlpKernelIdeal Cert.MlpKernelIdeal.Gen Cert.MlpKernelIdeal.Mlp Cert.MlpKernelIdeal.Block Cert.MlpKernelIdeal.Host'
open Idealize.ShloMosaic Idealize.ShloMosaic.TcCoe Idealize.SL.Sem Cert.Mlp

variable (m : (ℓ : Loc nD τ sig) → Buf (Elt Ideal) ℓ) (ρ : Dev nD → PrngReg) (c : Dev nD)

/-- The row of a point's block in the whole array. -/
def row (t : Fin cfg0.N) (p : Fin 256) : Fin 8192 := ⟨t.val * 256 + p.val, by have := t.isLt.trans_eq N_0; omega⟩

/-! ## The blocks the points read -/

theorem index0 : ∀ t : Fin cfg0.N, win0_0.index t 0 = t.val ∧ win0_0.index t 1 = 0 :=
  (by decide +kernel : ∀ t : Fin grid0.N, win0_0.index t 0 = t.val ∧ win0_0.index t 1 = 0)
theorem blk0 (t : Fin cfg0.N) (p : Fin 256) (j : Fin 1024) : (iblk m c 0 t : Vec Ideal S256x1024 .bf16) (ix2 p j) = (args m c).dy (ix2 (row t p) j) := by
  have hi := index0 t
  unfold iblk
  rw [View.read_apply]
  show V m c main_v21 _ = _
  have hq : ((cfg0.win 0).blk t).view.emb (ix2 p j : S256x1024.Idx) = (ix2 (row t p) j : main_v21.ty.shape.Idx) := by
    refine funext fun a => Fin.ext ?_
    match a with
    | ⟨0, _⟩ => show win0_0.index t 0 * 256 + 1 * p.val = t.val * 256 + p.val; rw [hi.1]; omega
    | ⟨1, _⟩ => show win0_0.index t 1 * 1024 + 1 * j.val = j.val; rw [hi.2]; omega
  refine (congrArg (V m c main_v21) hq).trans ?_
  rw [V_v21]; rfl

theorem index1 : ∀ t : Fin cfg0.N, win0_1.index t 0 = t.val ∧ win0_1.index t 1 = 0 :=
  (by decide +kernel : ∀ t : Fin grid0.N, win0_1.index t 0 = t.val ∧ win0_1.index t 1 = 0)
theorem blk1 (t : Fin cfg0.N) (p : Fin 256) (j : Fin 4096) : (iblk m c 1 t : Vec Ideal S256x4096 .bf16) (ix2 p j) = slope (args m c) (row t p) j := by
  have hi := index1 t
  unfold iblk
  rw [View.read_apply]
  show V m c main_v23 _ = _
  have hq : ((cfg0.win 1).blk t).view.emb (ix2 p j : S256x4096.Idx) = (ix2 (row t p) j : main_v23.ty.shape.Idx) := by
    refine funext fun a => Fin.ext ?_
    match a with
    | ⟨0, _⟩ => show win0_1.index t 0 * 256 + 1 * p.val = t.val * 256 + p.val; rw [hi.1]; omega
    | ⟨1, _⟩ => show win0_1.index t 1 * 4096 + 1 * j.val = j.val; rw [hi.2]; omega
  refine (congrArg (V m c main_v23) hq).trans ?_
  rw [V_v23]; exact hS_apply _ _ _

theorem index2 : ∀ t : Fin cfg0.N, win0_2.index t 0 = 0 ∧ win0_2.index t 1 = 0 :=
  (by decide +kernel : ∀ t : Fin grid0.N, win0_2.index t 0 = 0 ∧ win0_2.index t 1 = 0)
theorem blk2 (t : Fin cfg0.N) (p : Fin 4096) (j : Fin 1024) : (iblk m c 2 t : Vec Ideal S4096x1024 .bf16) (ix2 p j) = (args m c).wd (ix3 0 p j) := by
  have hi := index2 t
  unfold iblk
  rw [View.read_apply]
  show V m c main_v25 _ = _
  have hq : ((cfg0.win 2).blk t).view.emb (ix2 p j : S4096x1024.Idx) = (ix2 (p) j : main_v25.ty.shape.Idx) := by
    refine funext fun a => Fin.ext ?_
    match a with
    | ⟨0, _⟩ => show win0_2.index t 0 * 4096 + 1 * p.val = p.val; rw [hi.1]; omega
    | ⟨1, _⟩ => show win0_2.index t 1 * 1024 + 1 * j.val = j.val; rw [hi.2]; omega
  refine (congrArg (V m c main_v25) hq).trans ?_
  rw [V_v25]; exact castD _ _ _

theorem index3 : ∀ t : Fin cfg0.N, win0_3.index t 0 = 0 ∧ win0_3.index t 1 = 0 :=
  (by decide +kernel : ∀ t : Fin grid0.N, win0_3.index t 0 = 0 ∧ win0_3.index t 1 = 0)
theorem blk3 (t : Fin cfg0.N) (p : Fin 1024) (j : Fin 4096) : (iblk m c 3 t : Vec Ideal S1024x4096 .bf16) (ix2 p j) = (args m c).wu (ix3 0 p j) := by
  have hi := index3 t
  unfold iblk
  rw [View.read_apply]
  show V m c main_v27 _ = _
  have hq : ((cfg0.win 3).blk t).view.emb (ix2 p j : S1024x4096.Idx) = (ix2 (p) j : main_v27.ty.shape.Idx) := by
    refine funext fun a => Fin.ext ?_
    match a with
    | ⟨0, _⟩ => show win0_3.index t 0 * 1024 + 1 * p.val = p.val; rw [hi.1]; omega
    | ⟨1, _⟩ => show win0_3.index t 1 * 4096 + 1 * j.val = j.val; rw [hi.2]; omega
  refine (congrArg (V m c main_v27) hq).trans ?_
  rw [V_v27]; exact castU _ _ _

theorem index4 : ∀ t : Fin cfg0.N, win0_4.index t 0 = t.val ∧ win0_4.index t 1 = 0 :=
  (by decide +kernel : ∀ t : Fin grid0.N, win0_4.index t 0 = t.val ∧ win0_4.index t 1 = 0)
theorem blk4 (t : Fin cfg0.N) (p : Fin 256) (j : Fin 1024) : (iblk m c 4 t : Vec Ideal S256x1024 .f32) (ix2 p j) = (args m c).dy (ix2 (row t p) j) := by
  have hi := index4 t
  unfold iblk
  rw [View.read_apply]
  show V m c main_arg7 _ = _
  have hq : ((cfg0.win 4).blk t).view.emb (ix2 p j : S256x1024.Idx) = (ix2 (row t p) j : main_arg7.ty.shape.Idx) := by
    refine funext fun a => Fin.ext ?_
    match a with
    | ⟨0, _⟩ => show win0_4.index t 0 * 256 + 1 * p.val = t.val * 256 + p.val; rw [hi.1]; omega
    | ⟨1, _⟩ => show win0_4.index t 1 * 1024 + 1 * j.val = j.val; rw [hi.2]; omega
  refine (congrArg (V m c main_arg7) hq).trans ?_
  rw [V_main_arg7]; rfl

theorem index5 : ∀ t : Fin cfg0.N, win0_5.index t 0 = t.val ∧ win0_5.index t 1 = 0 :=
  (by decide +kernel : ∀ t : Fin grid0.N, win0_5.index t 0 = t.val ∧ win0_5.index t 1 = 0)
theorem blk5 (t : Fin cfg0.N) (p : Fin 256) (j : Fin 1024) : (iblk m c 5 t : Vec Ideal S256x1024 .f32) (ix2 p j) = x2 (args m c) (row t p) j := by
  have hi := index5 t
  unfold iblk
  rw [View.read_apply]
  show V m c main_v3 _ = _
  have hq : ((cfg0.win 5).blk t).view.emb (ix2 p j : S256x1024.Idx) = (ix2 (row t p) j : main_v3.ty.shape.Idx) := by
    refine funext fun a => Fin.ext ?_
    match a with
    | ⟨0, _⟩ => show win0_5.index t 0 * 256 + 1 * p.val = t.val * 256 + p.val; rw [hi.1]; omega
    | ⟨1, _⟩ => show win0_5.index t 1 * 1024 + 1 * j.val = j.val; rw [hi.2]; omega
  refine (congrArg (V m c main_v3) hq).trans ?_
  rw [V_v3]; exact hX2_apply _ _ _

theorem index6 : ∀ t : Fin cfg0.N, win0_6.index t 0 = 0 ∧ win0_6.index t 1 = 0 :=
  (by decide +kernel : ∀ t : Fin grid0.N, win0_6.index t 0 = 0 ∧ win0_6.index t 1 = 0)
theorem blk6 (t : Fin cfg0.N) (p : Fin 1) (j : Fin 1024) : (iblk m c 6 t : Vec Ideal S1x1024 .f32) (ix2 p j) = (args m c).g (ix2 p j) := by
  have hi := index6 t
  unfold iblk
  rw [View.read_apply]
  show V m c main_arg4 _ = _
  have hq : ((cfg0.win 6).blk t).view.emb (ix2 p j : S1x1024.Idx) = (ix2 (p) j : main_arg4.ty.shape.Idx) := by
    refine funext fun a => Fin.ext ?_
    match a with
    | ⟨0, _⟩ => show win0_6.index t 0 * 1 + 1 * p.val = p.val; rw [hi.1]; omega
    | ⟨1, _⟩ => show win0_6.index t 1 * 1024 + 1 * j.val = j.val; rw [hi.2]; omega
  refine (congrArg (V m c main_arg4) hq).trans ?_
  rw [V_main_arg4]; rfl

theorem index7 : ∀ t : Fin cfg0.N, win0_7.index t 0 = 0 ∧ win0_7.index t 1 = 0 :=
  (by decide +kernel : ∀ t : Fin grid0.N, win0_7.index t 0 = 0 ∧ win0_7.index t 1 = 0)
theorem blk7 (t : Fin cfg0.N) (p : Fin 1024) (j : Fin 1024) : (iblk m c 7 t : Vec Ideal S1024x1024 .bf16) (ix2 p j) = (args m c).wo (ix3 0 p j) := by
  have hi := index7 t
  unfold iblk
  rw [View.read_apply]
  show V m c main_v29 _ = _
  have hq : ((cfg0.win 7).blk t).view.emb (ix2 p j : S1024x1024.Idx) = (ix2 (p) j : main_v29.ty.shape.Idx) := by
    refine funext fun a => Fin.ext ?_
    match a with
    | ⟨0, _⟩ => show win0_7.index t 0 * 1024 + 1 * p.val = p.val; rw [hi.1]; omega
    | ⟨1, _⟩ => show win0_7.index t 1 * 1024 + 1 * j.val = j.val; rw [hi.2]; omega
  refine (congrArg (V m c main_v29) hq).trans ?_
  rw [V_v29]; exact castO _ _ _

theorem index8 : ∀ t : Fin cfg0.N, win0_8.index t 0 = t.val ∧ win0_8.index t 1 = 0 :=
  (by decide +kernel : ∀ t : Fin grid0.N, win0_8.index t 0 = t.val ∧ win0_8.index t 1 = 0)
theorem blk8 (t : Fin cfg0.N) (p : Fin 256) (j : Fin 512) : (iblk m c 8 t : Vec Ideal S256x512 .bf16) (ix2 p j) = (args m c).at' (ix2 (row t p) j) := by
  have hi := index8 t
  unfold iblk
  rw [View.read_apply]
  show V m c main_v30 _ = _
  have hq : ((cfg0.win 8).blk t).view.emb (ix2 p j : S256x512.Idx) = (ix2 (row t p) j : main_v30.ty.shape.Idx) := by
    refine funext fun a => Fin.ext ?_
    match a with
    | ⟨0, _⟩ => show win0_8.index t 0 * 256 + 1 * p.val = t.val * 256 + p.val; rw [hi.1]; omega
    | ⟨1, _⟩ => show win0_8.index t 1 * 512 + 1 * j.val = j.val; rw [hi.2]; omega
  refine (congrArg (V m c main_v30) hq).trans ?_
  rw [V_v30]; rfl

theorem index9 : ∀ t : Fin cfg0.N, win0_9.index t 0 = t.val ∧ win0_9.index t 1 = 0 :=
  (by decide +kernel : ∀ t : Fin grid0.N, win0_9.index t 0 = t.val ∧ win0_9.index t 1 = 0)
theorem blk9 (t : Fin cfg0.N) (p : Fin 256) (j : Fin 512) : (iblk m c 9 t : Vec Ideal S256x512 .bf16) (ix2 p j) = (args m c).po (ix2 (row t p) j) := by
  have hi := index9 t
  unfold iblk
  rw [View.read_apply]
  show V m c main_v31 _ = _
  have hq : ((cfg0.win 9).blk t).view.emb (ix2 p j : S256x512.Idx) = (ix2 (row t p) j : main_v31.ty.shape.Idx) := by
    refine funext fun a => Fin.ext ?_
    match a with
    | ⟨0, _⟩ => show win0_9.index t 0 * 256 + 1 * p.val = t.val * 256 + p.val; rw [hi.1]; omega
    | ⟨1, _⟩ => show win0_9.index t 1 * 512 + 1 * j.val = j.val; rw [hi.2]; omega
  refine (congrArg (V m c main_v31) hq).trans ?_
  rw [V_v31]; rfl

/-! ## A point's rows are the specification's -/

theorem bx_eq (t : Fin cfg0.N) (p : Fin 256) : bx (ins m c t) p = x2 (args m c) (row t p) := funext fun k => blk5 m c t p k
theorem bda_eq (t : Fin cfg0.N) (p : Fin 256) (f : Fin 4096) : bda (ins m c t) p f = da (args m c) (row t p) f :=
  congrArg₂ (· * ·) (Finset.sum_congr rfl fun j _ => congrArg₂ (· * ·) (blk0 m c t p j) (blk2 m c t f j)) (blk1 m c t p f)
theorem bdn_eq (t : Fin cfg0.N) (p : Fin 256) (j : Fin 1024) : bdn (ins m c t) p j = dn (args m c) (row t p) j :=
  Finset.sum_congr rfl fun f _ => congrArg₂ (· * ·) (bda_eq m c t p f) (blk3 m c t j f)
theorem bdx_eq (t : Fin cfg0.N) (p : Fin 256) (j : Fin 1024) : bdx (ins m c t) p j = dx (args m c) (row t p) j := by
  have h : (fun k => bdn (ins m c t) p k * (ins m c t).x6 (ix2 0 k)) = fun k => dn (args m c) (row t p) k * (args m c).g (ix2 0 k) :=
    funext fun k => congrArg₂ (· * ·) (bdn_eq m c t p k) (blk6 m c t 0 k)
  have hy : (ins m c t).x4 (ix2 p j) = (args m c).dy (ix2 (row t p) j) := blk4 m c t p j
  unfold bdx dx
  rw [h, hy, bx_eq]
theorem bdc_eq (t : Fin cfg0.N) (p : Fin 256) (k : Fin 1024) : bdc (ins m c t) p k = dc (args m c) (row t p) k :=
  Finset.sum_congr rfl fun j _ => congrArg₂ (· * ·) (bdx_eq m c t p j) (blk7 m c t k j)
theorem bcat_eq (t : Fin cfg0.N) (p : Fin 256) (k : Fin 1024) : bcat (ins m c t) p k = cat (args m c) (row t p) k := by
  unfold bcat cat
  split
  · exact blk8 m c t p _
  · exact blk9 m c t p _

/-! ## The two sums over the grid -/

/-- What point `t` adds to each. -/
def addG (t : ℕ) (j : Fin 1024) : EReal := if h : t < cfg0.N then
  ∑ p : Fin 256, dn (args m c) (row ⟨t, h⟩ p) j * (x2 (args m c) (row ⟨t, h⟩ p) j * rms (x2 (args m c) (row ⟨t, h⟩ p))) else 0
def addW (t : ℕ) (k j : Fin 1024) : EReal := if h : t < cfg0.N then
  ∑ p : Fin 256, cat (args m c) (row ⟨t, h⟩ p) k * dx (args m c) (row ⟨t, h⟩ p) j else 0

theorem dg_step (t : Fin cfg0.N) (o : Vec Ideal S1x1024 .f32) (j : Fin 1024) :
    dgV (ins m c t) o (ix2 0 j) = o (ix2 0 j) + addG m c t.val j := by
  rw [dgV_apply]
  unfold addG
  rw [dif_pos t.isLt]
  refine congrArg (_ + ·) (Finset.sum_congr rfl fun p _ => ?_)
  rw [bdn_eq, bx_eq]
theorem ac_step (t : Fin cfg0.N) (a : Vec Ideal S1024x1024 .f32) (k j : Fin 1024) :
    acV (ins m c t) a (ix2 k j) = a (ix2 k j) + addW m c t.val k j := by
  rw [acV_eq]
  unfold addW
  rw [dif_pos t.isLt]
  refine congrArg (a (ix2 k j) + ·) (Finset.sum_congr rfl fun p _ => ?_)
  exact congrArg₂ (· * ·) (bcat_eq m c t p k) (bdx_eq m c t p j)

theorem accG_first (h : 0 < cfg0.N) : (accs m c 0 h).1 = dgV (ins m c ⟨0, h⟩) (k0_pay4 (F := Ideal)) := by
  rw [accs]
theorem accW_first (h : 0 < cfg0.N) : (accs m c 0 h).2 = acV (ins m c ⟨0, h⟩) (k0_pay5 (F := Ideal)) := by
  rw [accs]
theorem accG_succ (n : ℕ) (h : n + 1 < cfg0.N) : (accs m c (n + 1) h).1 = dgV (ins m c ⟨n + 1, h⟩) (accs m c n (Nat.lt_of_succ_lt h)).1 := by
  rw [accs]
theorem accW_succ (n : ℕ) (h : n + 1 < cfg0.N) : (accs m c (n + 1) h).2 = acV (ins m c ⟨n + 1, h⟩) (accs m c n (Nat.lt_of_succ_lt h)).2 := by
  rw [accs]

theorem accG_eq (n : ℕ) : ∀ (h : n < cfg0.N) (j : Fin 1024), (accs m c n h).1 (ix2 0 j) = ∑ t ∈ Finset.range (n + 1), addG m c t j := by
  induction n with
  | zero =>
    intro h j
    rw [Finset.sum_range_one, accG_first, dg_step, pay4_apply, zero_add]
  | succ n ih =>
    intro h j
    rw [Finset.sum_range_succ, ← ih (Nat.lt_of_succ_lt h) j, accG_succ, dg_step]
theorem accW_eq (n : ℕ) : ∀ (h : n < cfg0.N) (k j : Fin 1024), (accs m c n h).2 (ix2 k j) = ∑ t ∈ Finset.range (n + 1), addW m c t k j := by
  induction n with
  | zero =>
    intro h k j
    rw [Finset.sum_range_one, accW_first, ac_step, pay5_apply, zero_add]
  | succ n ih =>
    intro h k j
    rw [Finset.sum_range_succ, ← ih (Nat.lt_of_succ_lt h) k j, accW_succ, ac_step]

/-- A sum over the points and their rows is one over all rows. -/
theorem sum_rows (f : Fin 8192 → EReal) : (∑ t : Fin 32, ∑ p : Fin 256, f ⟨t.val * 256 + p.val, by omega⟩) = ∑ r : Fin 8192, f r := by
  rw [← Fintype.sum_prod_type']
  refine Fintype.sum_equiv (finProdFinEquiv (m := 32) (n := 256)) _ _ fun q => congrArg f (Fin.ext ?_)
  show q.1.val * 256 + q.2.val = q.2.val + 256 * q.1.val
  omega

theorem sum_addG (j : Fin 1024) : ∑ t ∈ Finset.range 32, addG m c t j = resG (args m c) (ix2 0 j) := by
  rw [Finset.sum_range]
  refine Eq.trans (Finset.sum_congr rfl fun t _ => ?_) (sum_rows fun r => dn (args m c) r j * (x2 (args m c) r j * rms (x2 (args m c) r)))
  unfold addG
  rw [dif_pos (t.isLt.trans_eq N_0.symm)]; rfl
theorem sum_addW (k j : Fin 1024) : ∑ t ∈ Finset.range 32, addW m c t k j = resW (args m c) (ix2 k j) := by
  rw [Finset.sum_range]
  refine Eq.trans (Finset.sum_congr rfl fun t _ => ?_) (sum_rows fun r => cat (args m c) r k * dx (args m c) r j)
  unfold addW
  rw [dif_pos (t.isLt.trans_eq N_0.symm)]; rfl

theorem accG_last (h : 31 < cfg0.N) : (accs m c 31 h).1 = resG (args m c) := by
  funext i
  have hi : i = (ix2 0 (i 1) : S1x1024.Idx) := by
    funext a
    match a with
    | 0 => exact Subsingleton.elim (α := Fin 1) _ _
    | 1 => rfl
  rw [hi]
  exact (accG_eq m c 31 h (i 1)).trans (sum_addG m c (i 1))
theorem g5_eq : g5 m c = resW (args m c) := by
  funext i
  have hi : i = (ix2 (i 0) (i 1) : S1024x1024.Idx) := funext fun a => match a with | 0 => rfl | 1 => rfl
  rw [hi]
  exact (accW_eq m c 31 lt31 (i 0) (i 1)).trans (sum_addW m c (i 0) (i 1))
theorem g6_eq : g6 m c = resW (args m c) := by
  unfold g6; rw [g5_eq]
  funext i
  have hi : i = (ix2 (i 0) (i 1) : S1024x1024.Idx) := funext fun a => match a with | 0 => rfl | 1 => rfl
  rw [hi]
  exact pay3_apply _ _ _

/-! ## The final arrays -/

theorem index11 : ∀ t : Fin cfg0.N, win0_11.index t 0 = t.val ∧ win0_11.index t 1 = 0 :=
  (by decide +kernel : ∀ t : Fin grid0.N, win0_11.index t 0 = t.val ∧ win0_11.index t 1 = 0)
theorem tile11 (t : Fin cfg0.N) (p : Fin 256) (j : Fin 4096) : (daV (ins m c t) : Vec Ideal S256x4096 .bf16) (ix2 p j) = resA (args m c) (ix2 (row t p) j) := by
  rw [daV_eq]; exact bda_eq m c t p j
theorem flushed11 (t : Fin cfg0.N) (hf : (cfg0.win 11).flush t = true) :
    (dats m 0 c).flushed 11 t = ((cfg0.win 11).blk t).view.read (Elt Ideal) (resA (args m c)) := by
  have hi := index11 t
  have hv : (dats m 0 c).flushed 11 t = (cfg0.win 11).cut (grid0.coords t) (daV (ins m c t)) := by
    show (cfg0.win 11).cut (grid0.coords t) ((dats m 0 c).after 11 t) = _
    rw [after_11]
  rw [hv]
  have ht := tile11 m c t
  generalize daV (ins m c t) = v at ht
  funext i
  obtain ⟨p, j, rfl⟩ : ∃ (p : Fin 256) (j : Fin 4096), i = (ix2 p j : S256x4096.Idx) := ⟨i 0, i 1, funext fun a => by match a with | ⟨0, _⟩ => rfl | ⟨1, _⟩ => rfl⟩
  rw [View.read_apply]
  have hj : ((cfg0.win 11).blk t).view.emb (ix2 p j : S256x4096.Idx) = (ix2 (row t p) j : S8192x4096.Idx) := by
    refine funext fun a => Fin.ext ?_
    match a with
    | ⟨0, _⟩ => show win0_11.index t 0 * 256 + 1 * p.val = t.val * 256 + p.val; rw [hi.1]; omega
    | ⟨1, _⟩ => show win0_11.index t 1 * 4096 + 1 * j.val = j.val; rw [hi.2]; omega
  exact (ht p j).trans (congrArg (resA (args m c)) hj).symm
theorem span11 : ∀ t : Fin cfg0.N, win0_11.index t 0 * win0_11.size 0 = t.val * 256 ∧ win0_11.xsize (grid0.coords t) 0 = 256
    ∧ win0_11.index t 1 * win0_11.size 1 = 0 ∧ win0_11.xsize (grid0.coords t) 1 = 4096 :=
  (by decide +kernel : ∀ t : Fin grid0.N, win0_11.index t 0 * win0_11.size 0 = t.val * 256 ∧ win0_11.xsize (grid0.coords t) 0 = 256
    ∧ win0_11.index t 1 * win0_11.size 1 = 0 ∧ win0_11.xsize (grid0.coords t) 1 = 4096)
theorem final11 : (dats m 0 c).arrAt 11 cfg0.N = resA (args m c) :=
  (dats m 0 c).arrAt_eq_of_cover 11 (resA (args m c)) (flushed11 m c) fun i =>
    ⟨⟨(i 0).val / 256, by rw [show cfg0.N = 32 from N_0]; have : (i 0).val < 8192 := (i 0).isLt; omega⟩, flush0_11 _, by
      generalize ht : (⟨(i 0).val / 256, _⟩ : Fin cfg0.N) = t
      have hv : t.val = (i 0).val / 256 := by rw [← ht]
      show i ∈ ((View.whole main_v33_0).slice (win0_11.rect t)).set
      rw [View.set_slice_whole, Rect.mem_set_unit]
      obtain ⟨h1, h2, h3, h4⟩ := span11 t
      intro a
      match a with
      | ⟨0, _⟩ =>
        show win0_11.index t 0 * win0_11.size 0 ≤ (i 0).val ∧ (i 0).val < win0_11.index t 0 * win0_11.size 0 + win0_11.xsize (grid0.coords t) 0
        rw [h1, h2, hv]; omega
      | ⟨1, _⟩ =>
        show win0_11.index t 1 * win0_11.size 1 ≤ (i 1).val ∧ (i 1).val < win0_11.index t 1 * win0_11.size 1 + win0_11.xsize (grid0.coords t) 1
        have : (i 1).val < 4096 := (i 1).isLt
        rw [h3, h4]; omega⟩

theorem index12 : ∀ t : Fin cfg0.N, win0_12.index t 0 = t.val ∧ win0_12.index t 1 = 0 :=
  (by decide +kernel : ∀ t : Fin grid0.N, win0_12.index t 0 = t.val ∧ win0_12.index t 1 = 0)
theorem tile12 (t : Fin cfg0.N) (p : Fin 256) (j : Fin 1024) : (dxV (ins m c t) : Vec Ideal S256x1024 .f32) (ix2 p j) = resX (args m c) (ix2 (row t p) j) := by
  exact (dxV_apply _ p j).trans (bdx_eq m c t p j)
theorem flushed12 (t : Fin cfg0.N) (hf : (cfg0.win 12).flush t = true) :
    (dats m 0 c).flushed 12 t = ((cfg0.win 12).blk t).view.read (Elt Ideal) (resX (args m c)) := by
  have hi := index12 t
  have hv : (dats m 0 c).flushed 12 t = (cfg0.win 12).cut (grid0.coords t) (dxV (ins m c t)) := by
    show (cfg0.win 12).cut (grid0.coords t) ((dats m 0 c).after 12 t) = _
    rw [after_12]
  rw [hv]
  have ht := tile12 m c t
  generalize dxV (ins m c t) = v at ht
  funext i
  obtain ⟨p, j, rfl⟩ : ∃ (p : Fin 256) (j : Fin 1024), i = (ix2 p j : S256x1024.Idx) := ⟨i 0, i 1, funext fun a => by match a with | ⟨0, _⟩ => rfl | ⟨1, _⟩ => rfl⟩
  rw [View.read_apply]
  have hj : ((cfg0.win 12).blk t).view.emb (ix2 p j : S256x1024.Idx) = (ix2 (row t p) j : S8192x1024.Idx) := by
    refine funext fun a => Fin.ext ?_
    match a with
    | ⟨0, _⟩ => show win0_12.index t 0 * 256 + 1 * p.val = t.val * 256 + p.val; rw [hi.1]; omega
    | ⟨1, _⟩ => show win0_12.index t 1 * 1024 + 1 * j.val = j.val; rw [hi.2]; omega
  exact (ht p j).trans (congrArg (resX (args m c)) hj).symm
theorem span12 : ∀ t : Fin cfg0.N, win0_12.index t 0 * win0_12.size 0 = t.val * 256 ∧ win0_12.xsize (grid0.coords t) 0 = 256
    ∧ win0_12.index t 1 * win0_12.size 1 = 0 ∧ win0_12.xsize (grid0.coords t) 1 = 1024 :=
  (by decide +kernel : ∀ t : Fin grid0.N, win0_12.index t 0 * win0_12.size 0 = t.val * 256 ∧ win0_12.xsize (grid0.coords t) 0 = 256
    ∧ win0_12.index t 1 * win0_12.size 1 = 0 ∧ win0_12.xsize (grid0.coords t) 1 = 1024)
theorem final12 : (dats m 0 c).arrAt 12 cfg0.N = resX (args m c) :=
  (dats m 0 c).arrAt_eq_of_cover 12 (resX (args m c)) (flushed12 m c) fun i =>
    ⟨⟨(i 0).val / 256, by rw [show cfg0.N = 32 from N_0]; have : (i 0).val < 8192 := (i 0).isLt; omega⟩, flush0_12 _, by
      generalize ht : (⟨(i 0).val / 256, _⟩ : Fin cfg0.N) = t
      have hv : t.val = (i 0).val / 256 := by rw [← ht]
      show i ∈ ((View.whole main_v33_1).slice (win0_12.rect t)).set
      rw [View.set_slice_whole, Rect.mem_set_unit]
      obtain ⟨h1, h2, h3, h4⟩ := span12 t
      intro a
      match a with
      | ⟨0, _⟩ =>
        show win0_12.index t 0 * win0_12.size 0 ≤ (i 0).val ∧ (i 0).val < win0_12.index t 0 * win0_12.size 0 + win0_12.xsize (grid0.coords t) 0
        rw [h1, h2, hv]; omega
      | ⟨1, _⟩ =>
        show win0_12.index t 1 * win0_12.size 1 ≤ (i 1).val ∧ (i 1).val < win0_12.index t 1 * win0_12.size 1 + win0_12.xsize (grid0.coords t) 1
        have : (i 1).val < 1024 := (i 1).isLt
        rw [h3, h4]; omega⟩

theorem index13 : ∀ t : Fin cfg0.N, win0_13.index t 0 = t.val ∧ win0_13.index t 1 = 0 :=
  (by decide +kernel : ∀ t : Fin grid0.N, win0_13.index t 0 = t.val ∧ win0_13.index t 1 = 0)
theorem tile13 (t : Fin cfg0.N) (p : Fin 256) (j : Fin 512) : (atV (ins m c t) : Vec Ideal S256x512 .bf16) (ix2 p j) = resT (args m c) (ix2 (row t p) j) := by
  exact (atV_apply _ p j).trans (bdc_eq m c t p _)
theorem flushed13 (t : Fin cfg0.N) (hf : (cfg0.win 13).flush t = true) :
    (dats m 0 c).flushed 13 t = ((cfg0.win 13).blk t).view.read (Elt Ideal) (resT (args m c)) := by
  have hi := index13 t
  have hv : (dats m 0 c).flushed 13 t = (cfg0.win 13).cut (grid0.coords t) (atV (ins m c t)) := by
    show (cfg0.win 13).cut (grid0.coords t) ((dats m 0 c).after 13 t) = _
    rw [after_13]
  rw [hv]
  have ht := tile13 m c t
  generalize atV (ins m c t) = v at ht
  funext i
  obtain ⟨p, j, rfl⟩ : ∃ (p : Fin 256) (j : Fin 512), i = (ix2 p j : S256x512.Idx) := ⟨i 0, i 1, funext fun a => by match a with | ⟨0, _⟩ => rfl | ⟨1, _⟩ => rfl⟩
  rw [View.read_apply]
  have hj : ((cfg0.win 13).blk t).view.emb (ix2 p j : S256x512.Idx) = (ix2 (row t p) j : S8192x512.Idx) := by
    refine funext fun a => Fin.ext ?_
    match a with
    | ⟨0, _⟩ => show win0_13.index t 0 * 256 + 1 * p.val = t.val * 256 + p.val; rw [hi.1]; omega
    | ⟨1, _⟩ => show win0_13.index t 1 * 512 + 1 * j.val = j.val; rw [hi.2]; omega
  exact (ht p j).trans (congrArg (resT (args m c)) hj).symm
theorem span13 : ∀ t : Fin cfg0.N, win0_13.index t 0 * win0_13.size 0 = t.val * 256 ∧ win0_13.xsize (grid0.coords t) 0 = 256
    ∧ win0_13.index t 1 * win0_13.size 1 = 0 ∧ win0_13.xsize (grid0.coords t) 1 = 512 :=
  (by decide +kernel : ∀ t : Fin grid0.N, win0_13.index t 0 * win0_13.size 0 = t.val * 256 ∧ win0_13.xsize (grid0.coords t) 0 = 256
    ∧ win0_13.index t 1 * win0_13.size 1 = 0 ∧ win0_13.xsize (grid0.coords t) 1 = 512)
theorem final13 : (dats m 0 c).arrAt 13 cfg0.N = resT (args m c) :=
  (dats m 0 c).arrAt_eq_of_cover 13 (resT (args m c)) (flushed13 m c) fun i =>
    ⟨⟨(i 0).val / 256, by rw [show cfg0.N = 32 from N_0]; have : (i 0).val < 8192 := (i 0).isLt; omega⟩, flush0_13 _, by
      generalize ht : (⟨(i 0).val / 256, _⟩ : Fin cfg0.N) = t
      have hv : t.val = (i 0).val / 256 := by rw [← ht]
      show i ∈ ((View.whole main_v33_2).slice (win0_13.rect t)).set
      rw [View.set_slice_whole, Rect.mem_set_unit]
      obtain ⟨h1, h2, h3, h4⟩ := span13 t
      intro a
      match a with
      | ⟨0, _⟩ =>
        show win0_13.index t 0 * win0_13.size 0 ≤ (i 0).val ∧ (i 0).val < win0_13.index t 0 * win0_13.size 0 + win0_13.xsize (grid0.coords t) 0
        rw [h1, h2, hv]; omega
      | ⟨1, _⟩ =>
        show win0_13.index t 1 * win0_13.size 1 ≤ (i 1).val ∧ (i 1).val < win0_13.index t 1 * win0_13.size 1 + win0_13.xsize (grid0.coords t) 1
        have : (i 1).val < 512 := (i 1).isLt
        rw [h3, h4]; omega⟩

theorem index14 : ∀ t : Fin cfg0.N, win0_14.index t 0 = t.val ∧ win0_14.index t 1 = 0 :=
  (by decide +kernel : ∀ t : Fin grid0.N, win0_14.index t 0 = t.val ∧ win0_14.index t 1 = 0)
theorem tile14 (t : Fin cfg0.N) (p : Fin 256) (j : Fin 512) : (poV (ins m c t) : Vec Ideal S256x512 .f32) (ix2 p j) = resP (args m c) (ix2 (row t p) j) := by
  exact (poV_apply _ p j).trans (bdc_eq m c t p _)
theorem flushed14 (t : Fin cfg0.N) (hf : (cfg0.win 14).flush t = true) :
    (dats m 0 c).flushed 14 t = ((cfg0.win 14).blk t).view.read (Elt Ideal) (resP (args m c)) := by
  have hi := index14 t
  have hv : (dats m 0 c).flushed 14 t = (cfg0.win 14).cut (grid0.coords t) (poV (ins m c t)) := by
    show (cfg0.win 14).cut (grid0.coords t) ((dats m 0 c).after 14 t) = _
    rw [after_14]
  rw [hv]
  have ht := tile14 m c t
  generalize poV (ins m c t) = v at ht
  funext i
  obtain ⟨p, j, rfl⟩ : ∃ (p : Fin 256) (j : Fin 512), i = (ix2 p j : S256x512.Idx) := ⟨i 0, i 1, funext fun a => by match a with | ⟨0, _⟩ => rfl | ⟨1, _⟩ => rfl⟩
  rw [View.read_apply]
  have hj : ((cfg0.win 14).blk t).view.emb (ix2 p j : S256x512.Idx) = (ix2 (row t p) j : S8192x512.Idx) := by
    refine funext fun a => Fin.ext ?_
    match a with
    | ⟨0, _⟩ => show win0_14.index t 0 * 256 + 1 * p.val = t.val * 256 + p.val; rw [hi.1]; omega
    | ⟨1, _⟩ => show win0_14.index t 1 * 512 + 1 * j.val = j.val; rw [hi.2]; omega
  exact (ht p j).trans (congrArg (resP (args m c)) hj).symm
theorem span14 : ∀ t : Fin cfg0.N, win0_14.index t 0 * win0_14.size 0 = t.val * 256 ∧ win0_14.xsize (grid0.coords t) 0 = 256
    ∧ win0_14.index t 1 * win0_14.size 1 = 0 ∧ win0_14.xsize (grid0.coords t) 1 = 512 :=
  (by decide +kernel : ∀ t : Fin grid0.N, win0_14.index t 0 * win0_14.size 0 = t.val * 256 ∧ win0_14.xsize (grid0.coords t) 0 = 256
    ∧ win0_14.index t 1 * win0_14.size 1 = 0 ∧ win0_14.xsize (grid0.coords t) 1 = 512)
theorem final14 : (dats m 0 c).arrAt 14 cfg0.N = resP (args m c) :=
  (dats m 0 c).arrAt_eq_of_cover 14 (resP (args m c)) (flushed14 m c) fun i =>
    ⟨⟨(i 0).val / 256, by rw [show cfg0.N = 32 from N_0]; have : (i 0).val < 8192 := (i 0).isLt; omega⟩, flush0_14 _, by
      generalize ht : (⟨(i 0).val / 256, _⟩ : Fin cfg0.N) = t
      have hv : t.val = (i 0).val / 256 := by rw [← ht]
      show i ∈ ((View.whole main_v33_3).slice (win0_14.rect t)).set
      rw [View.set_slice_whole, Rect.mem_set_unit]
      obtain ⟨h1, h2, h3, h4⟩ := span14 t
      intro a
      match a with
      | ⟨0, _⟩ =>
        show win0_14.index t 0 * win0_14.size 0 ≤ (i 0).val ∧ (i 0).val < win0_14.index t 0 * win0_14.size 0 + win0_14.xsize (grid0.coords t) 0
        rw [h1, h2, hv]; omega
      | ⟨1, _⟩ =>
        show win0_14.index t 1 * win0_14.size 1 ≤ (i 1).val ∧ (i 1).val < win0_14.index t 1 * win0_14.size 1 + win0_14.xsize (grid0.coords t) 1
        have : (i 1).val < 512 := (i 1).isLt
        rw [h3, h4]; omega⟩

/-- The last point. -/
def tL : Fin cfg0.N := ⟨31, lt31⟩

theorem flushed15 (t : Fin cfg0.N) (hf : (cfg0.win 15).flush t = true) :
    (dats m 0 c).flushed 15 t = ((cfg0.win 15).blk t).view.read (Elt Ideal) (resG (args m c)) := by
  have h3 : t.val = 31 := by have := (flush0_15 t).mp hf; have := t.isLt.trans_eq N_0; omega
  obtain rfl : t = tL := Fin.ext h3
  have hv : (dats m 0 c).flushed 15 tL = (cfg0.win 15).cut (grid0.coords tL) (accs m c 31 lt31).1 := by
    show (cfg0.win 15).cut (grid0.coords tL) ((dats m 0 c).after 15 tL) = _
    rw [after_15]; rfl
  rw [hv, accG_last]
  have hz' : (fun a => win0_15.index tL a * main_v33_4.ty.shape.size a) = fun _ => 0 := funext fun a => by fin_cases a <;> decide
  exact (Memref.read_access_unit_zero (Elt Ideal) main_v33_4 hz' (fun a => by rw [congrFun hz' a]; simp) (resG (args m c))).symm
theorem final15 : (dats m 0 c).arrAt 15 cfg0.N = resG (args m c) :=
  (dats m 0 c).arrAt_eq_of_cover 15 (resG (args m c)) (flushed15 m c) fun i =>
    ⟨tL, (flush0_15 tL).mpr rfl, by
      show i ∈ ((View.whole main_v33_4).slice (win0_15.rect tL)).set
      rw [View.set_slice_whole, Rect.mem_set_unit]
      have h : ∀ a : Fin 2, win0_15.index tL a * win0_15.size a = 0 ∧ win0_15.xsize (grid0.coords tL) a = S1x1024.size a := by decide +kernel
      intro a
      show win0_15.index tL a * win0_15.size a ≤ (i a).val ∧ (i a).val < win0_15.index tL a * win0_15.size a + win0_15.xsize (grid0.coords tL) a
      rw [(h a).1, (h a).2, Nat.zero_add]; exact ⟨Nat.zero_le _, (i a).isLt⟩⟩

/-- The run with the seven results named and the arguments unchanged. -/
theorem run : θ_run defs (onTc (τ := τ) (main (F := Ideal))) ⟨m, fun _ => 0, ρ⟩ fun r => ∀ c : Dev nD,
      r.2.mem ((c : Thread nD τ).loc main_v33_0) = resA (args m c)
      ∧ r.2.mem ((c : Thread nD τ).loc main_v33_1) = resX (args m c)
      ∧ r.2.mem ((c : Thread nD τ).loc main_v33_2) = resT (args m c)
      ∧ r.2.mem ((c : Thread nD τ).loc main_v33_3) = resP (args m c)
      ∧ r.2.mem ((c : Thread nD τ).loc main_v33_4) = resG (args m c)
      ∧ r.2.mem ((c : Thread nD τ).loc main_v33_5) = resW (args m c)
      ∧ r.2.mem ((c : Thread nD τ).loc main_v33_6) = resW (args m c)
      ∧ Kept m r.2.mem c :=
  (θ_run defs _ _).mono (fun r h c => ⟨((h.1.1 c).1 11).trans (final11 m c), ((h.1.1 c).1 12).trans (final12 m c), ((h.1.1 c).1 13).trans (final13 m c),
      ((h.1.1 c).1 14).trans (final14 m c), ((h.1.1 c).1 15).trans (final15 m c),
      (h.1.2 c main_v33_5 (by decide)).trans ((G_5 m c).trans (g5_eq m c)), (h.1.2 c main_v33_6 (by decide)).trans ((G_6 m c).trans (g6_eq m c)), kept m r h c⟩)
    (run_main m ρ)

end Cert.MlpKernelIdeal.MlpValue

end
-- ==== Proof.MlpSame.lean ====
module

public import proofs.«01_k».proof.Proof.MlpKept
public import proofs.«01_k».proof.Proof.Gen.MlpKernel

@[expose] public section

/-! The printed program and the idealized one have one text: the same kernel body at each label and
the same host program. So the run of the one is the run of the other. -/

noncomputable section

namespace Cert.MlpSame

open Idealize.ShloMosaic Idealize.SL.Sem

variable {F : FTy → Type} [FloatOps F]

set_option maxHeartbeats 4000000 in
/-- Each label runs the same body. -/
theorem bodies : (Cert.MlpKernel.defs₀ : Defs Cert.MlpKernel.nD Cert.MlpKernel.τ Cert.MlpKernel.sig (Elt F) Cert.MlpKernel.Λ₀)
    = Cert.MlpKernelIdeal.defs₀ (F := F) := by
  funext k ℓ a
  match k with
  | .tc =>
    match ℓ, a with
    | 0, (t, s) => rfl
    | ⟨_ + 1, h⟩, _ => exact absurd h (Nat.not_lt.2 (Nat.le_add_left _ _))
  | .scScalar _ => rfl
  | .scVector _ _ => rfl

/-- The tables with the pipelines are the same. -/
theorem tables : Cert.MlpKernel.defs (F := F) = Cert.MlpKernelIdeal.defs (F := F) :=
  congrArg (fun d => Pipeline.defs (Cert.MlpKernelIdeal.pcfgs (F := F)) d) bodies

set_option maxHeartbeats 4000000 in
/-- The host programs are the same. -/
theorem hosts : Cert.MlpKernel.main (F := F) = Cert.MlpKernelIdeal.main (F := F) := by
  unfold Cert.MlpKernel.main Cert.MlpKernelIdeal.main
  rfl

open Cert.MlpKernelIdeal in
set_option maxHeartbeats 4000000 in
/-- A run of equal programs from equal tables is the same run. -/
theorem run_quiet (m : (ℓ : Loc nD τ sig) → Buf (Elt F) ℓ) (ρ : Dev nD → PrngReg)
    (D : Defs nD τ sig (Elt F) (Pipeline.Sig Λ₀ (Fin 1) fun p => (pcfgs (F := F) p).Adm)) (P : Dev nD → Prog (TpuEff nD τ sig (Elt F) (Pipeline.Sig Λ₀ (Fin 1) fun p => (pcfgs (F := F) p).Adm) .tc) PUnit)
    (hD : D = defs (F := F)) (hP : P = main (F := F)) :
    θ_run D (onTc (τ := τ) P) ⟨m, fun _ => 0, ρ⟩ (fun r => (∀ c : Dev nD, Mlp.Kept m r.2.mem c) ∧ r.2.sem = fun _ => 0) := by
  subst hD; subst hP
  exact Mlp.run_quiet m ρ

end Cert.MlpSame
-- ==== Proof.MlpReference.lean ====
module

public import proofs.«01_k».proof.Proof.MlpSpec
public import proofs.«01_k».proof.Proof.Gen.MlpReferenceIdeal.Run
public import proofs.«01_k».proof.Proof.Gen.MlpReferenceIdeal.Read

@[expose] public section

/-! The reference's results: the stages of its program read at an index, as the sums the specification names. -/

set_option maxRecDepth 16384

noncomputable section

namespace Cert.MlpReferenceIdeal.Ref

open Cert.MlpReferenceIdeal Cert.MlpReferenceIdeal.Read Idealize.ShloMosaic Idealize.ShloMosaic.TcCoe Idealize.ShloMosaic.StableHlo Idealize.SL.Sem Cert.Mlp

theorem z0 : FloatOps.ofBits (F := Ideal) .f32 0x00000000#32 = (0 : EReal) := by
  show Ideal.ofBits .f32 0x00000000#32 = 0
  simp [Ideal.ofBits, Ideal.ieee]

theorem sel (a z b c : EReal) : Scalar.select (FloatOps.cmpf (F := Ideal) (φ := .f32) .ogt a z) b c = if z < a then b else c := by
  show Scalar.select (Ideal.cmp .ogt a z) b c = _
  unfold Scalar.select Ideal.cmp
  by_cases h : z < a <;> simp [h]

theorem i2 (i : S1024x1024.Idx) : idx_main_v2 i = ix3 0 (i 0) (i 1) := by
  have h0 : (i 0).val < 1024 := (i 0).isLt
  have h1 : (i 1).val < 1024 := (i 1).isLt
  refine funext fun a => Fin.ext ?_
  match a with
  | ⟨0, _⟩ => rfl
  | ⟨1, _⟩ => show ((i 0).val * 1024 + (i 1).val) / 1024 % 1024 = (i 0).val; omega
  | ⟨2, _⟩ => show ((i 0).val * 1024 + (i 1).val) % 1024 = (i 1).val; omega
theorem i22 (i : S1024x4096.Idx) : idx_main_v22 i = ix3 0 (i 0) (i 1) := by
  have h0 : (i 0).val < 1024 := (i 0).isLt
  have h1 : (i 1).val < 4096 := (i 1).isLt
  refine funext fun a => Fin.ext ?_
  match a with
  | ⟨0, _⟩ => rfl
  | ⟨1, _⟩ => show ((i 0).val * 4096 + (i 1).val) / 4096 % 1024 = (i 0).val; omega
  | ⟨2, _⟩ => show ((i 0).val * 4096 + (i 1).val) % 4096 = (i 1).val; omega
theorem i32 (i : S4096x1024.Idx) : idx_main_v32 i = ix3 0 (i 0) (i 1) := by
  have h0 : (i 0).val < 4096 := (i 0).isLt
  have h1 : (i 1).val < 1024 := (i 1).isLt
  refine funext fun a => Fin.ext ?_
  match a with
  | ⟨0, _⟩ => rfl
  | ⟨1, _⟩ => show ((i 0).val * 1024 + (i 1).val) / 1024 % 4096 = (i 0).val; omega
  | ⟨2, _⟩ => show ((i 0).val * 1024 + (i 1).val) % 1024 = (i 1).val; omega
theorem i72 (i : S1024x1024.Idx) : idx_main_v72 i = ix3 0 (i 0) (i 1) := by
  have h0 : (i 0).val < 1024 := (i 0).isLt
  have h1 : (i 1).val < 1024 := (i 1).isLt
  refine funext fun a => Fin.ext ?_
  match a with
  | ⟨0, _⟩ => rfl
  | ⟨1, _⟩ => show ((i 0).val * 1024 + (i 1).val) / 1024 % 1024 = (i 0).val; omega
  | ⟨2, _⟩ => show ((i 0).val * 1024 + (i 1).val) % 1024 = (i 1).val; omega
theorem i73 (i : S1024x1024.Idx) : idx_main_v73 i = ix3 0 (i 0) (i 1) := by
  have h0 : (i 0).val < 1024 := (i 0).isLt
  have h1 : (i 1).val < 1024 := (i 1).isLt
  refine funext fun a => Fin.ext ?_
  match a with
  | ⟨0, _⟩ => rfl
  | ⟨1, _⟩ => show ((i 0).val * 1024 + (i 1).val) / 1024 % 1024 = (i 0).val; omega
  | ⟨2, _⟩ => show ((i 0).val * 1024 + (i 1).val) % 1024 = (i 1).val; omega
theorem i35 (i : S8192x1024.Idx) : idx_main_v35 i = ix2 (i 0) (i 1) := by
  have h0 : (i 0).val < 8192 := (i 0).isLt
  have h1 : (i 1).val < 1024 := (i 1).isLt
  refine funext fun a => Fin.ext ?_
  match a with
  | ⟨0, _⟩ => show ((i 0).val * 1024 + (i 1).val) / 1024 = (i 0).val; omega
  | ⟨1, _⟩ => show ((i 0).val * 1024 + (i 1).val) % 1024 = (i 1).val; omega
theorem i36 (i : S8192x1024.Idx) : idx_main_v36 i = ix2 (i 0) (i 1) := by
  have h0 : (i 0).val < 8192 := (i 0).isLt
  have h1 : (i 1).val < 1024 := (i 1).isLt
  refine funext fun a => Fin.ext ?_
  match a with
  | ⟨0, _⟩ => show ((i 0).val * 1024 + (i 1).val) / 1024 = (i 0).val; omega
  | ⟨1, _⟩ => show ((i 0).val * 1024 + (i 1).val) % 1024 = (i 1).val; omega
theorem i44 (i : S1x1024.Idx) : idx_main_v44 i 0 = i 1 := by
  have h0 : (i 0).val < 1 := (i 0).isLt
  refine Fin.ext ?_; show (i 0).val * 1024 + (i 1).val = (i 1).val; omega
theorem i50 (i : S8192x1.Idx) : idx_main_v50 i 0 = i 0 := by
  have h1 : (i 1).val < 1 := (i 1).isLt
  refine Fin.ext ?_; show (i 0).val * 1 + (i 1).val = (i 0).val; omega
theorem i5 (i : S1024.Idx) : idx_main_v5 i = ix2 0 (i 0) := by
  refine funext fun a => Fin.ext ?_
  match a with
  | ⟨0, _⟩ => rfl
  | ⟨1, _⟩ => show _ = (i 0).val; have h0 : (i 0).val < 1024 := (i 0).isLt; simp; exact h0

variable (A : Args)

theorem v0_eq (i : S8192x4096.Idx) : val_main_v0 (F := Ideal) i = (0 : EReal) :=
  (val_main_v0_apply i).trans z0
theorem v1_eq (i : S8192x1024.Idx) : val_main_v1 (F := Ideal) A.at' A.po i = cat A (i 0) (i 1) := by
  rw [show i = (ix2 (i 0) (i 1) : S8192x1024.Idx) from funext fun a => match a with | 0 => rfl | 1 => rfl]
  exact concat_cat A.at' A.po _ (i 0) (i 1)
theorem v2_eq (i : S1024x1024.Idx) : val_main_v2 (F := Ideal) A.wo i = A.wo (ix3 0 (i 0) (i 1)) := by
  rw [val_main_v2_apply, i2]; rfl
theorem v3_eq (i : S8192x1024.Idx) : val_main_v3 (F := Ideal) A.at' A.po A.wo i = ∑ k : Fin 1024, cat A (i 0) k * A.wo (ix3 0 k (i 1)) :=
  (val_main_v3_apply _ _ _ i).trans (Finset.sum_congr rfl fun k _ => congrArg₂ (· * ·) (v1_eq A _) (v2_eq A _))
theorem v4_eq (i : S8192x1024.Idx) : val_main_v4 (F := Ideal) A.x A.at' A.po A.wo i = x2 A (i 0) (i 1) := by
  rw [val_main_v4_apply, v3_eq]
  exact congrArg (· + _) (congrArg A.x (funext fun a => match a with | 0 => rfl | 1 => rfl))
theorem v5_eq (i : S1024.Idx) : val_main_v5 (F := Ideal) A.g i = A.g (ix2 0 (i 0)) := by
  rw [val_main_v5_apply, i5]; rfl
theorem v6_eq (i : S8192x1024.Idx) : val_main_v6 (F := Ideal) A.x A.at' A.po A.wo i = x2 A (i 0) (i 1) * x2 A (i 0) (i 1) := by
  rw [val_main_v6_apply, v4_eq]; rfl
theorem v7_eq (i : S8192.Idx) : val_main_v7 (F := Ideal) A.x A.at' A.po A.wo i = ∑ j : Fin 1024, x2 A (i 0) j * x2 A (i 0) j := by
  rw [val_main_v7_apply, val_main_cst_0_apply, z0, zero_add]
  exact Finset.sum_congr rfl fun k _ => v6_eq A _
theorem v8_eq (i : S8192x1.Idx) : val_main_v8 (F := Ideal) A.x A.at' A.po A.wo i = ∑ j : Fin 1024, x2 A (i 0) j * x2 A (i 0) j :=
  (val_main_v8_apply _ _ _ _ i).trans (v7_eq A _)
theorem v12_eq (i : S8192x1.Idx) : val_main_v12 (F := Ideal) A.x A.at' A.po A.wo i = msq (x2 A (i 0)) := by
  rw [val_main_v12_apply, val_main_v10_apply, v8_eq, val_main_v9_apply, val_main_v11_apply]; rfl
theorem v13_eq (i : S8192x1.Idx) : val_main_v13 (F := Ideal) A.x A.at' A.po A.wo i = rms (x2 A (i 0)) := by
  rw [val_main_v13_apply, v12_eq]; rfl
theorem v16_eq (i : S8192x1.Idx) : val_main_v16 (F := Ideal) A.x A.at' A.po A.wo i = cH * Ideal.div (rms (x2 A (i 0))) (msq (x2 A (i 0))) := by
  rw [val_main_v16_apply, val_main_v14_apply, v13_eq, v12_eq, val_main_v15_apply]; rfl
theorem v18_eq (i : S8192x1024.Idx) : val_main_v18 (F := Ideal) A.x A.at' A.po A.wo i = x2 A (i 0) (i 1) * rms (x2 A (i 0)) := by
  rw [val_main_v18_apply, v4_eq, val_main_v17_apply, v13_eq]; rfl
theorem v19_eq (i : S1x1024.Idx) : val_main_v19 (F := Ideal) A.g i = A.g (ix2 0 (i 1)) :=
  (val_main_v19_apply _ i).trans (v5_eq A _)
theorem v20_eq (i : S8192x1024.Idx) : val_main_v20 (F := Ideal) A.g i = A.g (ix2 0 (i 1)) :=
  (val_main_v20_apply _ i).trans (v19_eq A _)
theorem v21_eq (i : S8192x1024.Idx) : val_main_v21 (F := Ideal) A.x A.at' A.po A.wo A.g i = (x2 A (i 0) (i 1) * rms (x2 A (i 0))) * A.g (ix2 0 (i 1)) := by
  rw [val_main_v21_apply, v18_eq, v20_eq]; rfl
theorem v22_eq (i : S1024x4096.Idx) : val_main_v22 (F := Ideal) A.wu i = A.wu (ix3 0 (i 0) (i 1)) := by
  rw [val_main_v22_apply, i22]; rfl
theorem v24_eq (i : S8192x4096.Idx) : val_main_v24 (F := Ideal) A.x A.at' A.po A.wo A.g A.wu i = act A (i 0) (i 1) := by
  rw [val_main_v24_apply, v0_eq]
  refine (add_zero (M := EReal) _).trans ((val_main_v23_apply _ _ _ _ _ _ i).trans (Finset.sum_congr rfl fun k _ => congrArg₂ (· * ·) (v21_eq A _) (v22_eq A _)))
theorem v25_eq (i : S8192x4096.Idx) : val_main_v25 (F := Ideal) A.x A.at' A.po A.wo A.g A.wu i = max (act A (i 0) (i 1)) 0 := by
  rw [val_main_v25_apply, v24_eq, val_main_call0_v0_apply, val_main_call0_cst_apply, z0]; rfl
theorem v31_eq (i : S8192x4096.Idx) : val_main_v31 (F := Ideal) A.x A.at' A.po A.wo A.g A.wu i = cT * max (act A (i 0) (i 1)) 0 := by
  rw [val_main_v31_apply, v25_eq, val_main_v30_apply]; rfl
theorem v32_eq (i : S4096x1024.Idx) : val_main_v32 (F := Ideal) A.wd i = A.wd (ix3 0 (i 0) (i 1)) := by
  rw [val_main_v32_apply, i32]; rfl
theorem v36_eq (i : S8192x1024.Idx) : val_main_v36 (F := Ideal) A.dy i = A.dy (ix2 (i 0) (i 1)) := by
  rw [val_main_v36_apply, i36]; rfl
theorem v35_eq (i : S8192x1024.Idx) : val_main_v35 (F := Ideal) A.dy i = A.dy (ix2 (i 0) (i 1)) := by
  rw [val_main_v35_apply, i35]; rfl
theorem v37_eq (i : S8192x4096.Idx) : val_main_v37 (F := Ideal) A.wd A.dy i = ∑ j : Fin 1024, A.dy (ix2 (i 0) j) * A.wd (ix3 0 (i 1) j) :=
  (val_main_v37_apply _ _ i).trans (Finset.sum_congr rfl fun k _ => congrArg₂ (· * ·) (v36_eq A _) (v32_eq A _))
theorem v40_eq (i : S8192x4096.Idx) : val_main_v40 (F := Ideal) A.x A.at' A.po A.wo A.g A.wu A.wd A.dy i = da A (i 0) (i 1) := by
  rw [val_main_v40_apply, val_main_v27_apply, v24_eq, val_main_v26_apply, val_main_cst_4_apply, z0, val_main_v38_apply, v37_eq, v31_eq,
    val_main_v39_apply, val_main_cst_7_apply, z0]
  exact (sel _ _ _ _).trans (relu_eq _ _)
theorem v41_eq (i : S8192x1024.Idx) : val_main_v41 (F := Ideal) A.x A.at' A.po A.wo A.g A.wu A.wd A.dy i = dn A (i 0) (i 1) :=
  (val_main_v41_apply _ _ _ _ _ _ _ _ i).trans (Finset.sum_congr rfl fun k _ => congrArg₂ (· * ·) (v40_eq A _) (v22_eq A _))
theorem v43_eq (i : S1024.Idx) : val_main_v43 (F := Ideal) A.x A.at' A.po A.wo A.g A.wu A.wd A.dy i = ∑ t : Fin 8192, dn A t (i 0) * (x2 A t (i 0) * rms (x2 A t)) := by
  rw [val_main_v43_apply, val_main_cst_8_apply, z0, zero_add]
  refine Finset.sum_congr rfl fun k _ => ?_
  rw [val_main_v42_apply, v18_eq, v41_eq]
  exact mul_comm _ _
theorem v63_eq (i : S1x1024.Idx) : val_main_v63 (F := Ideal) A.x A.at' A.po A.wo A.g A.wu A.wd A.dy i = ∑ t : Fin 8192, dn A t (i 1) * (x2 A t (i 1) * rms (x2 A t)) := by
  rw [val_main_v63_apply, val_main_v47_apply, val_main_cst_9_apply, z0, zero_add]
  refine (Fintype.sum_eq_single (0 : Fin 1) fun b hb => absurd (Subsingleton.elim b 0) hb).trans ?_
  rw [val_main_v44_apply, v43_eq, i44]; rfl
theorem v46_eq (i : S8192x1024.Idx) : val_main_v46 (F := Ideal) A.x A.at' A.po A.wo A.g A.wu A.wd A.dy i = dn A (i 0) (i 1) * A.g (ix2 0 (i 1)) := by
  rw [val_main_v46_apply, v41_eq, val_main_v45_apply, v19_eq]; rfl
theorem v49_eq (i : S8192.Idx) : val_main_v49 (F := Ideal) A.x A.at' A.po A.wo A.g A.wu A.wd A.dy i = ∑ j : Fin 1024, x2 A (i 0) j * (dn A (i 0) j * A.g (ix2 0 j)) := by
  rw [val_main_v49_apply, val_main_cst_10_apply, z0, zero_add]
  refine Finset.sum_congr rfl fun k _ => ?_
  rw [val_main_v48_apply, v4_eq, v46_eq]; rfl
theorem v50_eq (i : S8192x1.Idx) : val_main_v50 (F := Ideal) A.x A.at' A.po A.wo A.g A.wu A.wd A.dy i = ∑ j : Fin 1024, x2 A (i 0) j * (dn A (i 0) j * A.g (ix2 0 j)) :=
  by rw [val_main_v50_apply, v49_eq, i50]
theorem v56_eq (i : S8192x1.Idx) : val_main_v56 (F := Ideal) A.x A.at' A.po A.wo A.g A.wu A.wd A.dy i = dxD (x2 A (i 0)) (fun k => dn A (i 0) k * A.g (ix2 0 k)) := by
  rw [val_main_v56_apply, val_main_v54_apply, v50_eq, v16_eq, val_main_v55_apply]; rfl
theorem v57_eq (i : S8192.Idx) : val_main_v57 (F := Ideal) A.x A.at' A.po A.wo A.g A.wu A.wd A.dy i = dxD (x2 A (i 0)) (fun k => dn A (i 0) k * A.g (ix2 0 k)) := by
  rw [val_main_v57_apply, val_main_cst_12_apply, z0, zero_add]
  refine (Fintype.sum_eq_single (0 : Fin 1) fun b hb => absurd (Subsingleton.elim b 0) hb).trans ?_
  exact v56_eq A _
theorem v58_eq (i : S8192x1024.Idx) : val_main_v58 (F := Ideal) A.x A.at' A.po A.wo A.g A.wu A.wd A.dy i = dxD (x2 A (i 0)) (fun k => dn A (i 0) k * A.g (ix2 0 k)) :=
  (val_main_v58_apply _ _ _ _ _ _ _ _ i).trans (v57_eq A _)
theorem v62_eq (i : S8192x1024.Idx) : val_main_v62 (F := Ideal) A.x A.at' A.po A.wo A.g A.wu A.wd A.dy i = dx A (i 0) (i 1) := by
  rw [val_main_v62_apply, val_main_v60_apply, val_main_v53_apply, v35_eq, val_main_v52_apply, v46_eq, val_main_v51_apply, v13_eq,
    val_main_v59_apply, v4_eq, v58_eq, val_main_v61_apply, v4_eq, v58_eq]
  exact dxT_eq (A.dy (ix2 (i 0) (i 1))) (x2 A (i 0)) (fun k => dn A (i 0) k * A.g (ix2 0 k)) (i 1)
theorem v64_eq (i : S1024x1024.Idx) : val_main_v64 (F := Ideal) A.x A.at' A.po A.wo A.g A.wu A.wd A.dy i = ∑ t : Fin 8192, cat A t (i 1) * dx A t (i 0) :=
  (val_main_v64_apply _ _ _ _ _ _ _ _ i).trans (Finset.sum_congr rfl fun k _ => (congrArg₂ (· * ·) (v62_eq A _) (v1_eq A _)).trans (mul_comm _ _))
theorem v65_eq (i : S1024x1024.Idx) : val_main_v65 (F := Ideal) A.x A.at' A.po A.wo A.g A.wu A.wd A.dy i = ∑ t : Fin 8192, cat A t (i 0) * dx A t (i 1) :=
  (val_main_v65_apply _ _ _ _ _ _ _ _ i).trans (v64_eq A _)
theorem v66_eq (i : S8192x1024.Idx) : val_main_v66 (F := Ideal) A.x A.at' A.po A.wo A.g A.wu A.wd A.dy i = dc A (i 0) (i 1) :=
  (val_main_v66_apply _ _ _ _ _ _ _ _ i).trans (Finset.sum_congr rfl fun k _ => congrArg₂ (· * ·) (v62_eq A _) (v2_eq A _))
theorem v67_eq (i : S1x1024x1024.Idx) : val_main_v67 (F := Ideal) A.x A.at' A.po A.wo A.g A.wu A.wd A.dy i = ∑ t : Fin 8192, cat A t (i 1) * dx A t (i 2) :=
  (val_main_v67_apply _ _ _ _ _ _ _ _ i).trans (v65_eq A _)

theorem v70_res : val_main_v70 (F := Ideal) A.x A.at' A.po A.wo A.g A.wu A.wd A.dy = resA A := funext fun i => (val_main_v70_apply _ _ _ _ _ _ _ _ i).trans (v40_eq A i)
theorem v62_res : val_main_v62 (F := Ideal) A.x A.at' A.po A.wo A.g A.wu A.wd A.dy = resX A := funext fun i => v62_eq A i
theorem v71_res : val_main_v71 (F := Ideal) A.x A.at' A.po A.wo A.g A.wu A.wd A.dy = resT A := funext fun i => by
  rw [val_main_v71_apply, val_main_v68_apply]
  refine (v66_eq A _).trans ?_
  refine congrArg₂ (dc A) (Fin.ext ?_) (Fin.ext ?_) <;> simp
theorem v69_res : val_main_v69 (F := Ideal) A.x A.at' A.po A.wo A.g A.wu A.wd A.dy = resP A := funext fun i => by
  rw [val_main_v69_apply]
  refine (v66_eq A _).trans ?_
  refine congrArg₂ (dc A) (Fin.ext ?_) (Fin.ext ?_) <;> simp
theorem v63_res : val_main_v63 (F := Ideal) A.x A.at' A.po A.wo A.g A.wu A.wd A.dy = resG A := funext fun i => v63_eq A i
theorem v72_res : val_main_v72 (F := Ideal) A.x A.at' A.po A.wo A.g A.wu A.wd A.dy = resW A := funext fun i => (val_main_v72_apply _ _ _ _ _ _ _ _ i).trans ((congrArg _ (i72 i)).trans (v67_eq A _))
theorem v74_res : val_main_v74 (F := Ideal) A.x A.at' A.po A.wo A.g A.wu A.wd A.dy = resW A := funext fun i => (val_main_v74_apply _ _ _ _ _ _ _ _ i).trans ((val_main_v73_apply _ _ _ _ _ _ _ _ i).trans ((congrArg _ (i73 i)).trans (v67_eq A _)))

/-- The arguments in memory. -/
def args (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2), m ((c.tc : Thread nD τ).loc main_arg3),
    m ((c.tc : Thread nD τ).loc main_arg4), m ((c.tc : Thread nD τ).loc main_arg5), m ((c.tc : Thread nD τ).loc main_arg6), m ((c.tc : Thread nD τ).loc main_arg7)⟩

/-- The whole program. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v70) = resA (args m c)
      ∧ r.2.mem ((c.tc : Thread nD τ).loc main_v62) = resX (args m c)
      ∧ r.2.mem ((c.tc : Thread nD τ).loc main_v71) = resT (args m c)
      ∧ r.2.mem ((c.tc : Thread nD τ).loc main_v69) = resP (args m c)
      ∧ r.2.mem ((c.tc : Thread nD τ).loc main_v63) = resG (args m c)
      ∧ r.2.mem ((c.tc : Thread nD τ).loc main_v72) = resW (args m c)
      ∧ r.2.mem ((c.tc : Thread nD τ).loc main_v74) = resW (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨
    (h c).1.trans ((val_main_v70_eq m c).trans (v70_res (args m c))),
    (h c).2.1.trans ((val_main_v62_eq m c).trans (v62_res (args m c))),
    (h c).2.2.1.trans ((val_main_v71_eq m c).trans (v71_res (args m c))),
    (h c).2.2.2.1.trans ((val_main_v69_eq m c).trans (v69_res (args m c))),
    (h c).2.2.2.2.1.trans ((val_main_v63_eq m c).trans (v63_res (args m c))),
    (h c).2.2.2.2.2.1.trans ((val_main_v72_eq m c).trans (v72_res (args m c))),
    (h c).2.2.2.2.2.2.1.trans ((val_main_v74_eq m c).trans (v74_res (args m c))),
    (h c).2.2.2.2.2.2.2⟩) (Cert.MlpReferenceIdeal.Value.run m ρ)

end Cert.MlpReferenceIdeal.Ref

end
-- ==== Proof.WeightSpec.lean ====
module

public import proofs.«01_k».proof.Proof.MlpSpec

@[expose] public section

/-! What the two weight gradients of the feed-forward block compute, and the sum over the grid's row blocks as one over
    all rows. -/

noncomputable section

namespace Cert.Weight

open Idealize.ShloMosaic Cert.Mlp

/-- A column of the wide operand as a device's chunk and a column of it. -/
def col (g : Fin 8) (p : Fin 512) : Fin 4096 := ⟨g.val * 512 + p.val, by omega⟩

/-- The squared rectified activations, and the normed rows times their gain. -/
def sq (a : A2 8192 4096) (t : Fin 8192) (f : Fin 4096) : EReal := max (a (ix2 t f)) 0 * max (a (ix2 t f)) 0
def nrm (x : A2 8192 1024) (g : A2 1 1024) (t : Fin 8192) (j : Fin 1024) : EReal :=
  (x (ix2 t j) * rms (fun k => x (ix2 t k))) * g (ix2 0 j)

/-- The gradients of the down and of the up projection's weights, split into the devices' parts. -/
def resD (a : A2 8192 4096) (y : A2 8192 1024) : A3 8 512 1024 := fun i => ∑ t : Fin 8192, sq a t (col (i 0) (i 1)) * y (ix2 t (i 2))
def resU (x : A2 8192 1024) (g : A2 1 1024) (d : A2 8192 4096) : A3 8 1024 512 := fun i => ∑ t : Fin 8192, nrm x g t (i 1) * d (ix2 t (col (i 0) (i 2)))

/-- The row of the whole array that row `p` of block `n` is. -/
def rowAt (n : ℕ) (h : n < 8) (p : Fin 1024) : Fin 8192 := ⟨n * 1024 + p.val, by omega⟩

/-- What block `n` adds to a sum over all rows. -/
def part (f : Fin 8192 → EReal) (n : ℕ) : EReal := if h : n < 8 then ∑ p : Fin 1024, f (rowAt n h p) else 0

theorem sum_part (f : Fin 8192 → EReal) : ∑ n ∈ Finset.range 8, part f n = ∑ r : Fin 8192, f r := by
  rw [Finset.sum_range]
  have e : ∀ t : Fin 8, part f t.val = ∑ p : Fin 1024, f (rowAt t.val t.isLt p) := fun t => dif_pos t.isLt
  rw [Finset.sum_congr rfl fun t _ => e t, ← Fintype.sum_prod_type' (fun (t : Fin 8) (p : Fin 1024) => f (rowAt t.val t.isLt p))]
  refine Fintype.sum_equiv (finProdFinEquiv (m := 8) (n := 1024)) _ _ fun q => congrArg f (Fin.ext ?_)
  show q.1.val * 1024 + q.2.val = q.2.val + 1024 * q.1.val
  omega

end Cert.Weight

end
-- ==== Proof.DownKit.lean ====
module
public import proofs.«01_k».proof.Proof.Gen.DownKernelIdeal.Frame
public import proofs.«01_k».proof.Proof.Gen.DownKernelIdeal.Skeleton
public import Idealize.ShloMosaic.Lib.Pipeline.FrameBody
public import Idealize.ShloMosaic.Lib.Pipeline.FrameValue
public import Idealize.ShloMosaic.Lib.Pipeline.ReadBack
public import Idealize.ShloMosaic.Lib.Pipeline.ValueKit.Acc
public import Idealize.ShloMosaic.Lib.Ring
public import Idealize.ShloMosaic.Lib.Tactic
public import Idealize.ShloMosaic.Lib.WordCmp
@[expose] public section
set_option maxRecDepth 16384
noncomputable section
namespace Cert.DownKernelIdeal.Weight
open Cert.DownKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)
set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain
theorem beforeD_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem beforeD_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
def R0 : Finset (Ref sig .tc) := {main_v4_0, main_v4_1}
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)
abbrev cond0_1 (i : grid0.Coords) : Prop := (Scalar.cmpi .ne (Scalar.extui (Scalar.cmpi .eq (BitVec.ofNat 32 (i 0).val) 7#32)) 0#32) = 1#1
theorem hcond0_1 : ∀ t : Fin cfg0.N, cond0_1 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_1, e0]
    word_cmp
   : ∀ t : Fin grid0.N, cond0_1 (grid0.coords t) ↔ t.val % 8 = 7)
abbrev scM0_0 : Memref sig .tc .vmem S8x512x1024 .f32 := Memref.whole cc0_scratch0
abbrev scM0_1 : Memref sig .tc .vmem S8x512x1024 .bf16 := Memref.whole cc0_scratch1
abbrev hbM0_0 : Memref sig .tc .hbm S8x512x1024 .f32 := Memref.whole main_v4_0
abbrev hbM0_1 : Memref sig .tc .hbm S8x512x1024 .bf16 := Memref.whole main_v4_1
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f
abbrev osem0 : Fin 2 → SemLoc sig := fun j => (![SemLoc.dma 4, SemLoc.dma 5] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0) := by
  rw [Pipeline.ownSems0_eq_of_list c osem0 [0, 1] (by decide) (by decide)]; rfl
def H0 : Finset (Ref sig .tc) := {}
theorem H0_sub : H0 ⊆ Pipeline.restRefs sig spec0 := by decide
theorem R0_sub : R0 ⊆ Pipeline.restRefs sig spec0 \ H0 := by decide
theorem hbmPts0_eq (c : Dev nD) :
    (bigSep H0 (fun b => ((c : Thread nD τ).loc b) ↦{fullShare} V m c b) : sProp 𝕄) = iprop(emp) := by
  rw [BI.bigSep_eq_bigSepL_of_eq [] (by decide) (by decide)]; rfl

/-- The buffers one grid point works in: the windows' slots and the two scratch buffers. -/
structure Mems where
  a1 : Memref sig .tc .vmem S1024x4096 .bf16
  h1 : a1.IsWhole
  a2 : Memref sig .tc .vmem S1024x1024 .bf16
  h2 : a2.IsWhole
  a5 : Memref sig .tc .vmem S8x512x1024 .f32
  h5 : a5.IsWhole
  a6 : Memref sig .tc .vmem S8x512x1024 .bf16
  h6 : a6.IsWhole

/-- The blocks one grid point reads. -/
structure Ins (F : FTy → Type) where
  x0 : Vec F S1024x4096 .bf16
  x1 : Vec F S1024x1024 .bf16

/-- The buffers of point `t`. -/
abbrev mems (t : Fin cfg0.N) : Mems where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a5 := scM0_0
  h5 := Memref.isWhole_whole _
  a6 := scM0_1
  h6 := Memref.isWhole_whole _

/-- The blocks point `t` reads. -/
abbrev ins (c : Dev nD) (t : Fin cfg0.N) : Ins F where
  x0 := iblk m c 0 t
  x1 := iblk m c 1 t

/-- Column chunk `g` of the wide operand, and device `g`'s part of the accumulator. -/
abbrev rCl (g : Fin 8) : Rect S1024x4096 :=
  Rect.unit ![0, g.val * 512] ![1024, 512] (fun a => by match a with | 0 => exact Nat.le_refl _ | 1 => show g.val * 512 + 512 ≤ 4096; omega)
abbrev rSl (g : Fin 8) : Rect S8x512x1024 :=
  Rect.unit ![g.val, 0, 0] ![1, 512, 1024] (fun a => by match a with | 0 => show g.val + 1 ≤ 8; omega | 1 => exact Nat.le_refl _ | 2 => exact Nat.le_refl _)

/-- The accumulator after a point: each device's part is what it was plus that chunk's product. -/
abbrev LAC (X : Ins F) (a : Vec F S8x512x1024 .f32) : List (View.Piece (Elt F) S8x512x1024 .f32) :=
  [7, 6, 5, 4, 3, 2, 1, 0].map fun g : Fin 8 => ⟨rSl g, k0_pay4 (View.ld a (rSl g)) (View.ld X.x0 (rCl g)) X.x1⟩
def acV (X : Ins F) (a : Vec F S8x512x1024 .f32) : Vec F S8x512x1024 .f32 := View.canon (LAC X a)
end Cert.DownKernelIdeal.Weight
end
-- ==== Proof.Pieces.lean ====
module
public import Idealize.ShloMosaic.Lib.Pipeline.ReadBack
public import Idealize.ShloMosaic.Lib.Pipeline.ValueKit.Acc
@[expose] public section

/-! Two facts on buffers written piece by piece: a whole read sees all the pieces, and pieces written
before others that cover the buffer do not matter. -/

noncomputable section
namespace Cert.Weight
open Idealize.ShloMosaic
variable {F : FTy → Type} [FloatOps F]

theorem readCov_whole {sg : RefSig} {κ : Kind} {sp : Space} {S : Shape} {e : EltTy} (v : View sg κ sp S e) (L : List (View.Piece (Elt F) S e))
    {off : Fin S.rank → Nat} (inb : ∀ a, off a + S.size a ≤ S.size a) (h : ∀ a, off a = 0) :
    v.readCov L (Rect.unit off (no_index S.size) inb).toLoadRect = View.canon L :=
  (View.readCov_eq_canon' v L _).trans (View.ld_unit_lit inb (View.canon L) h)

theorem canon_drop {S : Shape} {e : EltTy} (L L' : List (View.Piece (Elt F) S e)) (h : ∀ y, ∃ p ∈ L, y ∈ p.1.set) : View.canon (L ++ L') = View.canon L := by
  funext y
  have key : ∀ L : List (View.Piece (Elt F) S e), (∃ p ∈ L, y ∈ p.1.set) → View.canon (L ++ L') y = View.canon L y := by
    intro L
    induction L with
    | nil => rintro ⟨p, hp, -⟩; cases hp
    | cons p L ih =>
      rintro ⟨q, hq, hy⟩
      by_cases hp : y ∈ p.1.set
      · obtain ⟨x, rfl⟩ := p.1.exists_idx_of_mem hp
        rw [List.cons_append]
        exact (View.canon_cons_emb p.1 p.2 _ x).trans (View.canon_cons_emb p.1 p.2 _ x).symm
      · rw [List.cons_append, View.canon_cons_of_not_mem p _ hp, View.canon_cons_of_not_mem p _ hp]
        refine ih ?_
        rcases List.mem_cons.mp hq with rfl | hq
        · exact absurd hy hp
        · exact ⟨q, hq, hy⟩
  exact key L (h y)
end Cert.Weight
end
-- ==== Proof.DownRunA.lean ====
module
public import proofs.«01_k».proof.Proof.DownKit
public import proofs.«01_k».proof.Proof.Pieces
@[expose] public section
set_option maxRecDepth 16384
noncomputable section
namespace Cert.DownKernelIdeal.Weight
open Cert.DownKernelIdeal.Gen
open Idealize.ShloMosaic Idealize.ShloMosaic.TcCoe Idealize.ShloMosaic.Tactic
open Cert.Weight
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ

set_option maxHeartbeats 4000000 in
/-- One run of the body at a grid point of kind A: the blocks read are kept, and what is written is listed piece by piece. -/
noncomputable def runA (c : Dev nD) (i : grid0.Coords) (M : Mems) (hc0 : cond0_0 i) (hc1 : ¬cond0_1 i) (X : Ins F) :
    { LS : List (View.Piece (Elt F) S8x512x1024 .f32) //
      ∀ (W : Waits sig Unit) (K : PUnit → sProp 𝕄),
        iprop(owns (c : Thread nD τ) M.a1 fullShare X.x0 ∗ owns (c : Thread nD τ) M.a2 fullShare X.x1 ∗ (∃ d, owns (c : Thread nD τ) M.a5 fullShare d) ∗ (∃ d, owns (c : Thread nD τ) M.a6 fullShare d) ∗ semVal ((c : Thread nD τ), SemLoc.dma 4) 0 ∗ semVal ((c : Thread nD τ), SemLoc.dma 5) 0 ∗ (∃ f, hbPt0 c hbM0_0 f) ∗ (∃ f, hbPt0 c hbM0_1 f) ∗ owes (c : Thread nD τ) 0 W
            ∗ (iprop(owns (c : Thread nD τ) M.a1 fullShare X.x0 ∗ owns (c : Thread nD τ) M.a2 fullShare X.x1 ∗ (∃ f, M.a5.view.loc (c : Thread nD τ) ↦[M.a5.view.set]{fullShare} M.a5.view.writes (Elt F) f LS) ∗ (∃ d, owns (c : Thread nD τ) M.a6 fullShare d) ∗ semVal ((c : Thread nD τ), SemLoc.dma 4) 0 ∗ semVal ((c : Thread nD τ), SemLoc.dma 5) 0 ∗ (∃ f, hbPt0 c hbM0_0 f) ∗ (∃ f, hbPt0 c hbM0_1 f) ∗ (∃ W', owes (c : Thread nD τ) 0 W')) -∗ K ⟨⟩))
          ⊢ wp frame (wpE (defs₀ (F := F)) Variants.none c none) Set.univ (cc0_down_gradient i M.a1 M.h1 M.a2 M.h2 (Memref.whole main_v4_0) (Memref.isWhole_whole _) (Memref.whole main_v4_1) (Memref.isWhole_whole _) M.a5 M.h5 M.a6 M.h6 cc0_scratch2) K } := by
  refine ⟨?_, fun W K => ?run⟩
  case run =>
    simp only [cc0_down_gradient_eq_skeleton]; unfold cc0_down_gradient_skel
    simp only [k0_part1_eq_skeleton, k0_part2_eq_skeleton, k0_part3_eq_skeleton]
    unfold owns
    iintro ⟨⟨%f0, %hf0, H0⟩, ⟨%f1, %hf1, H1⟩, ⟨%ds0, %fs0, -, HS0⟩, ⟨%ds1, %fs1, -, HS1⟩, Hq0, Hq1, ⟨%fw0, Hh0⟩, ⟨%fw1, Hh1⟩, HW, Hk⟩
    obtain rfl := M.h1.eq_unread hf0; obtain rfl := M.h2.eq_unread hf1
    sl_exec (disch := first | sl_exact hc0 | sl_exact hc1)
    sl_step
    iapply Hk
    isplitl [H0]
    · iexists _; isplitr; · ipureintro; exact M.h1.read_unread _
      iexact H0
    isplitl [H1]
    · iexists _; isplitr; · ipureintro; exact M.h2.read_unread _
      iexact H1
    isplitl [HS0]; · iexists _; iexact HS0
    isplitl [HS1]
    · iexists _, _; isplitr; swap; · iexact HS1
      ipureintro; rfl
    isplitl [Hq0]; · iexact Hq0
    isplitl [Hq1]; · iexact Hq1
    isplitl [Hh0]; · iexists _; iexact Hh0
    isplitl [Hh1]; · iexists _; iexact Hh1
    iexists _; iexact HW
variable (c : Dev nD) (i : grid0.Coords) (M : Mems) (hc0 : cond0_0 i) (hc1 : ¬cond0_1 i) (X : Ins F)
theorem covA_S : ∀ y, ∃ pc ∈ (runA c i M hc0 hc1 X).1, y ∈ pc.1.set := fun y =>
  View.cover_of_tiledL (runA c i M hc0 hc1 X).1 S1x512x1024.size (by sl_kernel_rfl) y
theorem valA_S : View.canon (runA c i M hc0 hc1 X).1 = acV X k0_pay3 := by
  unfold runA; dsimp only; sl_unfold_words
  simp only [View.readAt_eq_ld, M.h1.read_unread, M.h2.read_unread]
  simp (disch := first | decide +kernel | (intro a; fin_cases a <;> rfl)) only [↓View.readCov_skip, ↓View.readCov_fill, View.canon_cons_unit_lit', View.ld_unit_lit', readCov_whole]
  unfold acV LAC
  refine canon_drop (S := S8x512x1024) [_, _, _, _, _, _, _, _] [_] ?_
  intro y
  exact View.cover_of_tiledL (s := S8x512x1024) _ S1x512x1024.size (by sl_kernel_rfl) y
end Cert.DownKernelIdeal.Weight
end
-- ==== Proof.DownRunB.lean ====
module
public import proofs.«01_k».proof.Proof.DownKit
public import proofs.«01_k».proof.Proof.Pieces
@[expose] public section
set_option maxRecDepth 16384
noncomputable section
namespace Cert.DownKernelIdeal.Weight
open Cert.DownKernelIdeal.Gen
open Idealize.ShloMosaic Idealize.ShloMosaic.TcCoe Idealize.ShloMosaic.Tactic
open Cert.Weight
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ

set_option maxHeartbeats 4000000 in
/-- One run of the body at a grid point of kind B: the blocks read are kept, and what is written is listed piece by piece. -/
noncomputable def runB (c : Dev nD) (i : grid0.Coords) (M : Mems) (hc0 : ¬cond0_0 i) (hc1 : ¬cond0_1 i) (X : Ins F) (xs : Vec F S8x512x1024 .f32) :
    { LS : List (View.Piece (Elt F) S8x512x1024 .f32) //
      ∀ (W : Waits sig Unit) (K : PUnit → sProp 𝕄),
        iprop(owns (c : Thread nD τ) M.a1 fullShare X.x0 ∗ owns (c : Thread nD τ) M.a2 fullShare X.x1 ∗ owns (c : Thread nD τ) M.a5 fullShare xs ∗ (∃ d, owns (c : Thread nD τ) M.a6 fullShare d) ∗ semVal ((c : Thread nD τ), SemLoc.dma 4) 0 ∗ semVal ((c : Thread nD τ), SemLoc.dma 5) 0 ∗ (∃ f, hbPt0 c hbM0_0 f) ∗ (∃ f, hbPt0 c hbM0_1 f) ∗ owes (c : Thread nD τ) 0 W
            ∗ (iprop(owns (c : Thread nD τ) M.a1 fullShare X.x0 ∗ owns (c : Thread nD τ) M.a2 fullShare X.x1 ∗ (∃ f, M.a5.view.loc (c : Thread nD τ) ↦[M.a5.view.set]{fullShare} M.a5.view.writes (Elt F) f LS) ∗ (∃ d, owns (c : Thread nD τ) M.a6 fullShare d) ∗ semVal ((c : Thread nD τ), SemLoc.dma 4) 0 ∗ semVal ((c : Thread nD τ), SemLoc.dma 5) 0 ∗ (∃ f, hbPt0 c hbM0_0 f) ∗ (∃ f, hbPt0 c hbM0_1 f) ∗ (∃ W', owes (c : Thread nD τ) 0 W')) -∗ K ⟨⟩))
          ⊢ wp frame (wpE (defs₀ (F := F)) Variants.none c none) Set.univ (cc0_down_gradient i M.a1 M.h1 M.a2 M.h2 (Memref.whole main_v4_0) (Memref.isWhole_whole _) (Memref.whole main_v4_1) (Memref.isWhole_whole _) M.a5 M.h5 M.a6 M.h6 cc0_scratch2) K } := by
  refine ⟨?_, fun W K => ?run⟩
  case run =>
    simp only [cc0_down_gradient_eq_skeleton]; unfold cc0_down_gradient_skel
    simp only [k0_part1_eq_skeleton, k0_part2_eq_skeleton, k0_part3_eq_skeleton]
    unfold owns
    iintro ⟨⟨%f0, %hf0, H0⟩, ⟨%f1, %hf1, H1⟩, ⟨%fs0, %hfs0, HS0⟩, ⟨%ds1, %fs1, -, HS1⟩, Hq0, Hq1, ⟨%fw0, Hh0⟩, ⟨%fw1, Hh1⟩, HW, Hk⟩
    obtain rfl := M.h1.eq_unread hf0; obtain rfl := M.h2.eq_unread hf1; obtain rfl := M.h5.eq_unread hfs0
    sl_exec (disch := first | sl_exact hc0 | sl_exact hc1)
    sl_step
    iapply Hk
    isplitl [H0]
    · iexists _; isplitr; · ipureintro; exact M.h1.read_unread _
      iexact H0
    isplitl [H1]
    · iexists _; isplitr; · ipureintro; exact M.h2.read_unread _
      iexact H1
    isplitl [HS0]; · iexists _; iexact HS0
    isplitl [HS1]
    · iexists _, _; isplitr; swap; · iexact HS1
      ipureintro; rfl
    isplitl [Hq0]; · iexact Hq0
    isplitl [Hq1]; · iexact Hq1
    isplitl [Hh0]; · iexists _; iexact Hh0
    isplitl [Hh1]; · iexists _; iexact Hh1
    iexists _; iexact HW
variable (c : Dev nD) (i : grid0.Coords) (M : Mems) (hc0 : ¬cond0_0 i) (hc1 : ¬cond0_1 i) (X : Ins F) (xs : Vec F S8x512x1024 .f32)
theorem covB_S : ∀ y, ∃ pc ∈ (runB c i M hc0 hc1 X xs).1, y ∈ pc.1.set := fun y =>
  View.cover_of_tiledL (runB c i M hc0 hc1 X xs).1 S1x512x1024.size (by sl_kernel_rfl) y
theorem valB_S : View.canon (runB c i M hc0 hc1 X xs).1 = acV X xs := by
  unfold runB; dsimp only; sl_unfold_words
  simp only [View.readAt_eq_ld, M.h1.read_unread, M.h2.read_unread, M.h5.read_unread]
  simp (disch := first | decide +kernel | (intro a; fin_cases a <;> rfl)) only [↓View.readCov_skip, View.canon_cons_unit_lit', View.ld_unit_lit', readCov_whole]
  unfold acV LAC
  rfl
end Cert.DownKernelIdeal.Weight
end
-- ==== Proof.DownRunC.lean ====
module
public import proofs.«01_k».proof.Proof.DownKit
public import proofs.«01_k».proof.Proof.Pieces
@[expose] public section
set_option maxRecDepth 16384
noncomputable section
namespace Cert.DownKernelIdeal.Weight
open Cert.DownKernelIdeal.Gen
open Idealize.ShloMosaic Idealize.ShloMosaic.TcCoe Idealize.ShloMosaic.Tactic
open Cert.Weight
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ

set_option maxHeartbeats 4000000 in
/-- One run of the body at a grid point of kind C: the blocks read are kept, and what is written is listed piece by piece. -/
noncomputable def runC (c : Dev nD) (i : grid0.Coords) (M : Mems) (hc0 : ¬cond0_0 i) (hc1 : cond0_1 i) (X : Ins F) (xs : Vec F S8x512x1024 .f32) :
    Σ' (LT : List (View.Piece (Elt F) S8x512x1024 .bf16)), { LS : List (View.Piece (Elt F) S8x512x1024 .f32) //
      ∀ (W : Waits sig Unit) (K : PUnit → sProp 𝕄),
        iprop(owns (c : Thread nD τ) M.a1 fullShare X.x0 ∗ owns (c : Thread nD τ) M.a2 fullShare X.x1 ∗ owns (c : Thread nD τ) M.a5 fullShare xs ∗ (∃ d, owns (c : Thread nD τ) M.a6 fullShare d) ∗ semVal ((c : Thread nD τ), SemLoc.dma 4) 0 ∗ semVal ((c : Thread nD τ), SemLoc.dma 5) 0 ∗ (∃ f, hbPt0 c hbM0_0 f) ∗ (∃ f, hbPt0 c hbM0_1 f) ∗ owes (c : Thread nD τ) 0 W
            ∗ (iprop(owns (c : Thread nD τ) M.a1 fullShare X.x0 ∗ owns (c : Thread nD τ) M.a2 fullShare X.x1 ∗ (∃ f, M.a5.view.loc (c : Thread nD τ) ↦[M.a5.view.set]{fullShare} M.a5.view.writes (Elt F) f LS) ∗ (∃ d, owns (c : Thread nD τ) M.a6 fullShare d) ∗ semVal ((c : Thread nD τ), SemLoc.dma 4) 0 ∗ semVal ((c : Thread nD τ), SemLoc.dma 5) 0 ∗ (∃ f g, hbPt0 c hbM0_0 (View.write (Elt F) hbM0_0.view f (View.read (Elt F) M.a5.view (M.a5.view.writes (Elt F) g LS)) Finset.univ)) ∗ (∃ f g, hbPt0 c hbM0_1 (View.write (Elt F) hbM0_1.view f (View.read (Elt F) M.a6.view (M.a6.view.writes (Elt F) g LT)) Finset.univ)) ∗ (∃ W', owes (c : Thread nD τ) 0 W')) -∗ K ⟨⟩))
          ⊢ wp frame (wpE (defs₀ (F := F)) Variants.none c none) Set.univ (cc0_down_gradient i M.a1 M.h1 M.a2 M.h2 (Memref.whole main_v4_0) (Memref.isWhole_whole _) (Memref.whole main_v4_1) (Memref.isWhole_whole _) M.a5 M.h5 M.a6 M.h6 cc0_scratch2) K } := by
  refine ⟨?_, ?_, fun W K => ?run⟩
  case run =>
    simp only [cc0_down_gradient_eq_skeleton]; unfold cc0_down_gradient_skel
    simp only [k0_part1_eq_skeleton, k0_part2_eq_skeleton, k0_part3_eq_skeleton]
    unfold owns
    iintro ⟨⟨%f0, %hf0, H0⟩, ⟨%f1, %hf1, H1⟩, ⟨%fs0, %hfs0, HS0⟩, ⟨%ds1, %fs1, -, HS1⟩, Hq0, Hq1, ⟨%fw0, Hh0⟩, ⟨%fw1, Hh1⟩, HW, Hk⟩
    obtain rfl := M.h1.eq_unread hf0; obtain rfl := M.h2.eq_unread hf1; obtain rfl := M.h5.eq_unread hfs0
    set_option sl_exec.lendShare "HS0" in sl_exec (disch := first | sl_exact hc0 | sl_exact hc1)
    sl_step
    iapply Hk
    isplitl [H0]
    · iexists _; isplitr; · ipureintro; exact M.h1.read_unread _
      iexact H0
    isplitl [H1]
    · iexists _; isplitr; · ipureintro; exact M.h2.read_unread _
      iexact H1
    isplitl [HS0]; · iexists _; iexact HS0
    isplitl [HS1]
    · iexists _, _; isplitr; swap; · iexact HS1
      ipureintro; rfl
    isplitl [Hq0]; · iexact Hq0
    isplitl [Hq1]; · iexact Hq1
    isplitl [Hh0]; · iexists _, _; iexact Hh0
    isplitl [Hh1]; · unfold runC.sl.dma43; iexists fw1, fs1; iexact Hh1
    iexists _; iexact HW
variable (c : Dev nD) (i : grid0.Coords) (M : Mems) (hc0 : ¬cond0_0 i) (hc1 : cond0_1 i) (X : Ins F) (xs : Vec F S8x512x1024 .f32)
theorem covC_S : ∀ y, ∃ pc ∈ (runC c i M hc0 hc1 X xs).2.1, y ∈ pc.1.set := fun y =>
  View.cover_of_tiledL (runC c i M hc0 hc1 X xs).2.1 S1x512x1024.size (by sl_kernel_rfl) y
theorem valC_S : View.canon (runC c i M hc0 hc1 X xs).2.1 = acV X xs := by
  unfold runC; dsimp only; sl_unfold_words
  simp only [View.readAt_eq_ld, M.h1.read_unread, M.h2.read_unread, M.h5.read_unread]
  simp (disch := first | decide +kernel | (intro a; fin_cases a <;> rfl)) only [↓View.readCov_skip, View.canon_cons_unit_lit', View.ld_unit_lit', readCov_whole]
  unfold acV LAC
  rfl
theorem covC_LT : ∀ y, ∃ pc ∈ (runC c i M hc0 hc1 X xs).1, y ∈ pc.1.set := fun y =>
  View.cover_of_tiledL (runC c i M hc0 hc1 X xs).1 S8x512x1024.size (by sl_kernel_rfl) y
theorem valC_LT : View.canon (runC c i M hc0 hc1 X xs).1 = k0_pay2 (acV X xs) := by
  rw [← valC_S c i M hc0 hc1 X xs]
  unfold runC; dsimp only; sl_unfold_words
  simp only [View.readAt_eq_ld, M.h1.read_unread, M.h2.read_unread, M.h5.read_unread]
  simp (disch := first | decide +kernel | (intro a; fin_cases a <;> rfl)) only [↓View.readCov_skip, View.canon_cons_unit_lit', View.ld_unit_lit', readCov_whole]
end Cert.DownKernelIdeal.Weight
end
-- ==== Proof.DownFrame.lean ====
module
public import proofs.«01_k».proof.Proof.DownRunA
public import proofs.«01_k».proof.Proof.DownRunB
public import proofs.«01_k».proof.Proof.DownRunC
@[expose] public section
set_option maxRecDepth 16384
noncomputable section
namespace Cert.DownKernelIdeal.Weight
open Cert.DownKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)

theorem own_of_writes (c : Dev nD) {sp : Space} {S : Shape} {e : EltTy} (a : Memref sig .tc sp S e) (L : List (View.Piece (Elt F) S e)) (v : Vec F S e)
    (hc : ∀ y, ∃ p ∈ L, y ∈ p.1.set) (hv : View.canon L = v) :
    iprop(∃ f, a.view.loc (c : Thread nD τ) ↦[a.view.set]{fullShare} a.view.writes (Elt F) f L) ⊢ (owns (c : Thread nD τ) a fullShare v : sProp 𝕄) := by
  subst hv; unfold owns
  iintro ⟨%f, H⟩
  iexists _; isplitr
  swap; · iexact H
  ipureintro; exact View.read_writes_eq_canon _ _ _ hc

/-- The accumulator after point `n`. -/
def accs (c : Dev nD) : (n : ℕ) → n < cfg0.N → Vec F S8x512x1024 .f32
  | 0, h => acV (ins m c ⟨0, h⟩) k0_pay3
  | n + 1, h => acV (ins m c ⟨n + 1, h⟩) (accs c n (Nat.lt_of_succ_lt h))

theorem accs_zero (c : Dev nD) (t : Fin cfg0.N) (h : t.val = 0) : accs m c t.val t.isLt = acV (ins m c t) k0_pay3 := by
  obtain ⟨n, hn⟩ := t; dsimp only at h; subst h; rfl

theorem accs_pos (c : Dev nD) (t : Fin cfg0.N) (h : t.val ≠ 0) : accs m c t.val t.isLt
    = acV (ins m c t) (accs m c (t.val - 1) (Nat.lt_of_le_of_lt (Nat.sub_le _ _) t.isLt)) := by
  obtain ⟨n, hn⟩ := t
  cases n with
  | zero => exact absurd rfl h
  | succ n => rfl

theorem lt7 : 7 < cfg0.N := by rw [show cfg0.N = 8 from N_0]; decide

/-- What the two results in HBM hold at the end. -/
def g0 (c : Dev nD) : Vec F S8x512x1024 .f32 := accs m c 7 lt7
def g1 (c : Dev nD) : Vec F S8x512x1024 .bf16 := k0_pay2 (g0 m c)

/-- The two results in HBM after `n` points: named contents once the last point is done. -/
def hbs (c : Dev nD) (n : ℕ) : sProp 𝕄 :=
  if n = 8 then iprop(hbPt0 c hbM0_0 (g0 m c) ∗ hbPt0 c hbM0_1 (g1 m c)) else iprop((∃ f, hbPt0 c hbM0_0 f) ∗ (∃ f, hbPt0 c hbM0_1 f))

theorem hbs_last (c : Dev nD) (n : ℕ) (h : n = 8) : hbs m c n = iprop(hbPt0 c hbM0_0 (g0 m c) ∗ hbPt0 c hbM0_1 (g1 m c)) := if_pos h
theorem hbs_other (c : Dev nD) (n : ℕ) (h : n ≠ 8) : hbs m c n = iprop((∃ f, hbPt0 c hbM0_0 f) ∗ (∃ f, hbPt0 c hbM0_1 f)) := if_neg h

theorem routed_eq (c : Dev nD) (W : (b : Ref sig .tc) → Buf (Elt F) ((c : Thread nD τ).loc b)) :
    (Pipeline.routed R0 c W : sProp 𝕄) = iprop(hbPt0 c hbM0_0 (W main_v4_0) ∗ hbPt0 c hbM0_1 (W main_v4_1)) := by
  unfold Pipeline.routed; rw [BI.bigSep_eq_bigSepL_of_eq [main_v4_0, main_v4_1] (by decide) (by decide)]; rfl

theorem Phi_eq (G : (c : Dev nD) → (b : Ref sig .tc) → Buf (Elt F) ((c : Thread nD τ).loc b)) (c : Dev nD) :
    (Pipeline.ΦDRG osem0 spec0 H0 R0 (V m) G c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 4) 0 ∗ semVal ((c : Thread nD τ), SemLoc.dma 5) 0) ∗ iprop(emp) ∗ iprop(hbPt0 c hbM0_0 (G c main_v4_0) ∗ hbPt0 c hbM0_1 (G c main_v4_1))) := by
  rw [Pipeline.ΦDRG_eq, scopedRest0_eq, ownSems00_eq, hbmPts0_eq, routed_eq]; simp only [scM0_0, scM0_1, owns_whole]; try rfl

/-- What holds before point `n`. -/
def PhiS (c : Dev nD) : (n : ℕ) → n ≤ cfg0.N → sProp 𝕄
  | 0, _ => Pipeline.ΦDRG osem0 spec0 H0 R0 (V m) (V m) c
  | n + 1, hn => iprop(iprop(owns (c : Thread nD τ) scM0_0 fullShare (accs m c n hn) ∗ (∃ d, owns (c : Thread nD τ) scM0_1 fullShare d)) ∗ (∃ r, prngReg c r) ∗ iprop(semVal ((c : Thread nD τ), SemLoc.dma 4) 0 ∗ semVal ((c : Thread nD τ), SemLoc.dma 5) 0) ∗ iprop(emp) ∗ hbs m c (n + 1))
theorem PhiS_zero (c : Dev nD) (n : ℕ) (h : n ≤ cfg0.N) (hz : n = 0) : PhiS m c n h = Pipeline.ΦDRG osem0 spec0 H0 R0 (V m) (V m) c := by
  subst hz; rfl
theorem PhiS_succ (c : Dev nD) (n : ℕ) (hn : n < cfg0.N) :
    PhiS m c (n + 1) hn = iprop(iprop(owns (c : Thread nD τ) scM0_0 fullShare (accs m c n hn) ∗ (∃ d, owns (c : Thread nD τ) scM0_1 fullShare d)) ∗ (∃ r, prngReg c r) ∗ iprop(semVal ((c : Thread nD τ), SemLoc.dma 4) 0 ∗ semVal ((c : Thread nD τ), SemLoc.dma 5) 0) ∗ iprop(emp) ∗ hbs m c (n + 1)) := rfl
theorem PhiS_pos (c : Dev nD) (n : ℕ) (h : n ≤ cfg0.N) (hz : n ≠ 0) :
    PhiS m c n h = iprop(iprop(owns (c : Thread nD τ) scM0_0 fullShare (accs m c (n - 1) (by omega)) ∗ (∃ d, owns (c : Thread nD τ) scM0_1 fullShare d)) ∗ (∃ r, prngReg c r) ∗ iprop(semVal ((c : Thread nD τ), SemLoc.dma 4) 0 ∗ semVal ((c : Thread nD τ), SemLoc.dma 5) 0) ∗ iprop(emp) ∗ hbs m c n) := by
  cases n with
  | zero => exact absurd rfl hz
  | succ n => rfl

/-- What the windows' slots hold around each point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨_ + 2, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem before_0 (c : Dev nD) (t : Fin cfg0.N) (d) : (dats m 0 c).before 0 t d = iblk m c 0 t :=
  beforeD_0_of m (dats m 0 c) (A_eq m c 0) (after_0 m c) t d
theorem before_1 (c : Dev nD) (t : Fin cfg0.N) (d) : (dats m 0 c).before 1 t d = iblk m c 1 t :=
  beforeD_1_of m (dats m 0 c) (A_eq m c 1) (after_1 m c) t d

def bodyPre (c : Dev nD) (t : Fin cfg0.N) : sProp 𝕄 :=
  iprop((dats m 0 c).Φ t.castSucc ∗ (dats m 0 c).owesAt () t.castSucc
    ∗ (∃ d, owns (c : Thread nD τ) (mems t).a1 fullShare ((dats m 0 c).before 0 t d))
    ∗ (∃ d, owns (c : Thread nD τ) (mems t).a2 fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (mems t).a1 fullShare ((dats m 0 c).after 0 t)
    ∗ owns (c : Thread nD τ) (mems t).a2 fullShare ((dats m 0 c).after 1 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = PhiS m c (t.val + 1) t.isLt from rfl, PhiS_succ, after_0, after_1]
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  by_cases h0 : t.val % 8 = 0
  · have h1 : ¬t.val % 8 = 7 := by omega
    have hz : t.val = 0 := by omega
    rw [PhiS_castSucc m c t, PhiS_zero m c _ _ hz, Phi_eq, hbs_other m c (t.val + 1) (by omega)]
    rw [accs_zero m c t hz]
    iintro ⟨⟨⟨HS0, HS1⟩, Hg, ⟨Hq0, Hq1⟩, -, ⟨Hh0, Hh1⟩⟩, ⟨%W, -, HW⟩, ⟨%d0, H0⟩, ⟨%d1, H1⟩⟩
    iapply ((runA c (grid0.coords t) (mems t) ((hcond0_0 t).mpr h0) (fun h => h1 ((hcond0_1 t).mp h)) (ins m c t)).2 W _)
    isplitl [H0]; · iexact H0
    isplitl [H1]; · iexact H1
    isplitl [HS0]; · iexact HS0
    isplitl [HS1]; · iexact HS1
    isplitl [Hq0]; · iexact Hq0
    isplitl [Hq1]; · iexact Hq1
    isplitl [Hh0]; · iexists _; iexact Hh0
    isplitl [Hh1]; · iexists _; iexact Hh1
    isplitl [HW]; · iexact HW
    iintro ⟨H0, H1, HS0, HS1, Hq0, Hq1, Hh0, Hh1, ⟨%W', HW'⟩⟩
    isplitl [HS0 HS1 Hg Hq0 Hq1 Hh0 Hh1]
    · isplitl [HS0 HS1]
      · isplitl [HS0]
        · iapply (own_of_writes c _ _ _ (covA_S c (grid0.coords t) (mems t) ((hcond0_0 t).mpr h0) (fun h => h1 ((hcond0_1 t).mp h)) (ins m c t)) (valA_S c (grid0.coords t) (mems t) ((hcond0_0 t).mpr h0) (fun h => h1 ((hcond0_1 t).mp h)) (ins m c t))); iexact HS0
        iexact HS1
      isplitl [Hg]; · iexact Hg
      isplitl [Hq0 Hq1]
      · isplitl [Hq0]; · iexact Hq0
        iexact Hq1
      isplitr; · iempintro
      isplitl [Hh0]
      · iexact Hh0
      iexact Hh1
    isplitl [HW']
    · iexists W'; isplitr; · ipureintro; exact fun _ _ => Or.inl trivial
      iexact HW'
    isplitl [H0]; · iexact H0
    iexact H1
  · have hz : t.val ≠ 0 := by omega
    by_cases h1 : t.val % 8 = 7
    · have e7 : t.val = 7 := by omega
      have e0 : g0 m c = acV (ins m c t) (accs m c (t.val - 1) (Nat.lt_of_le_of_lt (Nat.sub_le _ _) t.isLt)) := by
        rw [← accs_pos m c t hz]; unfold g0; congr 1; exact e7.symm
      rw [PhiS_castSucc m c t, PhiS_pos m c _ _ hz, hbs_other m c t.val (by omega), hbs_last m c (t.val + 1) (by omega)]
      rw [accs_pos m c t hz]
      iintro ⟨⟨⟨HS0, HS1⟩, Hg, ⟨Hq0, Hq1⟩, -, ⟨Hh0, Hh1⟩⟩, ⟨%W, -, HW⟩, ⟨%d0, H0⟩, ⟨%d1, H1⟩⟩
      iapply ((runC c (grid0.coords t) (mems t) (fun h => h0 ((hcond0_0 t).mp h)) ((hcond0_1 t).mpr h1) (ins m c t) _).2.2 W _)
      isplitl [H0]; · iexact H0
      isplitl [H1]; · iexact H1
      isplitl [HS0]; · iexact HS0
      isplitl [HS1]; · iexact HS1
      isplitl [Hq0]; · iexact Hq0
      isplitl [Hq1]; · iexact Hq1
      isplitl [Hh0]; · iexact Hh0
      isplitl [Hh1]; · iexact Hh1
      isplitl [HW]; · iexact HW
      iintro ⟨H0, H1, HS0, HS1, Hq0, Hq1, ⟨%u0, %v0, Hh0⟩, ⟨%u1, %v1, Hh1⟩, ⟨%W', HW'⟩⟩
      isplitl [HS0 HS1 Hg Hq0 Hq1 Hh0 Hh1]
      · isplitl [HS0 HS1]
        · isplitl [HS0]
          · iapply (own_of_writes c _ _ _ (covC_S c (grid0.coords t) (mems t) (fun h => h0 ((hcond0_0 t).mp h)) ((hcond0_1 t).mpr h1) (ins m c t) _) (valC_S c (grid0.coords t) (mems t) (fun h => h0 ((hcond0_0 t).mp h)) ((hcond0_1 t).mpr h1) (ins m c t) _)); iexact HS0
          iexact HS1
        isplitl [Hg]; · iexact Hg
        isplitl [Hq0 Hq1]
        · isplitl [Hq0]; · iexact Hq0
          iexact Hq1
        isplitr; · iempintro
        isplitl [Hh0]
        · rw [e0, ← View.write_whole_univ (Val := Elt F) main_v4_0 u0 (acV (ins m c t) _), ← valC_S c (grid0.coords t) (mems t) (fun h => h0 ((hcond0_0 t).mp h)) ((hcond0_1 t).mpr h1) (ins m c t) _, ← View.read_writes_eq_canon (mems t).a5.view v0 _ (covC_S c (grid0.coords t) (mems t) (fun h => h0 ((hcond0_0 t).mp h)) ((hcond0_1 t).mpr h1) (ins m c t) _)]
          iexact Hh0
        rw [show g1 m c = k0_pay2 (acV (ins m c t) (accs m c (t.val - 1) (Nat.lt_of_le_of_lt (Nat.sub_le _ _) t.isLt))) from congrArg k0_pay2 e0,
          ← View.write_whole_univ (Val := Elt F) main_v4_1 u1 (k0_pay2 (acV (ins m c t) _)), ← valC_LT c (grid0.coords t) (mems t) (fun h => h0 ((hcond0_0 t).mp h)) ((hcond0_1 t).mpr h1) (ins m c t) _, ← View.read_writes_eq_canon (mems t).a6.view v1 _ (covC_LT c (grid0.coords t) (mems t) (fun h => h0 ((hcond0_0 t).mp h)) ((hcond0_1 t).mpr h1) (ins m c t) _)]
        iexact Hh1
      isplitl [HW']
      · iexists W'; isplitr; · ipureintro; exact fun _ _ => Or.inl trivial
        iexact HW'
      isplitl [H0]; · iexact H0
      iexact H1
    · rw [PhiS_castSucc m c t, PhiS_pos m c _ _ hz, hbs_other m c t.val (by omega), hbs_other m c (t.val + 1) (by omega)]
      rw [accs_pos m c t hz]
      iintro ⟨⟨⟨HS0, HS1⟩, Hg, ⟨Hq0, Hq1⟩, -, ⟨Hh0, Hh1⟩⟩, ⟨%W, -, HW⟩, ⟨%d0, H0⟩, ⟨%d1, H1⟩⟩
      iapply ((runB c (grid0.coords t) (mems t) (fun h => h0 ((hcond0_0 t).mp h)) (fun h => h1 ((hcond0_1 t).mp h)) (ins m c t) _).2 W _)
      isplitl [H0]; · iexact H0
      isplitl [H1]; · iexact H1
      isplitl [HS0]; · iexact HS0
      isplitl [HS1]; · iexact HS1
      isplitl [Hq0]; · iexact Hq0
      isplitl [Hq1]; · iexact Hq1
      isplitl [Hh0]; · iexact Hh0
      isplitl [Hh1]; · iexact Hh1
      isplitl [HW]; · iexact HW
      iintro ⟨H0, H1, HS0, HS1, Hq0, Hq1, Hh0, Hh1, ⟨%W', HW'⟩⟩
      isplitl [HS0 HS1 Hg Hq0 Hq1 Hh0 Hh1]
      · isplitl [HS0 HS1]
        · isplitl [HS0]
          · iapply (own_of_writes c _ _ _ (covB_S c (grid0.coords t) (mems t) (fun h => h0 ((hcond0_0 t).mp h)) (fun h => h1 ((hcond0_1 t).mp h)) (ins m c t) _) (valB_S c (grid0.coords t) (mems t) (fun h => h0 ((hcond0_0 t).mp h)) (fun h => h1 ((hcond0_1 t).mp h)) (ins m c t) _)); iexact HS0
          iexact HS1
        isplitl [Hg]; · iexact Hg
        isplitl [Hq0 Hq1]
        · isplitl [Hq0]; · iexact Hq0
          iexact Hq1
        isplitr; · iempintro
        isplitl [Hh0]
        · iexact Hh0
        iexact Hh1
      isplitl [HW']
      · iexists W'; isplitr; · ipureintro; exact fun _ _ => Or.inl trivial
        iexact HW'
      isplitl [H0]; · iexact H0
      iexact H1

theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the two results in HBM end with, as contents of every buffer. -/
def G (c : Dev nD) : (b : Ref sig .tc) → Buf (Elt F) ((c : Thread nD τ).loc b) :=
  Function.update (Function.update (V m c) main_v4_0 (g0 m c)) main_v4_1 (g1 m c)
theorem G_0 (c : Dev nD) : G m c main_v4_0 = g0 m c :=
  (Function.update_of_ne (by decide) _ _).trans (Function.update_self _ _ _)
theorem G_1 (c : Dev nD) : G m c main_v4_1 = g1 m c := Function.update_self _ _ _

theorem hin (c : Dev nD) : Pipeline.ΦDRG osem0 spec0 H0 R0 (V m) (V m) c ⊢ (dats m 0 c).Φ 0 := by
  rw [show (dats m 0 c).Φ 0 = PhiS m c 0 (Nat.zero_le _) from rfl, PhiS_zero m c 0 _ rfl]
  try exact Idealize.SL.BI.Entails.refl _
theorem hout (c : Dev nD) : (dats m 0 c).Φ (Fin.last cfg0.N) ⊢ Pipeline.ΦDRG osem0 spec0 H0 R0 (V m) (G m) c := by
  have hN : cfg0.N = 8 := N_0
  rw [show (dats m 0 c).Φ (Fin.last cfg0.N) = PhiS m c cfg0.N le_rfl from rfl, PhiS_pos m c _ _ (by omega), Phi_eq, G_0, G_1, hbs_last m c _ hN]
  iintro ⟨⟨HS0, HS1⟩, Hg, ⟨Hq0, Hq1⟩, He, ⟨Hh0, Hh1⟩⟩
  isplitl [HS0 HS1]
  · isplitl [HS0]
    · iexists _; iexact HS0
    iexact HS1
  isplitl [Hg]; · iexact Hg
  isplitl [Hq0 Hq1]
  · isplitl [Hq0]; · iexact Hq0
    iexact Hq1
  isplitl [He]; · iexact He
  isplitl [Hh0]; · iexact Hh0
  iexact Hh1

set_option backward.isDefEq.respectTransparency.types false in
theorem run_main : θ_run defs (onTc (τ := τ) (main (F := F))) (s₀ m ρ) (fun r => (Pipeline.FramePostRG cfgs (dats m) 0 R0 (V m) (G m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m) (G := G m)
    (hin := hin m) (hout := hout m)

/-- The arguments in `M` are those of `m`. -/
abbrev Kept (M : (ℓ : Loc nD τ sig) → Buf (Elt F) ℓ) (c : Dev nD) : Prop :=
  M ((c : Thread nD τ).loc main_arg0) = m ((c : Thread nD τ).loc main_arg0) ∧ M ((c : Thread nD τ).loc main_arg1) = m ((c : Thread nD τ).loc main_arg1)

theorem kept (r : PUnit × MemSt nD τ sig (Elt F)) (h : Pipeline.FramePostRG cfgs (dats m) 0 R0 (V m) (G m) r ∧ r.2.sem = fun _ => 0) (c : Dev nD) : Kept m r.2.mem c :=
  ⟨((h.1.1 c).2 main_arg0 (Finset.mem_sdiff.mpr ⟨Pipeline.mem_restRefs_of main_arg0 (by decide) (by decide), by decide⟩)).trans (V_main_arg0 m c),
    ((h.1.1 c).2 main_arg1 (Finset.mem_sdiff.mpr ⟨Pipeline.mem_restRefs_of main_arg1 (by decide) (by decide), by decide⟩)).trans (V_main_arg1 m c)⟩

theorem run_quiet : θ_run defs (onTc (τ := τ) (main (F := F))) ⟨m, fun _ => 0, ρ⟩ (fun r => (∀ c : Dev nD, Kept m r.2.mem c) ∧ r.2.sem = fun _ => 0) :=
  (θ_run defs _ _).mono (fun r h => ⟨fun c => kept m r h c, h.2⟩) (run_main m ρ)
end Cert.DownKernelIdeal.Weight
end
-- ==== Proof.DownValue.lean ====
module

public import proofs.«01_k».proof.Proof.WeightSpec
public import proofs.«01_k».proof.Proof.DownFrame

@[expose] public section

/-! The down projection's weight gradient: the host's arrays, what one point adds, and the sum over the grid. -/

set_option maxRecDepth 16384

noncomputable section

namespace Cert.DownKernelIdeal.Weight

open Cert.DownKernelIdeal Cert.DownKernelIdeal.Gen Idealize.ShloMosaic Idealize.ShloMosaic.TcCoe Idealize.SL.Sem Cert.Mlp Cert.Weight

/-! ## What the body stores, read at an index -/

theorem pay4_apply (v : Vec Ideal S1x512x1024 .f32) (l : Vec Ideal S1024x512 .bf16) (r : Vec Ideal S1024x1024 .bf16) (p : Fin 512) (j : Fin 1024) :
    k0_pay4 v l r (ix3 0 p j) = v (ix3 0 p j) + ∑ k : Fin 1024, l (ix2 k p) * r (ix2 k j) := by
  pointwise [k0_pay4]
theorem pay3_apply (i : Fin 8) (p : Fin 512) (j : Fin 1024) : k0_pay3 (F := Ideal) (ix3 i p j) = (0 : EReal) := by
  pointwise [k0_pay3]
theorem pay2_apply (v : Vec Ideal S8x512x1024 .f32) (i : Fin 8) (p : Fin 512) (j : Fin 1024) : k0_pay2 v (ix3 i p j) = v (ix3 i p j) := by
  pointwise [k0_pay2]

/-! ## One point -/

variable (X : Ins Ideal) (a : Vec Ideal S8x512x1024 .f32)

theorem ldCl (g : Fin 8) (k : Fin 1024) (p : Fin 512) : View.ld (Val := Elt Ideal) (e' := .bf16) X.x0 (rCl g) (ix2 k p : S1024x512.Idx) = X.x0 (ix2 k (col g p)) := by
  refine congrArg X.x0 (funext fun b => Fin.ext ?_)
  match b with
  | 0 => show 0 + 1 * k.val = k.val; omega
  | 1 => show g.val * 512 + 1 * p.val = g.val * 512 + p.val; omega
theorem embSl (g : Fin 8) (p : Fin 512) (j : Fin 1024) : (rSl g).emb (ix3 0 p j : S1x512x1024.Idx) = ix3 g p j := by
  refine funext fun b => Fin.ext ?_
  match b with
  | 0 => show g.val + 1 * 0 = g.val; omega
  | 1 => show 0 + 1 * p.val = p.val; omega
  | 2 => show 0 + 1 * j.val = j.val; omega
theorem ldSl (g : Fin 8) (p : Fin 512) (j : Fin 1024) : View.ld (Val := Elt Ideal) (e' := .f32) a (rSl g) (ix3 0 p j : S1x512x1024.Idx) = a (ix3 g p j) :=
  congrArg a (embSl g p j)

/-- What a point leaves over `a`. -/
def oC : Vec Ideal S8x512x1024 .f32 := fun i => a i + ∑ k : Fin 1024, X.x0 (ix2 k (col (i 0) (i 1))) * X.x1 (ix2 k (i 2))

theorem pieceC (g : Fin 8) (i : (rSl g).shape.Idx) :
    k0_pay4 (F := Ideal) (View.ld a (rSl g)) (View.ld X.x0 (rCl g)) X.x1 i = oC X a ((rSl g).emb i) := by
  obtain ⟨p, j, rfl⟩ : ∃ (p : Fin 512) (j : Fin 1024), i = (ix3 0 p j : S1x512x1024.Idx) :=
    ⟨i 1, i 2, funext fun b => by match b with | 0 => exact Subsingleton.elim (α := Fin 1) _ _ | 1 => rfl | 2 => rfl⟩
  rw [embSl]
  refine (pay4_apply _ _ _ p j).trans ?_
  exact congrArg₂ (· + ·) (ldSl a g p j) (Finset.sum_congr rfl fun k _ => congrArg (· * _) (ldCl X g k p))

theorem memC (i : S8x512x1024.Idx) : ∃ q ∈ LAC (F := Ideal) X a, i ∈ q.1.set := by
  refine ⟨_, List.mem_map_of_mem ((by decide : ∀ g : Fin 8, g ∈ ([7, 6, 5, 4, 3, 2, 1, 0] : List (Fin 8))) (i 0)), ?_⟩
  have e : (rSl (i 0)).emb (ix3 0 (i 1 : Fin 512) (i 2 : Fin 1024) : S1x512x1024.Idx) = i :=
    (embSl (i 0) (i 1) (i 2)).trans (funext fun b => match b with | 0 => rfl | 1 => rfl | 2 => rfl)
  exact Eq.subst (motive := fun q => q ∈ (rSl (i 0)).set) e ((rSl (i 0)).idx_mem _)

theorem acV_eq : acV X a = oC X a := by
  funext i
  have h : View.PiecesOf (oC X a) (LAC (F := Ideal) X a) :=
    ⟨pieceC X a 7, pieceC X a 6, pieceC X a 5, pieceC X a 4, pieceC X a 3, pieceC X a 2, pieceC X a 1, pieceC X a 0, trivial⟩
  have := View.canon_append_of_piecesOf (oC X a) [] (LAC (F := Ideal) X a) h i (memC X a i)
  rwa [List.append_nil] at this

/-! ## The call's arrays -/

variable (m : (ℓ : Loc nD τ sig) → Buf (Elt Ideal) ℓ) (ρ : Dev nD → PrngReg) (c : Dev nD)

/-- The two arguments. -/
def argA : A2 8192 4096 := m ((c : Thread nD τ).loc main_arg0)
def argY : A2 8192 1024 := m ((c : Thread nD τ).loc main_arg1)

def hRelu (v : FVec Ideal S8192x4096 .f32) : FVec Ideal S8192x4096 .f32 :=
  maximumf v (broadcastInDim S8192x4096 ![] bcast_S_S8192x4096 (constant S_ .f32 0x00000000#32))
theorem hRelu_apply (v : FVec Ideal S8192x4096 .f32) (t : Fin 8192) (f : Fin 4096) : hRelu v (ix2 t f) = max (v (ix2 t f)) 0 := by
  pointwise [hRelu]

theorem V_v2 : V m c main_v2 = (truncf .bf16 (mulf (hRelu (argA m c)) (hRelu (argA m c)) : FVec Ideal S8192x4096 .f32) bitsLt_bf16_f32 : FVec Ideal S8192x4096 .bf16) := by
  unfold_abbrev_sides
  simp only [hostOps0, hostOps0_1, List.flatten_cons, List.flatten_nil, List.append_nil, List.cons_append, List.nil_append]
  after_results_simp
  rfl
theorem V_v3 : V m c main_v3 = (truncf .bf16 (argY m c : FVec Ideal S8192x1024 .f32) bitsLt_bf16_f32 : FVec Ideal S8192x1024 .bf16) := by
  unfold_abbrev_sides
  simp only [hostOps0, hostOps0_1, List.flatten_cons, List.flatten_nil, List.append_nil, List.cons_append, List.nil_append]
  after_results_simp
  rfl

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)

theorem blk0 (t : Fin cfg0.N) (h : t.val < 8) (p : Fin 1024) (f : Fin 4096) :
    (iblk m c 0 t : Vec Ideal S1024x4096 .bf16) (ix2 p f) = sq (argA m c) (rowAt t.val h p) f := by
  have hi := index0 t
  unfold iblk
  rw [View.read_apply]
  show V m c main_v2 _ = _
  have hq : ((cfg0.win 0).blk t).view.emb (ix2 p f : S1024x4096.Idx) = (ix2 (rowAt t.val h p) f : main_v2.ty.shape.Idx) := by
    refine funext fun b => Fin.ext ?_
    match b with
    | ⟨0, _⟩ => show win0_0.index t 0 * 1024 + 1 * p.val = t.val * 1024 + p.val; rw [hi.1]; omega
    | ⟨1, _⟩ => show win0_0.index t 1 * 4096 + 1 * f.val = f.val; rw [hi.2]; omega
  refine (congrArg (V m c main_v2) hq).trans ?_
  rw [V_v2]
  exact congrArg₂ (· * ·) (hRelu_apply _ _ _) (hRelu_apply _ _ _)
theorem blk1 (t : Fin cfg0.N) (h : t.val < 8) (p : Fin 1024) (j : Fin 1024) :
    (iblk m c 1 t : Vec Ideal S1024x1024 .bf16) (ix2 p j) = argY m c (ix2 (rowAt t.val h p) j) := by
  have hi := index1 t
  unfold iblk
  rw [View.read_apply]
  show V m c main_v3 _ = _
  have hq : ((cfg0.win 1).blk t).view.emb (ix2 p j : S1024x1024.Idx) = (ix2 (rowAt t.val h p) j : main_v3.ty.shape.Idx) := by
    refine funext fun b => Fin.ext ?_
    match b with
    | ⟨0, _⟩ => show win0_1.index t 0 * 1024 + 1 * p.val = t.val * 1024 + p.val; rw [hi.1]; omega
    | ⟨1, _⟩ => show win0_1.index t 1 * 1024 + 1 * j.val = j.val; rw [hi.2]; omega
  refine (congrArg (V m c main_v3) hq).trans ?_
  rw [V_v3]; rfl

/-! ## The sum over the grid -/

/-- What row `t` adds to an entry. -/
def term (i : Fin 8) (p : Fin 512) (j : Fin 1024) (t : Fin 8192) : EReal := sq (argA m c) t (col i p) * argY m c (ix2 t j)

theorem ac_step (t : Fin cfg0.N) (a : Vec Ideal S8x512x1024 .f32) (i : Fin 8) (p : Fin 512) (j : Fin 1024) :
    acV (ins m c t) a (ix3 i p j) = a (ix3 i p j) + part (term m c i p j) t.val := by
  have ht : t.val < 8 := t.isLt.trans_eq N_0
  rw [acV_eq]
  unfold part
  rw [dif_pos ht]
  refine congrArg (a (ix3 i p j) + ·) (Finset.sum_congr rfl fun k _ => ?_)
  exact congrArg₂ (· * ·) (blk0 m c t ht k (col i p)) (blk1 m c t ht k j)

theorem accs_eq (n : ℕ) : ∀ (h : n < cfg0.N) (i : Fin 8) (p : Fin 512) (j : Fin 1024),
    accs m c n h (ix3 i p j) = ∑ t ∈ Finset.range (n + 1), part (term m c i p j) t := by
  induction n with
  | zero =>
    intro h i p j
    rw [Finset.sum_range_one, accs, ac_step, pay3_apply, zero_add]
  | succ n ih =>
    intro h i p j
    rw [Finset.sum_range_succ, ← ih (Nat.lt_of_succ_lt h) i p j, accs, ac_step]

theorem g0_eq : g0 m c = resD (argA m c) (argY m c) := by
  funext i
  have hi : i = (ix3 (i 0) (i 1) (i 2) : S8x512x1024.Idx) := funext fun b => match b with | 0 => rfl | 1 => rfl | 2 => rfl
  rw [hi]
  exact (accs_eq m c 7 lt7 (i 0) (i 1) (i 2)).trans (sum_part (term m c (i 0) (i 1) (i 2)))
theorem g1_eq : g1 m c = resD (argA m c) (argY m c) := by
  unfold g1; rw [g0_eq]
  funext i
  have hi : i = (ix3 (i 0) (i 1) (i 2) : S8x512x1024.Idx) := funext fun b => match b with | 0 => rfl | 1 => rfl | 2 => rfl
  rw [hi]
  exact pay2_apply _ _ _ _

/-- The run with the two results named and the arguments unchanged. -/
theorem run : θ_run defs (onTc (τ := τ) (main (F := Ideal))) ⟨m, fun _ => 0, ρ⟩ fun r => ∀ c : Dev nD,
      r.2.mem ((c : Thread nD τ).loc main_v4_0) = resD (argA m c) (argY m c)
      ∧ r.2.mem ((c : Thread nD τ).loc main_v4_1) = resD (argA m c) (argY m c)
      ∧ Kept m r.2.mem c :=
  (θ_run defs _ _).mono (fun r h c => ⟨(h.1.2 c main_v4_0 (by decide)).trans ((G_0 m c).trans (g0_eq m c)),
    (h.1.2 c main_v4_1 (by decide)).trans ((G_1 m c).trans (g1_eq m c)), kept m r h c⟩) (run_main m ρ)

end Cert.DownKernelIdeal.Weight

end
-- ==== Proof.DownSame.lean ====
module

public import proofs.«01_k».proof.Proof.DownFrame
public import proofs.«01_k».proof.Proof.Gen.DownKernel

@[expose] public section

/-! The printed program and the idealized one have one text: the same kernel body at each label and
the same host program. So the run of the one is the run of the other. -/

noncomputable section

namespace Cert.DownSame

open Idealize.ShloMosaic Idealize.SL.Sem

variable {F : FTy → Type} [FloatOps F]

set_option maxHeartbeats 4000000 in
/-- Each label runs the same body. -/
theorem bodies : (Cert.DownKernel.defs₀ : Defs Cert.DownKernel.nD Cert.DownKernel.τ Cert.DownKernel.sig (Elt F) Cert.DownKernel.Λ₀)
    = Cert.DownKernelIdeal.defs₀ (F := F) := by
  funext k ℓ a
  match k with
  | .tc =>
    match ℓ, a with
    | 0, (t, s) => rfl
    | ⟨_ + 1, h⟩, _ => exact absurd h (Nat.not_lt.2 (Nat.le_add_left _ _))
  | .scScalar _ => rfl
  | .scVector _ _ => rfl

/-- The tables with the pipelines are the same. -/
theorem tables : Cert.DownKernel.defs (F := F) = Cert.DownKernelIdeal.defs (F := F) :=
  congrArg (fun d => Pipeline.defs (Cert.DownKernelIdeal.pcfgs (F := F)) d) bodies

set_option maxHeartbeats 4000000 in
/-- The host programs are the same. -/
theorem hosts : Cert.DownKernel.main (F := F) = Cert.DownKernelIdeal.main (F := F) := by
  unfold Cert.DownKernel.main Cert.DownKernelIdeal.main
  rfl

open Cert.DownKernelIdeal in
set_option maxHeartbeats 4000000 in
/-- A run of equal programs from equal tables is the same run. -/
theorem run_quiet (m : (ℓ : Loc nD τ sig) → Buf (Elt F) ℓ) (ρ : Dev nD → PrngReg)
    (D : Defs nD τ sig (Elt F) (Pipeline.Sig Λ₀ (Fin 1) fun p => (pcfgs (F := F) p).Adm)) (P : Dev nD → Prog (TpuEff nD τ sig (Elt F) (Pipeline.Sig Λ₀ (Fin 1) fun p => (pcfgs (F := F) p).Adm) .tc) PUnit)
    (hD : D = defs (F := F)) (hP : P = main (F := F)) :
    θ_run D (onTc (τ := τ) P) ⟨m, fun _ => 0, ρ⟩ (fun r => (∀ c : Dev nD, Weight.Kept m r.2.mem c) ∧ r.2.sem = fun _ => 0) := by
  subst hD; subst hP
  exact Weight.run_quiet m ρ

end Cert.DownSame
-- ==== Proof.DownReference.lean ====
module

public import proofs.«01_k».proof.Proof.WeightSpec
public import proofs.«01_k».proof.Proof.Gen.DownReferenceIdeal.Run
public import proofs.«01_k».proof.Proof.Gen.DownReferenceIdeal.Read

@[expose] public section

/-! The reference's gradient of the down projection's weight, read at an index. -/

set_option maxRecDepth 16384

noncomputable section

namespace Cert.DownReferenceIdeal.Ref

open Cert.DownReferenceIdeal Cert.DownReferenceIdeal.Read Idealize.ShloMosaic Idealize.ShloMosaic.TcCoe Idealize.ShloMosaic.StableHlo Idealize.SL.Sem Cert.Mlp Cert.Weight

theorem z0 : FloatOps.ofBits (F := Ideal) .f32 0x00000000#32 = (0 : EReal) := by
  show Ideal.ofBits .f32 0x00000000#32 = 0
  simp [Ideal.ofBits, Ideal.ieee]

variable (a : A2 8192 4096) (y : A2 8192 1024)

theorem v2_eq (i : S8192x4096.Idx) : val_main_v2 (F := Ideal) a i = sq a (i 0) (i 1) := by
  have hi : i = (ix2 (i 0) (i 1) : S8192x4096.Idx) := funext fun b => match b with | 0 => rfl | 1 => rfl
  rw [val_main_v2_apply, val_main_v1_apply, val_main_call0_v0_apply, val_main_call0_cst_apply, z0]
  exact congrArg (fun q => max (a q) 0 * max (a q) 0) hi
theorem v5_eq (i : S1024x4096.Idx) : val_main_v5 (F := Ideal) a y i = ∑ t : Fin 8192, sq a t (i 1) * y (ix2 t (i 0)) := by
  refine (val_main_v5_apply a y i).trans (Finset.sum_congr rfl fun t _ => ?_)
  refine (mul_comm (G := EReal) _ _).trans (congrArg₂ (· * ·) (v2_eq a _) (congrArg y ?_))
  exact funext fun b => match b with | 0 => rfl | 1 => rfl
theorem v8_eq (i : S4096x1024.Idx) : val_main_v8 (F := Ideal) a y i = ∑ t : Fin 8192, sq a t (i 0) * y (ix2 t (i 1)) := by
  have h0 : (i 0).val < 4096 := (i 0).isLt
  have h1 : (i 1).val < 1024 := (i 1).isLt
  rw [val_main_v8_apply, val_main_v7_apply, val_main_v6_apply, v5_eq]
  refine Finset.sum_congr rfl fun t _ => congrArg₂ (fun p j => sq a t p * y (ix2 t j)) (Fin.ext ?_) (Fin.ext ?_)
  · show ((i 0).val * 1024 + (i 1).val) / 1024 % 4096 = (i 0).val; omega
  · show ((i 0).val * 1024 + (i 1).val) % 1024 = (i 1).val; omega
theorem v9_eq (i : S8x512x1024.Idx) : val_main_v9 (F := Ideal) a y i = resD a y i := by
  have h0 : (i 0).val < 8 := (i 0).isLt
  have h1 : (i 1).val < 512 := (i 1).isLt
  have h2 : (i 2).val < 1024 := (i 2).isLt
  rw [val_main_v9_apply, v8_eq]
  refine Finset.sum_congr rfl fun t _ => congrArg₂ (fun p j => sq a t p * y (ix2 t j)) (Fin.ext ?_) (Fin.ext ?_)
  · show (((i 0).val * 512 + (i 1).val) * 1024 + (i 2).val) / 1024 = (i 0).val * 512 + (i 1).val; omega
  · show (((i 0).val * 512 + (i 1).val) * 1024 + (i 2).val) % 1024 = (i 2).val; omega
theorem v9_res : val_main_v9 (F := Ideal) a y = resD a y := funext (v9_eq a y)
theorem v10_res : val_main_v10 (F := Ideal) a y = resD a y := funext fun i => by rw [val_main_v10_apply, v9_eq]; rfl

/-- The arguments in memory. -/
def argA (m : (ℓ : Loc nD τ sig) → Buf (Elt Ideal) ℓ) (c : Dev nD) : A2 8192 4096 := m ((c.tc : Thread nD τ).loc main_arg0)
def argY (m : (ℓ : Loc nD τ sig) → Buf (Elt Ideal) ℓ) (c : Dev nD) : A2 8192 1024 := m ((c.tc : Thread nD τ).loc main_arg1)

/-- The whole program. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = resD (argA m c) (argY m c)
      ∧ r.2.mem ((c.tc : Thread nD τ).loc main_v10) = resD (argA m c) (argY m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨
    (h c).1.trans ((val_main_v9_eq _ _).trans (v9_res (argA m c) (argY m c))),
    (h c).2.1.trans ((val_main_v10_eq _ _).trans (v10_res (argA m c) (argY m c))),
    (h c).2.2⟩) (Cert.DownReferenceIdeal.Value.run m ρ)

end Cert.DownReferenceIdeal.Ref

end
-- ==== Proof.UpKit.lean ====
module
public import proofs.«01_k».proof.Proof.Gen.UpKernelIdeal.Frame
public import proofs.«01_k».proof.Proof.Gen.UpKernelIdeal.Skeleton
public import Idealize.ShloMosaic.Lib.Pipeline.FrameBody
public import Idealize.ShloMosaic.Lib.Pipeline.FrameValue
public import Idealize.ShloMosaic.Lib.Pipeline.ReadBack
public import Idealize.ShloMosaic.Lib.Pipeline.ValueKit.Acc
public import Idealize.ShloMosaic.Lib.Ring
public import Idealize.ShloMosaic.Lib.Tactic
public import Idealize.ShloMosaic.Lib.WordCmp
@[expose] public section
set_option maxRecDepth 16384
noncomputable section
namespace Cert.UpKernelIdeal.Weight
open Cert.UpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)
set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain
theorem beforeD_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem beforeD_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
def R0 : Finset (Ref sig .tc) := {main_v16_0, main_v16_1}
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)
abbrev cond0_1 (i : grid0.Coords) : Prop := (Scalar.cmpi .ne (Scalar.extui (Scalar.cmpi .eq (BitVec.ofNat 32 (i 0).val) 7#32)) 0#32) = 1#1
theorem hcond0_1 : ∀ t : Fin cfg0.N, cond0_1 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_1, e0]
    word_cmp
   : ∀ t : Fin grid0.N, cond0_1 (grid0.coords t) ↔ t.val % 8 = 7)
abbrev scM0_0 : Memref sig .tc .vmem S8x1024x512 .f32 := Memref.whole cc0_scratch0
abbrev scM0_1 : Memref sig .tc .vmem S8x1024x512 .bf16 := Memref.whole cc0_scratch1
abbrev hbM0_0 : Memref sig .tc .hbm S8x1024x512 .f32 := Memref.whole main_v16_0
abbrev hbM0_1 : Memref sig .tc .hbm S8x1024x512 .bf16 := Memref.whole main_v16_1
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f
abbrev osem0 : Fin 2 → SemLoc sig := fun j => (![SemLoc.dma 4, SemLoc.dma 5] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0) := by
  rw [Pipeline.ownSems0_eq_of_list c osem0 [0, 1] (by decide) (by decide)]; rfl
def H0 : Finset (Ref sig .tc) := {}
theorem H0_sub : H0 ⊆ Pipeline.restRefs sig spec0 := by decide
theorem R0_sub : R0 ⊆ Pipeline.restRefs sig spec0 \ H0 := by decide
theorem hbmPts0_eq (c : Dev nD) :
    (bigSep H0 (fun b => ((c : Thread nD τ).loc b) ↦{fullShare} V m c b) : sProp 𝕄) = iprop(emp) := by
  rw [BI.bigSep_eq_bigSepL_of_eq [] (by decide) (by decide)]; rfl

/-- The buffers one grid point works in: the windows' slots and the two scratch buffers. -/
structure Mems where
  a1 : Memref sig .tc .vmem S1024x1024 .bf16
  h1 : a1.IsWhole
  a2 : Memref sig .tc .vmem S1024x4096 .bf16
  h2 : a2.IsWhole
  a5 : Memref sig .tc .vmem S8x1024x512 .f32
  h5 : a5.IsWhole
  a6 : Memref sig .tc .vmem S8x1024x512 .bf16
  h6 : a6.IsWhole

/-- The blocks one grid point reads. -/
structure Ins (F : FTy → Type) where
  x0 : Vec F S1024x1024 .bf16
  x1 : Vec F S1024x4096 .bf16

/-- The buffers of point `t`. -/
abbrev mems (t : Fin cfg0.N) : Mems where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a5 := scM0_0
  h5 := Memref.isWhole_whole _
  a6 := scM0_1
  h6 := Memref.isWhole_whole _

/-- The blocks point `t` reads. -/
abbrev ins (c : Dev nD) (t : Fin cfg0.N) : Ins F where
  x0 := iblk m c 0 t
  x1 := iblk m c 1 t

/-- Column chunk `g` of the wide operand, and device `g`'s part of the accumulator. -/
abbrev rCl (g : Fin 8) : Rect S1024x4096 :=
  Rect.unit ![0, g.val * 512] ![1024, 512] (fun a => by match a with | 0 => exact Nat.le_refl _ | 1 => show g.val * 512 + 512 ≤ 4096; omega)
abbrev rSl (g : Fin 8) : Rect S8x1024x512 :=
  Rect.unit ![g.val, 0, 0] ![1, 1024, 512] (fun a => by match a with | 0 => show g.val + 1 ≤ 8; omega | 1 => exact Nat.le_refl _ | 2 => exact Nat.le_refl _)

/-- The accumulator after a point: each device's part is what it was plus that chunk's product. -/
abbrev LAC (X : Ins F) (a : Vec F S8x1024x512 .f32) : List (View.Piece (Elt F) S8x1024x512 .f32) :=
  [7, 6, 5, 4, 3, 2, 1, 0].map fun g : Fin 8 => ⟨rSl g, k0_pay4 (View.ld a (rSl g)) X.x0 (View.ld X.x1 (rCl g))⟩
def acV (X : Ins F) (a : Vec F S8x1024x512 .f32) : Vec F S8x1024x512 .f32 := View.canon (LAC X a)
end Cert.UpKernelIdeal.Weight
end
-- ==== Proof.UpRunA.lean ====
module
public import proofs.«01_k».proof.Proof.UpKit
public import proofs.«01_k».proof.Proof.Pieces
@[expose] public section
set_option maxRecDepth 16384
noncomputable section
namespace Cert.UpKernelIdeal.Weight
open Cert.UpKernelIdeal.Gen
open Idealize.ShloMosaic Idealize.ShloMosaic.TcCoe Idealize.ShloMosaic.Tactic
open Cert.Weight
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ

set_option maxHeartbeats 4000000 in
/-- One run of the body at a grid point of kind A: the blocks read are kept, and what is written is listed piece by piece. -/
noncomputable def runA (c : Dev nD) (i : grid0.Coords) (M : Mems) (hc0 : cond0_0 i) (hc1 : ¬cond0_1 i) (X : Ins F) :
    { LS : List (View.Piece (Elt F) S8x1024x512 .f32) //
      ∀ (W : Waits sig Unit) (K : PUnit → sProp 𝕄),
        iprop(owns (c : Thread nD τ) M.a1 fullShare X.x0 ∗ owns (c : Thread nD τ) M.a2 fullShare X.x1 ∗ (∃ d, owns (c : Thread nD τ) M.a5 fullShare d) ∗ (∃ d, owns (c : Thread nD τ) M.a6 fullShare d) ∗ semVal ((c : Thread nD τ), SemLoc.dma 4) 0 ∗ semVal ((c : Thread nD τ), SemLoc.dma 5) 0 ∗ (∃ f, hbPt0 c hbM0_0 f) ∗ (∃ f, hbPt0 c hbM0_1 f) ∗ owes (c : Thread nD τ) 0 W
            ∗ (iprop(owns (c : Thread nD τ) M.a1 fullShare X.x0 ∗ owns (c : Thread nD τ) M.a2 fullShare X.x1 ∗ (∃ f, M.a5.view.loc (c : Thread nD τ) ↦[M.a5.view.set]{fullShare} M.a5.view.writes (Elt F) f LS) ∗ (∃ d, owns (c : Thread nD τ) M.a6 fullShare d) ∗ semVal ((c : Thread nD τ), SemLoc.dma 4) 0 ∗ semVal ((c : Thread nD τ), SemLoc.dma 5) 0 ∗ (∃ f, hbPt0 c hbM0_0 f) ∗ (∃ f, hbPt0 c hbM0_1 f) ∗ (∃ W', owes (c : Thread nD τ) 0 W')) -∗ K ⟨⟩))
          ⊢ wp frame (wpE (defs₀ (F := F)) Variants.none c none) Set.univ (cc0_up_gradient i M.a1 M.h1 M.a2 M.h2 (Memref.whole main_v16_0) (Memref.isWhole_whole _) (Memref.whole main_v16_1) (Memref.isWhole_whole _) M.a5 M.h5 M.a6 M.h6 cc0_scratch2) K } := by
  refine ⟨?_, fun W K => ?run⟩
  case run =>
    simp only [cc0_up_gradient_eq_skeleton]; unfold cc0_up_gradient_skel
    simp only [k0_part1_eq_skeleton, k0_part2_eq_skeleton, k0_part3_eq_skeleton]
    unfold owns
    iintro ⟨⟨%f0, %hf0, H0⟩, ⟨%f1, %hf1, H1⟩, ⟨%ds0, %fs0, -, HS0⟩, ⟨%ds1, %fs1, -, HS1⟩, Hq0, Hq1, ⟨%fw0, Hh0⟩, ⟨%fw1, Hh1⟩, HW, Hk⟩
    obtain rfl := M.h1.eq_unread hf0; obtain rfl := M.h2.eq_unread hf1
    sl_exec (disch := first | sl_exact hc0 | sl_exact hc1)
    sl_step
    iapply Hk
    isplitl [H0]
    · iexists _; isplitr; · ipureintro; exact M.h1.read_unread _
      iexact H0
    isplitl [H1]
    · iexists _; isplitr; · ipureintro; exact M.h2.read_unread _
      iexact H1
    isplitl [HS0]; · iexists _; iexact HS0
    isplitl [HS1]
    · iexists _, _; isplitr; swap; · iexact HS1
      ipureintro; rfl
    isplitl [Hq0]; · iexact Hq0
    isplitl [Hq1]; · iexact Hq1
    isplitl [Hh0]; · iexists _; iexact Hh0
    isplitl [Hh1]; · iexists _; iexact Hh1
    iexists _; iexact HW
variable (c : Dev nD) (i : grid0.Coords) (M : Mems) (hc0 : cond0_0 i) (hc1 : ¬cond0_1 i) (X : Ins F)
theorem covA_S : ∀ y, ∃ pc ∈ (runA c i M hc0 hc1 X).1, y ∈ pc.1.set := fun y =>
  View.cover_of_tiledL (runA c i M hc0 hc1 X).1 S1x1024x512.size (by sl_kernel_rfl) y
theorem valA_S : View.canon (runA c i M hc0 hc1 X).1 = acV X k0_pay3 := by
  unfold runA; dsimp only; sl_unfold_words
  simp only [View.readAt_eq_ld, M.h1.read_unread, M.h2.read_unread]
  simp (disch := first | decide +kernel | (intro a; fin_cases a <;> rfl)) only [↓View.readCov_skip, ↓View.readCov_fill, View.canon_cons_unit_lit', View.ld_unit_lit', readCov_whole]
  unfold acV LAC
  refine canon_drop (S := S8x1024x512) [_, _, _, _, _, _, _, _] [_] ?_
  intro y
  exact View.cover_of_tiledL (s := S8x1024x512) _ S1x1024x512.size (by sl_kernel_rfl) y
end Cert.UpKernelIdeal.Weight
end
-- ==== Proof.UpRunB.lean ====
module
public import proofs.«01_k».proof.Proof.UpKit
public import proofs.«01_k».proof.Proof.Pieces
@[expose] public section
set_option maxRecDepth 16384
noncomputable section
namespace Cert.UpKernelIdeal.Weight
open Cert.UpKernelIdeal.Gen
open Idealize.ShloMosaic Idealize.ShloMosaic.TcCoe Idealize.ShloMosaic.Tactic
open Cert.Weight
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ

set_option maxHeartbeats 4000000 in
/-- One run of the body at a grid point of kind B: the blocks read are kept, and what is written is listed piece by piece. -/
noncomputable def runB (c : Dev nD) (i : grid0.Coords) (M : Mems) (hc0 : ¬cond0_0 i) (hc1 : ¬cond0_1 i) (X : Ins F) (xs : Vec F S8x1024x512 .f32) :
    { LS : List (View.Piece (Elt F) S8x1024x512 .f32) //
      ∀ (W : Waits sig Unit) (K : PUnit → sProp 𝕄),
        iprop(owns (c : Thread nD τ) M.a1 fullShare X.x0 ∗ owns (c : Thread nD τ) M.a2 fullShare X.x1 ∗ owns (c : Thread nD τ) M.a5 fullShare xs ∗ (∃ d, owns (c : Thread nD τ) M.a6 fullShare d) ∗ semVal ((c : Thread nD τ), SemLoc.dma 4) 0 ∗ semVal ((c : Thread nD τ), SemLoc.dma 5) 0 ∗ (∃ f, hbPt0 c hbM0_0 f) ∗ (∃ f, hbPt0 c hbM0_1 f) ∗ owes (c : Thread nD τ) 0 W
            ∗ (iprop(owns (c : Thread nD τ) M.a1 fullShare X.x0 ∗ owns (c : Thread nD τ) M.a2 fullShare X.x1 ∗ (∃ f, M.a5.view.loc (c : Thread nD τ) ↦[M.a5.view.set]{fullShare} M.a5.view.writes (Elt F) f LS) ∗ (∃ d, owns (c : Thread nD τ) M.a6 fullShare d) ∗ semVal ((c : Thread nD τ), SemLoc.dma 4) 0 ∗ semVal ((c : Thread nD τ), SemLoc.dma 5) 0 ∗ (∃ f, hbPt0 c hbM0_0 f) ∗ (∃ f, hbPt0 c hbM0_1 f) ∗ (∃ W', owes (c : Thread nD τ) 0 W')) -∗ K ⟨⟩))
          ⊢ wp frame (wpE (defs₀ (F := F)) Variants.none c none) Set.univ (cc0_up_gradient i M.a1 M.h1 M.a2 M.h2 (Memref.whole main_v16_0) (Memref.isWhole_whole _) (Memref.whole main_v16_1) (Memref.isWhole_whole _) M.a5 M.h5 M.a6 M.h6 cc0_scratch2) K } := by
  refine ⟨?_, fun W K => ?run⟩
  case run =>
    simp only [cc0_up_gradient_eq_skeleton]; unfold cc0_up_gradient_skel
    simp only [k0_part1_eq_skeleton, k0_part2_eq_skeleton, k0_part3_eq_skeleton]
    unfold owns
    iintro ⟨⟨%f0, %hf0, H0⟩, ⟨%f1, %hf1, H1⟩, ⟨%fs0, %hfs0, HS0⟩, ⟨%ds1, %fs1, -, HS1⟩, Hq0, Hq1, ⟨%fw0, Hh0⟩, ⟨%fw1, Hh1⟩, HW, Hk⟩
    obtain rfl := M.h1.eq_unread hf0; obtain rfl := M.h2.eq_unread hf1; obtain rfl := M.h5.eq_unread hfs0
    sl_exec (disch := first | sl_exact hc0 | sl_exact hc1)
    sl_step
    iapply Hk
    isplitl [H0]
    · iexists _; isplitr; · ipureintro; exact M.h1.read_unread _
      iexact H0
    isplitl [H1]
    · iexists _; isplitr; · ipureintro; exact M.h2.read_unread _
      iexact H1
    isplitl [HS0]; · iexists _; iexact HS0
    isplitl [HS1]
    · iexists _, _; isplitr; swap; · iexact HS1
      ipureintro; rfl
    isplitl [Hq0]; · iexact Hq0
    isplitl [Hq1]; · iexact Hq1
    isplitl [Hh0]; · iexists _; iexact Hh0
    isplitl [Hh1]; · iexists _; iexact Hh1
    iexists _; iexact HW
variable (c : Dev nD) (i : grid0.Coords) (M : Mems) (hc0 : ¬cond0_0 i) (hc1 : ¬cond0_1 i) (X : Ins F) (xs : Vec F S8x1024x512 .f32)
theorem covB_S : ∀ y, ∃ pc ∈ (runB c i M hc0 hc1 X xs).1, y ∈ pc.1.set := fun y =>
  View.cover_of_tiledL (runB c i M hc0 hc1 X xs).1 S1x1024x512.size (by sl_kernel_rfl) y
theorem valB_S : View.canon (runB c i M hc0 hc1 X xs).1 = acV X xs := by
  unfold runB; dsimp only; sl_unfold_words
  simp only [View.readAt_eq_ld, M.h1.read_unread, M.h2.read_unread, M.h5.read_unread]
  simp (disch := first | decide +kernel | (intro a; fin_cases a <;> rfl)) only [↓View.readCov_skip, View.canon_cons_unit_lit', View.ld_unit_lit', readCov_whole]
  unfold acV LAC
  rfl
end Cert.UpKernelIdeal.Weight
end
-- ==== Proof.UpRunC.lean ====
module
public import proofs.«01_k».proof.Proof.UpKit
public import proofs.«01_k».proof.Proof.Pieces
@[expose] public section
set_option maxRecDepth 16384
noncomputable section
namespace Cert.UpKernelIdeal.Weight
open Cert.UpKernelIdeal.Gen
open Idealize.ShloMosaic Idealize.ShloMosaic.TcCoe Idealize.ShloMosaic.Tactic
open Cert.Weight
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ

set_option maxHeartbeats 4000000 in
/-- One run of the body at a grid point of kind C: the blocks read are kept, and what is written is listed piece by piece. -/
noncomputable def runC (c : Dev nD) (i : grid0.Coords) (M : Mems) (hc0 : ¬cond0_0 i) (hc1 : cond0_1 i) (X : Ins F) (xs : Vec F S8x1024x512 .f32) :
    Σ' (LT : List (View.Piece (Elt F) S8x1024x512 .bf16)), { LS : List (View.Piece (Elt F) S8x1024x512 .f32) //
      ∀ (W : Waits sig Unit) (K : PUnit → sProp 𝕄),
        iprop(owns (c : Thread nD τ) M.a1 fullShare X.x0 ∗ owns (c : Thread nD τ) M.a2 fullShare X.x1 ∗ owns (c : Thread nD τ) M.a5 fullShare xs ∗ (∃ d, owns (c : Thread nD τ) M.a6 fullShare d) ∗ semVal ((c : Thread nD τ), SemLoc.dma 4) 0 ∗ semVal ((c : Thread nD τ), SemLoc.dma 5) 0 ∗ (∃ f, hbPt0 c hbM0_0 f) ∗ (∃ f, hbPt0 c hbM0_1 f) ∗ owes (c : Thread nD τ) 0 W
            ∗ (iprop(owns (c : Thread nD τ) M.a1 fullShare X.x0 ∗ owns (c : Thread nD τ) M.a2 fullShare X.x1 ∗ (∃ f, M.a5.view.loc (c : Thread nD τ) ↦[M.a5.view.set]{fullShare} M.a5.view.writes (Elt F) f LS) ∗ (∃ d, owns (c : Thread nD τ) M.a6 fullShare d) ∗ semVal ((c : Thread nD τ), SemLoc.dma 4) 0 ∗ semVal ((c : Thread nD τ), SemLoc.dma 5) 0 ∗ (∃ f g, hbPt0 c hbM0_0 (View.write (Elt F) hbM0_0.view f (View.read (Elt F) M.a5.view (M.a5.view.writes (Elt F) g LS)) Finset.univ)) ∗ (∃ f g, hbPt0 c hbM0_1 (View.write (Elt F) hbM0_1.view f (View.read (Elt F) M.a6.view (M.a6.view.writes (Elt F) g LT)) Finset.univ)) ∗ (∃ W', owes (c : Thread nD τ) 0 W')) -∗ K ⟨⟩))
          ⊢ wp frame (wpE (defs₀ (F := F)) Variants.none c none) Set.univ (cc0_up_gradient i M.a1 M.h1 M.a2 M.h2 (Memref.whole main_v16_0) (Memref.isWhole_whole _) (Memref.whole main_v16_1) (Memref.isWhole_whole _) M.a5 M.h5 M.a6 M.h6 cc0_scratch2) K } := by
  refine ⟨?_, ?_, fun W K => ?run⟩
  case run =>
    simp only [cc0_up_gradient_eq_skeleton]; unfold cc0_up_gradient_skel
    simp only [k0_part1_eq_skeleton, k0_part2_eq_skeleton, k0_part3_eq_skeleton]
    unfold owns
    iintro ⟨⟨%f0, %hf0, H0⟩, ⟨%f1, %hf1, H1⟩, ⟨%fs0, %hfs0, HS0⟩, ⟨%ds1, %fs1, -, HS1⟩, Hq0, Hq1, ⟨%fw0, Hh0⟩, ⟨%fw1, Hh1⟩, HW, Hk⟩
    obtain rfl := M.h1.eq_unread hf0; obtain rfl := M.h2.eq_unread hf1; obtain rfl := M.h5.eq_unread hfs0
    set_option sl_exec.lendShare "HS0" in sl_exec (disch := first | sl_exact hc0 | sl_exact hc1)
    sl_step
    iapply Hk
    isplitl [H0]
    · iexists _; isplitr; · ipureintro; exact M.h1.read_unread _
      iexact H0
    isplitl [H1]
    · iexists _; isplitr; · ipureintro; exact M.h2.read_unread _
      iexact H1
    isplitl [HS0]; · iexists _; iexact HS0
    isplitl [HS1]
    · iexists _, _; isplitr; swap; · iexact HS1
      ipureintro; rfl
    isplitl [Hq0]; · iexact Hq0
    isplitl [Hq1]; · iexact Hq1
    isplitl [Hh0]; · iexists _, _; iexact Hh0
    isplitl [Hh1]; · unfold runC.sl.dma43; iexists fw1, fs1; iexact Hh1
    iexists _; iexact HW
variable (c : Dev nD) (i : grid0.Coords) (M : Mems) (hc0 : ¬cond0_0 i) (hc1 : cond0_1 i) (X : Ins F) (xs : Vec F S8x1024x512 .f32)
theorem covC_S : ∀ y, ∃ pc ∈ (runC c i M hc0 hc1 X xs).2.1, y ∈ pc.1.set := fun y =>
  View.cover_of_tiledL (runC c i M hc0 hc1 X xs).2.1 S1x1024x512.size (by sl_kernel_rfl) y
theorem valC_S : View.canon (runC c i M hc0 hc1 X xs).2.1 = acV X xs := by
  unfold runC; dsimp only; sl_unfold_words
  simp only [View.readAt_eq_ld, M.h1.read_unread, M.h2.read_unread, M.h5.read_unread]
  simp (disch := first | decide +kernel | (intro a; fin_cases a <;> rfl)) only [↓View.readCov_skip, View.canon_cons_unit_lit', View.ld_unit_lit', readCov_whole]
  unfold acV LAC
  rfl
theorem covC_LT : ∀ y, ∃ pc ∈ (runC c i M hc0 hc1 X xs).1, y ∈ pc.1.set := fun y =>
  View.cover_of_tiledL (runC c i M hc0 hc1 X xs).1 S8x1024x512.size (by sl_kernel_rfl) y
theorem valC_LT : View.canon (runC c i M hc0 hc1 X xs).1 = k0_pay2 (acV X xs) := by
  rw [← valC_S c i M hc0 hc1 X xs]
  unfold runC; dsimp only; sl_unfold_words
  simp only [View.readAt_eq_ld, M.h1.read_unread, M.h2.read_unread, M.h5.read_unread]
  simp (disch := first | decide +kernel | (intro a; fin_cases a <;> rfl)) only [↓View.readCov_skip, View.canon_cons_unit_lit', View.ld_unit_lit', readCov_whole]
end Cert.UpKernelIdeal.Weight
end
-- ==== Proof.UpFrame.lean ====
module
public import proofs.«01_k».proof.Proof.UpRunA
public import proofs.«01_k».proof.Proof.UpRunB
public import proofs.«01_k».proof.Proof.UpRunC
@[expose] public section
set_option maxRecDepth 16384
noncomputable section
namespace Cert.UpKernelIdeal.Weight
open Cert.UpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)

theorem own_of_writes (c : Dev nD) {sp : Space} {S : Shape} {e : EltTy} (a : Memref sig .tc sp S e) (L : List (View.Piece (Elt F) S e)) (v : Vec F S e)
    (hc : ∀ y, ∃ p ∈ L, y ∈ p.1.set) (hv : View.canon L = v) :
    iprop(∃ f, a.view.loc (c : Thread nD τ) ↦[a.view.set]{fullShare} a.view.writes (Elt F) f L) ⊢ (owns (c : Thread nD τ) a fullShare v : sProp 𝕄) := by
  subst hv; unfold owns
  iintro ⟨%f, H⟩
  iexists _; isplitr
  swap; · iexact H
  ipureintro; exact View.read_writes_eq_canon _ _ _ hc

/-- The accumulator after point `n`. -/
def accs (c : Dev nD) : (n : ℕ) → n < cfg0.N → Vec F S8x1024x512 .f32
  | 0, h => acV (ins m c ⟨0, h⟩) k0_pay3
  | n + 1, h => acV (ins m c ⟨n + 1, h⟩) (accs c n (Nat.lt_of_succ_lt h))

theorem accs_zero (c : Dev nD) (t : Fin cfg0.N) (h : t.val = 0) : accs m c t.val t.isLt = acV (ins m c t) k0_pay3 := by
  obtain ⟨n, hn⟩ := t; dsimp only at h; subst h; rfl

theorem accs_pos (c : Dev nD) (t : Fin cfg0.N) (h : t.val ≠ 0) : accs m c t.val t.isLt
    = acV (ins m c t) (accs m c (t.val - 1) (Nat.lt_of_le_of_lt (Nat.sub_le _ _) t.isLt)) := by
  obtain ⟨n, hn⟩ := t
  cases n with
  | zero => exact absurd rfl h
  | succ n => rfl

theorem lt7 : 7 < cfg0.N := by rw [show cfg0.N = 8 from N_0]; decide

/-- What the two results in HBM hold at the end. -/
def g0 (c : Dev nD) : Vec F S8x1024x512 .f32 := accs m c 7 lt7
def g1 (c : Dev nD) : Vec F S8x1024x512 .bf16 := k0_pay2 (g0 m c)

/-- The two results in HBM after `n` points: named contents once the last point is done. -/
def hbs (c : Dev nD) (n : ℕ) : sProp 𝕄 :=
  if n = 8 then iprop(hbPt0 c hbM0_0 (g0 m c) ∗ hbPt0 c hbM0_1 (g1 m c)) else iprop((∃ f, hbPt0 c hbM0_0 f) ∗ (∃ f, hbPt0 c hbM0_1 f))

theorem hbs_last (c : Dev nD) (n : ℕ) (h : n = 8) : hbs m c n = iprop(hbPt0 c hbM0_0 (g0 m c) ∗ hbPt0 c hbM0_1 (g1 m c)) := if_pos h
theorem hbs_other (c : Dev nD) (n : ℕ) (h : n ≠ 8) : hbs m c n = iprop((∃ f, hbPt0 c hbM0_0 f) ∗ (∃ f, hbPt0 c hbM0_1 f)) := if_neg h

theorem routed_eq (c : Dev nD) (W : (b : Ref sig .tc) → Buf (Elt F) ((c : Thread nD τ).loc b)) :
    (Pipeline.routed R0 c W : sProp 𝕄) = iprop(hbPt0 c hbM0_0 (W main_v16_0) ∗ hbPt0 c hbM0_1 (W main_v16_1)) := by
  unfold Pipeline.routed; rw [BI.bigSep_eq_bigSepL_of_eq [main_v16_0, main_v16_1] (by decide) (by decide)]; rfl

theorem Phi_eq (G : (c : Dev nD) → (b : Ref sig .tc) → Buf (Elt F) ((c : Thread nD τ).loc b)) (c : Dev nD) :
    (Pipeline.ΦDRG osem0 spec0 H0 R0 (V m) G c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 4) 0 ∗ semVal ((c : Thread nD τ), SemLoc.dma 5) 0) ∗ iprop(emp) ∗ iprop(hbPt0 c hbM0_0 (G c main_v16_0) ∗ hbPt0 c hbM0_1 (G c main_v16_1))) := by
  rw [Pipeline.ΦDRG_eq, scopedRest0_eq, ownSems00_eq, hbmPts0_eq, routed_eq]; simp only [scM0_0, scM0_1, owns_whole]; try rfl

/-- What holds before point `n`. -/
def PhiS (c : Dev nD) : (n : ℕ) → n ≤ cfg0.N → sProp 𝕄
  | 0, _ => Pipeline.ΦDRG osem0 spec0 H0 R0 (V m) (V m) c
  | n + 1, hn => iprop(iprop(owns (c : Thread nD τ) scM0_0 fullShare (accs m c n hn) ∗ (∃ d, owns (c : Thread nD τ) scM0_1 fullShare d)) ∗ (∃ r, prngReg c r) ∗ iprop(semVal ((c : Thread nD τ), SemLoc.dma 4) 0 ∗ semVal ((c : Thread nD τ), SemLoc.dma 5) 0) ∗ iprop(emp) ∗ hbs m c (n + 1))
theorem PhiS_zero (c : Dev nD) (n : ℕ) (h : n ≤ cfg0.N) (hz : n = 0) : PhiS m c n h = Pipeline.ΦDRG osem0 spec0 H0 R0 (V m) (V m) c := by
  subst hz; rfl
theorem PhiS_succ (c : Dev nD) (n : ℕ) (hn : n < cfg0.N) :
    PhiS m c (n + 1) hn = iprop(iprop(owns (c : Thread nD τ) scM0_0 fullShare (accs m c n hn) ∗ (∃ d, owns (c : Thread nD τ) scM0_1 fullShare d)) ∗ (∃ r, prngReg c r) ∗ iprop(semVal ((c : Thread nD τ), SemLoc.dma 4) 0 ∗ semVal ((c : Thread nD τ), SemLoc.dma 5) 0) ∗ iprop(emp) ∗ hbs m c (n + 1)) := rfl
theorem PhiS_pos (c : Dev nD) (n : ℕ) (h : n ≤ cfg0.N) (hz : n ≠ 0) :
    PhiS m c n h = iprop(iprop(owns (c : Thread nD τ) scM0_0 fullShare (accs m c (n - 1) (by omega)) ∗ (∃ d, owns (c : Thread nD τ) scM0_1 fullShare d)) ∗ (∃ r, prngReg c r) ∗ iprop(semVal ((c : Thread nD τ), SemLoc.dma 4) 0 ∗ semVal ((c : Thread nD τ), SemLoc.dma 5) 0) ∗ iprop(emp) ∗ hbs m c n) := by
  cases n with
  | zero => exact absurd rfl hz
  | succ n => rfl

/-- What the windows' slots hold around each point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨_ + 2, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem before_0 (c : Dev nD) (t : Fin cfg0.N) (d) : (dats m 0 c).before 0 t d = iblk m c 0 t :=
  beforeD_0_of m (dats m 0 c) (A_eq m c 0) (after_0 m c) t d
theorem before_1 (c : Dev nD) (t : Fin cfg0.N) (d) : (dats m 0 c).before 1 t d = iblk m c 1 t :=
  beforeD_1_of m (dats m 0 c) (A_eq m c 1) (after_1 m c) t d

def bodyPre (c : Dev nD) (t : Fin cfg0.N) : sProp 𝕄 :=
  iprop((dats m 0 c).Φ t.castSucc ∗ (dats m 0 c).owesAt () t.castSucc
    ∗ (∃ d, owns (c : Thread nD τ) (mems t).a1 fullShare ((dats m 0 c).before 0 t d))
    ∗ (∃ d, owns (c : Thread nD τ) (mems t).a2 fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (mems t).a1 fullShare ((dats m 0 c).after 0 t)
    ∗ owns (c : Thread nD τ) (mems t).a2 fullShare ((dats m 0 c).after 1 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = PhiS m c (t.val + 1) t.isLt from rfl, PhiS_succ, after_0, after_1]
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  by_cases h0 : t.val % 8 = 0
  · have h1 : ¬t.val % 8 = 7 := by omega
    have hz : t.val = 0 := by omega
    rw [PhiS_castSucc m c t, PhiS_zero m c _ _ hz, Phi_eq, hbs_other m c (t.val + 1) (by omega)]
    rw [accs_zero m c t hz]
    iintro ⟨⟨⟨HS0, HS1⟩, Hg, ⟨Hq0, Hq1⟩, -, ⟨Hh0, Hh1⟩⟩, ⟨%W, -, HW⟩, ⟨%d0, H0⟩, ⟨%d1, H1⟩⟩
    iapply ((runA c (grid0.coords t) (mems t) ((hcond0_0 t).mpr h0) (fun h => h1 ((hcond0_1 t).mp h)) (ins m c t)).2 W _)
    isplitl [H0]; · iexact H0
    isplitl [H1]; · iexact H1
    isplitl [HS0]; · iexact HS0
    isplitl [HS1]; · iexact HS1
    isplitl [Hq0]; · iexact Hq0
    isplitl [Hq1]; · iexact Hq1
    isplitl [Hh0]; · iexists _; iexact Hh0
    isplitl [Hh1]; · iexists _; iexact Hh1
    isplitl [HW]; · iexact HW
    iintro ⟨H0, H1, HS0, HS1, Hq0, Hq1, Hh0, Hh1, ⟨%W', HW'⟩⟩
    isplitl [HS0 HS1 Hg Hq0 Hq1 Hh0 Hh1]
    · isplitl [HS0 HS1]
      · isplitl [HS0]
        · iapply (own_of_writes c _ _ _ (covA_S c (grid0.coords t) (mems t) ((hcond0_0 t).mpr h0) (fun h => h1 ((hcond0_1 t).mp h)) (ins m c t)) (valA_S c (grid0.coords t) (mems t) ((hcond0_0 t).mpr h0) (fun h => h1 ((hcond0_1 t).mp h)) (ins m c t))); iexact HS0
        iexact HS1
      isplitl [Hg]; · iexact Hg
      isplitl [Hq0 Hq1]
      · isplitl [Hq0]; · iexact Hq0
        iexact Hq1
      isplitr; · iempintro
      isplitl [Hh0]
      · iexact Hh0
      iexact Hh1
    isplitl [HW']
    · iexists W'; isplitr; · ipureintro; exact fun _ _ => Or.inl trivial
      iexact HW'
    isplitl [H0]; · iexact H0
    iexact H1
  · have hz : t.val ≠ 0 := by omega
    by_cases h1 : t.val % 8 = 7
    · have e7 : t.val = 7 := by omega
      have e0 : g0 m c = acV (ins m c t) (accs m c (t.val - 1) (Nat.lt_of_le_of_lt (Nat.sub_le _ _) t.isLt)) := by
        rw [← accs_pos m c t hz]; unfold g0; congr 1; exact e7.symm
      rw [PhiS_castSucc m c t, PhiS_pos m c _ _ hz, hbs_other m c t.val (by omega), hbs_last m c (t.val + 1) (by omega)]
      rw [accs_pos m c t hz]
      iintro ⟨⟨⟨HS0, HS1⟩, Hg, ⟨Hq0, Hq1⟩, -, ⟨Hh0, Hh1⟩⟩, ⟨%W, -, HW⟩, ⟨%d0, H0⟩, ⟨%d1, H1⟩⟩
      iapply ((runC c (grid0.coords t) (mems t) (fun h => h0 ((hcond0_0 t).mp h)) ((hcond0_1 t).mpr h1) (ins m c t) _).2.2 W _)
      isplitl [H0]; · iexact H0
      isplitl [H1]; · iexact H1
      isplitl [HS0]; · iexact HS0
      isplitl [HS1]; · iexact HS1
      isplitl [Hq0]; · iexact Hq0
      isplitl [Hq1]; · iexact Hq1
      isplitl [Hh0]; · iexact Hh0
      isplitl [Hh1]; · iexact Hh1
      isplitl [HW]; · iexact HW
      iintro ⟨H0, H1, HS0, HS1, Hq0, Hq1, ⟨%u0, %v0, Hh0⟩, ⟨%u1, %v1, Hh1⟩, ⟨%W', HW'⟩⟩
      isplitl [HS0 HS1 Hg Hq0 Hq1 Hh0 Hh1]
      · isplitl [HS0 HS1]
        · isplitl [HS0]
          · iapply (own_of_writes c _ _ _ (covC_S c (grid0.coords t) (mems t) (fun h => h0 ((hcond0_0 t).mp h)) ((hcond0_1 t).mpr h1) (ins m c t) _) (valC_S c (grid0.coords t) (mems t) (fun h => h0 ((hcond0_0 t).mp h)) ((hcond0_1 t).mpr h1) (ins m c t) _)); iexact HS0
          iexact HS1
        isplitl [Hg]; · iexact Hg
        isplitl [Hq0 Hq1]
        · isplitl [Hq0]; · iexact Hq0
          iexact Hq1
        isplitr; · iempintro
        isplitl [Hh0]
        · rw [e0, ← View.write_whole_univ (Val := Elt F) main_v16_0 u0 (acV (ins m c t) _), ← valC_S c (grid0.coords t) (mems t) (fun h => h0 ((hcond0_0 t).mp h)) ((hcond0_1 t).mpr h1) (ins m c t) _, ← View.read_writes_eq_canon (mems t).a5.view v0 _ (covC_S c (grid0.coords t) (mems t) (fun h => h0 ((hcond0_0 t).mp h)) ((hcond0_1 t).mpr h1) (ins m c t) _)]
          iexact Hh0
        rw [show g1 m c = k0_pay2 (acV (ins m c t) (accs m c (t.val - 1) (Nat.lt_of_le_of_lt (Nat.sub_le _ _) t.isLt))) from congrArg k0_pay2 e0,
          ← View.write_whole_univ (Val := Elt F) main_v16_1 u1 (k0_pay2 (acV (ins m c t) _)), ← valC_LT c (grid0.coords t) (mems t) (fun h => h0 ((hcond0_0 t).mp h)) ((hcond0_1 t).mpr h1) (ins m c t) _, ← View.read_writes_eq_canon (mems t).a6.view v1 _ (covC_LT c (grid0.coords t) (mems t) (fun h => h0 ((hcond0_0 t).mp h)) ((hcond0_1 t).mpr h1) (ins m c t) _)]
        iexact Hh1
      isplitl [HW']
      · iexists W'; isplitr; · ipureintro; exact fun _ _ => Or.inl trivial
        iexact HW'
      isplitl [H0]; · iexact H0
      iexact H1
    · rw [PhiS_castSucc m c t, PhiS_pos m c _ _ hz, hbs_other m c t.val (by omega), hbs_other m c (t.val + 1) (by omega)]
      rw [accs_pos m c t hz]
      iintro ⟨⟨⟨HS0, HS1⟩, Hg, ⟨Hq0, Hq1⟩, -, ⟨Hh0, Hh1⟩⟩, ⟨%W, -, HW⟩, ⟨%d0, H0⟩, ⟨%d1, H1⟩⟩
      iapply ((runB c (grid0.coords t) (mems t) (fun h => h0 ((hcond0_0 t).mp h)) (fun h => h1 ((hcond0_1 t).mp h)) (ins m c t) _).2 W _)
      isplitl [H0]; · iexact H0
      isplitl [H1]; · iexact H1
      isplitl [HS0]; · iexact HS0
      isplitl [HS1]; · iexact HS1
      isplitl [Hq0]; · iexact Hq0
      isplitl [Hq1]; · iexact Hq1
      isplitl [Hh0]; · iexact Hh0
      isplitl [Hh1]; · iexact Hh1
      isplitl [HW]; · iexact HW
      iintro ⟨H0, H1, HS0, HS1, Hq0, Hq1, Hh0, Hh1, ⟨%W', HW'⟩⟩
      isplitl [HS0 HS1 Hg Hq0 Hq1 Hh0 Hh1]
      · isplitl [HS0 HS1]
        · isplitl [HS0]
          · iapply (own_of_writes c _ _ _ (covB_S c (grid0.coords t) (mems t) (fun h => h0 ((hcond0_0 t).mp h)) (fun h => h1 ((hcond0_1 t).mp h)) (ins m c t) _) (valB_S c (grid0.coords t) (mems t) (fun h => h0 ((hcond0_0 t).mp h)) (fun h => h1 ((hcond0_1 t).mp h)) (ins m c t) _)); iexact HS0
          iexact HS1
        isplitl [Hg]; · iexact Hg
        isplitl [Hq0 Hq1]
        · isplitl [Hq0]; · iexact Hq0
          iexact Hq1
        isplitr; · iempintro
        isplitl [Hh0]
        · iexact Hh0
        iexact Hh1
      isplitl [HW']
      · iexists W'; isplitr; · ipureintro; exact fun _ _ => Or.inl trivial
        iexact HW'
      isplitl [H0]; · iexact H0
      iexact H1

theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the two results in HBM end with, as contents of every buffer. -/
def G (c : Dev nD) : (b : Ref sig .tc) → Buf (Elt F) ((c : Thread nD τ).loc b) :=
  Function.update (Function.update (V m c) main_v16_0 (g0 m c)) main_v16_1 (g1 m c)
theorem G_0 (c : Dev nD) : G m c main_v16_0 = g0 m c :=
  (Function.update_of_ne (by decide) _ _).trans (Function.update_self _ _ _)
theorem G_1 (c : Dev nD) : G m c main_v16_1 = g1 m c := Function.update_self _ _ _

theorem hin (c : Dev nD) : Pipeline.ΦDRG osem0 spec0 H0 R0 (V m) (V m) c ⊢ (dats m 0 c).Φ 0 := by
  rw [show (dats m 0 c).Φ 0 = PhiS m c 0 (Nat.zero_le _) from rfl, PhiS_zero m c 0 _ rfl]
  try exact Idealize.SL.BI.Entails.refl _
theorem hout (c : Dev nD) : (dats m 0 c).Φ (Fin.last cfg0.N) ⊢ Pipeline.ΦDRG osem0 spec0 H0 R0 (V m) (G m) c := by
  have hN : cfg0.N = 8 := N_0
  rw [show (dats m 0 c).Φ (Fin.last cfg0.N) = PhiS m c cfg0.N le_rfl from rfl, PhiS_pos m c _ _ (by omega), Phi_eq, G_0, G_1, hbs_last m c _ hN]
  iintro ⟨⟨HS0, HS1⟩, Hg, ⟨Hq0, Hq1⟩, He, ⟨Hh0, Hh1⟩⟩
  isplitl [HS0 HS1]
  · isplitl [HS0]
    · iexists _; iexact HS0
    iexact HS1
  isplitl [Hg]; · iexact Hg
  isplitl [Hq0 Hq1]
  · isplitl [Hq0]; · iexact Hq0
    iexact Hq1
  isplitl [He]; · iexact He
  isplitl [Hh0]; · iexact Hh0
  iexact Hh1

set_option backward.isDefEq.respectTransparency.types false in
theorem run_main : θ_run defs (onTc (τ := τ) (main (F := F))) (s₀ m ρ) (fun r => (Pipeline.FramePostRG cfgs (dats m) 0 R0 (V m) (G m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m) (G := G m)
    (hin := hin m) (hout := hout m)

/-- The arguments in `M` are those of `m`. -/
abbrev Kept (M : (ℓ : Loc nD τ sig) → Buf (Elt F) ℓ) (c : Dev nD) : Prop :=
  M ((c : Thread nD τ).loc main_arg0) = m ((c : Thread nD τ).loc main_arg0) ∧ M ((c : Thread nD τ).loc main_arg1) = m ((c : Thread nD τ).loc main_arg1) ∧ M ((c : Thread nD τ).loc main_arg2) = m ((c : Thread nD τ).loc main_arg2)

theorem kept (r : PUnit × MemSt nD τ sig (Elt F)) (h : Pipeline.FramePostRG cfgs (dats m) 0 R0 (V m) (G m) r ∧ r.2.sem = fun _ => 0) (c : Dev nD) : Kept m r.2.mem c :=
  ⟨((h.1.1 c).2 main_arg0 (Finset.mem_sdiff.mpr ⟨Pipeline.mem_restRefs_of main_arg0 (by decide) (by decide), by decide⟩)).trans (V_main_arg0 m c),
    ((h.1.1 c).2 main_arg1 (Finset.mem_sdiff.mpr ⟨Pipeline.mem_restRefs_of main_arg1 (by decide) (by decide), by decide⟩)).trans (V_main_arg1 m c),
    ((h.1.1 c).2 main_arg2 (Finset.mem_sdiff.mpr ⟨Pipeline.mem_restRefs_of main_arg2 (by decide) (by decide), by decide⟩)).trans (V_main_arg2 m c)⟩

theorem run_quiet : θ_run defs (onTc (τ := τ) (main (F := F))) ⟨m, fun _ => 0, ρ⟩ (fun r => (∀ c : Dev nD, Kept m r.2.mem c) ∧ r.2.sem = fun _ => 0) :=
  (θ_run defs _ _).mono (fun r h => ⟨fun c => kept m r h c, h.2⟩) (run_main m ρ)
end Cert.UpKernelIdeal.Weight
end
-- ==== Proof.UpValue.lean ====
module

public import proofs.«01_k».proof.Proof.WeightSpec
public import proofs.«01_k».proof.Proof.UpFrame

@[expose] public section

/-! The up projection's weight gradient: the host's arrays, what one point adds, and the sum over the grid. -/

set_option maxRecDepth 16384

noncomputable section

namespace Cert.UpKernelIdeal.Weight

open Cert.UpKernelIdeal Cert.UpKernelIdeal.Gen Idealize.ShloMosaic Idealize.ShloMosaic.TcCoe Idealize.SL.Sem Cert.Mlp Cert.Weight

/-! ## What the body stores, read at an index -/

theorem pay4_apply (v : Vec Ideal S1x1024x512 .f32) (l : Vec Ideal S1024x1024 .bf16) (r : Vec Ideal S1024x512 .bf16) (p : Fin 1024) (j : Fin 512) :
    k0_pay4 v l r (ix3 0 p j) = v (ix3 0 p j) + ∑ k : Fin 1024, l (ix2 k p) * r (ix2 k j) := by
  pointwise [k0_pay4]
theorem pay3_apply (i : Fin 8) (p : Fin 1024) (j : Fin 512) : k0_pay3 (F := Ideal) (ix3 i p j) = (0 : EReal) := by
  pointwise [k0_pay3]
theorem pay2_apply (v : Vec Ideal S8x1024x512 .f32) (i : Fin 8) (p : Fin 1024) (j : Fin 512) : k0_pay2 v (ix3 i p j) = v (ix3 i p j) := by
  pointwise [k0_pay2]

/-! ## One point -/

variable (X : Ins Ideal) (a : Vec Ideal S8x1024x512 .f32)

theorem ldCl (g : Fin 8) (k : Fin 1024) (p : Fin 512) : View.ld (Val := Elt Ideal) (e' := .bf16) X.x1 (rCl g) (ix2 k p : S1024x512.Idx) = X.x1 (ix2 k (col g p)) := by
  refine congrArg X.x1 (funext fun b => Fin.ext ?_)
  match b with
  | 0 => show 0 + 1 * k.val = k.val; omega
  | 1 => show g.val * 512 + 1 * p.val = g.val * 512 + p.val; omega
theorem embSl (g : Fin 8) (p : Fin 1024) (j : Fin 512) : (rSl g).emb (ix3 0 p j : S1x1024x512.Idx) = ix3 g p j := by
  refine funext fun b => Fin.ext ?_
  match b with
  | 0 => show g.val + 1 * 0 = g.val; omega
  | 1 => show 0 + 1 * p.val = p.val; omega
  | 2 => show 0 + 1 * j.val = j.val; omega
theorem ldSl (g : Fin 8) (p : Fin 1024) (j : Fin 512) : View.ld (Val := Elt Ideal) (e' := .f32) a (rSl g) (ix3 0 p j : S1x1024x512.Idx) = a (ix3 g p j) :=
  congrArg a (embSl g p j)

/-- What a point leaves over `a`. -/
def oC : Vec Ideal S8x1024x512 .f32 := fun i => a i + ∑ k : Fin 1024, X.x0 (ix2 k (i 1)) * X.x1 (ix2 k (col (i 0) (i 2)))

theorem pieceC (g : Fin 8) (i : (rSl g).shape.Idx) :
    k0_pay4 (F := Ideal) (View.ld a (rSl g)) X.x0 (View.ld X.x1 (rCl g)) i = oC X a ((rSl g).emb i) := by
  obtain ⟨p, j, rfl⟩ : ∃ (p : Fin 1024) (j : Fin 512), i = (ix3 0 p j : S1x1024x512.Idx) :=
    ⟨i 1, i 2, funext fun b => by match b with | 0 => exact Subsingleton.elim (α := Fin 1) _ _ | 1 => rfl | 2 => rfl⟩
  rw [embSl]
  refine (pay4_apply _ _ _ p j).trans ?_
  exact congrArg₂ (· + ·) (ldSl a g p j) (Finset.sum_congr rfl fun k _ => congrArg (_ * ·) (ldCl X g k j))

theorem memC (i : S8x1024x512.Idx) : ∃ q ∈ LAC (F := Ideal) X a, i ∈ q.1.set := by
  refine ⟨_, List.mem_map_of_mem ((by decide : ∀ g : Fin 8, g ∈ ([7, 6, 5, 4, 3, 2, 1, 0] : List (Fin 8))) (i 0)), ?_⟩
  have e : (rSl (i 0)).emb (ix3 0 (i 1 : Fin 1024) (i 2 : Fin 512) : S1x1024x512.Idx) = i :=
    (embSl (i 0) (i 1) (i 2)).trans (funext fun b => match b with | 0 => rfl | 1 => rfl | 2 => rfl)
  exact Eq.subst (motive := fun q => q ∈ (rSl (i 0)).set) e ((rSl (i 0)).idx_mem _)

theorem acV_eq : acV X a = oC X a := by
  funext i
  have h : View.PiecesOf (oC X a) (LAC (F := Ideal) X a) :=
    ⟨pieceC X a 7, pieceC X a 6, pieceC X a 5, pieceC X a 4, pieceC X a 3, pieceC X a 2, pieceC X a 1, pieceC X a 0, trivial⟩
  have := View.canon_append_of_piecesOf (oC X a) [] (LAC (F := Ideal) X a) h i (memC X a i)
  rwa [List.append_nil] at this

/-! ## The call's arrays -/

variable (m : (ℓ : Loc nD τ sig) → Buf (Elt Ideal) ℓ) (ρ : Dev nD → PrngReg) (c : Dev nD)

/-- The three arguments. -/
def argX : A2 8192 1024 := m ((c : Thread nD τ).loc main_arg0)
def argG : A2 1 1024 := m ((c : Thread nD τ).loc main_arg1)
def argD : A2 8192 4096 := m ((c : Thread nD τ).loc main_arg2)

/-! The host's stages. -/

def hSum (x : FVec Ideal S8192x1024 .f32) : FVec Ideal S8192 .f32 :=
  Host.reduceAdd (mulf x x) (constant S_ .f32 0x00000000#32) reducesTo_S8192x1024_S8192_d1 h_S_
def hMean (v : FVec Ideal S8192 .f32) : FVec Ideal S8192x1 .f32 :=
  addf (Host.divf (broadcastInDim S8192x1 ![0] bcast_S8192_S8192x1_0 v) (broadcastInDim S8192x1 ![] bcast_S_S8192x1 (constant S_ .f32 0x44800000#32)))
    (broadcastInDim S8192x1 ![] bcast_S_S8192x1 (constant S_ .f32 0x358637BD#32))
def hNorm (x : FVec Ideal S8192x1024 .f32) (v : FVec Ideal S8192x1 .f32) : FVec Ideal S8192x1024 .f32 :=
  mulf x (broadcastInDim S8192x1024 ![0, 1] bcast_S8192x1_S8192x1024_0_1 (Host.rsqrt v))
def hGain (n : FVec Ideal S8192x1024 .f32) (g : FVec Ideal S1x1024 .f32) : FVec Ideal S8192x1024 .f32 :=
  mulf n (broadcastInDim S8192x1024 ![0, 1] bcast_S1x1024_S8192x1024_0_1 (broadcastInDim S1x1024 ![1] bcast_S1024_S1x1024_1 (shapeCast S1024 g shapeCasts_S1x1024_S1024)))
theorem hSum_apply (x : FVec Ideal S8192x1024 .f32) (t : Fin 8192) : hSum x (ix1 t) = ∑ j : Fin 1024, x (ix2 t j) * x (ix2 t j) := by
  pointwise [hSum]
theorem hMean_apply (v : FVec Ideal S8192 .f32) (t : Fin 8192) : hMean v (ix2 t 0) = Ideal.div (v (ix1 t)) cN + cE := by
  pointwise [hMean]; rfl
theorem hNorm_apply (x : FVec Ideal S8192x1024 .f32) (v : FVec Ideal S8192x1 .f32) (t : Fin 8192) (j : Fin 1024) :
    hNorm x v (ix2 t j) = x (ix2 t j) * Ideal.rsqrt (v (ix2 t 0)) := by
  pointwise [hNorm]
theorem hGain_apply (n : FVec Ideal S8192x1024 .f32) (g : FVec Ideal S1x1024 .f32) (t : Fin 8192) (j : Fin 1024) :
    hGain n g (ix2 t j) = n (ix2 t j) * g (ix2 0 j) := by
  pointwise [hGain]

def hN (x : A2 8192 1024) (g : A2 1 1024) : FVec Ideal S8192x1024 .f32 := hGain (hNorm x (hMean (hSum x))) g
theorem hN_apply (x : A2 8192 1024) (g : A2 1 1024) (t : Fin 8192) (j : Fin 1024) : hN x g (ix2 t j) = nrm x g t j := by
  unfold hN
  rw [hGain_apply, hNorm_apply, hMean_apply, hSum_apply]; rfl

theorem V_v14 : V m c main_v14 = (truncf .bf16 (hN (argX m c) (argG m c)) bitsLt_bf16_f32 : FVec Ideal S8192x1024 .bf16) := by
  unfold_abbrev_sides
  simp only [hostOps0, List.flatten_cons, List.flatten_nil, List.append_nil, List.cons_append, List.nil_append]
  after_results_simp
  rfl
theorem V_v15 : V m c main_v15 = (truncf .bf16 (argD m c : FVec Ideal S8192x4096 .f32) bitsLt_bf16_f32 : FVec Ideal S8192x4096 .bf16) := by
  unfold_abbrev_sides
  simp only [hostOps0, List.flatten_cons, List.flatten_nil, List.append_nil, List.cons_append, List.nil_append]
  after_results_simp
  rfl

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)

theorem blk0 (t : Fin cfg0.N) (h : t.val < 8) (p : Fin 1024) (j : Fin 1024) :
    (iblk m c 0 t : Vec Ideal S1024x1024 .bf16) (ix2 p j) = nrm (argX m c) (argG m c) (rowAt t.val h p) j := by
  have hi := index0 t
  unfold iblk
  rw [View.read_apply]
  show V m c main_v14 _ = _
  have hq : ((cfg0.win 0).blk t).view.emb (ix2 p j : S1024x1024.Idx) = (ix2 (rowAt t.val h p) j : main_v14.ty.shape.Idx) := by
    refine funext fun b => Fin.ext ?_
    match b with
    | ⟨0, _⟩ => show win0_0.index t 0 * 1024 + 1 * p.val = t.val * 1024 + p.val; rw [hi.1]; omega
    | ⟨1, _⟩ => show win0_0.index t 1 * 1024 + 1 * j.val = j.val; rw [hi.2]; omega
  refine (congrArg (V m c main_v14) hq).trans ?_
  rw [V_v14]
  exact hN_apply _ _ _ _
theorem blk1 (t : Fin cfg0.N) (h : t.val < 8) (p : Fin 1024) (f : Fin 4096) :
    (iblk m c 1 t : Vec Ideal S1024x4096 .bf16) (ix2 p f) = argD m c (ix2 (rowAt t.val h p) f) := by
  have hi := index1 t
  unfold iblk
  rw [View.read_apply]
  show V m c main_v15 _ = _
  have hq : ((cfg0.win 1).blk t).view.emb (ix2 p f : S1024x4096.Idx) = (ix2 (rowAt t.val h p) f : main_v15.ty.shape.Idx) := by
    refine funext fun b => Fin.ext ?_
    match b with
    | ⟨0, _⟩ => show win0_1.index t 0 * 1024 + 1 * p.val = t.val * 1024 + p.val; rw [hi.1]; omega
    | ⟨1, _⟩ => show win0_1.index t 1 * 4096 + 1 * f.val = f.val; rw [hi.2]; omega
  refine (congrArg (V m c main_v15) hq).trans ?_
  rw [V_v15]; rfl

/-! ## The sum over the grid -/

/-- What row `t` adds to an entry. -/
def term (i : Fin 8) (p : Fin 1024) (j : Fin 512) (t : Fin 8192) : EReal := nrm (argX m c) (argG m c) t p * argD m c (ix2 t (col i j))

theorem ac_step (t : Fin cfg0.N) (a : Vec Ideal S8x1024x512 .f32) (i : Fin 8) (p : Fin 1024) (j : Fin 512) :
    acV (ins m c t) a (ix3 i p j) = a (ix3 i p j) + part (term m c i p j) t.val := by
  have ht : t.val < 8 := t.isLt.trans_eq N_0
  rw [acV_eq]
  unfold part
  rw [dif_pos ht]
  refine congrArg (a (ix3 i p j) + ·) (Finset.sum_congr rfl fun k _ => ?_)
  exact congrArg₂ (· * ·) (blk0 m c t ht k p) (blk1 m c t ht k (col i j))

theorem accs_eq (n : ℕ) : ∀ (h : n < cfg0.N) (i : Fin 8) (p : Fin 1024) (j : Fin 512),
    accs m c n h (ix3 i p j) = ∑ t ∈ Finset.range (n + 1), part (term m c i p j) t := by
  induction n with
  | zero =>
    intro h i p j
    rw [Finset.sum_range_one, accs, ac_step, pay3_apply, zero_add]
  | succ n ih =>
    intro h i p j
    rw [Finset.sum_range_succ, ← ih (Nat.lt_of_succ_lt h) i p j, accs, ac_step]

theorem g0_eq : g0 m c = resU (argX m c) (argG m c) (argD m c) := by
  funext i
  have hi : i = (ix3 (i 0) (i 1) (i 2) : S8x1024x512.Idx) := funext fun b => match b with | 0 => rfl | 1 => rfl | 2 => rfl
  rw [hi]
  exact (accs_eq m c 7 lt7 (i 0) (i 1) (i 2)).trans (sum_part (term m c (i 0) (i 1) (i 2)))
theorem g1_eq : g1 m c = resU (argX m c) (argG m c) (argD m c) := by
  unfold g1; rw [g0_eq]
  funext i
  have hi : i = (ix3 (i 0) (i 1) (i 2) : S8x1024x512.Idx) := funext fun b => match b with | 0 => rfl | 1 => rfl | 2 => rfl
  rw [hi]
  exact pay2_apply _ _ _ _

/-- The run with the two results named and the arguments unchanged. -/
theorem run : θ_run defs (onTc (τ := τ) (main (F := Ideal))) ⟨m, fun _ => 0, ρ⟩ fun r => ∀ c : Dev nD,
      r.2.mem ((c : Thread nD τ).loc main_v16_0) = resU (argX m c) (argG m c) (argD m c)
      ∧ r.2.mem ((c : Thread nD τ).loc main_v16_1) = resU (argX m c) (argG m c) (argD m c)
      ∧ Kept m r.2.mem c :=
  (θ_run defs _ _).mono (fun r h c => ⟨(h.1.2 c main_v16_0 (by decide)).trans ((G_0 m c).trans (g0_eq m c)),
    (h.1.2 c main_v16_1 (by decide)).trans ((G_1 m c).trans (g1_eq m c)), kept m r h c⟩) (run_main m ρ)

end Cert.UpKernelIdeal.Weight

end
-- ==== Proof.UpSame.lean ====
module

public import proofs.«01_k».proof.Proof.UpFrame
public import proofs.«01_k».proof.Proof.Gen.UpKernel

@[expose] public section

/-! The printed program and the idealized one have one text: the same kernel body at each label and
the same host program. So the run of the one is the run of the other. -/

noncomputable section

namespace Cert.UpSame

open Idealize.ShloMosaic Idealize.SL.Sem

variable {F : FTy → Type} [FloatOps F]

set_option maxHeartbeats 4000000 in
/-- Each label runs the same body. -/
theorem bodies : (Cert.UpKernel.defs₀ : Defs Cert.UpKernel.nD Cert.UpKernel.τ Cert.UpKernel.sig (Elt F) Cert.UpKernel.Λ₀)
    = Cert.UpKernelIdeal.defs₀ (F := F) := by
  funext k ℓ a
  match k with
  | .tc =>
    match ℓ, a with
    | 0, (t, s) => rfl
    | ⟨_ + 1, h⟩, _ => exact absurd h (Nat.not_lt.2 (Nat.le_add_left _ _))
  | .scScalar _ => rfl
  | .scVector _ _ => rfl

/-- The tables with the pipelines are the same. -/
theorem tables : Cert.UpKernel.defs (F := F) = Cert.UpKernelIdeal.defs (F := F) :=
  congrArg (fun d => Pipeline.defs (Cert.UpKernelIdeal.pcfgs (F := F)) d) bodies

set_option maxHeartbeats 4000000 in
/-- The host programs are the same. -/
theorem hosts : Cert.UpKernel.main (F := F) = Cert.UpKernelIdeal.main (F := F) := by
  unfold Cert.UpKernel.main Cert.UpKernelIdeal.main
  rfl

open Cert.UpKernelIdeal in
set_option maxHeartbeats 4000000 in
/-- A run of equal programs from equal tables is the same run. -/
theorem run_quiet (m : (ℓ : Loc nD τ sig) → Buf (Elt F) ℓ) (ρ : Dev nD → PrngReg)
    (D : Defs nD τ sig (Elt F) (Pipeline.Sig Λ₀ (Fin 1) fun p => (pcfgs (F := F) p).Adm)) (P : Dev nD → Prog (TpuEff nD τ sig (Elt F) (Pipeline.Sig Λ₀ (Fin 1) fun p => (pcfgs (F := F) p).Adm) .tc) PUnit)
    (hD : D = defs (F := F)) (hP : P = main (F := F)) :
    θ_run D (onTc (τ := τ) P) ⟨m, fun _ => 0, ρ⟩ (fun r => (∀ c : Dev nD, Weight.Kept m r.2.mem c) ∧ r.2.sem = fun _ => 0) := by
  subst hD; subst hP
  exact Weight.run_quiet m ρ

end Cert.UpSame
-- ==== Proof.UpReference.lean ====
module

public import proofs.«01_k».proof.Proof.WeightSpec
public import proofs.«01_k».proof.Proof.Gen.UpReferenceIdeal.Run
public import proofs.«01_k».proof.Proof.Gen.UpReferenceIdeal.Read

@[expose] public section

/-! The reference's gradient of the up projection's weight, read at an index. -/

set_option maxRecDepth 16384

noncomputable section

namespace Cert.UpReferenceIdeal.Ref

open Cert.UpReferenceIdeal Cert.UpReferenceIdeal.Read Idealize.ShloMosaic Idealize.ShloMosaic.TcCoe Idealize.ShloMosaic.StableHlo Idealize.SL.Sem Cert.Mlp Cert.Weight

theorem z0 : FloatOps.ofBits (F := Ideal) .f32 0x00000000#32 = (0 : EReal) := by
  show Ideal.ofBits .f32 0x00000000#32 = 0
  simp [Ideal.ofBits, Ideal.ieee]

theorem i1 (i : S1024.Idx) : idx_main_v1 i = ix2 0 (i 0) := by
  refine funext fun a => Fin.ext ?_
  match a with
  | ⟨0, _⟩ => rfl
  | ⟨1, _⟩ => show _ = (i 0).val; have h0 : (i 0).val < 1024 := (i 0).isLt; simp; exact h0

variable (x : A2 8192 1024) (g : A2 1 1024) (d : A2 8192 4096)

theorem v3_eq (i : S8192.Idx) : val_main_v3 (F := Ideal) x i = ∑ j : Fin 1024, x (ix2 (i 0) j) * x (ix2 (i 0) j) := by
  rw [val_main_v3_apply, val_main_cst_0_apply, z0, zero_add]
  refine Finset.sum_congr rfl fun k _ => ?_
  rw [val_main_v2_apply]
  exact congrArg (fun q => x q * x q) (funext fun b => match b with | 0 => rfl | 1 => rfl)
theorem v4_eq (i : S8192x1.Idx) : val_main_v4 (F := Ideal) x i = ∑ j : Fin 1024, x (ix2 (i 0) j) * x (ix2 (i 0) j) := by
  rw [val_main_v4_apply, v3_eq]; rfl
theorem v9_eq (i : S8192x1.Idx) : val_main_v9 (F := Ideal) x i = rms (fun j => x (ix2 (i 0) j)) := by
  rw [val_main_v9_apply, val_main_v8_apply, val_main_v6_apply, v4_eq, val_main_v5_apply, val_main_v7_apply]; rfl
theorem v13_eq (i : S8192x1024.Idx) : val_main_v13 (F := Ideal) g i = g (ix2 0 (i 1)) := by
  rw [val_main_v13_apply, val_main_v12_apply, val_main_v1_apply, i1]; rfl
theorem v14_eq (i : S8192x1024.Idx) : val_main_v14 (F := Ideal) x g i = nrm x g (i 0) (i 1) := by
  have hi : i = (ix2 (i 0) (i 1) : S8192x1024.Idx) := funext fun b => match b with | 0 => rfl | 1 => rfl
  rw [val_main_v14_apply, val_main_v11_apply, val_main_v10_apply, v9_eq, v13_eq]
  exact congrArg (fun q => (x q * rms (fun j => x (ix2 (i 0) j))) * g (ix2 0 (i 1))) hi
theorem v17_eq (i : S4096x1024.Idx) : val_main_v17 (F := Ideal) x g d i = ∑ t : Fin 8192, nrm x g t (i 1) * d (ix2 t (i 0)) := by
  refine (val_main_v17_apply x g d i).trans (Finset.sum_congr rfl fun t _ => ?_)
  refine (mul_comm (G := EReal) _ _).trans (congrArg₂ (· * ·) (v14_eq x g _) (congrArg d ?_))
  exact funext fun b => match b with | 0 => rfl | 1 => rfl
theorem v20_eq (i : S1024x4096.Idx) : val_main_v20 (F := Ideal) x g d i = ∑ t : Fin 8192, nrm x g t (i 0) * d (ix2 t (i 1)) := by
  have h0 : (i 0).val < 1024 := (i 0).isLt
  have h1 : (i 1).val < 4096 := (i 1).isLt
  rw [val_main_v20_apply, val_main_v19_apply, val_main_v18_apply, v17_eq]
  refine Finset.sum_congr rfl fun t _ => congrArg₂ (fun p j => nrm x g t p * d (ix2 t j)) (Fin.ext ?_) (Fin.ext ?_)
  · show ((i 0).val * 4096 + (i 1).val) / 4096 % 1024 = (i 0).val; omega
  · show ((i 0).val * 4096 + (i 1).val) % 4096 = (i 1).val; omega
theorem v22_eq (i : S8x1024x512.Idx) : val_main_v22 (F := Ideal) x g d i = resU x g d i := by
  have h0 : (i 0).val < 8 := (i 0).isLt
  have h1 : (i 1).val < 1024 := (i 1).isLt
  have h2 : (i 2).val < 512 := (i 2).isLt
  rw [val_main_v22_apply, val_main_v21_apply, v20_eq]
  refine Finset.sum_congr rfl fun t _ => congrArg₂ (fun p j => nrm x g t p * d (ix2 t j)) (Fin.ext ?_) (Fin.ext ?_)
  · show (((i 1).val * 8 + (i 0).val) * 512 + (i 2).val) / 4096 = (i 1).val; omega
  · show (((i 1).val * 8 + (i 0).val) * 512 + (i 2).val) % 4096 = (i 0).val * 512 + (i 2).val; omega
theorem v22_res : val_main_v22 (F := Ideal) x g d = resU x g d := funext (v22_eq x g d)
theorem v23_res : val_main_v23 (F := Ideal) x g d = resU x g d := funext fun i => by rw [val_main_v23_apply, v22_eq]; rfl

/-- The arguments in memory. -/
def argX (m : (ℓ : Loc nD τ sig) → Buf (Elt Ideal) ℓ) (c : Dev nD) : A2 8192 1024 := m ((c.tc : Thread nD τ).loc main_arg0)
def argG (m : (ℓ : Loc nD τ sig) → Buf (Elt Ideal) ℓ) (c : Dev nD) : A2 1 1024 := m ((c.tc : Thread nD τ).loc main_arg1)
def argD (m : (ℓ : Loc nD τ sig) → Buf (Elt Ideal) ℓ) (c : Dev nD) : A2 8192 4096 := m ((c.tc : Thread nD τ).loc main_arg2)

/-- The whole program. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = resU (argX m c) (argG m c) (argD m c)
      ∧ r.2.mem ((c.tc : Thread nD τ).loc main_v23) = resU (argX m c) (argG m c) (argD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨
    (h c).1.trans ((val_main_v22_eq _ _ _).trans (v22_res (argX m c) (argG m c) (argD m c))),
    (h c).2.1.trans ((val_main_v23_eq _ _ _).trans (v23_res (argX m c) (argG m c) (argD m c))),
    (h c).2.2⟩) (Cert.UpReferenceIdeal.Value.run m ρ)

end Cert.UpReferenceIdeal.Ref

end
-- ==== Proof.InSpec.lean ====
module

public import proofs.«01_k».proof.Proof.WeightSpec
public import Idealize.ShloMosaic.Lib.Pointwise

@[expose] public section

/-! What the backward pass of the input projection computes: the four cotangents side by side, through the weight and the
    norm to the rows, and against the normed rows to the weight. -/

noncomputable section

namespace Cert.Inproj

open Idealize.ShloMosaic Cert.Mlp Cert.Weight

/-! A block's place in its array. -/

theorem pair {R C : ℕ} (q : (⟨2, ![R, C]⟩ : Shape).Idx) (t : Fin R) (j : Fin C) (h₀ : (q 0).val = t.val) (h₁ : (q 1).val = j.val) : q = ix2 t j :=
  funext fun b => match b with | 0 => Fin.ext h₀ | 1 => Fin.ext h₁
theorem at_row {i n p : ℕ} (h : i = n) : i * 1024 + 1 * p = n * 1024 + p := by rw [h, Nat.one_mul]
theorem at_zero {i r p : ℕ} (h : i = 0) : i * r + 1 * p = p := by rw [h, Nat.zero_mul, Nat.one_mul, Nat.zero_add]

/-- Four arrays side by side. -/
def side {r : ℕ} (q : A2 r 512) (k v : A2 r 128) (u : A2 r 512) (t : Fin r) (e : Fin 1280) : EReal :=
  if h : e.val < 512 then q (ix2 t ⟨e.val, h⟩)
  else if h₁ : e.val - 512 < 128 then k (ix2 t ⟨e.val - 512, h₁⟩)
  else if h₂ : e.val - 512 - 128 < 128 then v (ix2 t ⟨e.val - 512 - 128, h₂⟩)
  else u (ix2 t ⟨e.val - 512 - 128 - 128, by omega⟩)

theorem concat_side {r : ℕ} (q : A2 r 512) (k v : A2 r 128) (u : A2 r 512)
    (h : Shape.Concatenates [(⟨2, ![r, 512]⟩ : Shape), ⟨2, ![r, 128]⟩, ⟨2, ![r, 128]⟩, ⟨2, ![r, 512]⟩] ⟨2, ![r, 1280]⟩ 1) (t : Fin r) (e : Fin 1280) :
    concatenate (α := EReal) ⟨2, ![r, 1280]⟩ 1 [⟨⟨2, ![r, 512]⟩, q⟩, ⟨⟨2, ![r, 128]⟩, k⟩, ⟨⟨2, ![r, 128]⟩, v⟩, ⟨⟨2, ![r, 512]⟩, u⟩] h (ix2 t e)
      = side q k v u t e := by
  refine Eq.trans (concatenate_cons_apply _ _ _ _ _ _ _) (Eq.trans (concatenateAt_cons _ _ _ _ _ _ _ _) ?_)
  refine dite_congr rfl (fun _ => congrArg q ?_) fun _ => (concatenateAt_cons _ _ _ _ _ _ _ _).trans ?_
  · exact funext fun b => match b with | 0 => rfl | 1 => rfl
  refine dite_congr rfl (fun _ => congrArg k ?_) fun _ => (concatenateAt_cons _ _ _ _ _ _ _ _).trans ?_
  · exact funext fun b => match b with | 0 => rfl | 1 => rfl
  refine dite_congr rfl (fun _ => congrArg v ?_) fun _ => (concatenateAt_singleton _ _ _ _ _ _).trans (congrArg u ?_)
  · exact funext fun b => match b with | 0 => rfl | 1 => rfl
  · exact funext fun b => match b with | 0 => rfl | 1 => rfl

/-- The arguments: the four cotangents, the weight, the rows, the rows' own cotangent, the gain. -/
structure Inputs where
  q : A2 8192 512
  k : A2 8192 128
  v : A2 8192 128
  u : A2 8192 512
  w : A3 1 1024 1280
  x : A2 8192 1024
  y : A2 8192 1024
  g : A2 1 1024

variable (A : Inputs)

/-- The cotangent of the normed rows. -/
def dn (t : Fin 8192) (j : Fin 1024) : EReal := ∑ e : Fin 1280, side A.q A.k A.v A.u t e * A.w (ix3 0 j e)

/-- The rows' gradient and the gain's. -/
def resX : A2 8192 1024 := fun i =>
  dxR (A.y (ix2 (i 0) (i 1))) (fun j => A.x (ix2 (i 0) j)) (fun j => dn A (i 0) j * A.g (ix2 0 j)) (i 1)
def resG : A2 1 1024 := fun i => ∑ t : Fin 8192, dn A t (i 1) * (A.x (ix2 t (i 1)) * rms (fun j => A.x (ix2 t j)))

/-- The weight's gradient, transposed. -/
def resW (q : A2 8192 512) (k v : A2 8192 128) (u : A2 8192 512) (x : A2 8192 1024) (g : A2 1 1024) : A2 1280 1024 := fun i =>
  ∑ t : Fin 8192, side q k v u t (i 0) * nrm x g t (i 1)

end Cert.Inproj

end
-- ==== Proof.InValue.lean ====
module

public import proofs.«01_k».proof.Proof.InSpec
public import proofs.«01_k».proof.Proof.Pieces
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InKernelIdeal.Value
public import Idealize.ShloMosaic.Lib.Pipeline.ReadBack
public import Idealize.ShloMosaic.Lib.Pointwise

@[expose] public section

/-! The call that takes the four cotangents through the input projection and its norm: what a point leaves, and the arrays. -/

set_option maxRecDepth 16384

noncomputable section

namespace Cert.InKernelIdeal.Inproj

open Cert.InKernelIdeal Cert.InKernelIdeal.Gen Idealize.ShloMosaic Idealize.ShloMosaic.TcCoe Idealize.SL.Sem Cert.Mlp Cert.Weight Cert.Inproj

section body

variable {F : FTy → Type} [FloatOps F]
variable (c : Dev nD) (i : grid0.Coords) (arg1 : Memref sig .tc .vmem S1024x512 .bf16) (harg1 : arg1.IsWhole) (arg2 : Memref sig .tc .vmem S1024x128 .bf16) (harg2 : arg2.IsWhole) (arg3 : Memref sig .tc .vmem S1024x128 .bf16) (harg3 : arg3.IsWhole) (arg4 : Memref sig .tc .vmem S1024x512 .bf16) (harg4 : arg4.IsWhole) (arg5 : Memref sig .tc .vmem S1280x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S8x128 .f32) (harg9 : arg9.IsWhole) (arg10 : Memref sig .tc .vmem S1024x1024 .f32) (harg10 : arg10.IsWhole) (arg11 : Memref sig .tc .vmem S1x1024 .f32) (harg11 : arg11.IsWhole)
  (x0 : Vec F S1024x512 .bf16) (x1 : Vec F S1024x128 .bf16) (x2 : Vec F S1024x128 .bf16) (x3 : Vec F S1024x512 .bf16) (x4 : Vec F S1280x1024 .bf16) (x5 : Vec F S1024x1024 .f32) (x6 : Vec F S1024x1024 .f32) (x7 : Vec F S1x1024 .f32) (x8 : Vec F S8x128 .f32) (xo10 : Vec F S1x1024 .f32)

/-- What a point leaves in the rows' block, and in the gain's over what stood there. -/
abbrev oX : Vec F S1024x1024 .f32 := k0_pay2 (k0_pay5 x5) (k0_pay7 x0 x1 x2 x3 x4 x7) (k0_pay8 x0 x1 x2 x3 x4 x5 x7) x6
abbrev oG : Vec F S1x1024 .f32 := k0_pay1 (k0_pay4 x0 x1 x2 x3 x4) (k0_pay6 x5) xo10

include harg1 harg2 harg3 harg4 harg5 harg6 harg7 harg8 in
theorem out_A_9 (hc0 : cond0_0 i) :
    out0_A_9 c i arg1 harg1 arg2 harg2 arg3 harg3 arg4 harg4 arg5 harg5 arg6 harg6 arg7 harg7 arg8 harg8 arg9 harg9 arg10 harg10 arg11 harg11 hc0 x0 x1 x2 x3 x4 x5 x6 x7 x8 = oX x0 x1 x2 x3 x4 x5 x6 x7 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 x0 x1 x2 x3 x4 x5 x6 x7 x8)]
  unfold kernelRun0_A; dsimp only; sl_unfold_words
  simp only [View.readAt_eq_ld, harg1.read_unread, harg2.read_unread, harg3.read_unread, harg4.read_unread, harg5.read_unread, harg6.read_unread, harg7.read_unread, harg8.read_unread]
  simp (disch := first | decide +kernel | (intro a; fin_cases a <;> rfl)) only [↓View.readCov_skip, ↓View.readCov_fill, View.canon_cons_unit_lit', View.ld_unit_lit', readCov_whole]

include harg1 harg2 harg3 harg4 harg5 harg6 harg7 harg8 in
theorem out_A_10 (hc0 : cond0_0 i) :
    out0_A_10 c i arg1 harg1 arg2 harg2 arg3 harg3 arg4 harg4 arg5 harg5 arg6 harg6 arg7 harg7 arg8 harg8 arg9 harg9 arg10 harg10 arg11 harg11 hc0 x0 x1 x2 x3 x4 x5 x6 x7 x8 = oG x0 x1 x2 x3 x4 x5 k0_pay3 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 hc0 x0 x1 x2 x3 x4 x5 x6 x7 x8)]
  unfold kernelRun0_A; dsimp only; sl_unfold_words
  simp only [View.readAt_eq_ld, harg1.read_unread, harg2.read_unread, harg3.read_unread, harg4.read_unread, harg5.read_unread, harg6.read_unread, harg7.read_unread, harg8.read_unread]
  simp (disch := first | decide +kernel | (intro a; fin_cases a <;> rfl)) only [↓View.readCov_skip, ↓View.readCov_fill, View.canon_cons_unit_lit', View.ld_unit_lit', readCov_whole]

include harg1 harg2 harg3 harg4 harg5 harg6 harg7 harg8 in
theorem out_B_9 (hc0 : ¬cond0_0 i) :
    out0_B_9 c i arg1 harg1 arg2 harg2 arg3 harg3 arg4 harg4 arg5 harg5 arg6 harg6 arg7 harg7 arg8 harg8 arg9 harg9 arg10 harg10 arg11 harg11 hc0 x0 x1 x2 x3 x4 x5 x6 x7 x8 xo10 = oX x0 x1 x2 x3 x4 x5 x6 x7 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 x0 x1 x2 x3 x4 x5 x6 x7 x8 xo10)]
  unfold kernelRun0_B; dsimp only; sl_unfold_words
  simp only [View.readAt_eq_ld, harg1.read_unread, harg2.read_unread, harg3.read_unread, harg4.read_unread, harg5.read_unread, harg6.read_unread, harg7.read_unread, harg8.read_unread]
  simp (disch := first | decide +kernel | (intro a; fin_cases a <;> rfl)) only [↓View.readCov_skip, ↓View.readCov_fill, View.canon_cons_unit_lit', View.ld_unit_lit', readCov_whole]

include harg1 harg2 harg3 harg4 harg5 harg6 harg7 harg8 harg11 in
theorem out_B_10 (hc0 : ¬cond0_0 i) :
    out0_B_10 c i arg1 harg1 arg2 harg2 arg3 harg3 arg4 harg4 arg5 harg5 arg6 harg6 arg7 harg7 arg8 harg8 arg9 harg9 arg10 harg10 arg11 harg11 hc0 x0 x1 x2 x3 x4 x5 x6 x7 x8 xo10 = oG x0 x1 x2 x3 x4 x5 xo10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 hc0 x0 x1 x2 x3 x4 x5 x6 x7 x8 xo10)]
  unfold kernelRun0_B; dsimp only; sl_unfold_words
  simp only [View.readAt_eq_ld, harg1.read_unread, harg2.read_unread, harg3.read_unread, harg4.read_unread, harg5.read_unread, harg6.read_unread, harg7.read_unread, harg8.read_unread, harg11.read_unread]
  simp (disch := first | decide +kernel | (intro a; fin_cases a <;> rfl)) only [↓View.readCov_skip, ↓View.readCov_fill, View.canon_cons_unit_lit', View.ld_unit_lit', readCov_whole]

end body

/-! ## The stored values at an index -/

theorem sc512 (q : Vec Ideal S1024x512 .bf16) : shapeCast S1024x512 q shapeCasts_S1024x512_S1024x512 = q := by
  funext i; idx_vars i; pointwise []
theorem sc128 (q : Vec Ideal S1024x128 .bf16) : shapeCast S1024x128 q shapeCasts_S1024x128_S1024x128 = q := by
  funext i; idx_vars i; pointwise []
/-- The four arrays side by side, as the body joins them. -/
def cat (q : FVec Ideal S1024x512 .bf16) (k v : FVec Ideal S1024x128 .bf16) (u : FVec Ideal S1024x512 .bf16) : FVec Ideal S1024x1280 .bf16 :=
  concatenate S1024x1280 1 [⟨S1024x512, q⟩, ⟨S1024x128, k⟩, ⟨S1024x128, v⟩, ⟨S1024x512, u⟩] concatenates_S1024x512_S1024x128_S1024x128_S1024x512_S1024x1280_d1
theorem cat_apply (q : FVec Ideal S1024x512 .bf16) (k v : FVec Ideal S1024x128 .bf16) (u : FVec Ideal S1024x512 .bf16) (p : Fin 1024) (e : Fin 1280) :
    cat q k v u (ix2 p e) = side q k v u p e :=
  concat_side q k v u _ p e

def mm (l : FVec Ideal S1024x1280 .bf16) (w : FVec Ideal S1280x1024 .bf16) : FVec Ideal S1024x1024 .f32 :=
  matmul dot_S1024x1280_S1280x1024_S1024x1024_1_0_0_1_n_n none l (shapeCast S1280x1024 w shapeCasts_S1280x1024_S1280x1024) (constant S1024x1024 .f32 0x00000000#32)
theorem mm_apply (l : FVec Ideal S1024x1280 .bf16) (w : FVec Ideal S1280x1024 .bf16) (p j : Fin 1024) :
    mm l w (ix2 p j) = ∑ e : Fin 1280, l (ix2 p e) * w (ix2 e j) := by
  pointwise [mm]

section values

variable (q : Vec Ideal S1024x512 .bf16) (k v : Vec Ideal S1024x128 .bf16) (u : Vec Ideal S1024x512 .bf16) (w : Vec Ideal S1280x1024 .bf16)
  (x : Vec Ideal S1024x1024 .f32) (y : Vec Ideal S1024x1024 .f32) (g : Vec Ideal S1x1024 .f32)

theorem pay4_apply (p j : Fin 1024) : k0_pay4 (F := Ideal) q k v u w (ix2 p j) = ∑ e : Fin 1280, side q k v u p e * w (ix2 e j) := by
  have h : k0_pay4 (F := Ideal) q k v u w = mm (cat (shapeCast S1024x512 q shapeCasts_S1024x512_S1024x512) (shapeCast S1024x128 k shapeCasts_S1024x128_S1024x128)
    (shapeCast S1024x128 v shapeCasts_S1024x128_S1024x128) (shapeCast S1024x512 u shapeCasts_S1024x512_S1024x512)) w := rfl
  rw [h, mm_apply, sc512, sc128, sc128, sc512]
  exact Finset.sum_congr rfl fun e _ => congrArg (· * _) (cat_apply q k v u p e)
theorem pay5_apply (p : Fin 1024) : k0_pay5 (F := Ideal) x (ix2 p 0) = rms (fun j => x (ix2 p j)) := by
  pointwise [k0_pay5, rms, msq, cN, cE]
theorem pay6_apply (p j : Fin 1024) : k0_pay6 (F := Ideal) x (ix2 p j) = x (ix2 p j) * rms (fun j => x (ix2 p j)) := by
  rw [← pay5_apply]
  unfold k0_pay6
  generalize k0_pay5 (F := Ideal) x = r
  pointwise []
theorem pay7_apply (p j : Fin 1024) : k0_pay7 (F := Ideal) q k v u w g (ix2 p j) = k0_pay4 (F := Ideal) q k v u w (ix2 p j) * g (ix2 0 j) := by
  unfold k0_pay7
  generalize k0_pay4 (F := Ideal) q k v u w = r
  pointwise []
theorem pay8_apply (p j : Fin 1024) : k0_pay8 (F := Ideal) q k v u w x g (ix2 p j)
    = k0_pay6 (F := Ideal) x (ix2 p j) * Ideal.div (∑ e : Fin 1024, k0_pay7 (F := Ideal) q k v u w g (ix2 p e) * k0_pay6 (F := Ideal) x (ix2 p e)) cN := by
  unfold k0_pay8
  generalize k0_pay7 (F := Ideal) q k v u w g = r
  generalize k0_pay6 (F := Ideal) x = s
  pointwise [cN]
theorem pay2_apply (r : FVec Ideal S1024x1 .f32) (d s : FVec Ideal S1024x1024 .f32) (p j : Fin 1024) :
    k0_pay2 (F := Ideal) r d s y (ix2 p j) = y (ix2 p j) + r (ix2 p 0) * (d (ix2 p j) - s (ix2 p j)) := by
  pointwise [k0_pay2]
theorem pay1_apply (a b : FVec Ideal S1024x1024 .f32) (o : Vec Ideal S1x1024 .f32) (j : Fin 1024) :
    k0_pay1 (F := Ideal) a b o (ix2 0 j) = o (ix2 0 j) + ∑ p : Fin 1024, a (ix2 p j) * b (ix2 p j) := by
  pointwise [k0_pay1]
theorem pay3_apply (j : Fin 1024) : k0_pay3 (F := Ideal) (ix2 0 j) = (0 : EReal) := by
  pointwise [k0_pay3]

theorem oX_apply (p j : Fin 1024) : oX (F := Ideal) q k v u w x y g (ix2 p j)
    = dxR (y (ix2 p j)) (fun e => x (ix2 p e)) (fun e => (∑ f : Fin 1280, side q k v u p f * w (ix2 f e)) * g (ix2 0 e)) j := by
  unfold oX
  rw [pay2_apply, pay5_apply, pay7_apply, pay8_apply, pay6_apply]
  simp only [pay7_apply, pay6_apply, pay4_apply]
  rfl
theorem oG_apply (o : Vec Ideal S1x1024 .f32) (j : Fin 1024) : oG (F := Ideal) q k v u w x o (ix2 0 j)
    = o (ix2 0 j) + ∑ p : Fin 1024, (∑ f : Fin 1280, side q k v u p f * w (ix2 f j)) * (x (ix2 p j) * rms (fun e => x (ix2 p e))) := by
  unfold oG
  rw [pay1_apply]
  simp only [pay6_apply, pay4_apply]

end values

/-! ## The call's arrays -/

variable (m : (ℓ : Loc nD τ sig) → Buf (Elt Ideal) ℓ) (ρ : Dev nD → PrngReg) (c : Dev nD)

/-- The arguments in memory. -/
def args : Inputs :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6), m ((c : Thread nD τ).loc main_arg7)⟩

/-- The weight, transposed. -/
def hW (w : A3 1 1024 1280) : FVec Ideal S1280x1024 .f32 :=
  transpose S1280x1024 [1, 0] (shapeCast S1024x1280 (w : FVec Ideal S1x1024x1280 .f32) shapeCasts_S1x1024x1280_S1024x1280) transposes_S1024x1280_S1280x1024_1_0
theorem hW_apply (w : A3 1 1024 1280) (e : Fin 1280) (j : Fin 1024) : hW w (ix2 e j) = w (ix3 0 j e) := by
  pointwise [hW]

/-- What the host leaves in the call's operands. -/
theorem V_host : V m c main_v0 = (truncf .bf16 ((args m c).q : FVec Ideal S8192x512 .f32) bitsLt_bf16_f32 : FVec Ideal S8192x512 .bf16) ∧
    V m c main_v1 = (truncf .bf16 ((args m c).k : FVec Ideal S8192x128 .f32) bitsLt_bf16_f32 : FVec Ideal S8192x128 .bf16) ∧
    V m c main_v2 = (truncf .bf16 ((args m c).v : FVec Ideal S8192x128 .f32) bitsLt_bf16_f32 : FVec Ideal S8192x128 .bf16) ∧
    V m c main_v3 = (truncf .bf16 ((args m c).u : FVec Ideal S8192x512 .f32) bitsLt_bf16_f32 : FVec Ideal S8192x512 .bf16) ∧
    V m c main_v6 = (truncf .bf16 (hW (args m c).w) bitsLt_bf16_f32 : FVec Ideal S1280x1024 .bf16) := by
  refine ⟨?_, ?_, ?_, ?_, ?_⟩
  all_goals
    unfold_abbrev_sides
    simp only [hostOps0, List.flatten_cons, List.flatten_nil, List.append_nil, List.cons_append, List.nil_append]
    after_results_simp
    rfl

/-- Which block a window is at: the point's own rows, or the whole array. -/
theorem index : ∀ t : Fin cfg0.N, (win0_0.index t 0 = t.val ∧ win0_0.index t 1 = 0) ∧
      (win0_1.index t 0 = t.val ∧ win0_1.index t 1 = 0) ∧
      (win0_2.index t 0 = t.val ∧ win0_2.index t 1 = 0) ∧
      (win0_3.index t 0 = t.val ∧ win0_3.index t 1 = 0) ∧
      (win0_5.index t 0 = t.val ∧ win0_5.index t 1 = 0) ∧
      (win0_6.index t 0 = t.val ∧ win0_6.index t 1 = 0) ∧
      (win0_9.index t 0 = t.val ∧ win0_9.index t 1 = 0) ∧
      (win0_4.index t 0 = 0 ∧ win0_4.index t 1 = 0) ∧
      (win0_7.index t 0 = 0 ∧ win0_7.index t 1 = 0) :=
  (by decide +kernel : ∀ t : Fin grid0.N, (win0_0.index t 0 = t.val ∧ win0_0.index t 1 = 0) ∧
      (win0_1.index t 0 = t.val ∧ win0_1.index t 1 = 0) ∧
      (win0_2.index t 0 = t.val ∧ win0_2.index t 1 = 0) ∧
      (win0_3.index t 0 = t.val ∧ win0_3.index t 1 = 0) ∧
      (win0_5.index t 0 = t.val ∧ win0_5.index t 1 = 0) ∧
      (win0_6.index t 0 = t.val ∧ win0_6.index t 1 = 0) ∧
      (win0_9.index t 0 = t.val ∧ win0_9.index t 1 = 0) ∧
      (win0_4.index t 0 = 0 ∧ win0_4.index t 1 = 0) ∧
      (win0_7.index t 0 = 0 ∧ win0_7.index t 1 = 0))

theorem blk0 (t : Fin cfg0.N) (h : t.val < 8) (p : Fin 1024) (j : Fin 512) :
    (iblk m c 0 t : Vec Ideal S1024x512 .bf16) (ix2 p j) = (args m c).q (ix2 (rowAt t.val h p) j) := by
  have hi := (index t).1
  refine Eq.trans (congrArg (V m c main_v0) (pair _ (rowAt t.val h p) j (at_row hi.1) (at_zero hi.2))) ?_
  rw [(V_host m c).1]
  rfl
theorem blk1 (t : Fin cfg0.N) (h : t.val < 8) (p : Fin 1024) (j : Fin 128) :
    (iblk m c 1 t : Vec Ideal S1024x128 .bf16) (ix2 p j) = (args m c).k (ix2 (rowAt t.val h p) j) := by
  have hi := (index t).2.1
  refine Eq.trans (congrArg (V m c main_v1) (pair _ (rowAt t.val h p) j (at_row hi.1) (at_zero hi.2))) ?_
  rw [(V_host m c).2.1]
  rfl
theorem blk2 (t : Fin cfg0.N) (h : t.val < 8) (p : Fin 1024) (j : Fin 128) :
    (iblk m c 2 t : Vec Ideal S1024x128 .bf16) (ix2 p j) = (args m c).v (ix2 (rowAt t.val h p) j) := by
  have hi := (index t).2.2.1
  refine Eq.trans (congrArg (V m c main_v2) (pair _ (rowAt t.val h p) j (at_row hi.1) (at_zero hi.2))) ?_
  rw [(V_host m c).2.2.1]
  rfl
theorem blk3 (t : Fin cfg0.N) (h : t.val < 8) (p : Fin 1024) (j : Fin 512) :
    (iblk m c 3 t : Vec Ideal S1024x512 .bf16) (ix2 p j) = (args m c).u (ix2 (rowAt t.val h p) j) := by
  have hi := (index t).2.2.2.1
  refine Eq.trans (congrArg (V m c main_v3) (pair _ (rowAt t.val h p) j (at_row hi.1) (at_zero hi.2))) ?_
  rw [(V_host m c).2.2.2.1]
  rfl
theorem blk4 (t : Fin cfg0.N) (p : Fin 1280) (j : Fin 1024) :
    (iblk m c 4 t : Vec Ideal S1280x1024 .bf16) (ix2 p j) = (args m c).w (ix3 0 j p) := by
  have hi := (index t).2.2.2.2.2.2.2.1
  refine Eq.trans (congrArg (V m c main_v6) (pair _ p j (at_zero hi.1) (at_zero hi.2))) ?_
  rw [(V_host m c).2.2.2.2]
  exact hW_apply _ _ _
theorem blk5 (t : Fin cfg0.N) (h : t.val < 8) (p : Fin 1024) (j : Fin 1024) :
    (iblk m c 5 t : Vec Ideal S1024x1024 .f32) (ix2 p j) = (args m c).x (ix2 (rowAt t.val h p) j) := by
  have hi := (index t).2.2.2.2.1
  refine Eq.trans (congrArg (V m c main_arg5) (pair _ (rowAt t.val h p) j (at_row hi.1) (at_zero hi.2))) ?_
  rw [V_main_arg5]
  rfl
theorem blk6 (t : Fin cfg0.N) (h : t.val < 8) (p : Fin 1024) (j : Fin 1024) :
    (iblk m c 6 t : Vec Ideal S1024x1024 .f32) (ix2 p j) = (args m c).y (ix2 (rowAt t.val h p) j) := by
  have hi := (index t).2.2.2.2.2.1
  refine Eq.trans (congrArg (V m c main_arg6) (pair _ (rowAt t.val h p) j (at_row hi.1) (at_zero hi.2))) ?_
  rw [V_main_arg6]
  rfl
theorem blk7 (t : Fin cfg0.N) (p : Fin 1) (j : Fin 1024) :
    (iblk m c 7 t : Vec Ideal S1x1024 .f32) (ix2 p j) = (args m c).g (ix2 p j) := by
  have hi := (index t).2.2.2.2.2.2.2.2
  refine Eq.trans (congrArg (V m c main_arg7) (pair _ p j (at_zero hi.1) (at_zero hi.2))) ?_
  rw [V_main_arg7]
  rfl

theorem side_blk (t : Fin cfg0.N) (h : t.val < 8) (p : Fin 1024) (e : Fin 1280) :
    side (iblk m c 0 t : Vec Ideal S1024x512 .bf16) (iblk m c 1 t : Vec Ideal S1024x128 .bf16) (iblk m c 2 t : Vec Ideal S1024x128 .bf16)
      (iblk m c 3 t : Vec Ideal S1024x512 .bf16) p e = side (args m c).q (args m c).k (args m c).v (args m c).u (rowAt t.val h p) e := by
  unfold side
  exact dite_congr rfl (fun _ => blk0 m c t h p _) fun _ => dite_congr rfl (fun _ => blk1 m c t h p _) fun _ =>
    dite_congr rfl (fun _ => blk2 m c t h p _) fun _ => blk3 m c t h p _
theorem dn_blk (t : Fin cfg0.N) (h : t.val < 8) (p j : Fin 1024) :
    ∑ f : Fin 1280, side (iblk m c 0 t : Vec Ideal S1024x512 .bf16) (iblk m c 1 t : Vec Ideal S1024x128 .bf16) (iblk m c 2 t : Vec Ideal S1024x128 .bf16)
      (iblk m c 3 t : Vec Ideal S1024x512 .bf16) p f * (iblk m c 4 t : Vec Ideal S1280x1024 .bf16) (ix2 f j) = dn (args m c) (rowAt t.val h p) j :=
  Finset.sum_congr rfl fun f _ => congrArg₂ (fun a b : EReal => a * b) (side_blk m c t h p f) (blk4 m c t f j)

/-- What a row adds to the gain's gradient. -/
def term (j : Fin 1024) (t : Fin 8192) : EReal := dn (args m c) t j * ((args m c).x (ix2 t j) * rms (fun e => (args m c).x (ix2 t e)))

/-- The gain's block after point `n`. -/
def accG : (n : ℕ) → n < cfg0.N → Vec Ideal S1x1024 .f32
  | 0, h => oG (F := Ideal) (iblk m c 0 ⟨0, h⟩) (iblk m c 1 ⟨0, h⟩) (iblk m c 2 ⟨0, h⟩) (iblk m c 3 ⟨0, h⟩) (iblk m c 4 ⟨0, h⟩) (iblk m c 5 ⟨0, h⟩) (k0_pay3 (F := Ideal))
  | n + 1, h => oG (F := Ideal) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (accG n (Nat.lt_of_succ_lt h))

theorem outs_eq : ∀ (n : ℕ) (h : n < cfg0.N), outsAt0 m c n h
    = (oX (F := Ideal) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 7 ⟨n, h⟩), accG m c n h)
  | 0, h => by
    have := outsAt0_A m c ⟨0, h⟩ rfl
    rw [out_A_9, out_A_10] at this
    exact this
  | n + 1, h => by
    have h8 : n + 1 < 8 := h.trans_eq N_0
    have := outsAt0_B m c ⟨n + 1, h⟩ (by show ¬(n + 1) % 8 = 0; omega)
    rw [out_B_9, out_B_10] at this
    have hp : outsAt0 m c (n + 1 - 1) (by omega) = _ := outs_eq n (by omega)
    rw [hp] at this
    exact this

theorem oG_step (t : Fin cfg0.N) (a : Vec Ideal S1x1024 .f32) (j : Fin 1024) :
    oG (F := Ideal) (iblk m c 0 t) (iblk m c 1 t) (iblk m c 2 t) (iblk m c 3 t) (iblk m c 4 t) (iblk m c 5 t) a (ix2 0 j) = a (ix2 0 j) + part (term m c j) t.val := by
  have ht : t.val < 8 := t.isLt.trans_eq N_0
  rw [oG_apply]
  unfold part
  rw [dif_pos ht]
  refine congrArg (a (ix2 0 j) + ·) (Finset.sum_congr rfl fun p _ => ?_)
  refine congrArg₂ (fun a b : EReal => a * b) (dn_blk m c t ht p j) (congrArg₂ (· * ·) (blk5 m c t ht p j) (congrArg rms (funext fun e => blk5 m c t ht p e)))

theorem accG_eq (n : ℕ) : ∀ (h : n < cfg0.N) (j : Fin 1024), accG m c n h (ix2 0 j) = ∑ t ∈ Finset.range (n + 1), part (term m c j) t := by
  induction n with
  | zero =>
    intro h j
    rw [Finset.sum_range_one, accG, oG_step, pay3_apply, zero_add]
  | succ n ih =>
    intro h j
    rw [Finset.sum_range_succ, ← ih (Nat.lt_of_succ_lt h) j, accG, oG_step]

theorem lt7 : 7 < cfg0.N := by rw [show cfg0.N = 8 from N_0]; omega

theorem accG_last : accG m c 7 lt7 = resG (args m c) := by
  funext i
  have hi : i = (ix2 0 (i 1) : S1x1024.Idx) := funext fun b => match b with | 0 => Subsingleton.elim (α := Fin 1) _ _ | 1 => rfl
  rw [hi]
  exact (accG_eq m c 7 lt7 (i 1)).trans (sum_part (term m c (i 1)))

/-! ## The final arrays -/

theorem oX_blk (t : Fin cfg0.N) (h : t.val < 8) (p j : Fin 1024) : oX (F := Ideal) (iblk m c 0 t) (iblk m c 1 t) (iblk m c 2 t) (iblk m c 3 t) (iblk m c 4 t) (iblk m c 5 t) (iblk m c 6 t) (iblk m c 7 t) (ix2 p j) = resX (args m c) (ix2 (rowAt t.val h p) j) := by
  rw [oX_apply]
  have e1 := blk6 m c t h p j
  have e2 : (fun e : Fin 1024 => (iblk m c 5 t : Vec Ideal S1024x1024 .f32) (ix2 p e)) = fun e => (args m c).x (ix2 (rowAt t.val h p) e) := funext fun e => blk5 m c t h p e
  have e3 : (fun e : Fin 1024 => (∑ f : Fin 1280, side (iblk m c 0 t : Vec Ideal S1024x512 .bf16) (iblk m c 1 t : Vec Ideal S1024x128 .bf16)
      (iblk m c 2 t : Vec Ideal S1024x128 .bf16) (iblk m c 3 t : Vec Ideal S1024x512 .bf16) p f * (iblk m c 4 t : Vec Ideal S1280x1024 .bf16) (ix2 f e))
        * (iblk m c 7 t : Vec Ideal S1x1024 .f32) (ix2 0 e)) = fun e => dn (args m c) (rowAt t.val h p) e * (args m c).g (ix2 0 e) :=
    funext fun e => congrArg₂ (fun a b : EReal => a * b) (dn_blk m c t h p e) (blk7 m c t 0 e)
  exact (congrArg (fun z => dxR z _ _ j) e1).trans ((congrArg (fun z => dxR _ z _ j) e2).trans (congrArg (fun z => dxR _ _ z j) e3))

theorem flushed9_eq (t : Fin cfg0.N) (hf : (cfg0.win 9).flush t = true) :
    (dats m 0 c).flushed 9 t = ((cfg0.win 9).blk t).view.read (Elt Ideal) (resX (args m c)) := by
  have hi := (index t).2.2.2.2.2.2.1
  have ht : t.val < 8 := t.isLt.trans_eq N_0
  rw [Value.flushed9, outs_eq]
  funext j
  rw [View.read_apply]
  have hj : ((cfg0.win 9).blk t).view.emb j = (ix2 (rowAt t.val ht (j 0)) (j 1) : S8192x1024.Idx) := by
    refine funext fun a => Fin.ext ?_
    match a with
    | ⟨0, _⟩ => show win0_9.index t 0 * 1024 + 1 * (j 0).val = t.val * 1024 + (j 0).val; rw [hi.1]; omega
    | ⟨1, _⟩ => show win0_9.index t 1 * 1024 + 1 * (j 1).val = (j 1).val; rw [hi.2]; omega
  have hjj : j = (ix2 (j 0) (j 1) : S1024x1024.Idx) := funext fun b => match b with | 0 => rfl | 1 => rfl
  refine Eq.trans ?_ ((oX_blk m c t ht (j 0) (j 1)).trans (congrArg (resX (args m c)) hj).symm)
  exact congrArg (oX (F := Ideal) (iblk m c 0 t) (iblk m c 1 t) (iblk m c 2 t) (iblk m c 3 t) (iblk m c 4 t) (iblk m c 5 t) (iblk m c 6 t) (iblk m c 7 t)) hjj

theorem final9 : (dats m 0 c).arrAt 9 cfg0.N = resX (args m c) :=
  (dats m 0 c).arrAt_eq_of_cover 9 (resX (args m c)) (flushed9_eq m c) fun i =>
    ⟨⟨(i 0).val / 1024, by rw [show cfg0.N = 8 from N_0]; have : (i 0).val < 8192 := (i 0).isLt; omega⟩, flush0_9 _, by
      have hi : ∀ t : Fin cfg0.N, win0_9.index t 0 * win0_9.size 0 = t.val * 1024 ∧ win0_9.xsize (grid0.coords t) 0 = 1024
          ∧ win0_9.index t 1 * win0_9.size 1 = 0 ∧ win0_9.xsize (grid0.coords t) 1 = 1024 :=
        (by decide +kernel : ∀ t : Fin grid0.N, win0_9.index t 0 * win0_9.size 0 = t.val * 1024 ∧ win0_9.xsize (grid0.coords t) 0 = 1024
          ∧ win0_9.index t 1 * win0_9.size 1 = 0 ∧ win0_9.xsize (grid0.coords t) 1 = 1024)
      generalize ht : (⟨(i 0).val / 1024, _⟩ : Fin cfg0.N) = t
      have hv : t.val = (i 0).val / 1024 := by rw [← ht]
      show i ∈ ((View.whole main_v8_0).slice (win0_9.rect t)).set
      rw [View.set_slice_whole, Rect.mem_set_unit]
      obtain ⟨h1, h2, h3, h4⟩ := hi t
      intro a
      match a with
      | ⟨0, _⟩ =>
        show win0_9.index t 0 * win0_9.size 0 ≤ (i 0).val ∧ (i 0).val < win0_9.index t 0 * win0_9.size 0 + win0_9.xsize (grid0.coords t) 0
        rw [h1, h2, hv]; omega
      | ⟨1, _⟩ =>
        show win0_9.index t 1 * win0_9.size 1 ≤ (i 1).val ∧ (i 1).val < win0_9.index t 1 * win0_9.size 1 + win0_9.xsize (grid0.coords t) 1
        have : (i 1).val < 1024 := (i 1).isLt
        rw [h3, h4]; omega⟩

theorem flushed10_eq (t : Fin cfg0.N) (hf : (cfg0.win 10).flush t = true) :
    (dats m 0 c).flushed 10 t = ((cfg0.win 10).blk t).view.read (Elt Ideal) (resG (args m c)) := by
  have h7 : t.val = 7 := by have := (flush0_10 t).mp hf; have := t.isLt.trans_eq N_0; omega
  obtain rfl : t = t0_7 := Fin.ext h7
  rw [Value.flushed10, outs_eq, ← accG_last]
  have hz' : (fun a => win0_10.index t0_7 a * main_v8_1.ty.shape.size a) = fun _ => 0 := funext fun a => by fin_cases a <;> decide
  exact (Memref.read_access_unit_zero (Elt Ideal) main_v8_1 hz' (fun a => by rw [congrFun hz' a]; simp) (accG m c 7 lt7)).symm

theorem final10 : (dats m 0 c).arrAt 10 cfg0.N = resG (args m c) :=
  (dats m 0 c).arrAt_eq_of_cover 10 (resG (args m c)) (flushed10_eq m c) fun i =>
    ⟨t0_7, (flush0_10 t0_7).mpr rfl, by
      show i ∈ ((View.whole main_v8_1).slice (win0_10.rect t0_7)).set
      rw [View.set_slice_whole, Rect.mem_set_unit]
      have h : ∀ a : Fin 2, win0_10.index t0_7 a * win0_10.size a = 0 ∧ win0_10.xsize (grid0.coords t0_7) a = main_v8_1.ty.shape.size a := by decide +kernel
      intro a
      show win0_10.index t0_7 a * win0_10.size a ≤ (i a).val ∧ (i a).val < win0_10.index t0_7 a * win0_10.size a + win0_10.xsize (grid0.coords t0_7) a
      rw [(h a).1, (h a).2, Nat.zero_add]; exact ⟨Nat.zero_le _, (i a).isLt⟩⟩

/-- The run with the results named and the arguments unchanged. -/
theorem run : θ_run defs (onTc (τ := τ) (main (F := Ideal))) ⟨m, fun _ => 0, ρ⟩ fun r => ∀ c : Dev nD,
      r.2.mem ((c : Thread nD τ).loc main_v8_0) = resX (args m c)
      ∧ r.2.mem ((c : Thread nD τ).loc main_v8_1) = resG (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final9 m c), (h c).2.1.trans (final10 m c), (h c).2.2⟩)
    (Value.run_blocks m ρ)

end Cert.InKernelIdeal.Inproj

end
-- ==== Proof.InReference.lean ====
module

public import proofs.«01_k».proof.Proof.InSpec
public import proofs.«01_k».proof.Proof.Gen.InReferenceIdeal.Run
public import proofs.«01_k».proof.Proof.Gen.InReferenceIdeal.Read

@[expose] public section

/-! The reference's gradients through the input projection and its norm, read at an index. -/

set_option maxRecDepth 16384

noncomputable section

namespace Cert.InReferenceIdeal.Ref

open Cert.InReferenceIdeal Cert.InReferenceIdeal.Read Idealize.ShloMosaic Idealize.ShloMosaic.TcCoe Idealize.ShloMosaic.StableHlo Idealize.SL.Sem Cert.Mlp Cert.Inproj

theorem z0 : FloatOps.ofBits (F := Ideal) .f32 0x00000000#32 = (0 : EReal) := by
  show Ideal.ofBits .f32 0x00000000#32 = 0
  simp [Ideal.ofBits, Ideal.ieee]

theorem i0 (i : S1024.Idx) : idx_main_v0 i = ix2 0 (i 0) := by
  refine funext fun a => Fin.ext ?_
  match a with
  | ⟨0, _⟩ => rfl
  | ⟨1, _⟩ => show _ = (i 0).val; have h0 : (i 0).val < 1024 := (i 0).isLt; simp; exact h0
theorem i17 (i : S1024x1280.Idx) : idx_main_v17 i = ix3 0 (i 0) (i 1) := by
  have h0 : (i 0).val < 1024 := (i 0).isLt
  have h1 : (i 1).val < 1280 := (i 1).isLt
  refine funext fun a => Fin.ext ?_
  match a with
  | ⟨0, _⟩ => rfl
  | ⟨1, _⟩ => show ((i 0).val * 1280 + (i 1).val) / 1280 % 1024 = (i 0).val; omega
  | ⟨2, _⟩ => show ((i 0).val * 1280 + (i 1).val) % 1280 = (i 1).val; omega
theorem i23 (i : S1x1024.Idx) : idx_main_v23 i 0 = i 1 := by
  have h0 : (i 0).val < 1 := (i 0).isLt
  refine Fin.ext ?_; show (i 0).val * 1024 + (i 1).val = (i 1).val; omega
theorem i29 (i : S8192x1.Idx) : idx_main_v29 i 0 = i 0 := by
  have h1 : (i 1).val < 1 := (i 1).isLt
  refine Fin.ext ?_; show (i 0).val * 1 + (i 1).val = (i 0).val; omega
theorem pr (i : S8192x1024.Idx) : i = (ix2 (i 0) (i 1) : S8192x1024.Idx) := funext fun b => match b with | 0 => rfl | 1 => rfl

variable (A : Inputs)

/-- A row of the argument. -/
abbrev row (t : Fin 8192) : Fin 1024 → EReal := fun j => A.x (ix2 t j)

theorem v2_eq (i : S8192.Idx) : val_main_v2 (F := Ideal) A.x i = ∑ j : Fin 1024, row A (i 0) j * row A (i 0) j := by
  rw [val_main_v2_apply, val_main_cst_apply, z0, zero_add]
  refine Finset.sum_congr rfl fun k _ => ?_
  rw [val_main_v1_apply]
  exact congrArg (fun q => A.x q * A.x q) (funext fun b => match b with | 0 => rfl | 1 => rfl)
theorem v3_eq (i : S8192x1.Idx) : val_main_v3 (F := Ideal) A.x i = ∑ j : Fin 1024, row A (i 0) j * row A (i 0) j := by
  rw [val_main_v3_apply, v2_eq]; rfl
theorem v7_eq (i : S8192x1.Idx) : val_main_v7 (F := Ideal) A.x i = msq (row A (i 0)) := by
  rw [val_main_v7_apply, val_main_v5_apply, v3_eq, val_main_v4_apply, val_main_v6_apply]; rfl
theorem v8_eq (i : S8192x1.Idx) : val_main_v8 (F := Ideal) A.x i = rms (row A (i 0)) := by
  rw [val_main_v8_apply, v7_eq]; rfl
theorem v11_eq (i : S8192x1.Idx) : val_main_v11 (F := Ideal) A.x i = cH * Ideal.div (rms (row A (i 0))) (msq (row A (i 0))) := by
  rw [val_main_v11_apply, val_main_v9_apply, v8_eq, v7_eq, val_main_v10_apply]; rfl
theorem v13_eq (i : S8192x1024.Idx) : val_main_v13 (F := Ideal) A.x i = row A (i 0) (i 1) * rms (row A (i 0)) := by
  rw [val_main_v13_apply, val_main_v12_apply, v8_eq]
  exact congrArg (fun q => A.x q * rms (row A (i 0))) (pr i)
theorem v14_eq (i : S1x1024.Idx) : val_main_v14 (F := Ideal) A.g i = A.g (ix2 0 (i 1)) := by
  rw [val_main_v14_apply, val_main_v0_apply, i0]; rfl
theorem v17_eq (i : S1024x1280.Idx) : val_main_v17 (F := Ideal) A.w i = A.w (ix3 0 (i 0) (i 1)) := by
  rw [val_main_v17_apply, i17]; rfl
theorem v19_eq (i : S8192x1280.Idx) : val_main_v19 (F := Ideal) A.q A.k A.v A.u i = side A.q A.k A.v A.u (i 0) (i 1) := by
  rw [show i = (ix2 (i 0) (i 1) : S8192x1280.Idx) from funext fun a => match a with | 0 => rfl | 1 => rfl]
  exact concat_side A.q A.k A.v A.u _ (i 0) (i 1)
theorem v20_eq (i : S8192x1024.Idx) : val_main_v20 (F := Ideal) A.q A.k A.v A.u A.w i = dn A (i 0) (i 1) :=
  (val_main_v20_apply _ _ _ _ _ i).trans (Finset.sum_congr rfl fun k _ => congrArg₂ (· * ·) (v19_eq A _) (v17_eq A _))
theorem v22_eq (i : S1024.Idx) : val_main_v22 (F := Ideal) A.q A.k A.v A.u A.w A.x i = ∑ t : Fin 8192, dn A t (i 0) * (row A t (i 0) * rms (row A t)) := by
  rw [val_main_v22_apply, val_main_cst_3_apply, z0, zero_add]
  refine Finset.sum_congr rfl fun k _ => ?_
  rw [val_main_v21_apply, v13_eq, v20_eq]
  exact mul_comm (G := EReal) _ _
theorem v26_eq (i : S1024.Idx) : val_main_v26 (F := Ideal) A.q A.k A.v A.u A.w A.x i = ∑ t : Fin 8192, dn A t (i 0) * (row A t (i 0) * rms (row A t)) := by
  rw [val_main_v26_apply, val_main_cst_4_apply, z0, zero_add]
  refine (Fintype.sum_eq_single (0 : Fin 1) fun b hb => absurd (Subsingleton.elim b 0) hb).trans ?_
  rw [val_main_v23_apply, v22_eq, i23]; rfl
theorem v42_eq (i : S1x1024.Idx) : val_main_v42 (F := Ideal) A.q A.k A.v A.u A.w A.x i = resG A i := by
  rw [val_main_v42_apply, v26_eq]; rfl
theorem v25_eq (i : S8192x1024.Idx) : val_main_v25 (F := Ideal) A.q A.k A.v A.u A.w A.g i = dn A (i 0) (i 1) * A.g (ix2 0 (i 1)) := by
  rw [val_main_v25_apply, v20_eq, val_main_v24_apply, v14_eq]; rfl
theorem v28_eq (i : S8192.Idx) : val_main_v28 (F := Ideal) A.q A.k A.v A.u A.w A.x A.g i = ∑ j : Fin 1024, row A (i 0) j * (dn A (i 0) j * A.g (ix2 0 j)) := by
  rw [val_main_v28_apply, val_main_cst_5_apply, z0, zero_add]
  refine Finset.sum_congr rfl fun k _ => ?_
  rw [val_main_v27_apply, v25_eq]
  exact congrArg (fun q => A.x q * (dn A (i 0) k * A.g (ix2 0 k))) (funext fun b => match b with | 0 => rfl | 1 => rfl)
theorem v29_eq (i : S8192x1.Idx) : val_main_v29 (F := Ideal) A.q A.k A.v A.u A.w A.x A.g i = ∑ j : Fin 1024, row A (i 0) j * (dn A (i 0) j * A.g (ix2 0 j)) := by
  rw [val_main_v29_apply, v28_eq, i29]
theorem v35_eq (i : S8192x1.Idx) : val_main_v35 (F := Ideal) A.q A.k A.v A.u A.w A.x A.g i = dxD (row A (i 0)) (fun j => dn A (i 0) j * A.g (ix2 0 j)) := by
  rw [val_main_v35_apply, val_main_v33_apply, v29_eq, v11_eq, val_main_v34_apply]; rfl
theorem v36_eq (i : S8192.Idx) : val_main_v36 (F := Ideal) A.q A.k A.v A.u A.w A.x A.g i = dxD (row A (i 0)) (fun j => dn A (i 0) j * A.g (ix2 0 j)) := by
  rw [val_main_v36_apply, val_main_cst_7_apply, z0, zero_add]
  refine (Fintype.sum_eq_single (0 : Fin 1) fun b hb => absurd (Subsingleton.elim b 0) hb).trans ?_
  exact v35_eq A _
theorem v37_eq (i : S8192x1024.Idx) : val_main_v37 (F := Ideal) A.q A.k A.v A.u A.w A.x A.g i = dxD (row A (i 0)) (fun j => dn A (i 0) j * A.g (ix2 0 j)) :=
  (val_main_v37_apply _ _ _ _ _ _ _ i).trans (v36_eq A _)
theorem v41_eq (i : S8192x1024.Idx) : val_main_v41 (F := Ideal) A.q A.k A.v A.u A.w A.x A.y A.g i = resX A i := by
  rw [val_main_v41_apply, val_main_v39_apply, val_main_v32_apply, val_main_v31_apply, v25_eq, val_main_v30_apply, v8_eq,
    val_main_v38_apply, v37_eq, val_main_v40_apply, v37_eq]
  have e := congrArg (fun q => ((A.y q + (dn A (i 0) (i 1) * A.g (ix2 0 (i 1))) * rms (row A (i 0))) + A.x q * dxD (row A (i 0)) (fun j => dn A (i 0) j * A.g (ix2 0 j)))
    + dxD (row A (i 0)) (fun j => dn A (i 0) j * A.g (ix2 0 j)) * A.x q) (pr i)
  exact e.trans (dxT_eq (A.y (ix2 (i 0) (i 1))) (row A (i 0)) (fun j => dn A (i 0) j * A.g (ix2 0 j)) (i 1))

theorem v41_res : val_main_v41 (F := Ideal) A.q A.k A.v A.u A.w A.x A.y A.g = resX A := funext (v41_eq A)
theorem v42_res : val_main_v42 (F := Ideal) A.q A.k A.v A.u A.w A.x = resG A := funext (v42_eq A)

/-- The arguments in memory. -/
def args (m : (ℓ : Loc nD τ sig) → Buf (Elt Ideal) ℓ) (c : Dev nD) : Inputs :=
  ⟨m ((c.tc : Thread nD τ).loc main_arg0), m ((c.tc : Thread nD τ).loc main_arg1), m ((c.tc : Thread nD τ).loc main_arg2), m ((c.tc : Thread nD τ).loc main_arg3),
    m ((c.tc : Thread nD τ).loc main_arg4), m ((c.tc : Thread nD τ).loc main_arg5), m ((c.tc : Thread nD τ).loc main_arg6), m ((c.tc : Thread nD τ).loc main_arg7)⟩

/-- The whole program. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v41) = resX (args m c)
      ∧ r.2.mem ((c.tc : Thread nD τ).loc main_v42) = resG (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨
    (h c).1.trans ((val_main_v41_eq m c).trans (v41_res (args m c))),
    (h c).2.1.trans ((val_main_v42_eq _ _ _ _ _ _).trans (v42_res (args m c))),
    (h c).2.2⟩) (Cert.InReferenceIdeal.Value.run m ρ)

end Cert.InReferenceIdeal.Ref

end
-- ==== Proof.WinValue.lean ====
module

public import proofs.«01_k».proof.Proof.InSpec
public import proofs.«01_k».proof.Proof.Pieces
public import proofs.«01_k».proof.Proof.Gen.WinKernelIdeal.Skeleton
public import proofs.«01_k».proof.Proof.Gen.WinKernelIdeal.Launch
public import proofs.«01_k».proof.Proof.Gen.WinKernelIdeal.Points
public import proofs.«01_k».proof.Proof.Gen.WinKernelIdeal.Frame
public import proofs.«01_k».proof.Proof.Gen.WinKernelIdeal.Value
public import Idealize.ShloMosaic.Lib.Pipeline.ReadBack
public import Idealize.ShloMosaic.Lib.Pointwise

@[expose] public section

/-! The call that takes the normed rows against the four cotangents to the input projection's weight: what a point leaves, and the arrays. -/

set_option maxRecDepth 16384

noncomputable section

namespace Cert.WinKernelIdeal.Inproj

open Cert.WinKernelIdeal Cert.WinKernelIdeal.Gen Idealize.ShloMosaic Idealize.ShloMosaic.TcCoe Idealize.SL.Sem Cert.Mlp Cert.Weight Cert.Inproj

section body

variable {F : FTy → Type} [FloatOps F]
variable (c : Dev nD) (i : grid0.Coords) (arg1 : Memref sig .tc .vmem S1024x512 .bf16) (harg1 : arg1.IsWhole) (arg2 : Memref sig .tc .vmem S1024x128 .bf16) (harg2 : arg2.IsWhole) (arg3 : Memref sig .tc .vmem S1024x128 .bf16) (harg3 : arg3.IsWhole) (arg4 : Memref sig .tc .vmem S1024x512 .bf16) (harg4 : arg4.IsWhole) (arg5 : Memref sig .tc .vmem S1024x1024 .bf16) (harg5 : arg5.IsWhole) (arg6 : Memref sig .tc .vmem S1280x1024 .f32) (harg6 : arg6.IsWhole) (arg7 : Memref sig .tc .vmem S1280x1024 .bf16) (harg7 : arg7.IsWhole)
  (x0 : Vec F S1024x512 .bf16) (x1 : Vec F S1024x128 .bf16) (x2 : Vec F S1024x128 .bf16) (x3 : Vec F S1024x512 .bf16) (x4 : Vec F S1024x1024 .bf16) (xo5 : Vec F S1280x1024 .f32)

include harg1 harg2 harg3 harg4 harg5 in
theorem out_A_5 (hc0 : cond0_0 i) (hc1 : ¬cond0_1 i) :
    out0_A_5 c i arg1 harg1 arg2 harg2 arg3 harg3 arg4 harg4 arg5 harg5 arg6 harg6 arg7 harg7 hc0 hc1 x0 x1 x2 x3 x4 = k0_pay2 x0 x1 x2 x3 k0_pay1 x4 := by
  unfold out0_A_5
  rw [View.read_writes_eq_canon _ _ _ (cover0_A_5 c i arg1 harg1 arg2 harg2 arg3 harg3 arg4 harg4 arg5 harg5 arg6 harg6 arg7 harg7 hc0 hc1 x0 x1 x2 x3 x4)]
  unfold kernelRun0_A; dsimp only; sl_unfold_words
  simp only [View.readAt_eq_ld, harg1.read_unread, harg2.read_unread, harg3.read_unread, harg4.read_unread, harg5.read_unread]
  simp (disch := first | decide +kernel | (intro a; fin_cases a <;> rfl)) only [↓View.readCov_skip, ↓View.readCov_fill, View.canon_cons_unit_lit', View.ld_unit_lit', readCov_whole]

include harg1 harg2 harg3 harg4 harg5 harg6 in
theorem out_B_5 (hc0 : ¬cond0_0 i) (hc1 : ¬cond0_1 i) :
    out0_B_5 c i arg1 harg1 arg2 harg2 arg3 harg3 arg4 harg4 arg5 harg5 arg6 harg6 arg7 harg7 hc0 hc1 x0 x1 x2 x3 x4 xo5 = k0_pay2 x0 x1 x2 x3 xo5 x4 := by
  unfold out0_B_5
  rw [View.read_writes_eq_canon _ _ _ (cover0_B_5 c i arg1 harg1 arg2 harg2 arg3 harg3 arg4 harg4 arg5 harg5 arg6 harg6 arg7 harg7 hc0 hc1 x0 x1 x2 x3 x4 xo5)]
  unfold kernelRun0_B; dsimp only; sl_unfold_words
  simp only [View.readAt_eq_ld, harg1.read_unread, harg2.read_unread, harg3.read_unread, harg4.read_unread, harg5.read_unread, harg6.read_unread]
  simp (disch := first | decide +kernel | (intro a; fin_cases a <;> rfl)) only [↓View.readCov_skip, ↓View.readCov_fill, View.canon_cons_unit_lit', View.ld_unit_lit', readCov_whole]

include harg1 harg2 harg3 harg4 harg5 harg6 in
theorem out_C_5 (hc0 : ¬cond0_0 i) (hc1 : cond0_1 i) :
    out0_C_5 c i arg1 harg1 arg2 harg2 arg3 harg3 arg4 harg4 arg5 harg5 arg6 harg6 arg7 harg7 hc0 hc1 x0 x1 x2 x3 x4 xo5 = k0_pay2 x0 x1 x2 x3 xo5 x4 := by
  unfold out0_C_5
  rw [View.read_writes_eq_canon _ _ _ (cover0_C_5 c i arg1 harg1 arg2 harg2 arg3 harg3 arg4 harg4 arg5 harg5 arg6 harg6 arg7 harg7 hc0 hc1 x0 x1 x2 x3 x4 xo5)]
  unfold kernelRun0_C; dsimp only; sl_unfold_words
  simp only [View.readAt_eq_ld, harg1.read_unread, harg2.read_unread, harg3.read_unread, harg4.read_unread, harg5.read_unread, harg6.read_unread]
  simp (disch := first | decide +kernel | (intro a; fin_cases a <;> rfl)) only [↓View.readCov_skip, ↓View.readCov_fill, View.canon_cons_unit_lit', View.ld_unit_lit', readCov_whole]

include harg1 harg2 harg3 harg4 harg5 harg6 in
theorem out_C_6 (hc0 : ¬cond0_0 i) (hc1 : cond0_1 i) :
    out0_C_6 c i arg1 harg1 arg2 harg2 arg3 harg3 arg4 harg4 arg5 harg5 arg6 harg6 arg7 harg7 hc0 hc1 x0 x1 x2 x3 x4 xo5 = k0_pay3 (k0_pay2 x0 x1 x2 x3 xo5 x4) := by
  unfold out0_C_6
  rw [View.read_writes_eq_canon _ _ _ (cover0_C_6 c i arg1 harg1 arg2 harg2 arg3 harg3 arg4 harg4 arg5 harg5 arg6 harg6 arg7 harg7 hc0 hc1 x0 x1 x2 x3 x4 xo5)]
  unfold kernelRun0_C; dsimp only; sl_unfold_words
  simp only [View.readAt_eq_ld, harg1.read_unread, harg2.read_unread, harg3.read_unread, harg4.read_unread, harg5.read_unread, harg6.read_unread]
  simp (disch := first | decide +kernel | (intro a; fin_cases a <;> rfl)) only [↓View.readCov_skip, ↓View.readCov_fill, View.canon_cons_unit_lit', View.ld_unit_lit', readCov_whole]

end body

/-! ## The stored values at an index -/

theorem sc512 (q : Vec Ideal S1024x512 .bf16) : shapeCast S1024x512 q shapeCasts_S1024x512_S1024x512 = q := by
  funext i; idx_vars i; pointwise []
theorem sc128 (q : Vec Ideal S1024x128 .bf16) : shapeCast S1024x128 q shapeCasts_S1024x128_S1024x128 = q := by
  funext i; idx_vars i; pointwise []
/-- The four arrays side by side, as the body joins them. -/
def cat (q : FVec Ideal S1024x512 .bf16) (k v : FVec Ideal S1024x128 .bf16) (u : FVec Ideal S1024x512 .bf16) : FVec Ideal S1024x1280 .bf16 :=
  concatenate S1024x1280 1 [⟨S1024x512, q⟩, ⟨S1024x128, k⟩, ⟨S1024x128, v⟩, ⟨S1024x512, u⟩] concatenates_S1024x512_S1024x128_S1024x128_S1024x512_S1024x1280_d1
theorem cat_apply (q : FVec Ideal S1024x512 .bf16) (k v : FVec Ideal S1024x128 .bf16) (u : FVec Ideal S1024x512 .bf16) (p : Fin 1024) (e : Fin 1280) :
    cat q k v u (ix2 p e) = side q k v u p e :=
  concat_side q k v u _ p e

def mm (l : FVec Ideal S1024x1280 .bf16) (r : FVec Ideal S1024x1024 .bf16) (a : FVec Ideal S1280x1024 .f32) : FVec Ideal S1280x1024 .f32 :=
  shapeCast S1280x1024 (addf a (matmul dot_S1024x1280_S1024x1024_S1280x1024_0_0_1_1_n_n none l (shapeCast S1024x1024 r shapeCasts_S1024x1024_S1024x1024)
    (constant S1280x1024 .f32 0x00000000#32))) shapeCasts_S1280x1024_S1280x1024
theorem mm_apply (l : FVec Ideal S1024x1280 .bf16) (r : FVec Ideal S1024x1024 .bf16) (a : FVec Ideal S1280x1024 .f32) (e : Fin 1280) (j : Fin 1024) :
    mm l r a (ix2 e j) = a (ix2 e j) + ∑ p : Fin 1024, l (ix2 p e) * r (ix2 p j) := by
  pointwise [mm]

theorem pay2_apply (q : Vec Ideal S1024x512 .bf16) (k v : Vec Ideal S1024x128 .bf16) (u : Vec Ideal S1024x512 .bf16) (a : Vec Ideal S1280x1024 .f32)
    (r : Vec Ideal S1024x1024 .bf16) (e : Fin 1280) (j : Fin 1024) :
    k0_pay2 (F := Ideal) q k v u a r (ix2 e j) = a (ix2 e j) + ∑ p : Fin 1024, side q k v u p e * r (ix2 p j) := by
  have h : k0_pay2 (F := Ideal) q k v u a r = mm (cat (shapeCast S1024x512 q shapeCasts_S1024x512_S1024x512) (shapeCast S1024x128 k shapeCasts_S1024x128_S1024x128)
    (shapeCast S1024x128 v shapeCasts_S1024x128_S1024x128) (shapeCast S1024x512 u shapeCasts_S1024x512_S1024x512)) r a := rfl
  rw [h, mm_apply, sc512, sc128, sc128, sc512]
  exact congrArg (a (ix2 e j) + ·) (Finset.sum_congr rfl fun p _ => congrArg (· * _) (cat_apply q k v u p e))
theorem pay1_apply (e : Fin 1280) (j : Fin 1024) : k0_pay1 (F := Ideal) (ix2 e j) = (0 : EReal) := by
  pointwise [k0_pay1]
theorem pay3_apply (a : Vec Ideal S1280x1024 .f32) (e : Fin 1280) (j : Fin 1024) : k0_pay3 (F := Ideal) a (ix2 e j) = a (ix2 e j) := by
  pointwise [k0_pay3]

/-! ## The call's arrays -/

variable (m : (ℓ : Loc nD τ sig) → Buf (Elt Ideal) ℓ) (ρ : Dev nD → PrngReg) (c : Dev nD)

/-- The arguments. -/
def argQ : A2 8192 512 := m ((c : Thread nD τ).loc main_arg0)
def argK : A2 8192 128 := m ((c : Thread nD τ).loc main_arg1)
def argV : A2 8192 128 := m ((c : Thread nD τ).loc main_arg2)
def argU : A2 8192 512 := m ((c : Thread nD τ).loc main_arg3)
def argX : A2 8192 1024 := m ((c : Thread nD τ).loc main_arg4)
def argG : A2 1 1024 := m ((c : Thread nD τ).loc main_arg5)

/-! The host's stages. -/

def hSum (x : FVec Ideal S8192x1024 .f32) : FVec Ideal S8192 .f32 :=
  Host.reduceAdd (mulf x x) (constant S_ .f32 0x00000000#32) reducesTo_S8192x1024_S8192_d1 h_S_
def hMean (v : FVec Ideal S8192 .f32) : FVec Ideal S8192x1 .f32 :=
  addf (Host.divf (broadcastInDim S8192x1 ![0] bcast_S8192_S8192x1_0 v) (broadcastInDim S8192x1 ![] bcast_S_S8192x1 (constant S_ .f32 0x44800000#32)))
    (broadcastInDim S8192x1 ![] bcast_S_S8192x1 (constant S_ .f32 0x358637BD#32))
def hNorm (x : FVec Ideal S8192x1024 .f32) (v : FVec Ideal S8192x1 .f32) : FVec Ideal S8192x1024 .f32 :=
  mulf x (broadcastInDim S8192x1024 ![0, 1] bcast_S8192x1_S8192x1024_0_1 (Host.rsqrt v))
def hGain (n : FVec Ideal S8192x1024 .f32) (g : FVec Ideal S1x1024 .f32) : FVec Ideal S8192x1024 .f32 :=
  mulf n (broadcastInDim S8192x1024 ![0, 1] bcast_S1x1024_S8192x1024_0_1 (broadcastInDim S1x1024 ![1] bcast_S1024_S1x1024_1 (shapeCast S1024 g shapeCasts_S1x1024_S1024)))
theorem hSum_apply (x : FVec Ideal S8192x1024 .f32) (t : Fin 8192) : hSum x (ix1 t) = ∑ j : Fin 1024, x (ix2 t j) * x (ix2 t j) := by
  pointwise [hSum]
theorem hMean_apply (v : FVec Ideal S8192 .f32) (t : Fin 8192) : hMean v (ix2 t 0) = Ideal.div (v (ix1 t)) cN + cE := by
  pointwise [hMean]; rfl
theorem hNorm_apply (x : FVec Ideal S8192x1024 .f32) (v : FVec Ideal S8192x1 .f32) (t : Fin 8192) (j : Fin 1024) :
    hNorm x v (ix2 t j) = x (ix2 t j) * Ideal.rsqrt (v (ix2 t 0)) := by
  pointwise [hNorm]
theorem hGain_apply (n : FVec Ideal S8192x1024 .f32) (g : FVec Ideal S1x1024 .f32) (t : Fin 8192) (j : Fin 1024) :
    hGain n g (ix2 t j) = n (ix2 t j) * g (ix2 0 j) := by
  pointwise [hGain]

def hN (x : A2 8192 1024) (g : A2 1 1024) : FVec Ideal S8192x1024 .f32 := hGain (hNorm x (hMean (hSum x))) g
theorem hN_apply (x : A2 8192 1024) (g : A2 1 1024) (t : Fin 8192) (j : Fin 1024) : hN x g (ix2 t j) = nrm x g t j := by
  unfold hN
  rw [hGain_apply, hNorm_apply, hMean_apply, hSum_apply]; rfl

/-- What the host leaves in the call's operands. -/
theorem V_host : V m c main_v0 = (truncf .bf16 (argQ m c : FVec Ideal S8192x512 .f32) bitsLt_bf16_f32 : FVec Ideal S8192x512 .bf16) ∧
    V m c main_v1 = (truncf .bf16 (argK m c : FVec Ideal S8192x128 .f32) bitsLt_bf16_f32 : FVec Ideal S8192x128 .bf16) ∧
    V m c main_v2 = (truncf .bf16 (argV m c : FVec Ideal S8192x128 .f32) bitsLt_bf16_f32 : FVec Ideal S8192x128 .bf16) ∧
    V m c main_v3 = (truncf .bf16 (argU m c : FVec Ideal S8192x512 .f32) bitsLt_bf16_f32 : FVec Ideal S8192x512 .bf16) ∧
    V m c main_v18 = (truncf .bf16 (hN (argX m c) (argG m c)) bitsLt_bf16_f32 : FVec Ideal S8192x1024 .bf16) := by
  refine ⟨?_, ?_, ?_, ?_, ?_⟩
  all_goals
    unfold_abbrev_sides
    simp only [hostOps0, List.flatten_cons, List.flatten_nil, List.append_nil, List.cons_append, List.nil_append]
    after_results_simp
    rfl

/-- Which block a window is at: the point's own rows, or the whole array. -/
theorem index : ∀ t : Fin cfg0.N, (win0_0.index t 0 = t.val ∧ win0_0.index t 1 = 0) ∧
      (win0_1.index t 0 = t.val ∧ win0_1.index t 1 = 0) ∧
      (win0_2.index t 0 = t.val ∧ win0_2.index t 1 = 0) ∧
      (win0_3.index t 0 = t.val ∧ win0_3.index t 1 = 0) ∧
      (win0_4.index t 0 = t.val ∧ win0_4.index t 1 = 0) :=
  (by decide +kernel : ∀ t : Fin grid0.N, (win0_0.index t 0 = t.val ∧ win0_0.index t 1 = 0) ∧
      (win0_1.index t 0 = t.val ∧ win0_1.index t 1 = 0) ∧
      (win0_2.index t 0 = t.val ∧ win0_2.index t 1 = 0) ∧
      (win0_3.index t 0 = t.val ∧ win0_3.index t 1 = 0) ∧
      (win0_4.index t 0 = t.val ∧ win0_4.index t 1 = 0))

theorem blk0 (t : Fin cfg0.N) (h : t.val < 8) (p : Fin 1024) (j : Fin 512) :
    (iblk m c 0 t : Vec Ideal S1024x512 .bf16) (ix2 p j) = argQ m c (ix2 (rowAt t.val h p) j) := by
  have hi := (index t).1
  refine Eq.trans (congrArg (V m c main_v0) (pair _ (rowAt t.val h p) j (at_row hi.1) (at_zero hi.2))) ?_
  rw [(V_host m c).1]
  rfl
theorem blk1 (t : Fin cfg0.N) (h : t.val < 8) (p : Fin 1024) (j : Fin 128) :
    (iblk m c 1 t : Vec Ideal S1024x128 .bf16) (ix2 p j) = argK m c (ix2 (rowAt t.val h p) j) := by
  have hi := (index t).2.1
  refine Eq.trans (congrArg (V m c main_v1) (pair _ (rowAt t.val h p) j (at_row hi.1) (at_zero hi.2))) ?_
  rw [(V_host m c).2.1]
  rfl
theorem blk2 (t : Fin cfg0.N) (h : t.val < 8) (p : Fin 1024) (j : Fin 128) :
    (iblk m c 2 t : Vec Ideal S1024x128 .bf16) (ix2 p j) = argV m c (ix2 (rowAt t.val h p) j) := by
  have hi := (index t).2.2.1
  refine Eq.trans (congrArg (V m c main_v2) (pair _ (rowAt t.val h p) j (at_row hi.1) (at_zero hi.2))) ?_
  rw [(V_host m c).2.2.1]
  rfl
theorem blk3 (t : Fin cfg0.N) (h : t.val < 8) (p : Fin 1024) (j : Fin 512) :
    (iblk m c 3 t : Vec Ideal S1024x512 .bf16) (ix2 p j) = argU m c (ix2 (rowAt t.val h p) j) := by
  have hi := (index t).2.2.2.1
  refine Eq.trans (congrArg (V m c main_v3) (pair _ (rowAt t.val h p) j (at_row hi.1) (at_zero hi.2))) ?_
  rw [(V_host m c).2.2.2.1]
  rfl
theorem blk4 (t : Fin cfg0.N) (h : t.val < 8) (p : Fin 1024) (j : Fin 1024) :
    (iblk m c 4 t : Vec Ideal S1024x1024 .bf16) (ix2 p j) = nrm (argX m c) (argG m c) (rowAt t.val h p) j := by
  have hi := (index t).2.2.2.2
  refine Eq.trans (congrArg (V m c main_v18) (pair _ (rowAt t.val h p) j (at_row hi.1) (at_zero hi.2))) ?_
  rw [(V_host m c).2.2.2.2]
  exact hN_apply _ _ _ _

/-- What row `t` adds to an entry. -/
def term (e : Fin 1280) (j : Fin 1024) (t : Fin 8192) : EReal := side (argQ m c) (argK m c) (argV m c) (argU m c) t e * nrm (argX m c) (argG m c) t j

/-- The result at the arguments in memory. -/
def res : A2 1280 1024 := resW (argQ m c) (argK m c) (argV m c) (argU m c) (argX m c) (argG m c)

/-- The block after point `n`. -/
def accW : (n : ℕ) → n < cfg0.N → Vec Ideal S1280x1024 .f32
  | 0, h => k0_pay2 (F := Ideal) (iblk m c 0 ⟨0, h⟩) (iblk m c 1 ⟨0, h⟩) (iblk m c 2 ⟨0, h⟩) (iblk m c 3 ⟨0, h⟩) (k0_pay1 (F := Ideal)) (iblk m c 4 ⟨0, h⟩)
  | n + 1, h => k0_pay2 (F := Ideal) (iblk m c 0 ⟨n + 1, h⟩) (iblk m c 1 ⟨n + 1, h⟩) (iblk m c 2 ⟨n + 1, h⟩) (iblk m c 3 ⟨n + 1, h⟩) (accW n (Nat.lt_of_succ_lt h)) (iblk m c 4 ⟨n + 1, h⟩)

theorem outs_eq : ∀ (n : ℕ) (h : n < cfg0.N), (outsAt0 m c n h).1 = accW m c n h
  | 0, h => by
    have := outsAt0_A m c ⟨0, h⟩ rfl (by show ¬0 % 8 = 7; omega)
    rw [out_A_5] at this
    exact congrArg Prod.fst this
  | n + 1, h => by
    have h8 : n + 1 < 8 := h.trans_eq N_0
    have hp : (outsAt0 m c (n + 1 - 1) (by omega)).1 = _ := outs_eq n (by omega)
    by_cases h7 : (n + 1) % 8 = 7
    · have := outsAt0_C m c ⟨n + 1, h⟩ (by show ¬(n + 1) % 8 = 0; omega) h7
      rw [out_C_5, hp] at this
      exact congrArg Prod.fst this
    · have := outsAt0_B m c ⟨n + 1, h⟩ (by show ¬(n + 1) % 8 = 0; omega) h7
      rw [out_B_5, hp] at this
      exact congrArg Prod.fst this

theorem lt7 : 7 < cfg0.N := by rw [show cfg0.N = 8 from N_0]; omega

theorem outs_last : (outsAt0 m c 7 lt7).2 = k0_pay3 (F := Ideal) (accW m c 7 lt7) := by
  have := outsAt0_C m c ⟨7, lt7⟩ (by show ¬7 % 8 = 0; omega) rfl
  have hp : (outsAt0 m c (7 - 1) (Nat.lt_of_le_of_lt (Nat.sub_le _ _) lt7)).1 = _ := outs_eq m c 6 _
  rw [out_C_6, hp] at this
  exact congrArg Prod.snd this

theorem step (t : Fin cfg0.N) (a : Vec Ideal S1280x1024 .f32) (e : Fin 1280) (j : Fin 1024) :
    k0_pay2 (F := Ideal) (iblk m c 0 t) (iblk m c 1 t) (iblk m c 2 t) (iblk m c 3 t) a (iblk m c 4 t) (ix2 e j) = a (ix2 e j) + part (term m c e j) t.val := by
  have ht : t.val < 8 := t.isLt.trans_eq N_0
  rw [pay2_apply]
  unfold part
  rw [dif_pos ht]
  refine congrArg (a (ix2 e j) + ·) (Finset.sum_congr rfl fun p _ => congrArg₂ (fun a b : EReal => a * b) ?_ (blk4 m c t ht p j))
  unfold side
  exact dite_congr rfl (fun _ => blk0 m c t ht p _) fun _ => dite_congr rfl (fun _ => blk1 m c t ht p _) fun _ =>
    dite_congr rfl (fun _ => blk2 m c t ht p _) fun _ => blk3 m c t ht p _

theorem accW_eq (n : ℕ) : ∀ (h : n < cfg0.N) (e : Fin 1280) (j : Fin 1024),
    accW m c n h (ix2 e j) = ∑ t ∈ Finset.range (n + 1), part (term m c e j) t := by
  induction n with
  | zero =>
    intro h e j
    rw [Finset.sum_range_one, accW, step, pay1_apply, zero_add]
  | succ n ih =>
    intro h e j
    rw [Finset.sum_range_succ, ← ih (Nat.lt_of_succ_lt h) e j, accW, step]

theorem accW_last : accW m c 7 lt7 = res m c := by
  funext i
  have hi : i = (ix2 (i 0) (i 1) : S1280x1024.Idx) := funext fun b => match b with | 0 => rfl | 1 => rfl
  rw [hi]
  exact (accW_eq m c 7 lt7 (i 0) (i 1)).trans (sum_part (term m c (i 0) (i 1)))
theorem outs_last' : (outsAt0 m c 7 lt7).2 = res m c := by
  rw [outs_last, accW_last]
  funext i
  have hi : i = (ix2 (i 0) (i 1) : S1280x1024.Idx) := funext fun b => match b with | 0 => rfl | 1 => rfl
  rw [hi]
  exact pay3_apply _ _ _

/-! ## The final arrays -/

theorem flushed5_eq (t : Fin cfg0.N) (hf : (cfg0.win 5).flush t = true) :
    (dats m 0 c).flushed 5 t = ((cfg0.win 5).blk t).view.read (Elt Ideal) (res m c) := by
  have h7 : t.val = 7 := by have := (flush0_5 t).mp hf; have := t.isLt.trans_eq N_0; omega
  obtain rfl : t = t0_7 := Fin.ext h7
  rw [Value.flushed5, outs_eq, ← accW_last]
  have hz' : (fun a => win0_5.index t0_7 a * main_v19_0.ty.shape.size a) = fun _ => 0 := funext fun a => by fin_cases a <;> decide
  exact (Memref.read_access_unit_zero (Elt Ideal) main_v19_0 hz' (fun a => by rw [congrFun hz' a]; simp) (accW m c 7 lt7)).symm

theorem final5 : (dats m 0 c).arrAt 5 cfg0.N = res m c :=
  (dats m 0 c).arrAt_eq_of_cover 5 (res m c) (flushed5_eq m c) fun i =>
    ⟨t0_7, (flush0_5 t0_7).mpr rfl, by
      show i ∈ ((View.whole main_v19_0).slice (win0_5.rect t0_7)).set
      rw [View.set_slice_whole, Rect.mem_set_unit]
      have h : ∀ a : Fin 2, win0_5.index t0_7 a * win0_5.size a = 0 ∧ win0_5.xsize (grid0.coords t0_7) a = main_v19_0.ty.shape.size a := by decide +kernel
      intro a
      show win0_5.index t0_7 a * win0_5.size a ≤ (i a).val ∧ (i a).val < win0_5.index t0_7 a * win0_5.size a + win0_5.xsize (grid0.coords t0_7) a
      rw [(h a).1, (h a).2, Nat.zero_add]; exact ⟨Nat.zero_le _, (i a).isLt⟩⟩

theorem flushed6_eq (t : Fin cfg0.N) (hf : (cfg0.win 6).flush t = true) :
    (dats m 0 c).flushed 6 t = ((cfg0.win 6).blk t).view.read (Elt Ideal) (res m c) := by
  have h7 : t.val = 7 := by have := (flush0_6 t).mp hf; have := t.isLt.trans_eq N_0; omega
  obtain rfl : t = t0_7 := Fin.ext h7
  rw [Value.flushed6, show (outsAt0 m c t0_7.val t0_7.isLt).2 = res m c from outs_last' m c]
  have hz' : (fun a => win0_6.index t0_7 a * main_v19_1.ty.shape.size a) = fun _ => 0 := funext fun a => by fin_cases a <;> decide
  exact (Memref.read_access_unit_zero (Elt Ideal) main_v19_1 hz' (fun a => by rw [congrFun hz' a]; simp) (res m c)).symm

theorem final6 : (dats m 0 c).arrAt 6 cfg0.N = res m c :=
  (dats m 0 c).arrAt_eq_of_cover 6 (res m c) (flushed6_eq m c) fun i =>
    ⟨t0_7, (flush0_6 t0_7).mpr rfl, by
      show i ∈ ((View.whole main_v19_1).slice (win0_6.rect t0_7)).set
      rw [View.set_slice_whole, Rect.mem_set_unit]
      have h : ∀ a : Fin 2, win0_6.index t0_7 a * win0_6.size a = 0 ∧ win0_6.xsize (grid0.coords t0_7) a = main_v19_1.ty.shape.size a := by decide +kernel
      intro a
      show win0_6.index t0_7 a * win0_6.size a ≤ (i a).val ∧ (i a).val < win0_6.index t0_7 a * win0_6.size a + win0_6.xsize (grid0.coords t0_7) a
      rw [(h a).1, (h a).2, Nat.zero_add]; exact ⟨Nat.zero_le _, (i a).isLt⟩⟩

/-- The run with the results named and the arguments unchanged. -/
theorem run : θ_run defs (onTc (τ := τ) (main (F := Ideal))) ⟨m, fun _ => 0, ρ⟩ fun r => ∀ c : Dev nD,
      r.2.mem ((c : Thread nD τ).loc main_v19_0) = res m c
      ∧ r.2.mem ((c : Thread nD τ).loc main_v19_1) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final5 m c), (h c).2.1.trans (final6 m c), (h c).2.2⟩)
    (Value.run_blocks m ρ)

end Cert.WinKernelIdeal.Inproj

end
-- ==== Proof.WinReference.lean ====
module

public import proofs.«01_k».proof.Proof.InSpec
public import proofs.«01_k».proof.Proof.Gen.WinReferenceIdeal.Run
public import proofs.«01_k».proof.Proof.Gen.WinReferenceIdeal.Read

@[expose] public section

/-! The reference's gradient of the input projection's weight, read at an index. -/

set_option maxRecDepth 16384

noncomputable section

namespace Cert.WinReferenceIdeal.Ref

open Cert.WinReferenceIdeal Cert.WinReferenceIdeal.Read Idealize.ShloMosaic Idealize.ShloMosaic.TcCoe Idealize.ShloMosaic.StableHlo Idealize.SL.Sem Cert.Mlp Cert.Weight Cert.Inproj

theorem z0 : FloatOps.ofBits (F := Ideal) .f32 0x00000000#32 = (0 : EReal) := by
  show Ideal.ofBits .f32 0x00000000#32 = 0
  simp [Ideal.ofBits, Ideal.ieee]

theorem i1 (i : S1024.Idx) : idx_main_v1 i = ix2 0 (i 0) := by
  refine funext fun a => Fin.ext ?_
  match a with
  | ⟨0, _⟩ => rfl
  | ⟨1, _⟩ => show _ = (i 0).val; have h0 : (i 0).val < 1024 := (i 0).isLt; simp; exact h0

variable (q : A2 8192 512) (k v : A2 8192 128) (u : A2 8192 512) (x : A2 8192 1024) (g : A2 1 1024)

theorem v3_eq (i : S8192.Idx) : val_main_v3 (F := Ideal) x i = ∑ j : Fin 1024, x (ix2 (i 0) j) * x (ix2 (i 0) j) := by
  rw [val_main_v3_apply, val_main_cst_0_apply, z0, zero_add]
  refine Finset.sum_congr rfl fun k _ => ?_
  rw [val_main_v2_apply]
  exact congrArg (fun q => x q * x q) (funext fun b => match b with | 0 => rfl | 1 => rfl)
theorem v4_eq (i : S8192x1.Idx) : val_main_v4 (F := Ideal) x i = ∑ j : Fin 1024, x (ix2 (i 0) j) * x (ix2 (i 0) j) := by
  rw [val_main_v4_apply, v3_eq]; rfl
theorem v9_eq (i : S8192x1.Idx) : val_main_v9 (F := Ideal) x i = rms (fun j => x (ix2 (i 0) j)) := by
  rw [val_main_v9_apply, val_main_v8_apply, val_main_v6_apply, v4_eq, val_main_v5_apply, val_main_v7_apply]; rfl
theorem v13_eq (i : S8192x1024.Idx) : val_main_v13 (F := Ideal) g i = g (ix2 0 (i 1)) := by
  rw [val_main_v13_apply, val_main_v12_apply, val_main_v1_apply, i1]; rfl
theorem v14_eq (i : S8192x1024.Idx) : val_main_v14 (F := Ideal) x g i = nrm x g (i 0) (i 1) := by
  have hi : i = (ix2 (i 0) (i 1) : S8192x1024.Idx) := funext fun b => match b with | 0 => rfl | 1 => rfl
  rw [val_main_v14_apply, val_main_v11_apply, val_main_v10_apply, v9_eq, v13_eq]
  exact congrArg (fun q => (x q * rms (fun j => x (ix2 (i 0) j))) * g (ix2 0 (i 1))) hi
theorem v17_eq (i : S8192x1280.Idx) : val_main_v17 (F := Ideal) q k v u i = side q k v u (i 0) (i 1) := by
  rw [show i = (ix2 (i 0) (i 1) : S8192x1280.Idx) from funext fun a => match a with | 0 => rfl | 1 => rfl]
  exact concat_side q k v u _ (i 0) (i 1)
theorem v18_eq (i : S1280x1024.Idx) : val_main_v18 (F := Ideal) q k v u x g i = resW q k v u x g i :=
  (val_main_v18_apply q k v u x g i).trans (Finset.sum_congr rfl fun t _ => congrArg₂ (· * ·) (v17_eq q k v u _) (v14_eq x g _))
theorem v22_eq (i : S1280x1024.Idx) : val_main_v22 (F := Ideal) q k v u x g i = resW q k v u x g i := by
  have h0 : (i 0).val < 1280 := (i 0).isLt
  have h1 : (i 1).val < 1024 := (i 1).isLt
  rw [val_main_v22_apply, val_main_v21_apply, val_main_v20_apply, val_main_v19_apply, v18_eq]
  refine congrArg (resW q k v u x g) (funext fun a => Fin.ext ?_)
  match a with
  | ⟨0, _⟩ => show ((i 1).val * 1280 + (i 0).val) % 1280 = (i 0).val; omega
  | ⟨1, _⟩ => show ((i 1).val * 1280 + (i 0).val) / 1280 % 1024 = (i 1).val; omega

theorem v22_res : val_main_v22 (F := Ideal) q k v u x g = resW q k v u x g := funext (v22_eq q k v u x g)
theorem v23_res : val_main_v23 (F := Ideal) q k v u x g = resW q k v u x g := funext fun i => by rw [val_main_v23_apply, v22_eq]; rfl

/-- The result at the arguments in memory. -/
def res (m : (ℓ : Loc nD τ sig) → Buf (Elt Ideal) ℓ) (c : Dev nD) : A2 1280 1024 :=
  resW (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The whole program. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = res m c
      ∧ r.2.mem ((c.tc : Thread nD τ).loc main_v23) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨
    (h c).1.trans ((val_main_v22_eq _ _ _ _ _ _).trans (v22_res _ _ _ _ _ _)),
    (h c).2.1.trans ((val_main_v23_eq _ _ _ _ _ _).trans (v23_res _ _ _ _ _ _)),
    (h c).2.2⟩) (Cert.WinReferenceIdeal.Value.run m ρ)

end Cert.WinReferenceIdeal.Ref

end
-- ==== Proof.PoolSpec.lean ====
module

public import Idealize.ShloMosaic.Lib.Pointwise
public import Idealize.ShloMosaic.Lib.Claim

@[expose] public section

/-! What one sequence of the pooling mixer's gradient computes, as sums over the extended reals: running windows that
    look back (`trail`) or ahead (`lead`), and the doubling steps that build them. -/

noncomputable section

namespace Cert.Pool

open Idealize.ShloMosaic

/-- A column of 2048 entries continued by zeros. -/
def ext (f : Fin 2048 → EReal) (n : ℕ) : EReal := if h : n < 2048 then f ⟨n, h⟩ else 0

/-- The sum of the `w` entries up to position `t`, those before the start left out. -/
def trail (w : ℕ) (f : Fin 2048 → EReal) (t : ℕ) : EReal := ∑ j ∈ Finset.range w, if j ≤ t then ext f (t - j) else 0

/-- The sum of the `w` entries from position `t` on, those past the end left out. -/
def lead (w : ℕ) (f : Fin 2048 → EReal) (t : ℕ) : EReal := ∑ j ∈ Finset.range w, ext f (t + j)

theorem ext_val (f : Fin 2048 → EReal) (t : Fin 2048) : ext f t.val = f t := dif_pos t.isLt

theorem ext_of_lt (f : Fin 2048 → EReal) {n : ℕ} (h : n < 2048) : ext f n = f ⟨n, h⟩ := dif_pos h

theorem trail_one (f : Fin 2048 → EReal) (t : ℕ) : trail 1 f t = ext f t := by simp [trail]

theorem lead_one (f : Fin 2048 → EReal) (t : ℕ) : lead 1 f t = ext f t := by simp [lead]

theorem trail_double (w : ℕ) (f : Fin 2048 → EReal) (t : ℕ) :
    trail (w + w) f t = trail w f t + if w ≤ t then trail w f (t - w) else 0 := by
  unfold trail
  rw [Finset.sum_range_add]
  congr 1
  split
  · refine Finset.sum_congr rfl fun j _ => ?_
    by_cases h : w + j ≤ t
    · rw [if_pos h, if_pos (by omega), Nat.sub_sub]
    · rw [if_neg h, if_neg (by omega)]
  · exact Finset.sum_eq_zero fun j _ => if_neg (by omega)

theorem lead_double (w : ℕ) (f : Fin 2048 → EReal) (t : ℕ) :
    lead (w + w) f t = lead w f t + lead w f (t + w) := by
  unfold lead
  rw [Finset.sum_range_add]
  simp only [Nat.add_assoc]

theorem lead_past (w : ℕ) (f : Fin 2048 → EReal) (t : ℕ) (h : 2048 ≤ t) : lead w f t = 0 :=
  Finset.sum_eq_zero fun j _ => dif_neg (by omega)

/-- How many entries the window of size `w` averages at position `t`. -/
def cnt (w t : ℕ) : EReal := (((min (t + 1) w : ℕ) : ℝ) : EReal)

/-- The window sizes of the four groups of columns. -/
def wsz (g : Fin 4) : ℕ := 2 ^ (g.val + 1)

/-- Column `c` of group `g`. -/
abbrev gc (g : Fin 4) (c : Fin 128) : Fin 512 := ⟨g.val * 128 + c.val, by omega⟩

abbrev Blk := (⟨2, ![2048, 512]⟩ : Shape).Idx → EReal
abbrev Wts := (⟨3, ![4, 128, 128]⟩ : Shape).Idx → EReal
abbrev Row := (⟨2, ![1, 512]⟩ : Shape).Idx → EReal

/-- The pooled features: the window's mean less the entry itself. -/
def D (x : Blk) (g : Fin 4) (c : Fin 128) (t : Fin 2048) : EReal :=
  Ideal.div (trail (wsz g) (fun s => x (ix2 s (gc g c))) t.val) (cnt (wsz g) t.val) - x (ix2 t (gc g c))

/-- The scaled cotangent. -/
def DY (p : Blk) (s : Row) (g : Fin 4) (d : Fin 128) (t : Fin 2048) : EReal := p (ix2 t (gc g d)) * s (ix2 0 (gc g d))

/-- The features' cotangent. -/
def DD (p : Blk) (w : Wts) (s : Row) (g : Fin 4) (c : Fin 128) (t : Fin 2048) : EReal :=
  ∑ d : Fin 128, DY p s g d t * w (ix3 g c d)

/-- The cotangent of the mixer's input. -/
def DU (p : Blk) (w : Wts) (s : Row) (g : Fin 4) (c : Fin 128) (t : Fin 2048) : EReal :=
  lead (wsz g) (fun t => Ideal.div (DD p w s g c t) (cnt (wsz g) t.val)) t.val - DD p w s g c t

/-- One sequence's part of the weights' gradient. -/
def DW (x p : Blk) (s : Row) (g : Fin 4) (c d : Fin 128) : EReal := ∑ t : Fin 2048, D x g c t * DY p s g d t

/-- One sequence's part of the scale's gradient. -/
def DS (x p : Blk) (w : Wts) (g : Fin 4) (d : Fin 128) : EReal :=
  ∑ t : Fin 2048, p (ix2 t (gc g d)) * ∑ c : Fin 128, D x g c t * w (ix3 g c d)

/-! ## The whole batch -/

abbrev Arr := (⟨2, ![8192, 512]⟩ : Shape).Idx → EReal
abbrev Wts4 := (⟨4, ![1, 4, 128, 128]⟩ : Shape).Idx → EReal

/-- Row `t` of sequence `b`. -/
abbrev br (b : Fin 4) (t : Fin 2048) : Fin 8192 := ⟨b.val * 2048 + t.val, by omega⟩

/-- Sequence `b`'s rows. -/
def blk (u : Arr) (b : Fin 4) : Blk := fun j => u (ix2 (br b (j 0)) (j 1))

/-- The weights of the one device. -/
def wts (w : Wts4) : Wts := fun j => w (ix4 0 (j 0) (j 1) (j 2))

/-- The group of a column, its place in it, the sequence of a row and its place in it. -/
abbrev cg (j : Fin 512) : Fin 4 := ⟨j.val / 128, by omega⟩
abbrev cc (j : Fin 512) : Fin 128 := ⟨j.val % 128, by omega⟩
abbrev rb (r : Fin 8192) : Fin 4 := ⟨r.val / 2048, by omega⟩
abbrev rt (r : Fin 8192) : Fin 2048 := ⟨r.val % 2048, by omega⟩

theorem gc_cg (j : Fin 512) : gc (cg j) (cc j) = j := Fin.ext (by show j.val / 128 * 128 + j.val % 128 = j.val; omega)
theorem cg_gc (g : Fin 4) (k : Fin 128) : cg (gc g k) = g := Fin.ext (by show (g.val * 128 + k.val) / 128 = g.val; omega)
theorem cc_gc (g : Fin 4) (k : Fin 128) : cc (gc g k) = k := Fin.ext (by show (g.val * 128 + k.val) % 128 = k.val; omega)
theorem br_rb (r : Fin 8192) : br (rb r) (rt r) = r := Fin.ext (by show r.val / 2048 * 2048 + r.val % 2048 = r.val; omega)
theorem rb_br (b : Fin 4) (t : Fin 2048) : rb (br b t) = b := Fin.ext (by show (b.val * 2048 + t.val) / 2048 = b.val; omega)
theorem rt_br (b : Fin 4) (t : Fin 2048) : rt (br b t) = t := Fin.ext (by show (b.val * 2048 + t.val) % 2048 = t.val; omega)

/-- The three results: the cotangents of the input, of the weights and of the scale. -/
def resU (w : Wts4) (s : Row) (p : Arr) : Arr :=
  fun j => DU (blk p (rb (j 0))) (wts w) s (cg (j 1)) (cc (j 1)) (rt (j 0))
def resW (u : Arr) (s : Row) (p : Arr) : Wts := fun j => ∑ b : Fin 4, DW (blk u b) (blk p b) s (j 0) (j 1) (j 2)
def resS (u : Arr) (w : Wts4) (p : Arr) : Row := fun j => ∑ b : Fin 4, DS (blk u b) (blk p b) (wts w) (cg (j 1)) (cc (j 1))

end Cert.Pool

end
-- ==== Proof.PoolBlock.lean ====
module

public import proofs.«01_k».proof.Proof.Gen.KernelIdeal.Value
public import proofs.«01_k».proof.Proof.PoolSpec
public import Idealize.ShloMosaic.Lib.Pointwise

@[expose] public section

/-! The vector expressions of the pooling kernel's body, named once for its four groups of columns, and each read at
    an index over the extended reals. -/

set_option maxRecDepth 16384

noncomputable section

namespace Cert.KernelIdeal.PoolValue

open Cert.KernelIdeal Cert.KernelIdeal.Gen Idealize.ShloMosaic Idealize.ShloMosaic.TcCoe Idealize.SL.Sem Cert.Pool

variable {F : FTy → Type} [FloatOps F]

/-- The row numbers. -/
abbrev IO : IVec S2048x1 32 := iota .tc S2048x1 32 [0] iota_S2048x1_d0_w32

/-- The number of rows a window of `w` covers, per row. -/
def CNT (w : BitVec 32) : FVec F S2048x1 .f32 :=
  sitofp .f32 (minsi (addi IO (broadcast S2048x1 1#32)) (broadcast S2048x1 w))

/-- One doubling step of the look-back window. -/
def upT (k : BitVec 32) (x : FVec F S2048x128 .f32) : FVec F S2048x128 .f32 :=
  addf x (select (broadcastTo S2048x128 (shapeCast S2048x1 (cmpi .sge IO (broadcast S2048x1 k)) shapeCasts_S2048x1_S2048x1)
      broadcasts_S2048x1_S2048x128)
    (dynamicRotate 0 k none x rotates_S2048x128_d0) (broadcast S2048x128 (Scalar.ofBits .f32 0x00000000#32)))

/-- One doubling step of the look-ahead window; `k` is the number of rows less the step. -/
def upL (k : BitVec 32) (x : FVec F S2048x128 .f32) : FVec F S2048x128 .f32 :=
  addf x (select (broadcastTo S2048x128 (shapeCast S2048x1 (cmpi .slt IO (broadcast S2048x1 k)) shapeCasts_S2048x1_S2048x1)
      broadcasts_S2048x1_S2048x128)
    (dynamicRotate 0 k none x rotates_S2048x128_d0) (broadcast S2048x128 (Scalar.ofBits .f32 0x00000000#32)))

/-- The pooled features from the window sums `y` of `x`. -/
def FEAT (w : BitVec 32) (y x : FVec F S2048x128 .f32) : FVec F S2048x128 .bf16 :=
  truncf .bf16 (subf (divf y (broadcastTo S2048x128 (CNT (F := F) w) broadcasts_S2048x1_S2048x128)) x) bitsLt_bf16_f32

/-- The scaled cotangent. -/
def DYV (p : FVec F S2048x128 .f32) (s : FVec F S1x128 .f32) : FVec F S2048x128 .bf16 :=
  truncf .bf16 (mulf p (broadcastTo S2048x128 s broadcasts_S1x128_S2048x128)) bitsLt_bf16_f32

/-- The scale's gradient, added to what is there. -/
def DSV (f : FVec F S2048x128 .bf16) (p : FVec F S2048x128 .f32) (w : FVec F S1x128x128 .bf16) (acc : FVec F S1x128 .f32) :
    FVec F S1x128 .f32 :=
  addf (shapeCast S1x128 acc shapeCasts_S1x128_S1x128)
    (shapeCast S1x128 (multiReduction .add [0] S128
      (mulf p (matmul dot_S2048x128_S128x128_S2048x128_1_0_0_1_n_n none f (shapeCast S128x128 w shapeCasts_S1x128x128_S128x128)
        (constant S2048x128 .f32 0x00000000#32))) 0x00000000#32 reduces_S2048x128_S128 (.inl rfl) rfl) shapeCasts_S128_S1x128)

/-- The weights' gradient, added to what is there. -/
def DWV (f dy : FVec F S2048x128 .bf16) (acc : FVec F S1x128x128 .f32) : FVec F S1x128x128 .f32 :=
  shapeCast S1x128x128 (addf (shapeCast S128x128 acc shapeCasts_S1x128x128_S128x128)
    (matmul dot_S2048x128_S2048x128_S128x128_0_0_1_1_n_n none f dy (constant S128x128 .f32 0x00000000#32))) shapeCasts_S128x128_S1x128x128

/-- The features' cotangent. -/
def DDV (dy : FVec F S2048x128 .bf16) (w : FVec F S1x128x128 .bf16) : FVec F S2048x128 .f32 :=
  matmul dot_S2048x128_S128x128_S2048x128_1_1_0_0_n_n none dy (shapeCast S128x128 w shapeCasts_S1x128x128_S128x128)
    (constant S2048x128 .f32 0x00000000#32)

/-- The features' cotangent over the row's count. -/
def EV (w : BitVec 32) (dd : FVec F S2048x128 .f32) : FVec F S2048x128 .f32 :=
  divf dd (broadcastTo S2048x128 (CNT (F := F) w) broadcasts_S2048x1_S2048x128)

/-- The input's cotangent from the look-ahead sums `y`. -/
def DUV (y dd : FVec F S2048x128 .f32) : FVec F S2048x128 .bf16 :=
  shapeCast S2048x128 (truncf .bf16 (subf y dd) bitsLt_bf16_f32) shapeCasts_S2048x128_S2048x128

/-- The features of group `g`. -/
def FG (g : Fin 4) (x : FVec F S2048x128 .f32) : FVec F S2048x128 .bf16 :=
  match g with
  | 0 => FEAT 2#32 (upT 1#32 x) x
  | 1 => FEAT 4#32 (upT 2#32 (upT 1#32 x)) x
  | 2 => FEAT 8#32 (upT 4#32 (upT 2#32 (upT 1#32 x))) x
  | 3 => FEAT 16#32 (upT 8#32 (upT 4#32 (upT 2#32 (upT 1#32 x)))) x

/-- The input's cotangent of group `g`. -/
def UG (g : Fin 4) (dd : FVec F S2048x128 .f32) : FVec F S2048x128 .bf16 :=
  match g with
  | 0 => DUV (upL 2047#32 (EV 2#32 dd)) dd
  | 1 => DUV (upL 2046#32 (upL 2047#32 (EV 4#32 dd))) dd
  | 2 => DUV (upL 2044#32 (upL 2046#32 (upL 2047#32 (EV 8#32 dd)))) dd
  | 3 => DUV (upL 2040#32 (upL 2044#32 (upL 2046#32 (upL 2047#32 (EV 16#32 dd))))) dd

/-! ## Read at an index -/

theorem CNT_apply (w : BitVec 32) (n : ℕ) (hw : ∀ t : Fin 2048, (IntOp.minsi (IntOp.addi (BitVec.ofNat 32 t.val) 1#32) w).toInt = (min (t.val + 1) n : ℕ))
    (t : Fin 2048) : CNT (F := Ideal) w (ix2 t 0) = cnt n t.val := by
  pointwise [CNT]
  show ((((IntOp.minsi (IntOp.addi (BitVec.ofNat 32 t.val) 1#32) w).toInt : ℤ) : ℝ) : EReal) = _
  rw [hw]; simp [cnt]

theorem upT_apply (k : BitVec 32) (n : ℕ) (hn : n < 2048)
    (hk : ∀ t : Fin 2048, IntOp.cmpi .sge (BitVec.ofNat 32 t.val) k = if n ≤ t.val then 1#1 else 0#1) (hkn : k.toNat = n)
    (x : FVec Ideal S2048x128 .f32) (t : Fin 2048) (c : Fin 128) :
    upT k x (ix2 t c) = x (ix2 t c) + if n ≤ t.val then ext (fun s => x (ix2 s c)) (t.val - n) else 0 := by
  pointwise [upT]
  rw [hk]
  split
  · rename_i h
    rw [ext_of_lt _ (by omega)]
    refine congrArg (x (ix2 t c) + ·) (congrArg (fun q => x (ix2 q c)) (Fin.ext ?_))
    show (t.val + 2048 - k.toNat % 2048) % 2048 = t.val - n
    rw [hkn]; omega
  · rfl

theorem upL_apply (k : BitVec 32) (n : ℕ) (hn : n < 2048) (hn0 : 0 < n)
    (hk : ∀ t : Fin 2048, IntOp.cmpi .slt (BitVec.ofNat 32 t.val) k = if t.val + n < 2048 then 1#1 else 0#1)
    (hkn : k.toNat = 2048 - n) (x : FVec Ideal S2048x128 .f32) (t : Fin 2048) (c : Fin 128) :
    upL k x (ix2 t c) = x (ix2 t c) + ext (fun s => x (ix2 s c)) (t.val + n) := by
  pointwise [upL]
  rw [hk]
  split
  · rename_i h
    rw [ext_of_lt _ h]
    refine congrArg (x (ix2 t c) + ·) (congrArg (fun q => x (ix2 q c)) (Fin.ext ?_))
    show (t.val + 2048 - k.toNat % 2048) % 2048 = t.val + n
    rw [hkn]; omega
  · rename_i h
    rw [ext, dif_neg h]; rfl

/-- A doubling step of look-back sums. -/
theorem upT_trail (k : BitVec 32) (n : ℕ) (hn : n < 2048)
    (hk : ∀ t : Fin 2048, IntOp.cmpi .sge (BitVec.ofNat 32 t.val) k = if n ≤ t.val then 1#1 else 0#1) (hkn : k.toNat = n)
    (x y : FVec Ideal S2048x128 .f32) (c : Fin 128)
    (hy : ∀ t : Fin 2048, y (ix2 t c) = trail n (fun s => x (ix2 s c)) t.val) (t : Fin 2048) :
    upT k y (ix2 t c) = trail (n + n) (fun s => x (ix2 s c)) t.val := by
  rw [upT_apply k n hn hk hkn, trail_double, hy]
  congr 1
  split
  · rw [ext_of_lt _ (by omega), hy]
  · rfl

/-- A doubling step of look-ahead sums. -/
theorem upL_lead (k : BitVec 32) (n : ℕ) (hn : n < 2048) (hn0 : 0 < n)
    (hk : ∀ t : Fin 2048, IntOp.cmpi .slt (BitVec.ofNat 32 t.val) k = if t.val + n < 2048 then 1#1 else 0#1)
    (hkn : k.toNat = 2048 - n) (x y : FVec Ideal S2048x128 .f32) (c : Fin 128)
    (hy : ∀ t : Fin 2048, y (ix2 t c) = lead n (fun s => x (ix2 s c)) t.val) (t : Fin 2048) :
    upL k y (ix2 t c) = lead (n + n) (fun s => x (ix2 s c)) t.val := by
  rw [upL_apply k n hn hn0 hk hkn, lead_double, hy]
  congr 1
  by_cases h : t.val + n < 2048
  · rw [ext_of_lt _ h, hy]
  · rw [ext, dif_neg h, lead_past _ _ _ (by omega)]

variable (x : FVec Ideal S2048x128 .f32) (c : Fin 128)

theorem upT1 (t : Fin 2048) : upT 1#32 x (ix2 t c) = trail 2 (fun s => x (ix2 s c)) t.val :=
  upT_trail 1#32 1 (by decide) (by decide +kernel) rfl x x c (fun t => by rw [trail_one, ext_val]) t
theorem upT2 (t : Fin 2048) : upT 2#32 (upT 1#32 x) (ix2 t c) = trail 4 (fun s => x (ix2 s c)) t.val :=
  upT_trail 2#32 2 (by decide) (by decide +kernel) rfl x _ c (upT1 x c) t
theorem upT4 (t : Fin 2048) : upT 4#32 (upT 2#32 (upT 1#32 x)) (ix2 t c) = trail 8 (fun s => x (ix2 s c)) t.val :=
  upT_trail 4#32 4 (by decide) (by decide +kernel) rfl x _ c (upT2 x c) t
theorem upT8 (t : Fin 2048) :
    upT 8#32 (upT 4#32 (upT 2#32 (upT 1#32 x))) (ix2 t c) = trail 16 (fun s => x (ix2 s c)) t.val :=
  upT_trail 8#32 8 (by decide) (by decide +kernel) rfl x _ c (upT4 x c) t

theorem upL1 (t : Fin 2048) : upL 2047#32 x (ix2 t c) = lead 2 (fun s => x (ix2 s c)) t.val :=
  upL_lead 2047#32 1 (by decide) (by decide) (by decide +kernel) rfl x x c (fun t => by rw [lead_one, ext_val]) t
theorem upL2 (t : Fin 2048) : upL 2046#32 (upL 2047#32 x) (ix2 t c) = lead 4 (fun s => x (ix2 s c)) t.val :=
  upL_lead 2046#32 2 (by decide) (by decide) (by decide +kernel) rfl x _ c (upL1 x c) t
theorem upL4 (t : Fin 2048) : upL 2044#32 (upL 2046#32 (upL 2047#32 x)) (ix2 t c) = lead 8 (fun s => x (ix2 s c)) t.val :=
  upL_lead 2044#32 4 (by decide) (by decide) (by decide +kernel) rfl x _ c (upL2 x c) t
theorem upL8 (t : Fin 2048) :
    upL 2040#32 (upL 2044#32 (upL 2046#32 (upL 2047#32 x))) (ix2 t c) = lead 16 (fun s => x (ix2 s c)) t.val :=
  upL_lead 2040#32 8 (by decide) (by decide) (by decide +kernel) rfl x _ c (upL4 x c) t

theorem CNT2 (t : Fin 2048) : CNT (F := Ideal) 2#32 (ix2 t 0) = cnt 2 t.val := CNT_apply _ _ (by decide +kernel) t
theorem CNT4 (t : Fin 2048) : CNT (F := Ideal) 4#32 (ix2 t 0) = cnt 4 t.val := CNT_apply _ _ (by decide +kernel) t
theorem CNT8 (t : Fin 2048) : CNT (F := Ideal) 8#32 (ix2 t 0) = cnt 8 t.val := CNT_apply _ _ (by decide +kernel) t
theorem CNT16 (t : Fin 2048) : CNT (F := Ideal) 16#32 (ix2 t 0) = cnt 16 t.val := CNT_apply _ _ (by decide +kernel) t

theorem FEAT_apply (w : BitVec 32) (y : FVec Ideal S2048x128 .f32) (t : Fin 2048) :
    FEAT w y x (ix2 t c) = Ideal.div (y (ix2 t c)) (CNT (F := Ideal) w (ix2 t 0)) - x (ix2 t c) := by
  pointwise [FEAT]

theorem EV_apply (w : BitVec 32) (t : Fin 2048) :
    EV w x (ix2 t c) = Ideal.div (x (ix2 t c)) (CNT (F := Ideal) w (ix2 t 0)) := by
  pointwise [EV]

theorem DUV_apply (y : FVec Ideal S2048x128 .f32) (t : Fin 2048) : DUV y x (ix2 t c) = y (ix2 t c) - x (ix2 t c) := by
  pointwise [DUV]

theorem FG_apply (g : Fin 4) (t : Fin 2048) :
    FG g x (ix2 t c) = Ideal.div (trail (wsz g) (fun s => x (ix2 s c)) t.val) (cnt (wsz g) t.val) - x (ix2 t c) := by
  match g with
  | 0 => exact (FEAT_apply x c _ _ t).trans (by rw [upT1, CNT2]; rfl)
  | 1 => exact (FEAT_apply x c _ _ t).trans (by rw [upT2, CNT4]; rfl)
  | 2 => exact (FEAT_apply x c _ _ t).trans (by rw [upT4, CNT8]; rfl)
  | 3 => exact (FEAT_apply x c _ _ t).trans (by rw [upT8, CNT16]; rfl)

theorem UG_apply (g : Fin 4) (t : Fin 2048) :
    UG g x (ix2 t c) = lead (wsz g) (fun s => Ideal.div (x (ix2 s c)) (cnt (wsz g) s.val)) t.val - x (ix2 t c) := by
  match g with
  | 0 => exact (DUV_apply x c _ t).trans (by rw [upL1]; simp only [EV_apply, CNT2]; rfl)
  | 1 => exact (DUV_apply x c _ t).trans (by rw [upL2]; simp only [EV_apply, CNT4]; rfl)
  | 2 => exact (DUV_apply x c _ t).trans (by rw [upL4]; simp only [EV_apply, CNT8]; rfl)
  | 3 => exact (DUV_apply x c _ t).trans (by rw [upL8]; simp only [EV_apply, CNT16]; rfl)

theorem DYV_apply (s : FVec Ideal S1x128 .f32) (t : Fin 2048) : DYV x s (ix2 t c) = x (ix2 t c) * s (ix2 0 c) := by
  pointwise [DYV]

theorem DDV_apply (dy : FVec Ideal S2048x128 .bf16) (w : FVec Ideal S1x128x128 .bf16) (t : Fin 2048) :
    DDV dy w (ix2 t c) = ∑ d : Fin 128, dy (ix2 t d) * w (ix3 0 c d) := by
  pointwise [DDV]

theorem DWV_apply (f dy : FVec Ideal S2048x128 .bf16) (acc : FVec Ideal S1x128x128 .f32) (d : Fin 128) :
    DWV f dy acc (ix3 0 c d) = acc (ix3 0 c d) + ∑ t : Fin 2048, f (ix2 t c) * dy (ix2 t d) := by
  pointwise [DWV]

theorem DSV_apply (f : FVec Ideal S2048x128 .bf16) (w : FVec Ideal S1x128x128 .bf16) (acc : FVec Ideal S1x128 .f32) :
    DSV f x w acc (ix2 0 c) = acc (ix2 0 c) + ∑ t : Fin 2048, x (ix2 t c) * ∑ d : Fin 128, f (ix2 t d) * w (ix3 0 d c) := by
  pointwise [DSV]

end Cert.KernelIdeal.PoolValue

end
-- ==== Proof.PoolKernel.lean ====
module

public import proofs.«01_k».proof.Proof.PoolBlock
public import Idealize.ShloMosaic.Lib.Pipeline.ReadBack

@[expose] public section

/-! What one grid point of the pooling kernel leaves in its three output blocks, and from it the final arrays. -/

set_option maxRecDepth 16384

noncomputable section

namespace Cert.KernelIdeal.PoolValue

open Cert.KernelIdeal Cert.KernelIdeal.Gen Idealize.ShloMosaic Idealize.ShloMosaic.TcCoe Idealize.SL.Sem Cert.Pool

section body

variable {F : FTy → Type} [FloatOps F]
variable (c : Dev nD) (i : grid0.Coords) (arg1 : Memref sig .tc .vmem S2048x512 .f32) (harg1 : arg1.IsWhole)
  (arg2 : Memref sig .tc .vmem S2048x512 .f32) (harg2 : arg2.IsWhole) (arg3 : Memref sig .tc .vmem S4x128x128 .bf16) (harg3 : arg3.IsWhole)
  (arg4 : Memref sig .tc .vmem S1x512 .f32) (harg4 : arg4.IsWhole) (arg5 : Memref sig .tc .vmem S2048x512 .bf16) (harg5 : arg5.IsWhole)
  (arg6 : Memref sig .tc .vmem S4x128x128 .f32) (harg6 : arg6.IsWhole) (arg7 : Memref sig .tc .vmem S1x512 .f32) (harg7 : arg7.IsWhole)
  (x0 x1 : Vec F S2048x512 .f32) (x2 : Vec F S4x128x128 .bf16) (x3 : Vec F S1x512 .f32)
  (xo5 : Vec F S4x128x128 .f32) (xo6 : Vec F S1x512 .f32)

/-- Group `g`'s columns of a block. -/
abbrev rC (g : Fin 4) : Rect S2048x512 :=
  Rect.unit ![0, g.val * 128] ![2048, 128] (fun a => by match a with | 0 => exact Nat.le_refl _ | 1 => show g.val * 128 + 128 ≤ 512; omega)

/-- Group `g`'s slab of the weights. -/
abbrev rW (g : Fin 4) : Rect S4x128x128 :=
  Rect.unit ![g.val, 0, 0] ![1, 128, 128] (fun a => by
    match a with | 0 => show g.val + 1 ≤ 4; omega | 1 => exact Nat.le_refl _ | 2 => exact Nat.le_refl _)

/-- Group `g`'s columns of the scale row. -/
abbrev rS (g : Fin 4) : Rect S1x512 :=
  Rect.unit ![0, g.val * 128] ![1, 128] (fun a => by match a with | 0 => exact Nat.le_refl _ | 1 => show g.val * 128 + 128 ≤ 512; omega)

/-- The three payloads of group `g`. -/
abbrev piU (g : Fin 4) : FVec F S2048x128 .bf16 :=
  UG g (DDV (DYV (View.ld x1 (rC g)) (View.ld x3 (rS g))) (View.ld x2 (rW g)))
abbrev piW (g : Fin 4) : FVec F S1x128x128 .f32 :=
  DWV (FG g (View.ld x0 (rC g))) (DYV (View.ld x1 (rC g)) (View.ld x3 (rS g))) (View.ld xo5 (rW g))
abbrev piS (g : Fin 4) : FVec F S1x128 .f32 :=
  DSV (FG g (View.ld x0 (rC g))) (View.ld x1 (rC g)) (View.ld x2 (rW g)) (View.ld xo6 (rS g))

/-- The pieces of the three outputs, the last stored first. -/
abbrev LU : List (View.Piece (Elt F) S2048x512 .bf16) :=
  [3, 2, 1, 0].map fun g : Fin 4 => ⟨rC g, piU x1 x2 x3 g⟩
abbrev LW : List (View.Piece (Elt F) S4x128x128 .f32) :=
  [3, 2, 1, 0].map fun g : Fin 4 => ⟨rW g, piW x0 x1 x3 xo5 g⟩
abbrev LS : List (View.Piece (Elt F) S1x512 .f32) :=
  [3, 2, 1, 0].map fun g : Fin 4 => ⟨rS g, piS x0 x1 x2 xo6 g⟩

include harg1 harg2 harg3 harg4 harg6 harg7 in
theorem out_B_4 (hc0 : ¬cond0_0 i) :
    out0_B_4 c i arg1 harg1 arg2 harg2 arg3 harg3 arg4 harg4 arg5 harg5 arg6 harg6 arg7 harg7 hc0 x0 x1 x2 x3 xo5 xo6
      = View.canon (LU x1 x2 x3) := by
  unfold out0_B_4
  rw [View.read_writes_eq_canon _ _ _ (cover0_B_4 c i arg1 harg1 arg2 harg2 arg3 harg3 arg4 harg4 arg5 harg5 arg6 harg6 arg7 harg7 hc0 x0 x1 x2 x3 xo5 xo6)]
  unfold kernelRun0_B; dsimp only; sl_unfold_words
  simp only [View.readAt_eq_ld, harg1.read_unread, harg2.read_unread, harg3.read_unread, harg4.read_unread, harg6.read_unread, harg7.read_unread]
  rfl

include harg1 harg2 harg3 harg4 harg6 harg7 in
theorem out_B_5 (hc0 : ¬cond0_0 i) :
    out0_B_5 c i arg1 harg1 arg2 harg2 arg3 harg3 arg4 harg4 arg5 harg5 arg6 harg6 arg7 harg7 hc0 x0 x1 x2 x3 xo5 xo6
      = View.canon (LW x0 x1 x3 xo5) := by
  unfold out0_B_5
  rw [View.read_writes_eq_canon _ _ _ (cover0_B_5 c i arg1 harg1 arg2 harg2 arg3 harg3 arg4 harg4 arg5 harg5 arg6 harg6 arg7 harg7 hc0 x0 x1 x2 x3 xo5 xo6)]
  unfold kernelRun0_B; dsimp only; sl_unfold_words
  simp only [View.readAt_eq_ld, harg1.read_unread, harg2.read_unread, harg3.read_unread, harg4.read_unread, harg6.read_unread, harg7.read_unread]
  rfl

include harg1 harg2 harg3 harg4 harg6 harg7 in
theorem out_B_6 (hc0 : ¬cond0_0 i) :
    out0_B_6 c i arg1 harg1 arg2 harg2 arg3 harg3 arg4 harg4 arg5 harg5 arg6 harg6 arg7 harg7 hc0 x0 x1 x2 x3 xo5 xo6
      = View.canon (LS x0 x1 x2 xo6) := by
  unfold out0_B_6
  rw [View.read_writes_eq_canon _ _ _ (cover0_B_6 c i arg1 harg1 arg2 harg2 arg3 harg3 arg4 harg4 arg5 harg5 arg6 harg6 arg7 harg7 hc0 x0 x1 x2 x3 xo5 xo6)]
  unfold kernelRun0_B; dsimp only; sl_unfold_words
  simp only [View.readAt_eq_ld, harg1.read_unread, harg2.read_unread, harg3.read_unread, harg4.read_unread, harg6.read_unread, harg7.read_unread]
  rfl

include harg1 harg2 harg3 harg4 in
theorem out_A_4 (hc0 : cond0_0 i) :
    out0_A_4 c i arg1 harg1 arg2 harg2 arg3 harg3 arg4 harg4 arg5 harg5 arg6 harg6 arg7 harg7 hc0 x0 x1 x2 x3
      = View.canon (LU x1 x2 x3) := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A; dsimp only; sl_unfold_words
  simp only [View.readAt_eq_ld, harg1.read_unread, harg2.read_unread, harg3.read_unread, harg4.read_unread]
  rfl

include harg1 harg2 harg3 harg4 in
theorem out_A_5 (hc0 : cond0_0 i) :
    out0_A_5 c i arg1 harg1 arg2 harg2 arg3 harg3 arg4 harg4 arg5 harg5 arg6 harg6 arg7 harg7 hc0 x0 x1 x2 x3
      = View.canon (LW x0 x1 x3 k0_pay2 ++ [⟨Rect.unit ![0, 0, 0] ![4, 128, 128] inb_S4x128x128_S4x128x128_0_0_0, k0_pay2⟩]) := by
  unfold out0_A_5
  rw [View.read_writes_eq_canon _ _ _ (cover0_A_5 c i arg1 harg1 arg2 harg2 arg3 harg3 arg4 harg4 arg5 harg5 arg6 harg6 arg7 harg7 hc0 x0 x1 x2 x3)]
  unfold kernelRun0_A; dsimp only; sl_unfold_words
  simp only [View.readAt_eq_ld, harg1.read_unread, harg2.read_unread, harg3.read_unread, harg4.read_unread]
  simp (disch := first | decide +kernel | (intro a; fin_cases a <;> rfl)) only [↓View.readCov_skip, ↓View.readCov_fill]
  rfl

include harg1 harg2 harg3 harg4 in
theorem out_A_6 (hc0 : cond0_0 i) :
    out0_A_6 c i arg1 harg1 arg2 harg2 arg3 harg3 arg4 harg4 arg5 harg5 arg6 harg6 arg7 harg7 hc0 x0 x1 x2 x3
      = View.canon (LS x0 x1 x2 k0_pay3 ++ [⟨Rect.unit ![0, 0] ![1, 512] inb_S1x512_S1x512_0_0, k0_pay3⟩]) := by
  unfold out0_A_6
  rw [View.read_writes_eq_canon _ _ _ (cover0_A_6 c i arg1 harg1 arg2 harg2 arg3 harg3 arg4 harg4 arg5 harg5 arg6 harg6 arg7 harg7 hc0 x0 x1 x2 x3)]
  unfold kernelRun0_A; dsimp only; sl_unfold_words
  simp only [View.readAt_eq_ld, harg1.read_unread, harg2.read_unread, harg3.read_unread, harg4.read_unread]
  simp (disch := first | decide +kernel | (intro a; fin_cases a <;> rfl)) only [↓View.readCov_skip, ↓View.readCov_fill]
  rfl

end body

/-! ## The pieces at an index -/

section values

variable (x p : Vec Ideal S2048x512 .f32) (w : Vec Ideal S4x128x128 .bf16) (s : Vec Ideal S1x512 .f32)
  (a5 : Vec Ideal S4x128x128 .f32) (a6 : Vec Ideal S1x512 .f32)

theorem ldC (g : Fin 4) (t : Fin 2048) (k : Fin 128) : View.ld (Val := Elt Ideal) (e' := .f32) x (rC g) (ix2 t k : S2048x128.Idx) = x (ix2 t (gc g k)) :=
  congrArg x (funext fun a => Fin.ext (by
    match a with
    | 0 => show 0 + 1 * t.val = t.val; omega
    | 1 => show g.val * 128 + 1 * k.val = g.val * 128 + k.val; omega))

theorem ldS (g : Fin 4) (k : Fin 128) : View.ld (Val := Elt Ideal) (e' := .f32) s (rS g) (ix2 0 k : S1x128.Idx) = s (ix2 0 (gc g k)) :=
  congrArg s (funext fun a => Fin.ext (by
    match a with
    | 0 => rfl
    | 1 => show g.val * 128 + 1 * k.val = g.val * 128 + k.val; omega))

theorem ldW {e : EltTy} (v : Vec Ideal S4x128x128 e) (g : Fin 4) (k d : Fin 128) : View.ld (Val := Elt Ideal) v (rW g) (ix3 0 k d : S1x128x128.Idx) = v (ix3 g k d) :=
  congrArg v (funext fun a => Fin.ext (by
    match a with
    | 0 => show g.val + 1 * 0 = g.val; omega
    | 1 => show 0 + 1 * k.val = k.val; omega
    | 2 => show 0 + 1 * d.val = d.val; omega))

theorem FG_D (g : Fin 4) (k : Fin 128) (y : FVec Ideal S2048x128 .f32) (hy : ∀ t : Fin 2048, y (ix2 t k) = x (ix2 t (gc g k)))
    (t : Fin 2048) : FG g y (ix2 t k) = D x g k t := by
  rw [FG_apply, hy, show (fun s => y (ix2 s k)) = fun s => x (ix2 s (gc g k)) from funext hy]; rfl

theorem DYV_DY (g : Fin 4) (k : Fin 128) (y : FVec Ideal S2048x128 .f32) (hy : ∀ t : Fin 2048, y (ix2 t k) = p (ix2 t (gc g k)))
    (r : FVec Ideal S1x128 .f32) (hr : r (ix2 0 k) = s (ix2 0 (gc g k))) (t : Fin 2048) : DYV y r (ix2 t k) = DY p s g k t := by
  rw [DYV_apply, hy, hr]; rfl

theorem DDV_DD (g : Fin 4) (k : Fin 128) (y : FVec Ideal S2048x128 .bf16) (t : Fin 2048) (hy : ∀ d : Fin 128, y (ix2 t d) = DY p s g d t)
    (v : FVec Ideal S1x128x128 .bf16) (hv : ∀ d : Fin 128, v (ix3 0 k d) = w (ix3 g k d)) : DDV y v (ix2 t k) = DD p w s g k t :=
  (DDV_apply k y v t).trans (Finset.sum_congr rfl fun d _ => congrArg₂ (· * ·) (hy d) (hv d))

theorem UG_DU (g : Fin 4) (k : Fin 128) (y : FVec Ideal S2048x128 .f32) (hy : ∀ t : Fin 2048, y (ix2 t k) = DD p w s g k t)
    (t : Fin 2048) : UG g y (ix2 t k) = DU p w s g k t := by
  rw [UG_apply]; simp only [hy]; rfl

theorem piU_apply (g : Fin 4) (t : Fin 2048) (k : Fin 128) : piU (F := Ideal) p w s g (ix2 t k) = DU p w s g k t :=
  UG_DU p w s g k _ (fun t => DDV_DD p w s g k _ t (fun d => DYV_DY p s g d _ (fun t => ldC p g t d) _ (ldS s g d) t) _ (fun d => ldW w g k d)) t

theorem piW_apply (g : Fin 4) (k d : Fin 128) : piW (F := Ideal) x p s a5 g (ix3 0 k d) = a5 (ix3 g k d) + DW x p s g k d :=
  (DWV_apply k _ _ _ d).trans (congrArg₂ (· + ·) (ldW a5 g k d) (Finset.sum_congr rfl fun t _ => congrArg₂ (· * ·)
    (FG_D x g k _ (fun t => ldC x g t k) t) (DYV_DY p s g d _ (fun t => ldC p g t d) _ (ldS s g d) t)))

theorem piS_apply (g : Fin 4) (d : Fin 128) : piS (F := Ideal) x p w a6 g (ix2 0 d) = a6 (ix2 0 (gc g d)) + DS x p w g d :=
  (DSV_apply _ d _ _ _).trans (congrArg₂ (· + ·) (ldS a6 g d) (Finset.sum_congr rfl fun t _ => congrArg₂ (· * ·) (ldC p g t d)
    (Finset.sum_congr rfl fun k _ => congrArg₂ (· * ·) (FG_D x g k _ (fun t => ldC x g t k) t) (ldW w g k d))))

/-- The block of the input's cotangent a point leaves. -/
def oU : Vec Ideal S2048x512 .bf16 := fun j => DU p w s (cg (j 1)) (cc (j 1)) (j 0)
/-- The weights' gradient a point leaves over `a5`. -/
def oW : Vec Ideal S4x128x128 .f32 := fun j => a5 j + DW x p s (j 0) (j 1) (j 2)
/-- The scale's gradient a point leaves over `a6`. -/
def oS : Vec Ideal S1x512 .f32 := fun j => a6 j + DS x p w (cg (j 1)) (cc (j 1))

theorem embC (g : Fin 4) (t : Fin 2048) (k : Fin 128) : (rC g).emb (ix2 t k : S2048x128.Idx) = ix2 t (gc g k) := by
  refine funext fun a => Fin.ext ?_
  match a with
  | 0 => show 0 + 1 * t.val = t.val; omega
  | 1 => show g.val * 128 + 1 * k.val = g.val * 128 + k.val; omega

theorem embS (g : Fin 4) (k : Fin 128) : (rS g).emb (ix2 0 k : S1x128.Idx) = ix2 0 (gc g k) := by
  refine funext fun a => Fin.ext ?_
  match a with
  | 0 => rfl
  | 1 => show g.val * 128 + 1 * k.val = g.val * 128 + k.val; omega

theorem embW (g : Fin 4) (k d : Fin 128) : (rW g).emb (ix3 0 k d : S1x128x128.Idx) = ix3 g k d := by
  refine funext fun a => Fin.ext ?_
  match a with
  | 0 => show g.val + 1 * 0 = g.val; omega
  | 1 => show 0 + 1 * k.val = k.val; omega
  | 2 => show 0 + 1 * d.val = d.val; omega

theorem pieceU (g : Fin 4) (j : (rC g).shape.Idx) : piU (F := Ideal) p w s g j = oU p w s ((rC g).emb j) := by
  obtain ⟨t, k, rfl⟩ : ∃ (t : Fin 2048) (k : Fin 128), j = (ix2 t k : S2048x128.Idx) := ⟨j 0, j 1, funext fun a => by match a with | 0 => rfl | 1 => rfl⟩
  rw [embC]
  show _ = DU p w s (cg (gc g k)) (cc (gc g k)) t
  rw [cg_gc, cc_gc, piU_apply]

theorem pieceS (g : Fin 4) (j : (rS g).shape.Idx) : piS (F := Ideal) x p w a6 g j = oS x p w a6 ((rS g).emb j) := by
  obtain ⟨k, rfl⟩ : ∃ (k : Fin 128), j = (ix2 0 k : S1x128.Idx) :=
    ⟨j 1, funext fun a => by match a with | 0 => exact Fin.ext (by have := (j 0).isLt; change (j 0).val < 1 at this; show (j 0).val = 0; omega) | 1 => rfl⟩
  rw [embS]
  show _ = a6 (ix2 0 (gc g k)) + DS x p w (cg (gc g k)) (cc (gc g k))
  rw [cg_gc, cc_gc, piS_apply]

theorem pieceW (g : Fin 4) (j : (rW g).shape.Idx) : piW (F := Ideal) x p s a5 g j = oW x p s a5 ((rW g).emb j) := by
  obtain ⟨k, d, rfl⟩ : ∃ (k d : Fin 128), j = (ix3 0 k d : S1x128x128.Idx) :=
    ⟨j 1, j 2, funext fun a => by
      match a with
      | 0 => exact Fin.ext (by have := (j 0).isLt; change (j 0).val < 1 at this; show (j 0).val = 0; omega)
      | 1 => rfl
      | 2 => rfl⟩
  rw [embW, piW_apply]; rfl

theorem memC (t : Fin 2048) (j : Fin 512) : (ix2 t j : S2048x512.Idx) ∈ (rC (cg j)).set := by
  have h : (rC (cg j)).emb (ix2 t (cc j) : S2048x128.Idx) ∈ (rC (cg j)).set := (rC (cg j)).idx_mem _
  rwa [embC, gc_cg] at h

theorem memS (j : Fin 512) : (ix2 0 j : S1x512.Idx) ∈ (rS (cg j)).set := by
  have h : (rS (cg j)).emb (ix2 0 (cc j) : S1x128.Idx) ∈ (rS (cg j)).set := (rS (cg j)).idx_mem _
  rwa [embS, gc_cg] at h

theorem memW (g : Fin 4) (k d : Fin 128) : (ix3 g k d : S4x128x128.Idx) ∈ (rW g).set := by
  have h : (rW g).emb (ix3 0 k d : S1x128x128.Idx) ∈ (rW g).set := (rW g).idx_mem _
  rwa [embW] at h

theorem memLU (j : S2048x512.Idx) (g : Fin 4) (h : j ∈ (rC g).set) : ∃ q ∈ LU (F := Ideal) p w s, j ∈ q.1.set :=
  ⟨_, List.mem_map_of_mem ((by decide : ∀ g : Fin 4, g ∈ [3, 2, 1, 0]) g), h⟩

theorem piecesLU : View.PiecesOf (oU p w s) (LU (F := Ideal) p w s) :=
  ⟨pieceU p w s 3, pieceU p w s 2, pieceU p w s 1, pieceU p w s 0, trivial⟩

theorem canonU : View.canon (LU (F := Ideal) p w s) = oU p w s :=
  funext fun j => View.canon_append_of_piecesOf (oU p w s) [] (LU (F := Ideal) p w s) (piecesLU p w s) j
    (memLU p w s j (cg (j 1)) (by idx_vars j; exact memC j0 j1))

theorem memLW (j : S4x128x128.Idx) (g : Fin 4) (h : j ∈ (rW g).set) : ∃ q ∈ LW (F := Ideal) x p s a5, j ∈ q.1.set :=
  ⟨_, List.mem_map_of_mem ((by decide : ∀ g : Fin 4, g ∈ [3, 2, 1, 0]) g), h⟩

theorem piecesLW : View.PiecesOf (oW x p s a5) (LW (F := Ideal) x p s a5) :=
  ⟨pieceW x p s a5 3, pieceW x p s a5 2, pieceW x p s a5 1, pieceW x p s a5 0, trivial⟩

theorem canonW (L : List (View.Piece (Elt Ideal) S4x128x128 .f32)) : View.canon (LW (F := Ideal) x p s a5 ++ L) = oW x p s a5 :=
  funext fun j => View.canon_append_of_piecesOf (oW x p s a5) L (LW (F := Ideal) x p s a5) (piecesLW x p s a5) j
    (memLW x p s a5 j (j 0) (by idx_vars j; exact memW j0 j1 j2))

theorem memLS (j : S1x512.Idx) (g : Fin 4) (h : j ∈ (rS g).set) : ∃ q ∈ LS (F := Ideal) x p w a6, j ∈ q.1.set :=
  ⟨_, List.mem_map_of_mem ((by decide : ∀ g : Fin 4, g ∈ [3, 2, 1, 0]) g), h⟩

theorem piecesLS : View.PiecesOf (oS x p w a6) (LS (F := Ideal) x p w a6) :=
  ⟨pieceS x p w a6 3, pieceS x p w a6 2, pieceS x p w a6 1, pieceS x p w a6 0, trivial⟩

theorem canonS (L : List (View.Piece (Elt Ideal) S1x512 .f32)) : View.canon (LS (F := Ideal) x p w a6 ++ L) = oS x p w a6 :=
  funext fun j => View.canon_append_of_piecesOf (oS x p w a6) L (LS (F := Ideal) x p w a6) (piecesLS x p w a6) j
    (memLS x p w a6 j (cg (j 1)) (by idx_vars j; fin_cases j0; exact memS j1))

theorem canonW' : View.canon (LW (F := Ideal) x p s a5) = oW x p s a5 :=
  (congrArg View.canon (List.append_nil _)).symm.trans (canonW x p s a5 [])

theorem canonS' : View.canon (LS (F := Ideal) x p w a6) = oS x p w a6 :=
  (congrArg View.canon (List.append_nil _)).symm.trans (canonS x p w a6 [])

end values
end Cert.KernelIdeal.PoolValue

end
-- ==== Proof.PoolRun.lean ====
module

public import proofs.«01_k».proof.Proof.PoolKernel

@[expose] public section

/-! The pooling kernel's final arrays: the blocks its points leave, put together over the grid. -/

set_option maxRecDepth 16384

noncomputable section

namespace Cert.KernelIdeal.PoolValue

open Cert.KernelIdeal Cert.KernelIdeal.Gen Idealize.ShloMosaic Idealize.ShloMosaic.TcCoe Idealize.SL.Sem Cert.Pool

variable (m : (ℓ : Loc nD τ sig) → Buf (Elt Ideal) ℓ) (ρ : Dev nD → PrngReg) (c : Dev nD)

/-- The four arguments. -/
abbrev aU : Arr := m ((c : Thread nD τ).loc main_arg0)
abbrev aW : Wts4 := m ((c : Thread nD τ).loc main_arg1)
abbrev aS : Row := m ((c : Thread nD τ).loc main_arg2)
abbrev aP : Arr := m ((c : Thread nD τ).loc main_arg3)

theorem V_main_v1 : V m c main_v1 = (truncf .bf16 (shapeCast S4x128x128 (aW m c) shapeCasts_S1x4x128x128_S4x128x128) bitsLt_bf16_f32
    : FVec Ideal S4x128x128 .bf16) := by
  unfold_abbrev_sides
  after_results
  rfl

/-- A point's number as a sequence's. -/
abbrev pt (t : Fin cfg0.N) : Fin 4 := ⟨t.val, t.isLt.trans_eq N_0⟩

theorem iblk0 (t : Fin cfg0.N) : (iblk m c 0 t : Vec Ideal S2048x512 .f32) = blk (aU m c) (pt t) := by
  have hi : win0_0.index t 0 = t.val ∧ win0_0.index t 1 = 0 := by
    rcases fin_N0 t with rfl | rfl | rfl | rfl <;> decide
  funext j
  unfold iblk
  rw [View.read_apply]
  show V m c main_arg0 _ = _
  rw [V_main_arg0]
  refine congrArg (aU m c) (funext fun a => Fin.ext ?_)
  match a with
  | ⟨0, _⟩ => show win0_0.index t 0 * 2048 + 1 * (j 0).val = t.val * 2048 + (j 0).val; rw [hi.1]; omega
  | ⟨1, _⟩ => show win0_0.index t 1 * 512 + 1 * (j 1).val = (j 1).val; rw [hi.2]; omega

theorem iblk1 (t : Fin cfg0.N) : (iblk m c 1 t : Vec Ideal S2048x512 .f32) = blk (aP m c) (pt t) := by
  have hi : win0_1.index t 0 = t.val ∧ win0_1.index t 1 = 0 := by
    rcases fin_N0 t with rfl | rfl | rfl | rfl <;> decide
  funext j
  unfold iblk
  rw [View.read_apply]
  show V m c main_arg3 _ = _
  rw [V_main_arg3]
  refine congrArg (aP m c) (funext fun a => Fin.ext ?_)
  match a with
  | ⟨0, _⟩ => show win0_1.index t 0 * 2048 + 1 * (j 0).val = t.val * 2048 + (j 0).val; rw [hi.1]; omega
  | ⟨1, _⟩ => show win0_1.index t 1 * 512 + 1 * (j 1).val = (j 1).val; rw [hi.2]; omega

theorem iblk2 (t : Fin cfg0.N) : (iblk m c 2 t : Vec Ideal S4x128x128 .bf16) = wts (aW m c) := by
  have hi : win0_2.index t 0 = 0 ∧ win0_2.index t 1 = 0 ∧ win0_2.index t 2 = 0 := by
    rcases fin_N0 t with rfl | rfl | rfl | rfl <;> decide
  funext j
  unfold iblk
  rw [View.read_apply]
  show V m c main_v1 _ = _
  rw [V_main_v1]
  generalize hq : ((cfg0.win 2).blk t).view.emb j = q
  have hq' : q = j := by
    rw [← hq]
    refine funext fun a => Fin.ext ?_
    match a with
    | ⟨0, _⟩ => show win0_2.index t 0 * 4 + 1 * (j 0).val = (j 0).val; rw [hi.1]; omega
    | ⟨1, _⟩ => show win0_2.index t 1 * 128 + 1 * (j 1).val = (j 1).val; rw [hi.2.1]; omega
    | ⟨2, _⟩ => show win0_2.index t 2 * 128 + 1 * (j 2).val = (j 2).val; rw [hi.2.2]; omega
  rw [hq']
  idx_vars j
  pointwise [wts]

theorem iblk3 (t : Fin cfg0.N) : (iblk m c 3 t : Vec Ideal S1x512 .f32) = aS m c := by
  have hi : win0_3.index t 0 = 0 ∧ win0_3.index t 1 = 0 := by
    rcases fin_N0 t with rfl | rfl | rfl | rfl <;> decide
  funext j
  unfold iblk
  rw [View.read_apply]
  show V m c main_arg2 _ = _
  rw [V_main_arg2]
  refine congrArg (aS m c) (funext fun a => Fin.ext ?_)
  match a with
  | ⟨0, _⟩ => show win0_3.index t 0 * 1 + 1 * (j 0).val = (j 0).val; rw [hi.1]; omega
  | ⟨1, _⟩ => show win0_3.index t 1 * 512 + 1 * (j 1).val = (j 1).val; rw [hi.2]; omega

/-- The gradients of the weights and of the scale after point `n`. -/
def accW (n : ℕ) : Wts := fun j => ∑ b ∈ Finset.univ.filter (fun b : Fin 4 => b.val ≤ n), DW (blk (aU m c) b) (blk (aP m c) b) (aS m c) (j 0) (j 1) (j 2)
def accS (n : ℕ) : Row := fun j => ∑ b ∈ Finset.univ.filter (fun b : Fin 4 => b.val ≤ n), DS (blk (aU m c) b) (blk (aP m c) b) (wts (aW m c)) (cg (j 1)) (cc (j 1))

theorem filter_succ (n : ℕ) (h : n + 1 < 4) : Finset.univ.filter (fun b : Fin 4 => b.val ≤ n + 1)
    = insert ⟨n + 1, h⟩ (Finset.univ.filter (fun b : Fin 4 => b.val ≤ n)) := by
  ext b; simp only [Finset.mem_filter, Finset.mem_univ, true_and, Finset.mem_insert, Fin.ext_iff]; omega

theorem filter_zero : Finset.univ.filter (fun b : Fin 4 => b.val ≤ 0) = {0} := by decide

theorem pay2 (j : S4x128x128.Idx) : k0_pay2 (F := Ideal) j = 0 := by
  idx_vars j; unfold k0_pay2; pointwise []

theorem pay3 (j : S1x512.Idx) : k0_pay3 (F := Ideal) j = 0 := by
  idx_vars j; unfold k0_pay3; pointwise []

theorem accW_zero : accW m c 0 = fun j => DW (blk (aU m c) 0) (blk (aP m c) 0) (aS m c) (j 0) (j 1) (j 2) := by
  funext j; unfold accW; rw [filter_zero, Finset.sum_singleton]

theorem accS_zero : accS m c 0 = fun j => DS (blk (aU m c) 0) (blk (aP m c) 0) (wts (aW m c)) (cg (j 1)) (cc (j 1)) := by
  funext j; unfold accS; rw [filter_zero, Finset.sum_singleton]

theorem accW_succ (n : ℕ) (h : n + 1 < 4) : accW m c (n + 1) = fun j =>
    accW m c n j + DW (blk (aU m c) ⟨n + 1, h⟩) (blk (aP m c) ⟨n + 1, h⟩) (aS m c) (j 0) (j 1) (j 2) := by
  funext j; unfold accW; rw [filter_succ n h, Finset.sum_insert (by simp), add_comm]

theorem accS_succ (n : ℕ) (h : n + 1 < 4) : accS m c (n + 1) = fun j =>
    accS m c n j + DS (blk (aU m c) ⟨n + 1, h⟩) (blk (aP m c) ⟨n + 1, h⟩) (wts (aW m c)) (cg (j 1)) (cc (j 1)) := by
  funext j; unfold accS; rw [filter_succ n h, Finset.sum_insert (by simp), add_comm]

theorem outs_eq : ∀ (n : ℕ) (h : n < cfg0.N), outsAt0 m c n h
    = (oU (blk (aP m c) (pt ⟨n, h⟩)) (wts (aW m c)) (aS m c), accW m c n, accS m c n)
  | 0, h => by
    have := outsAt0_A m c ⟨0, h⟩ rfl
    simp only [out_A_4, out_A_5, out_A_6, iblk0, iblk1, iblk2, iblk3, canonU, canonW, canonS] at this
    rw [this, accW_zero, accS_zero]
    refine Prod.ext rfl (Prod.ext (funext fun j => ?_) (funext fun j => ?_))
    · show k0_pay2 (F := Ideal) j + _ = _
      rw [pay2, zero_add]
      rfl
    · show k0_pay3 (F := Ideal) j + _ = _
      rw [pay3, zero_add]
      rfl
  | n + 1, h => by
    have h4 : n + 1 < 4 := h.trans_eq N_0
    have := outsAt0_B m c ⟨n + 1, h⟩ (by show ¬(n + 1) % 4 = 0; omega)
    simp only [out_B_4, out_B_5, out_B_6, iblk0, iblk1, iblk2, iblk3, canonU, canonW', canonS'] at this
    have hp : outsAt0 m c (n + 1 - 1) (by omega) = _ := outs_eq n (by omega)
    rw [this, hp, accW_succ m c n h4, accS_succ m c n h4]
    rfl

/-! ## The final arrays -/

/-- Window 4's blocks are the sequences' rows. -/
theorem flushed4_eq (t : Fin cfg0.N) (hf : (cfg0.win 4).flush t = true) :
    (dats m 0 c).flushed 4 t = ((cfg0.win 4).blk t).view.read (Elt Ideal) (resU (aW m c) (aS m c) (aP m c)) := by
  have hi : win0_4.index t 0 = t.val ∧ win0_4.index t 1 = 0 := by
    rcases fin_N0 t with rfl | rfl | rfl | rfl <;> decide
  rw [Value.flushed4, outs_eq]
  funext j
  rw [View.read_apply]
  have hj : ((cfg0.win 4).blk t).view.emb j = (ix2 (br (pt t) (j 0)) (j 1) : S8192x512.Idx) := by
    refine funext fun a => Fin.ext ?_
    match a with
    | ⟨0, _⟩ => show win0_4.index t 0 * 2048 + 1 * (j 0).val = t.val * 2048 + (j 0).val; rw [hi.1]; omega
    | ⟨1, _⟩ => show win0_4.index t 1 * 512 + 1 * (j 1).val = (j 1).val; rw [hi.2]; omega
  rw [hj]
  have key : ∀ (b : Fin 4) (q : Fin 2048) (k : Fin 512), DU (blk (aP m c) b) (wts (aW m c)) (aS m c) (cg k) (cc k) q
      = DU (blk (aP m c) (rb (br b q))) (wts (aW m c)) (aS m c) (cg k) (cc k) (rt (br b q)) := fun b q k => by rw [rb_br, rt_br]
  exact key (pt t) (j 0) (j 1)

theorem final4 : (dats m 0 c).arrAt 4 cfg0.N = resU (aW m c) (aS m c) (aP m c) :=
  (dats m 0 c).arrAt_eq_of_cover 4 (resU (aW m c) (aS m c) (aP m c)) (flushed4_eq m c) fun i =>
    ⟨⟨(i 0).val / 2048, by rw [show cfg0.N = 4 from N_0]; have : (i 0).val < 8192 := (i 0).isLt; omega⟩, flush0_4 _, by
      have hi : ∀ t : Fin cfg0.N, win0_4.index t 0 * win0_4.size 0 = t.val * 2048 ∧ win0_4.xsize (grid0.coords t) 0 = 2048
          ∧ win0_4.index t 1 * win0_4.size 1 = 0 ∧ win0_4.xsize (grid0.coords t) 1 = 512 := fun t => by
        rcases fin_N0 t with rfl | rfl | rfl | rfl <;> decide +kernel
      generalize ht : (⟨(i 0).val / 2048, _⟩ : Fin cfg0.N) = t
      have hv : t.val = (i 0).val / 2048 := by rw [← ht]
      show i ∈ ((View.whole main_v2_0).slice (win0_4.rect t)).set
      rw [View.set_slice_whole, Rect.mem_set_unit]
      obtain ⟨h1, h2, h3, h4⟩ := hi t
      intro a
      match a with
      | ⟨0, _⟩ =>
        show win0_4.index t 0 * win0_4.size 0 ≤ (i 0).val ∧ (i 0).val < win0_4.index t 0 * win0_4.size 0 + win0_4.xsize (grid0.coords t) 0
        rw [h1, h2, hv]; omega
      | ⟨1, _⟩ =>
        show win0_4.index t 1 * win0_4.size 1 ≤ (i 1).val ∧ (i 1).val < win0_4.index t 1 * win0_4.size 1 + win0_4.xsize (grid0.coords t) 1
        have : (i 1).val < 512 := (i 1).isLt
        rw [h3, h4]; omega⟩

theorem accW_last : accW m c 3 = resW (aU m c) (aS m c) (aP m c) := by
  funext j; unfold accW resW
  rw [show Finset.univ.filter (fun b : Fin 4 => b.val ≤ 3) = Finset.univ by decide]

theorem accS_last : accS m c 3 = resS (aU m c) (aW m c) (aP m c) := by
  funext j; unfold accS resS
  rw [show Finset.univ.filter (fun b : Fin 4 => b.val ≤ 3) = Finset.univ by decide]

theorem flushed5_eq (t : Fin cfg0.N) (hf : (cfg0.win 5).flush t = true) :
    (dats m 0 c).flushed 5 t = ((cfg0.win 5).blk t).view.read (Elt Ideal) (resW (aU m c) (aS m c) (aP m c)) := by
  have h3 : t.val = 3 := by have := (flush0_5 t).mp hf; have := t.isLt.trans_eq N_0; omega
  obtain rfl : t = t0_3 := Fin.ext h3
  rw [Value.flushed5, outs_eq, ← accW_last]
  have hz' : (fun a => win0_5.index t0_3 a * main_v2_1.ty.shape.size a) = fun _ => 0 := funext fun a => by fin_cases a <;> decide
  exact (Memref.read_access_unit_zero (Elt Ideal) main_v2_1 hz' (fun a => by rw [congrFun hz' a]; simp) (accW m c 3)).symm

theorem flushed6_eq (t : Fin cfg0.N) (hf : (cfg0.win 6).flush t = true) :
    (dats m 0 c).flushed 6 t = ((cfg0.win 6).blk t).view.read (Elt Ideal) (resS (aU m c) (aW m c) (aP m c)) := by
  have h3 : t.val = 3 := by have := (flush0_6 t).mp hf; have := t.isLt.trans_eq N_0; omega
  obtain rfl : t = t0_3 := Fin.ext h3
  rw [Value.flushed6, outs_eq, ← accS_last]
  have hz' : (fun a => win0_6.index t0_3 a * main_v2_2.ty.shape.size a) = fun _ => 0 := funext fun a => by fin_cases a <;> decide
  exact (Memref.read_access_unit_zero (Elt Ideal) main_v2_2 hz' (fun a => by rw [congrFun hz' a]; simp) (accS m c 3)).symm

theorem final5 : (dats m 0 c).arrAt 5 cfg0.N = resW (aU m c) (aS m c) (aP m c) :=
  (dats m 0 c).arrAt_eq_of_cover 5 (resW (aU m c) (aS m c) (aP m c)) (flushed5_eq m c) fun i =>
    ⟨t0_3, (flush0_5 t0_3).mpr rfl, by
      show i ∈ ((View.whole main_v2_1).slice (win0_5.rect t0_3)).set
      rw [View.set_slice_whole, Rect.mem_set_unit]
      have h : ∀ a : Fin 3, win0_5.index t0_3 a * win0_5.size a = 0 ∧ win0_5.xsize (grid0.coords t0_3) a = S4x128x128.size a := by decide +kernel
      intro a
      show win0_5.index t0_3 a * win0_5.size a ≤ (i a).val ∧ (i a).val < win0_5.index t0_3 a * win0_5.size a + win0_5.xsize (grid0.coords t0_3) a
      rw [(h a).1, (h a).2, Nat.zero_add]; exact ⟨Nat.zero_le _, (i a).isLt⟩⟩

theorem final6 : (dats m 0 c).arrAt 6 cfg0.N = resS (aU m c) (aW m c) (aP m c) :=
  (dats m 0 c).arrAt_eq_of_cover 6 (resS (aU m c) (aW m c) (aP m c)) (flushed6_eq m c) fun i =>
    ⟨t0_3, (flush0_6 t0_3).mpr rfl, by
      show i ∈ ((View.whole main_v2_2).slice (win0_6.rect t0_3)).set
      rw [View.set_slice_whole, Rect.mem_set_unit]
      have h : ∀ a : Fin 2, win0_6.index t0_3 a * win0_6.size a = 0 ∧ win0_6.xsize (grid0.coords t0_3) a = S1x512.size a := by decide +kernel
      intro a
      show win0_6.index t0_3 a * win0_6.size a ≤ (i a).val ∧ (i a).val < win0_6.index t0_3 a * win0_6.size a + win0_6.xsize (grid0.coords t0_3) a
      rw [(h a).1, (h a).2, Nat.zero_add]; exact ⟨Nat.zero_le _, (i a).isLt⟩⟩

/-- The run with the three results named and the arguments unchanged. -/
theorem run : θ_run defs (onTc (τ := τ) (main (F := Ideal))) ⟨m, fun _ => 0, ρ⟩ fun r => ∀ c : Dev nD,
      r.2.mem ((c : Thread nD τ).loc main_v2_0) = resU (aW m c) (aS m c) (aP m c)
      ∧ r.2.mem ((c : Thread nD τ).loc main_v2_1) = resW (aU m c) (aS m c) (aP m c)
      ∧ r.2.mem ((c : Thread nD τ).loc main_v2_2) = resS (aU m c) (aW m c) (aP m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2.1.trans (final6 m c), (h c).2.2.2⟩)
    (Value.run_blocks m ρ)

end Cert.KernelIdeal.PoolValue

end
-- ==== Proof.PoolMath.lean ====
module

public import proofs.«01_k».proof.Proof.PoolSpec
public import Idealize.ShloMosaic.Lib.Pointwise

@[expose] public section

/-! Running sums over a column: their differences are window sums, and a reversed running sum of such differences is a
    look-ahead window sum when the entries are finite. -/

set_option maxRecDepth 16384

noncomputable section

namespace Cert.Pool

open Idealize.ShloMosaic

/-- A finite extended real. -/
def Fin' (x : EReal) : Prop := ∃ r : ℝ, x = (r : EReal)

theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.zero : Fin' 0 := ⟨0, rfl⟩
theorem Fin'.sum {ι : Type} (s : Finset ι) (f : ι → EReal) (h : ∀ i ∈ s, Fin' (f i)) : Fin' (∑ i ∈ s, f i) := by
  classical
  induction s using Finset.induction_on with
  | empty => exact ⟨0, rfl⟩
  | insert a s ha ih =>
    rw [Finset.sum_insert ha]
    exact (h a (Finset.mem_insert_self _ _)).add (ih fun i hi => h i (Finset.mem_insert_of_mem hi))
theorem Fin'.ext (f : Fin 2048 → EReal) (h : ∀ t, Fin' (f t)) (n : ℕ) : Fin' (ext f n) := by
  unfold Cert.Pool.ext; split
  · exact h _
  · exact Fin'.zero

/-- Division by a count. -/
theorem Fin'.div_cnt {x : EReal} (hx : Fin' x) (w t : ℕ) (hw : 0 < w) : Fin' (Ideal.div x (cnt w t)) := by
  obtain ⟨a, rfl⟩ := hx
  have h : ((min (t + 1) w : ℕ) : ℝ) ≠ 0 := Nat.cast_ne_zero.mpr (by omega)
  exact ⟨a * (1 / ((min (t + 1) w : ℕ) : ℝ)), by rw [cnt, Ideal.div_coe h, EReal.coe_mul]⟩

theorem coe_sum' {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- The running sum of the first `n` entries. -/
def run (f : Fin 2048 → EReal) (n : ℕ) : EReal := ∑ i ∈ Finset.range n, ext f i

theorem trail_add_run (f : Fin 2048 → EReal) (t : ℕ) : ∀ w : ℕ, trail w f t + run f (t + 1 - w) = run f (t + 1)
  | 0 => by simp [trail]
  | w + 1 => by
    rw [← trail_add_run f t w]
    unfold trail
    rw [Finset.sum_range_succ, add_assoc]
    congr 1
    by_cases h : w ≤ t
    · rw [if_pos h, show t + 1 - w = (t - w) + 1 by omega, show t + 1 - (w + 1) = t - w by omega, run, run,
        Finset.sum_range_succ, add_comm]
    · rw [if_neg h, show t + 1 - w = 0 by omega, show t + 1 - (w + 1) = 0 by omega, zero_add]

/-- The difference of two running sums is the window sum between them. -/
theorem run_sub_run (f : Fin 2048 → EReal) (hf : ∀ t, Fin' (f t)) (t w : ℕ) :
    run f (t + 1) - run f (t + 1 - w) = trail w f t := by
  rw [← trail_add_run f t w]
  have h1 : Fin' (trail w f t) := Fin'.sum _ _ fun j _ => by
    split
    · exact Fin'.ext f hf _
    · exact Fin'.zero
  have h2 : Fin' (run f (t + 1 - w)) := Fin'.sum _ _ fun j _ => Fin'.ext f hf _
  obtain ⟨a, ha⟩ := h1; obtain ⟨b, hb⟩ := h2
  rw [ha, hb, ← EReal.coe_add, ← EReal.coe_sub, add_sub_cancel_right]

theorem tele (h : ℕ → ℝ) (N w : ℕ) (hz : ∀ n, N ≤ n → h n = 0) :
    ∑ i ∈ Finset.range N, (h i + -h (i + w)) = ∑ i ∈ Finset.range w, h i := by
  have h1 := Finset.sum_range_add h w N
  have h2 := Finset.sum_range_add h N w
  rw [show ∑ x ∈ Finset.range w, h (N + x) = 0 from Finset.sum_eq_zero fun x _ => hz _ (by omega), add_zero, add_comm N w] at h2
  rw [Finset.sum_add_distrib, Finset.sum_neg_distrib, ← h2, h1]
  simp only [add_comm w]
  ring

/-- The reversed running sum of `e s - e (s + w)` is the look-ahead sum of `e`. -/
theorem rev_run (e : Fin 2048 → EReal) (he : ∀ t, Fin' (e t)) (w t : ℕ) :
    ∑ i ∈ Finset.range (2048 - t), (ext e (t + i) + -ext e (t + i + w)) = lead w e t := by
  choose r hr using fun n => Fin'.ext e he n
  have hz : ∀ n, 2048 - t ≤ n → r (t + n) = 0 := fun n hn => by
    have := hr (t + n)
    rw [ext, dif_neg (by omega)] at this
    exact_mod_cast this.symm
  unfold lead
  simp only [hr]
  have h := tele (fun n => r (t + n)) (2048 - t) w hz
  have h' := congrArg (fun x : ℝ => (x : EReal)) h
  simp only [coe_sum', EReal.coe_add, EReal.coe_neg] at h'
  simpa only [Nat.add_assoc] using h'

/-! ## A window sum of the host as a sum over one axis -/

theorem foldl_add {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- The window shape of a running sum along axis 1. -/
abbrev Wn : Shape := ⟨4, ![1, 2048, 1, 1]⟩

/-- Its indices are the positions along axis 1. -/
def wnEquiv : Wn.Idx ≃ Fin 2048 where
  toFun k := k 1
  invFun i := ix4 0 i 0 0
  left_inv k := funext fun a => by
    match a with
    | 0 => exact Fin.ext (by have := (k 0).isLt; change (k 0).val < 1 at this; show 0 = (k 0).val; omega)
    | 1 => rfl
    | 2 => exact Fin.ext (by have := (k 2).isLt; change (k 2).val < 1 at this; show 0 = (k 2).val; omega)
    | 3 => exact Fin.ext (by have := (k 3).isLt; change (k 3).val < 1 at this; show 0 = (k 3).val; omega)
  right_inv i := rfl

abbrev S4d : Shape := ⟨4, ![4, 2048, 4, 128]⟩

theorem window_sum (lo hi : Fin 4 → ℕ) (x : S4d.Idx → EReal) (h : S4d.ReduceWindows ![1, 2048, 1, 1] ![1, 1, 1, 1] lo hi S4d)
    (hlo : lo 0 = 0 ∧ lo 2 = 0 ∧ lo 3 = 0) (b : Fin 4) (t : Fin 2048) (g : Fin 4) (c : Fin 128) :
    Ideal.hostReduceWindowAdd ![1, 2048, 1, 1] ![1, 1, 1, 1] lo hi h x 0 (ix4 b t g c)
      = ∑ k : Fin 2048, if lo 1 ≤ t.val + k.val then ext (fun s => x (ix4 b s g c)) (t.val + k.val - lo 1) else 0 := by
  unfold Ideal.hostReduceWindowAdd Host.reduceWindow
  dsimp only
  rw [foldl_add, zero_add, ← List.ofFn_eq_map, List.sum_ofFn, ← Equiv.sum_comp Wn.rowMajor, ← Equiv.sum_comp wnEquiv.symm]
  refine Finset.sum_congr rfl fun k _ => ?_
  simp only [Equiv.symm_apply_apply]
  obtain ⟨h0, h2, h3⟩ := hlo
  split
  · next hin =>
    have h1 := hin 1
    change lo 1 ≤ t.val * 1 + k.val ∧ t.val * 1 + k.val - lo 1 < 2048 at h1
    rw [Nat.mul_one] at h1
    rw [if_pos h1.1, ext_of_lt _ h1.2]
    refine congrArg x (funext fun a => Fin.ext ?_)
    match a with
    | 0 => show b.val * 1 + 0 - lo 0 = b.val; omega
    | 1 => show t.val * 1 + k.val - lo 1 = t.val + k.val - lo 1; rw [Nat.mul_one]
    | 2 => show g.val * 1 + 0 - lo 2 = g.val; omega
    | 3 => show c.val * 1 + 0 - lo 3 = c.val; omega
  · next hin =>
    split
    · next h1 =>
      by_cases h5 : t.val + k.val - lo 1 < 2048
      · refine absurd (fun a => ?_) hin
        match a with
        | 0 => show lo 0 ≤ b.val * 1 + 0 ∧ b.val * 1 + 0 - lo 0 < 4; omega
        | 1 => show lo 1 ≤ t.val * 1 + k.val ∧ t.val * 1 + k.val - lo 1 < 2048; omega
        | 2 => show lo 2 ≤ g.val * 1 + 0 ∧ g.val * 1 + 0 - lo 2 < 4; omega
        | 3 => show lo 3 ≤ c.val * 1 + 0 ∧ c.val * 1 + 0 - lo 3 < 128; omega
      · rw [ext, dif_neg h5]
    · rfl

/-- The running sum along axis 1. -/
theorem window_run (x : S4d.Idx → EReal) (h : S4d.ReduceWindows ![1, 2048, 1, 1] ![1, 1, 1, 1] ![0, 2047, 0, 0] ![0, 0, 0, 0] S4d)
    (b : Fin 4) (t : Fin 2048) (g : Fin 4) (c : Fin 128) :
    Ideal.hostReduceWindowAdd ![1, 2048, 1, 1] ![1, 1, 1, 1] ![0, 2047, 0, 0] ![0, 0, 0, 0] h x 0 (ix4 b t g c)
      = run (fun s => x (ix4 b s g c)) (t.val + 1) := by
  rw [window_sum _ _ _ _ ⟨rfl, rfl, rfl⟩, Finset.sum_fin_eq_sum_range]
  have ht := t.isLt
  show ∑ i ∈ Finset.range 2048, (if h : i < 2048 then (if 2047 ≤ t.val + i then ext (fun s => x (ix4 b s g c)) (t.val + i - 2047) else 0) else 0) = _
  rw [show Finset.range 2048 = Finset.range ((2047 - t.val) + (t.val + 1)) by congr 1; omega, Finset.sum_range_add, run]
  rw [Finset.sum_eq_zero fun i hi => ?_, zero_add]
  · refine Finset.sum_congr rfl fun i hi => ?_
    have := Finset.mem_range.mp hi
    rw [dif_pos (by omega), if_pos (by omega), show t.val + (2047 - t.val + i) - 2047 = i by omega]
  · have := Finset.mem_range.mp hi
    rw [dif_pos (by omega), if_neg (by omega)]

/-- The reversed running sum along axis 1. -/
theorem window_rev (x : S4d.Idx → EReal) (h : S4d.ReduceWindows ![1, 2048, 1, 1] ![1, 1, 1, 1] ![0, 0, 0, 0] ![0, 2047, 0, 0] S4d)
    (b : Fin 4) (t : Fin 2048) (g : Fin 4) (c : Fin 128) :
    Ideal.hostReduceWindowAdd ![1, 2048, 1, 1] ![1, 1, 1, 1] ![0, 0, 0, 0] ![0, 2047, 0, 0] h x 0 (ix4 b t g c)
      = ∑ i ∈ Finset.range (2048 - t.val), ext (fun s => x (ix4 b s g c)) (t.val + i) := by
  rw [window_sum _ _ _ _ ⟨rfl, rfl, rfl⟩, Finset.sum_fin_eq_sum_range]
  have ht := t.isLt
  show ∑ i ∈ Finset.range 2048, (if h : i < 2048 then (if 0 ≤ t.val + i then ext (fun s => x (ix4 b s g c)) (t.val + i - 0) else 0) else 0) = _
  rw [show Finset.range 2048 = Finset.range ((2048 - t.val) + t.val) by congr 1; omega, Finset.sum_range_add]
  rw [add_comm, Finset.sum_eq_zero fun i hi => ?_, zero_add]
  · refine Finset.sum_congr rfl fun i hi => ?_
    have := Finset.mem_range.mp hi
    rw [dif_pos (by omega), if_pos (by omega), Nat.sub_zero]
  · have := Finset.mem_range.mp hi
    rw [dif_pos (by omega), if_pos (by omega), ext, dif_neg (by omega)]

end Cert.Pool

end
-- ==== Proof.PoolReference.lean ====
module

public import proofs.«01_k».proof.Proof.PoolMath
public import proofs.«01_k».proof.Proof.Gen.ReferenceIdeal.Run
public import proofs.«01_k».proof.Proof.Gen.ReferenceIdeal.Read

@[expose] public section

/-! The reference's results: the stages of its program read at an index, as the same window sums and products. -/

set_option maxRecDepth 16384

noncomputable section

namespace Cert.ReferenceIdeal.PoolRef

open Cert.ReferenceIdeal Cert.ReferenceIdeal.Read Idealize.ShloMosaic Idealize.ShloMosaic.TcCoe Idealize.SL.Sem Cert.Pool

variable (u p : Arr) (w : Wts4) (s : Row)

/-- A count read from its 32-bit word. -/
theorem sitofp_cnt (v : BitVec 32) (n : ℕ) (t : Fin 2048) (h : v.toInt = (min (t.val + 1) n : ℕ)) :
    (FloatOps.sitofp (F := Ideal) .f32 v : EReal) = cnt n t.val := by
  show (((v.toInt : ℤ) : ℝ) : EReal) = _
  rw [h]; simp [cnt]

theorem minsi_toInt (t : Fin 2048) (v : BitVec 32) (n : ℕ) (hv : v.toInt = n) :
    (IntOp.minsi (IntOp.addi (BitVec.ofNat 32 t.val) 1#32) v).toInt = (min (t.val + 1) n : ℕ) := by
  have ht := t.isLt
  have h1 : (IntOp.addi (BitVec.ofNat 32 t.val) 1#32).toNat = t.val + 1 := by
    show (BitVec.ofNat 32 t.val + 1#32).toNat = _
    rw [BitVec.toNat_add, BitVec.toNat_ofNat, BitVec.toNat_ofNat]; omega
  have h2 : (IntOp.addi (BitVec.ofNat 32 t.val) 1#32).toInt = t.val + 1 := by
    rw [BitVec.toInt_eq_toNat_of_lt (by omega), h1]; rfl
  generalize IntOp.addi (BitVec.ofNat 32 t.val) 1#32 = x at h1 h2 ⊢
  unfold IntOp.minsi
  split
  · next h => rw [BitVec.slt, decide_eq_true_eq] at h; omega
  · next h => rw [BitVec.slt, decide_eq_true_eq] at h; omega

/-- The input by sequence, row, group and column. -/
theorem v3_eq (b : Fin 4) (t : Fin 2048) (g : Fin 4) (c : Fin 128) :
    val_main_v3 (F := Ideal) u (ix4 b t g c) = u (ix2 (br b t) (gc g c)) := by
  pointwise [val_main_v3, val_main_v0]

/-- The running sums. -/
theorem v5_eq (b : Fin 4) (t : Fin 2048) (g : Fin 4) (c : Fin 128) :
    val_main_v5 (F := Ideal) u (ix4 b t g c) = run (fun s => blk u b (ix2 s (gc g c))) (t.val + 1) := by
  unfold val_main_v5
  have h0 : val_main_call0_call0_v0 (F := Ideal) (Shape.Idx.first Gen.h_S_) = 0 := by
    pointwise [val_main_call0_call0_v0, val_main_call0_call0_cst]
  unfold Host.reduceWindowAdd
  rw [Ideal.hostReduceWindowAdd_def, h0]
  refine (window_run _ _ b t g c).trans ?_
  simp only [v3_eq]
  rfl

/-- The running sums with a zero row before them. -/
theorem v6_eq (b : Fin 4) (t : Fin 2049) (g : Fin 4) (c : Fin 128) :
    val_main_v6 (F := Ideal) u (ix4 b t g c) = run (fun s => blk u b (ix2 s (gc g c))) t.val := by
  pointwise [val_main_v6, val_main_v4, val_main_cst]
  split
  · next h => rw [show t.val = 0 by omega]; rfl
  · next h => rw [v5_eq]; exact congrArg (run _) (Nat.sub_add_cancel (by omega))

/-- A difference of running sums, the second shifted down by `k` rows. -/
theorem shifted (f : Fin 2048 → EReal) (hf : ∀ t, Fin' (f t)) (t k : ℕ) (z : EReal) (hz : z = if t < k then 0 else run f (t - k)) :
    run f (1 + t) - z = trail (k + 1) f t := by
  rw [← run_sub_run f hf, hz, Nat.add_comm 1 t]
  split
  · rw [show t + 1 - (k + 1) = 0 by omega]; rfl
  · rw [show t + 1 - (k + 1) = t - k by omega]

theorem ix3_eta {a b c : ℕ} (i : (⟨3, ![a, b, c]⟩ : Shape).Idx) : i = ix3 (i 0) (i 1) (i 2) :=
  funext fun a => match a with | 0 => rfl | 1 => rfl | 2 => rfl

theorem v22_eq (hu : ∀ j, Fin' (u j)) (b : Fin 4) (t : Fin 2048) (c : Fin 128) : val_main_v22 (F := Ideal) u (ix3 b t c)
    = trail 2 (fun s => blk u b (ix2 s (gc 0 c))) t.val := by
  have h1 : ∀ t : Fin 2049, val_main_v10 (F := Ideal) u (ix3 b t c) = run (fun s => blk u b (ix2 s (gc 0 c))) t.val := fun t => by
    rw [← v6_eq]; pointwise [val_main_v10, val_main_v9]
  have h2 : ∀ t : Fin 2047, val_main_v12 (F := Ideal) u (ix3 b t c) = run (fun s => blk u b (ix2 s (gc 0 c))) t.val := fun t => by
    rw [val_main_v12_apply, ix3_eta (idx_main_v12 (ix3 b t c))]; exact h1 _
  have h3 : val_main_v13 (F := Ideal) u (ix3 b t c) = if h : t.val < 1 then 0 else val_main_v12 (F := Ideal) u (ix3 b ⟨t.val - 1, by omega⟩ c) := by
    unfold val_main_v13
    generalize val_main_v12 (F := Ideal) u = y
    pointwise [val_main_v11, val_main_cst_1]
  rw [val_main_v22_apply, val_main_v21_apply, ix3_eta (idx_main_v21 (ix3 b t c))]
  refine (congrArg₂ (· - ·) (h1 _) h3).trans (shifted _ (fun t => hu _) t.val 1 _ ?_)
  split
  · rfl
  · exact h2 _

theorem v38_eq (hu : ∀ j, Fin' (u j)) (b : Fin 4) (t : Fin 2048) (c : Fin 128) : val_main_v38 (F := Ideal) u (ix3 b t c)
    = trail 4 (fun s => blk u b (ix2 s (gc 1 c))) t.val := by
  have h1 : ∀ t : Fin 2049, val_main_v26 (F := Ideal) u (ix3 b t c) = run (fun s => blk u b (ix2 s (gc 1 c))) t.val := fun t => by
    rw [← v6_eq]; pointwise [val_main_v26, val_main_v25]
  have h2 : ∀ t : Fin 2045, val_main_v28 (F := Ideal) u (ix3 b t c) = run (fun s => blk u b (ix2 s (gc 1 c))) t.val := fun t => by
    rw [val_main_v28_apply, ix3_eta (idx_main_v28 (ix3 b t c))]; exact h1 _
  have h3 : val_main_v29 (F := Ideal) u (ix3 b t c) = if h : t.val < 3 then 0 else val_main_v28 (F := Ideal) u (ix3 b ⟨t.val - 3, by omega⟩ c) := by
    unfold val_main_v29
    generalize val_main_v28 (F := Ideal) u = y
    pointwise [val_main_v27, val_main_cst_4]
  rw [val_main_v38_apply, val_main_v37_apply, ix3_eta (idx_main_v37 (ix3 b t c))]
  refine (congrArg₂ (· - ·) (h1 _) h3).trans (shifted _ (fun t => hu _) t.val 3 _ ?_)
  split
  · rfl
  · exact h2 _

theorem v54_eq (hu : ∀ j, Fin' (u j)) (b : Fin 4) (t : Fin 2048) (c : Fin 128) : val_main_v54 (F := Ideal) u (ix3 b t c)
    = trail 8 (fun s => blk u b (ix2 s (gc 2 c))) t.val := by
  have h1 : ∀ t : Fin 2049, val_main_v42 (F := Ideal) u (ix3 b t c) = run (fun s => blk u b (ix2 s (gc 2 c))) t.val := fun t => by
    rw [← v6_eq]; pointwise [val_main_v42, val_main_v41]
  have h2 : ∀ t : Fin 2041, val_main_v44 (F := Ideal) u (ix3 b t c) = run (fun s => blk u b (ix2 s (gc 2 c))) t.val := fun t => by
    rw [val_main_v44_apply, ix3_eta (idx_main_v44 (ix3 b t c))]; exact h1 _
  have h3 : val_main_v45 (F := Ideal) u (ix3 b t c) = if h : t.val < 7 then 0 else val_main_v44 (F := Ideal) u (ix3 b ⟨t.val - 7, by omega⟩ c) := by
    unfold val_main_v45
    generalize val_main_v44 (F := Ideal) u = y
    pointwise [val_main_v43, val_main_cst_8]
  rw [val_main_v54_apply, val_main_v53_apply, ix3_eta (idx_main_v53 (ix3 b t c))]
  refine (congrArg₂ (· - ·) (h1 _) h3).trans (shifted _ (fun t => hu _) t.val 7 _ ?_)
  split
  · rfl
  · exact h2 _

theorem v70_eq (hu : ∀ j, Fin' (u j)) (b : Fin 4) (t : Fin 2048) (c : Fin 128) : val_main_v70 (F := Ideal) u (ix3 b t c)
    = trail 16 (fun s => blk u b (ix2 s (gc 3 c))) t.val := by
  have h1 : ∀ t : Fin 2049, val_main_v58 (F := Ideal) u (ix3 b t c) = run (fun s => blk u b (ix2 s (gc 3 c))) t.val := fun t => by
    rw [← v6_eq]; pointwise [val_main_v58, val_main_v57]
  have h2 : ∀ t : Fin 2033, val_main_v60 (F := Ideal) u (ix3 b t c) = run (fun s => blk u b (ix2 s (gc 3 c))) t.val := fun t => by
    rw [val_main_v60_apply, ix3_eta (idx_main_v60 (ix3 b t c))]; exact h1 _
  have h3 : val_main_v61 (F := Ideal) u (ix3 b t c) = if h : t.val < 15 then 0 else val_main_v60 (F := Ideal) u (ix3 b ⟨t.val - 15, by omega⟩ c) := by
    unfold val_main_v61
    generalize val_main_v60 (F := Ideal) u = y
    pointwise [val_main_v59, val_main_cst_12]
  rw [val_main_v70_apply, val_main_v69_apply, ix3_eta (idx_main_v69 (ix3 b t c))]
  refine (congrArg₂ (· - ·) (h1 _) h3).trans (shifted _ (fun t => hu _) t.val 15 _ ?_)
  split
  · rfl
  · exact h2 _

theorem v19_eq (t : Fin 2048) : val_main_v19 (F := Ideal) (ix1 t) = cnt 2 t.val := by
  pointwise [val_main_v19, val_main_v18, val_main_v16, val_main_v17, val_main_v8, val_main_v15, val_main_c, val_main_c_3]
  exact sitofp_cnt _ _ t (minsi_toInt t _ 2 (by decide))

theorem v35_eq (t : Fin 2048) : val_main_v35 (F := Ideal) (ix1 t) = cnt 4 t.val := by
  pointwise [val_main_v35, val_main_v34, val_main_v32, val_main_v33, val_main_v8, val_main_v31, val_main_c_6, val_main_c_7]
  exact sitofp_cnt _ _ t (minsi_toInt t _ 4 (by decide))

theorem v51_eq (t : Fin 2048) : val_main_v51 (F := Ideal) (ix1 t) = cnt 8 t.val := by
  pointwise [val_main_v51, val_main_v50, val_main_v48, val_main_v49, val_main_v8, val_main_v47, val_main_c_10, val_main_c_11]
  exact sitofp_cnt _ _ t (minsi_toInt t _ 8 (by decide))

theorem v67_eq (t : Fin 2048) : val_main_v67 (F := Ideal) (ix1 t) = cnt 16 t.val := by
  pointwise [val_main_v67, val_main_v66, val_main_v64, val_main_v65, val_main_v8, val_main_v63, val_main_c_14, val_main_c_15]
  exact sitofp_cnt _ _ t (minsi_toInt t _ 16 (by decide))

end Cert.ReferenceIdeal.PoolRef

end
-- ==== Proof.PoolResults.lean ====
module

public import proofs.«01_k».proof.Proof.PoolReference
public import proofs.«01_k».proof.Pre_finite
public import proofs.«01_k».proof.Proof.Gen.Pre_finite
public import Idealize.ShloMosaic.Lib.IdealHost

@[expose] public section

/-! The reference's results: the three results of its program, for finite arguments. -/

set_option maxRecDepth 16384

noncomputable section

namespace Cert.ReferenceIdeal.PoolRef

open Cert.ReferenceIdeal Cert.ReferenceIdeal.Read Idealize.ShloMosaic Idealize.ShloMosaic.TcCoe Idealize.SL.Sem Cert.Pool Idealize.ShloMosaic.StableHlo

variable (u p : Arr) (w : Wts4) (s : Row)

theorem v78_eq (hu : ∀ j, Fin' (u j)) (b : Fin 4) (t : Fin 2048) (g : Fin 4) (c : Fin 128) :
    val_main_v78 (F := Ideal) u (ix4 b t g c) = D (blk u b) g c t := by
  have h24 : val_main_v24 (F := Ideal) u (ix3 b t c) = Ideal.div (val_main_v22 (F := Ideal) u (ix3 b t c)) (cnt 2 t.val) := by
    rw [← v19_eq]; pointwise [val_main_v24, val_main_v23, val_main_v20]
  have h40 : val_main_v40 (F := Ideal) u (ix3 b t c) = Ideal.div (val_main_v38 (F := Ideal) u (ix3 b t c)) (cnt 4 t.val) := by
    rw [← v35_eq]; pointwise [val_main_v40, val_main_v39, val_main_v36]
  have h56 : val_main_v56 (F := Ideal) u (ix3 b t c) = Ideal.div (val_main_v54 (F := Ideal) u (ix3 b t c)) (cnt 8 t.val) := by
    rw [← v51_eq]; pointwise [val_main_v56, val_main_v55, val_main_v52]
  have h72 : val_main_v72 (F := Ideal) u (ix3 b t c) = Ideal.div (val_main_v70 (F := Ideal) u (ix3 b t c)) (cnt 16 t.val) := by
    rw [← v67_eq]; pointwise [val_main_v72, val_main_v71, val_main_v68]
  have h77 : val_main_v77 (F := Ideal) u (ix4 b t g c) = if h : g.val < 1 then val_main_v24 (F := Ideal) u (ix3 b t c) else
      if h : g.val - 1 < 1 then val_main_v40 (F := Ideal) u (ix3 b t c) else if h : g.val - 1 - 1 < 1 then val_main_v56 (F := Ideal) u (ix3 b t c)
        else val_main_v72 (F := Ideal) u (ix3 b t c) := by
    pointwise [val_main_v77, val_main_v73, val_main_v74, val_main_v75, val_main_v76]
  rw [v22_eq u hu] at h24; rw [v38_eq u hu] at h40; rw [v54_eq u hu] at h56; rw [v70_eq u hu] at h72
  rw [h24, h40, h56, h72] at h77
  rw [val_main_v78_apply, h77, v3_eq]
  match g with
  | 0 => rfl
  | 1 => rfl
  | 2 => rfl
  | 3 => rfl

theorem v81_eq (b : Fin 4) (t : Fin 2048) (g : Fin 4) (d : Fin 128) :
    val_main_v81 (F := Ideal) u w (ix3 b t (gc g d)) = ∑ c : Fin 128, w (ix4 0 g c d) * val_main_v78 (F := Ideal) u (ix4 b t g c) := by
  have h (d : Fin 512) : val_main_v81 (F := Ideal) u w (ix3 b t d)
      = ∑ c : Fin 128, w (ix4 0 (cg d) c (cc d)) * val_main_v78 (F := Ideal) u (ix4 b t (cg d) c) := by
    pointwise [val_main_v81, val_main_v80, val_main_v79, val_main_v1]
  rw [h, cg_gc, cc_gc]

theorem v93_eq (b : Fin 4) (t : Fin 2048) (g : Fin 4) (d : Fin 128) :
    val_main_v93 (F := Ideal) s p (ix4 g d b t) = DY (blk p b) s g d t := by
  pointwise [val_main_v93, val_main_v92, val_main_v90, val_main_v85, val_main_v89, val_main_v82, val_main_v2]
  rfl

/-- A host sum over the first two of three axes. -/
theorem sum01 (h : (⟨3, ![4, 2048, 512]⟩ : Shape).ReducesTo [0, 1] ⟨1, ![512]⟩)
    (v : (⟨3, ![4, 2048, 512]⟩ : Shape).Idx → EReal) (init : EReal) (d : Fin 512) :
    Ideal.hostReduceAdd h v init (ix1 d) = init + ∑ b : Fin 4, ∑ t : Fin 2048, v (ix3 b t d) := by
  refine congrArg (init + ·) ((Finset.sum_filter_eq_sum_of_fiber _ (fun k : Fin 4 × Fin 2048 => ix3 k.1 k.2 d)
    (fun _ _ e => Prod.ext (congrFun e 0) (congrFun e 1)) (fun i => ?_) v).trans (Fintype.sum_prod_type _))
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    match b with
    | ⟨0, _⟩ => rfl

theorem sum01' (h : (⟨3, ![1, 1, 512]⟩ : Shape).ReducesTo [0, 1] ⟨1, ![512]⟩)
    (v : (⟨3, ![1, 1, 512]⟩ : Shape).Idx → EReal) (init : EReal) (d : Fin 512) :
    Ideal.hostReduceAdd h v init (ix1 d) = init + v (ix3 0 0 d) := by
  refine congrArg (init + ·) ((Finset.sum_filter_eq_sum_of_fiber _ (fun _ : Fin 1 => ix3 0 0 d)
    (fun _ _ _ => Subsingleton.elim _ _) (fun i => ?_) v).trans (Fin.sum_univ_one _))
  constructor
  · intro e
    refine ⟨0, ?_⟩
    funext a; apply Fin.ext
    match a with
    | ⟨0, _⟩ => have := (i 0).isLt; change (i 0).val < 1 at this; show 0 = (i 0).val; omega
    | ⟨1, _⟩ => have := (i 1).isLt; change (i 1).val < 1 at this; show 0 = (i 1).val; omega
    | ⟨2, _⟩ => exact (congrArg Fin.val (congrFun e 0)).symm
  · rintro ⟨k, rfl⟩
    funext b
    match b with
    | ⟨0, _⟩ => rfl

theorem v155_eq (d : Fin 512) :
    val_main_v155 (F := Ideal) u w p (ix2 0 d) = ∑ b : Fin 4, ∑ t : Fin 2048, val_main_v81 (F := Ideal) u w (ix3 b t d) * val_main_v85 (F := Ideal) p (ix3 b t d) := by
  have h0 : val_main_cst_16 (F := Ideal) (Shape.Idx.first Gen.h_S_) = 0 := by pointwise [val_main_cst_16]
  have h0' : val_main_cst_17 (F := Ideal) (Shape.Idx.first Gen.h_S_) = 0 := by pointwise [val_main_cst_17]
  have h87 : val_main_v87 (F := Ideal) u w p (ix1 d) = ∑ b : Fin 4, ∑ t : Fin 2048, val_main_v81 (F := Ideal) u w (ix3 b t d) * val_main_v85 (F := Ideal) p (ix3 b t d) := by
    unfold val_main_v87
    refine (sum01 _ _ _ d).trans ?_
    rw [h0, zero_add]
    rfl
  have h91 : val_main_v91 (F := Ideal) u w p (ix1 d) = val_main_v87 (F := Ideal) u w p (ix1 d) := by
    unfold val_main_v91
    refine (sum01' _ _ _ d).trans ?_
    rw [h0', zero_add]
    pointwise [val_main_v88]
  rw [← h87, ← h91]
  pointwise [val_main_v155]

theorem v95_eq (b : Fin 4) (t : Fin 2048) (g : Fin 4) (c : Fin 128) :
    val_main_v95 (F := Ideal) w s p (ix4 b t g c) = DD (blk p b) (wts w) s g c t := by
  have h : val_main_v95 (F := Ideal) w s p (ix4 b t g c) = ∑ d : Fin 128, val_main_v93 (F := Ideal) s p (ix4 g d b t) * w (ix4 0 g c d) := by
    pointwise [val_main_v95, val_main_v94, val_main_v1]
  rw [h]; simp only [v93_eq]; rfl

/-- A mean's cotangent less the one `k + 1` rows further down, none beyond the last row. -/
theorem ahead (e : Fin 2048 → EReal) (k : ℕ) (t : Fin 2048) (y : EReal)
    (hy : y = e t + if h : 1 + t.val < 2048 - k then -e ⟨k + (1 + t.val), by omega⟩ else 0) :
    y = ext e t.val + -ext e (t.val + (k + 1)) := by
  rw [hy, ext_val]
  congr 1
  split
  · next h => rw [ext_of_lt e (by omega : t.val + (k + 1) < 2048)]; exact congrArg (fun i => -e i) (Fin.ext (by show k + (1 + t.val) = t.val + (k + 1); omega))
  · next h => rw [ext, dif_neg (by omega), neg_zero]

theorem v114_eq (b : Fin 4) (t : Fin 2048) (c : Fin 128) :
    val_main_v114 (F := Ideal) w s p (ix3 b ⟨1 + t.val, by omega⟩ c)
      = ext (fun t => Ideal.div (DD (blk p b) (wts w) s 3 c t) (cnt 16 t.val)) t.val
        + -ext (fun t => Ideal.div (DD (blk p b) (wts w) s 3 c t) (cnt 16 t.val)) (t.val + 16) := by
  have h1 (t : Fin 2048) : val_main_v108 (F := Ideal) w s p (ix3 b t c) = Ideal.div (DD (blk p b) (wts w) s 3 c t) (cnt 16 t.val) := by
    rw [← v95_eq, ← v67_eq]
    pointwise [val_main_v108, val_main_v107, val_main_v68, val_main_v106, val_main_v105]
  have h2 : val_main_v114 (F := Ideal) w s p (ix3 b ⟨1 + t.val, by omega⟩ c) = val_main_v108 (F := Ideal) w s p (ix3 b t c)
      + if h : 1 + t.val < 2033 then -val_main_v108 (F := Ideal) w s p (ix3 b ⟨15 + (1 + t.val), by omega⟩ c) else 0 := by
    pointwise [val_main_v114, val_main_v113, val_main_v110, val_main_v112, val_main_v109, val_main_cst_18, val_main_cst_19]
  simp only [h1] at h2
  exact ahead (fun t => Ideal.div (DD (blk p b) (wts w) s 3 c t) (cnt 16 t.val)) 15 t _ h2

theorem v124_eq (b : Fin 4) (t : Fin 2048) (c : Fin 128) :
    val_main_v124 (F := Ideal) w s p (ix3 b ⟨1 + t.val, by omega⟩ c)
      = ext (fun t => Ideal.div (DD (blk p b) (wts w) s 2 c t) (cnt 8 t.val)) t.val
        + -ext (fun t => Ideal.div (DD (blk p b) (wts w) s 2 c t) (cnt 8 t.val)) (t.val + 8) := by
  have h1 (t : Fin 2048) : val_main_v118 (F := Ideal) w s p (ix3 b t c) = Ideal.div (DD (blk p b) (wts w) s 2 c t) (cnt 8 t.val) := by
    rw [← v95_eq, ← v51_eq]
    pointwise [val_main_v118, val_main_v117, val_main_v52, val_main_v104, val_main_v103]
  have h2 : val_main_v124 (F := Ideal) w s p (ix3 b ⟨1 + t.val, by omega⟩ c) = val_main_v118 (F := Ideal) w s p (ix3 b t c)
      + if h : 1 + t.val < 2041 then -val_main_v118 (F := Ideal) w s p (ix3 b ⟨7 + (1 + t.val), by omega⟩ c) else 0 := by
    pointwise [val_main_v124, val_main_v123, val_main_v120, val_main_v122, val_main_v119, val_main_cst_21, val_main_cst_22]
  simp only [h1] at h2
  exact ahead (fun t => Ideal.div (DD (blk p b) (wts w) s 2 c t) (cnt 8 t.val)) 7 t _ h2

theorem v135_eq (b : Fin 4) (t : Fin 2048) (c : Fin 128) :
    val_main_v135 (F := Ideal) w s p (ix3 b ⟨1 + t.val, by omega⟩ c)
      = ext (fun t => Ideal.div (DD (blk p b) (wts w) s 1 c t) (cnt 4 t.val)) t.val
        + -ext (fun t => Ideal.div (DD (blk p b) (wts w) s 1 c t) (cnt 4 t.val)) (t.val + 4) := by
  have h1 (t : Fin 2048) : val_main_v129 (F := Ideal) w s p (ix3 b t c) = Ideal.div (DD (blk p b) (wts w) s 1 c t) (cnt 4 t.val) := by
    rw [← v95_eq, ← v35_eq]
    pointwise [val_main_v129, val_main_v128, val_main_v36, val_main_v102, val_main_v101]
  have h2 : val_main_v135 (F := Ideal) w s p (ix3 b ⟨1 + t.val, by omega⟩ c) = val_main_v129 (F := Ideal) w s p (ix3 b t c)
      + if h : 1 + t.val < 2045 then -val_main_v129 (F := Ideal) w s p (ix3 b ⟨3 + (1 + t.val), by omega⟩ c) else 0 := by
    pointwise [val_main_v135, val_main_v134, val_main_v131, val_main_v133, val_main_v130, val_main_cst_24, val_main_cst_25]
  simp only [h1] at h2
  exact ahead (fun t => Ideal.div (DD (blk p b) (wts w) s 1 c t) (cnt 4 t.val)) 3 t _ h2

theorem v146_eq (b : Fin 4) (t : Fin 2048) (c : Fin 128) :
    val_main_v146 (F := Ideal) w s p (ix3 b ⟨1 + t.val, by omega⟩ c)
      = ext (fun t => Ideal.div (DD (blk p b) (wts w) s 0 c t) (cnt 2 t.val)) t.val
        + -ext (fun t => Ideal.div (DD (blk p b) (wts w) s 0 c t) (cnt 2 t.val)) (t.val + 2) := by
  have h1 (t : Fin 2048) : val_main_v140 (F := Ideal) w s p (ix3 b t c) = Ideal.div (DD (blk p b) (wts w) s 0 c t) (cnt 2 t.val) := by
    rw [← v95_eq, ← v19_eq]
    pointwise [val_main_v140, val_main_v139, val_main_v20, val_main_v100, val_main_v99]
  have h2 : val_main_v146 (F := Ideal) w s p (ix3 b ⟨1 + t.val, by omega⟩ c) = val_main_v140 (F := Ideal) w s p (ix3 b t c)
      + if h : 1 + t.val < 2047 then -val_main_v140 (F := Ideal) w s p (ix3 b ⟨1 + (1 + t.val), by omega⟩ c) else 0 := by
    pointwise [val_main_v146, val_main_v145, val_main_v142, val_main_v144, val_main_v141, val_main_cst_27, val_main_cst_28]
  simp only [h1] at h2
  exact ahead (fun t => Ideal.div (DD (blk p b) (wts w) s 0 c t) (cnt 2 t.val)) 1 t _ h2

theorem v151_eq (b : Fin 4) (t : Fin 2048) (g : Fin 4) (c : Fin 128) :
    val_main_v151 (F := Ideal) w s p (ix4 b t g c)
      = ext (fun t => Ideal.div (DD (blk p b) (wts w) s g c t) (cnt (wsz g) t.val)) t.val
        + -ext (fun t => Ideal.div (DD (blk p b) (wts w) s g c t) (cnt (wsz g) t.val)) (t.val + wsz g) := by
  have h (g : Fin 4) : val_main_v151 (F := Ideal) w s p (ix4 b t g c) = val_main_v149 (F := Ideal) w s p (ix4 b ⟨1 + t.val, by omega⟩ g c) := by
    unfold val_main_v151
    generalize val_main_v149 (F := Ideal) w s p = y
    pointwise []
  have h0 (t : Fin 2049) : val_main_v149 (F := Ideal) w s p (ix4 b t 0 c) = val_main_v146 (F := Ideal) w s p (ix3 b t c) := by
    pointwise [val_main_v149, val_main_v138, val_main_v127, val_main_v116, val_main_v126, val_main_v137, val_main_v148, val_main_v115, val_main_v125, val_main_v136, val_main_v147, val_main_cst_20, val_main_cst_23, val_main_cst_26, val_main_cst_29]
  have h1 (t : Fin 2049) : val_main_v149 (F := Ideal) w s p (ix4 b t 1 c) = val_main_v135 (F := Ideal) w s p (ix3 b t c) := by
    pointwise [val_main_v149, val_main_v138, val_main_v127, val_main_v116, val_main_v126, val_main_v137, val_main_v148, val_main_v115, val_main_v125, val_main_v136, val_main_v147, val_main_cst_20, val_main_cst_23, val_main_cst_26, val_main_cst_29]
  have h2 (t : Fin 2049) : val_main_v149 (F := Ideal) w s p (ix4 b t 2 c) = val_main_v124 (F := Ideal) w s p (ix3 b t c) := by
    pointwise [val_main_v149, val_main_v138, val_main_v127, val_main_v116, val_main_v126, val_main_v137, val_main_v148, val_main_v115, val_main_v125, val_main_v136, val_main_v147, val_main_cst_20, val_main_cst_23, val_main_cst_26, val_main_cst_29]
  have h3 (t : Fin 2049) : val_main_v149 (F := Ideal) w s p (ix4 b t 3 c) = val_main_v114 (F := Ideal) w s p (ix3 b t c) := by
    pointwise [val_main_v149, val_main_v138, val_main_v127, val_main_v116, val_main_v126, val_main_v137, val_main_v148, val_main_v115, val_main_v125, val_main_v136, val_main_v147, val_main_cst_20, val_main_cst_23, val_main_cst_26, val_main_cst_29]
  match g with
  | 0 => exact (h 0).trans ((h0 _).trans (v146_eq p w s b t c))
  | 1 => exact (h 1).trans ((h1 _).trans (v135_eq p w s b t c))
  | 2 => exact (h 2).trans ((h2 _).trans (v124_eq p w s b t c))
  | 3 => exact (h 3).trans ((h3 _).trans (v114_eq p w s b t c))

/-- The features' cotangent is finite for finite arguments. -/
theorem fin_DD (hp : ∀ j, Fin' (p j)) (hw : ∀ j, Fin' (w j)) (hs : ∀ j, Fin' (s j)) (b : Fin 4) (g : Fin 4) (c : Fin 128) (t : Fin 2048) :
    Fin' (DD (blk p b) (wts w) s g c t) :=
  Fin'.sum _ _ fun _ _ => ((hp _).mul (hs _)).mul (hw _)

theorem v152_eq (hp : ∀ j, Fin' (p j)) (hw : ∀ j, Fin' (w j)) (hs : ∀ j, Fin' (s j)) (b : Fin 4) (t : Fin 2048) (g : Fin 4) (c : Fin 128) :
    val_main_v152 (F := Ideal) w s p (ix4 b t g c)
      = lead (wsz g) (fun t => Ideal.div (DD (blk p b) (wts w) s g c t) (cnt (wsz g) t.val)) t.val := by
  unfold val_main_v152
  have h0 : val_main_call1_call0_v0 (F := Ideal) (Shape.Idx.first Gen.h_S_) = 0 := by
    pointwise [val_main_call1_call0_v0, val_main_call1_call0_cst]
  unfold Host.reduceWindowAdd
  rw [Ideal.hostReduceWindowAdd_def, h0]
  refine (window_rev _ _ b t g c).trans ?_
  simp only [v151_eq]
  rw [← rev_run _ (fun t => (fin_DD p w s hp hw hs b g c t).div_cnt (wsz g) t.val (Nat.two_pow_pos _))]
  refine Finset.sum_congr rfl fun i hi => ?_
  have := Finset.mem_range.mp hi
  rw [ext_of_lt _ (by omega : t.val + i < 2048)]

/-- The input's cotangent. -/
theorem v158_eq (hp : ∀ j, Fin' (p j)) (hw : ∀ j, Fin' (w j)) (hs : ∀ j, Fin' (s j)) :
    val_main_v158 (F := Ideal) w s p = resU w s p := by
  have key (r : Fin 8192) (k : Fin 512) : val_main_v158 (F := Ideal) w s p (ix2 r k)
      = -val_main_v95 (F := Ideal) w s p (ix4 (rb r) (rt r) (cg k) (cc k)) + val_main_v152 (F := Ideal) w s p (ix4 (rb r) (rt r) (cg k) (cc k)) := by
    unfold val_main_v158 val_main_v157 val_main_v154 val_main_v153 val_main_v98
    generalize val_main_v152 (F := Ideal) w s p = y
    pointwise []
  funext j
  rw [show j = ix2 (j 0) (j 1) from funext fun a => match a with | 0 => rfl | 1 => rfl]
  refine (key (j 0) (j 1)).trans ?_
  rw [v95_eq, v152_eq p w s hp hw hs, add_comm]
  rfl

/-- The weights' gradient. -/
theorem v159_eq (hu : ∀ j, Fin' (u j)) : val_main_v159 (F := Ideal) u s p = resW u s p := by
  have key (g : Fin 4) (c d : Fin 128) : val_main_v159 (F := Ideal) u s p (ix3 g c d)
      = ∑ b : Fin 4, ∑ t : Fin 2048, val_main_v93 (F := Ideal) s p (ix4 g d b t) * val_main_v78 (F := Ideal) u (ix4 b t g c) := by
    pointwise [val_main_v159, val_main_v156, val_main_v97, val_main_v96]
  simp only [v93_eq, v78_eq u hu] at key
  funext j
  rw [ix3_eta j]
  refine (key (j 0) (j 1) (j 2)).trans ?_
  exact Finset.sum_congr rfl fun b _ => Finset.sum_congr rfl fun t _ => mul_comm _ _

/-- The scale's gradient. -/
theorem v155_eq' (hu : ∀ j, Fin' (u j)) : val_main_v155 (F := Ideal) u w p = resS u w p := by
  have h85 (b : Fin 4) (t : Fin 2048) (d : Fin 512) : val_main_v85 (F := Ideal) p (ix3 b t d) = p (ix2 (br b t) d) := by
    pointwise [val_main_v85]
  have key (d : Fin 512) : val_main_v155 (F := Ideal) u w p (ix2 0 d) = ∑ b : Fin 4, DS (blk u b) (blk p b) (wts w) (cg d) (cc d) := by
    rw [v155_eq]
    refine Finset.sum_congr rfl fun b _ => Finset.sum_congr rfl fun t _ => ?_
    rw [h85, ← gc_cg d, v81_eq, mul_comm, cg_gc, cc_gc]
    simp only [v78_eq u hu]
    exact congrArg (p (ix2 (br b t) (gc (cg d) (cc d))) * ·) (Finset.sum_congr rfl fun c _ => mul_comm _ _)
  funext j
  rw [show j = ix2 0 (j 1) from funext fun a => match a with
    | 0 => Fin.ext (by have := (j 0).isLt; change (j 0).val < 1 at this; show (j 0).val = 0; omega)
    | 1 => rfl]
  exact key (j 1)

/-- An entry below infinity in absolute value is finite. -/
theorem fin_of_lt (x : EReal) (h : FloatOps.cmpf (F := Ideal) .olt (FloatOps.hostAbsf (F := Ideal) (φ := .f32) x) (FloatOps.ofBits (F := Ideal) .f32 0x7F800000#32) = 1#1) : Fin' x := by
  have htop : Ideal.ofBits .f32 0x7F800000#32 = ⊤ := by simp [Ideal.ofBits, Ideal.ieee]
  have h' : Ideal.cmp .olt (max x (-x)) (Ideal.ofBits .f32 0x7F800000#32) = 1 := h
  rw [Ideal.cmp_olt_eq_one, htop, max_lt_iff] at h'
  induction x with
  | bot => exact absurd h'.2 (by simp)
  | top => exact absurd h'.1 (by simp)
  | coe r => exact ⟨r, rfl⟩

theorem pre_fin (h : (Cert.Pre_finite.fn (F := Ideal) u w s p).1 = (fun _ => 1#1)
    ∧ (Cert.Pre_finite.fn (F := Ideal) u w s p).2.1 = (fun _ => 1#1)
    ∧ (Cert.Pre_finite.fn (F := Ideal) u w s p).2.2.1 = (fun _ => 1#1)
    ∧ (Cert.Pre_finite.fn (F := Ideal) u w s p).2.2.2 = (fun _ => 1#1)) :
    (∀ j, Fin' (u j)) ∧ (∀ j, Fin' (w j)) ∧ (∀ j, Fin' (s j)) ∧ (∀ j, Fin' (p j)) :=
  ⟨fun j => fin_of_lt _ (congrFun h.1 j), fun j => fin_of_lt _ (congrFun h.2.1 j),
    fun j => fin_of_lt _ (congrFun h.2.2.1 j), fun j => fin_of_lt _ (congrFun h.2.2.2 j)⟩

/-- The whole program. -/
theorem run (m : (ℓ : Loc nD τ sig) → Buf (Elt Ideal) ℓ) (ρ : Dev nD → PrngReg)
    (hf : ∀ c : Dev nD, (∀ j, Fin' ((m ((c.tc : Thread nD τ).loc main_arg0) : Arr) j))
      ∧ (∀ j, Fin' ((m ((c.tc : Thread nD τ).loc main_arg1) : Wts4) j))
      ∧ (∀ j, Fin' ((m ((c.tc : Thread nD τ).loc main_arg2) : Row) j))
      ∧ (∀ j, Fin' ((m ((c.tc : Thread nD τ).loc main_arg3) : Arr) j))) :
    θ_run defs (onTc (τ := τ) (main (F := Ideal))) ⟨m, fun _ => 0, ρ⟩ fun r => ∀ c : Dev nD,
      r.2.mem ((c.tc : Thread nD τ).loc main_v158) = resU (m ((c.tc : Thread nD τ).loc main_arg1)) (m ((c.tc : Thread nD τ).loc main_arg2)) (m ((c.tc : Thread nD τ).loc main_arg3))
      ∧ r.2.mem ((c.tc : Thread nD τ).loc main_v159) = resW (m ((c.tc : Thread nD τ).loc main_arg0)) (m ((c.tc : Thread nD τ).loc main_arg2)) (m ((c.tc : Thread nD τ).loc main_arg3))
      ∧ r.2.mem ((c.tc : Thread nD τ).loc main_v155) = resS (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨
    (h c).1.trans ((val_main_v158_eq (launchContents m c)).trans (v158_eq _ _ _ (hf c).2.2.2 (hf c).2.1 (hf c).2.2.1)),
    (h c).2.1.trans ((val_main_v159_eq (launchContents m c)).trans (v159_eq _ _ _ (hf c).1)),
    (h c).2.2.1.trans ((val_main_v155_eq (launchContents m c)).trans (v155_eq' _ _ _ (hf c).1)),
    (h c).2.2.2⟩) (Cert.ReferenceIdeal.Value.run m ρ)

end Cert.ReferenceIdeal.PoolRef

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.MlpKernel
public import proofs.«01_k».proof.Proof.Gen.MlpKernel.Skeleton
public import proofs.«01_k».proof.Proof.Gen.MlpKernel.Launch
public import proofs.«01_k».proof.Proof.Gen.MlpKernel.Points
public import proofs.«01_k».proof.Proof.Gen.MlpKernel.Frame
public import proofs.«01_k».proof.Proof.Gen.MlpKernelIdeal
public import proofs.«01_k».proof.Proof.Gen.MlpKernelIdeal.Skeleton
public import proofs.«01_k».proof.Proof.Gen.MlpKernelIdeal.Launch
public import proofs.«01_k».proof.Proof.Gen.MlpKernelIdeal.Points
public import proofs.«01_k».proof.Proof.Gen.MlpKernelIdeal.Frame
public import proofs.«01_k».proof.Proof.Gen.MlpReferenceIdeal
public import proofs.«01_k».proof.Proof.Gen.MlpReferenceIdeal.Run
public import proofs.«01_k».proof.Proof.Gen.MlpReferenceIdeal.Read
public import proofs.«01_k».proof.Proof.Gen.DownKernel
public import proofs.«01_k».proof.Proof.Gen.DownKernel.Skeleton
public import proofs.«01_k».proof.Proof.Gen.DownKernel.Launch
public import proofs.«01_k».proof.Proof.Gen.DownKernel.Points
public import proofs.«01_k».proof.Proof.Gen.DownKernel.Frame
public import proofs.«01_k».proof.Proof.Gen.DownKernelIdeal
public import proofs.«01_k».proof.Proof.Gen.DownKernelIdeal.Skeleton
public import proofs.«01_k».proof.Proof.Gen.DownKernelIdeal.Launch
public import proofs.«01_k».proof.Proof.Gen.DownKernelIdeal.Points
public import proofs.«01_k».proof.Proof.Gen.DownKernelIdeal.Frame
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.UpKernel
public import proofs.«01_k».proof.Proof.Gen.UpKernel.Skeleton
public import proofs.«01_k».proof.Proof.Gen.UpKernel.Launch
public import proofs.«01_k».proof.Proof.Gen.UpKernel.Points
public import proofs.«01_k».proof.Proof.Gen.UpKernel.Frame
public import proofs.«01_k».proof.Proof.Gen.UpKernelIdeal
public import proofs.«01_k».proof.Proof.Gen.UpKernelIdeal.Skeleton
public import proofs.«01_k».proof.Proof.Gen.UpKernelIdeal.Launch
public import proofs.«01_k».proof.Proof.Gen.UpKernelIdeal.Points
public import proofs.«01_k».proof.Proof.Gen.UpKernelIdeal.Frame
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InKernelIdeal.Value
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.WinKernel
public import proofs.«01_k».proof.Proof.Gen.WinKernel.Skeleton
public import proofs.«01_k».proof.Proof.Gen.WinKernel.Launch
public import proofs.«01_k».proof.Proof.Gen.WinKernel.Points
public import proofs.«01_k».proof.Proof.Gen.WinKernel.Frame
public import proofs.«01_k».proof.Proof.Gen.WinKernelIdeal
public import proofs.«01_k».proof.Proof.Gen.WinKernelIdeal.Skeleton
public import proofs.«01_k».proof.Proof.Gen.WinKernelIdeal.Launch
public import proofs.«01_k».proof.Proof.Gen.WinKernelIdeal.Points
public import proofs.«01_k».proof.Proof.Gen.WinKernelIdeal.Frame
public import proofs.«01_k».proof.Proof.Gen.WinKernelIdeal.Value
public import proofs.«01_k».proof.Proof.Gen.WinReferenceIdeal
public import proofs.«01_k».proof.Proof.Gen.WinReferenceIdeal.Run
public import proofs.«01_k».proof.Proof.Gen.WinReferenceIdeal.Read
public import proofs.«01_k».proof.Proof.MlpValue
public import proofs.«01_k».proof.Proof.MlpSame
public import proofs.«01_k».proof.Proof.MlpReference
public import proofs.«01_k».proof.Proof.DownValue
public import proofs.«01_k».proof.Proof.DownSame
public import proofs.«01_k».proof.Proof.DownReference
public import proofs.«01_k».proof.Proof.UpValue
public import proofs.«01_k».proof.Proof.UpSame
public import proofs.«01_k».proof.Proof.UpReference
public import proofs.«01_k».proof.Proof.InValue
public import proofs.«01_k».proof.Proof.InReference
public import proofs.«01_k».proof.Proof.WinValue
public import proofs.«01_k».proof.Proof.WinReference
public import proofs.«01_k».proof.Proof.PoolRun
public import proofs.«01_k».proof.Proof.PoolResults
public import Idealize.ShloMosaic.Lib.Claim
public import Idealize.ShloMosaic.Adequacy
public import Idealize.ShloMosaic.Init

@[expose] public section

noncomputable section

namespace Cert.Proof

open Idealize.ShloMosaic Idealize.SL.Sem

/-- The reference's run, read at its arguments; the program has no semaphore. -/
theorem frame_reference : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- The kernel's three results are the reference's, for finite arguments. -/
theorem pool : Cert.algebraic_KernelIdeal_ReferenceIdeal_pre_finite := fun m ρ m' ρ' hpre hag =>
  ⟨fun c => Cert.Pool.resU (Cert.KernelIdeal.PoolValue.aW m c) (Cert.KernelIdeal.PoolValue.aS m c) (Cert.KernelIdeal.PoolValue.aP m c),
   fun c => Cert.Pool.resW (Cert.KernelIdeal.PoolValue.aU m c) (Cert.KernelIdeal.PoolValue.aS m c) (Cert.KernelIdeal.PoolValue.aP m c),
   fun c => Cert.Pool.resS (Cert.KernelIdeal.PoolValue.aU m c) (Cert.KernelIdeal.PoolValue.aW m c) (Cert.KernelIdeal.PoolValue.aP m c),
   Cert.KernelIdeal.PoolValue.run m ρ,
   (θ_run Cert.ReferenceIdeal.defs _ _).mono
     (fun _ h c => by
       obtain ⟨h0, h1, h2, h3⟩ := hag c
       obtain ⟨r0, r1, r2, ra⟩ := h c
       rw [h0, h1, h2, h3] at *
       exact ⟨r0, r1, r2, ra⟩)
     (Cert.ReferenceIdeal.PoolRef.run m' ρ' fun c => by
       obtain ⟨h0, h1, h2, h3⟩ := hag c
       rw [h0, h1, h2, h3]
       exact Cert.ReferenceIdeal.PoolRef.pre_fin _ _ _ _ (hpre c))⟩

/-- The second kernel as printed and as idealized: one run serves both, their texts being equal. -/
theorem frame_mlp : Cert.quiescent_MlpKernel := fun m ρ _ =>
  Cert.MlpSame.run_quiet (F := Bits) m ρ _ _ Cert.MlpSame.tables Cert.MlpSame.hosts

theorem frame_mlp_ideal : Cert.quiescent_MlpKernelIdeal := fun m ρ _ => Cert.MlpKernelIdeal.Mlp.run_quiet (F := Ideal) m ρ

/-- The second reference's run, read at its arguments; the program has no semaphore. -/
theorem frame_mlp_reference : Cert.quiescent_MlpReferenceIdeal := fun m ρ _ =>
  (θ_run Cert.MlpReferenceIdeal.defs _ _).mono
    (fun r h => ⟨fun c => (h c).2.2.2.2.2.2.2, sem_eq_zero_of_no_sems (by decide) r.2⟩)
    (Cert.MlpReferenceIdeal.Ref.run m ρ)

/-- The second kernel's seven results are its reference's, at every argument. -/
theorem mlp : Cert.algebraic_MlpKernelIdeal_MlpReferenceIdeal := fun m ρ m' ρ' _ hag =>
  ⟨fun c => Cert.Mlp.resA (Cert.MlpKernelIdeal.Host'.args m c), fun c => Cert.Mlp.resX (Cert.MlpKernelIdeal.Host'.args m c),
   fun c => Cert.Mlp.resT (Cert.MlpKernelIdeal.Host'.args m c), fun c => Cert.Mlp.resP (Cert.MlpKernelIdeal.Host'.args m c),
   fun c => Cert.Mlp.resG (Cert.MlpKernelIdeal.Host'.args m c), fun c => Cert.Mlp.resW (Cert.MlpKernelIdeal.Host'.args m c),
   fun c => Cert.Mlp.resW (Cert.MlpKernelIdeal.Host'.args m c),
   Cert.MlpKernelIdeal.MlpValue.run m ρ,
   (θ_run Cert.MlpReferenceIdeal.defs _ _).mono
     (fun _ h c => by
       obtain ⟨h0, h1, h2, h3, h4, h5, h6, h7⟩ := hag c
       have hargs : Cert.MlpReferenceIdeal.Ref.args m' c = Cert.MlpKernelIdeal.Host'.args m c := by
         unfold Cert.MlpReferenceIdeal.Ref.args Cert.MlpKernelIdeal.Host'.args
         rw [h0, h1, h2, h3, h4, h5, h6, h7]
       have hc := h c
       rw [hargs] at hc
       exact hc)
     (Cert.MlpReferenceIdeal.Ref.run m' ρ')⟩

/-- The gradient of the down projection's weight: the kernel as printed and as idealized, and its reference. -/
theorem frame_down : Cert.quiescent_DownKernel := fun m ρ _ =>
  Cert.DownSame.run_quiet (F := Bits) m ρ _ _ Cert.DownSame.tables Cert.DownSame.hosts

theorem frame_down_ideal : Cert.quiescent_DownKernelIdeal := fun m ρ _ => Cert.DownKernelIdeal.Weight.run_quiet (F := Ideal) m ρ

theorem frame_down_reference : Cert.quiescent_DownReferenceIdeal := fun m ρ _ =>
  (θ_run Cert.DownReferenceIdeal.defs _ _).mono
    (fun r h => ⟨fun c => (h c).2.2, sem_eq_zero_of_no_sems (by decide) r.2⟩)
    (Cert.DownReferenceIdeal.Ref.run m ρ)

/-- Its two results are its reference's, at every argument. -/
theorem down : Cert.algebraic_DownKernelIdeal_DownReferenceIdeal := fun m ρ m' ρ' _ hag =>
  ⟨fun c => Cert.Weight.resD (Cert.DownKernelIdeal.Weight.argA m c) (Cert.DownKernelIdeal.Weight.argY m c),
   fun c => Cert.Weight.resD (Cert.DownKernelIdeal.Weight.argA m c) (Cert.DownKernelIdeal.Weight.argY m c),
   Cert.DownKernelIdeal.Weight.run m ρ,
   (θ_run Cert.DownReferenceIdeal.defs _ _).mono
     (fun _ h c => by
       obtain ⟨h0, h1⟩ := hag c
       have e0 : Cert.DownReferenceIdeal.Ref.argA m' c = Cert.DownKernelIdeal.Weight.argA m c := h0
       have e1 : Cert.DownReferenceIdeal.Ref.argY m' c = Cert.DownKernelIdeal.Weight.argY m c := h1
       have hc := h c
       rw [e0, e1] at hc
       exact hc)
     (Cert.DownReferenceIdeal.Ref.run m' ρ')⟩

/-- The gradient of the up projection's weight, the same three runs. -/
theorem frame_up : Cert.quiescent_UpKernel := fun m ρ _ =>
  Cert.UpSame.run_quiet (F := Bits) m ρ _ _ Cert.UpSame.tables Cert.UpSame.hosts

theorem frame_up_ideal : Cert.quiescent_UpKernelIdeal := fun m ρ _ => Cert.UpKernelIdeal.Weight.run_quiet (F := Ideal) m ρ

theorem frame_up_reference : Cert.quiescent_UpReferenceIdeal := fun m ρ _ =>
  (θ_run Cert.UpReferenceIdeal.defs _ _).mono
    (fun r h => ⟨fun c => (h c).2.2, sem_eq_zero_of_no_sems (by decide) r.2⟩)
    (Cert.UpReferenceIdeal.Ref.run m ρ)

/-- Its two results are its reference's, at every argument. -/
theorem up : Cert.algebraic_UpKernelIdeal_UpReferenceIdeal := fun m ρ m' ρ' _ hag =>
  ⟨fun c => Cert.Weight.resU (Cert.UpKernelIdeal.Weight.argX m c) (Cert.UpKernelIdeal.Weight.argG m c) (Cert.UpKernelIdeal.Weight.argD m c),
   fun c => Cert.Weight.resU (Cert.UpKernelIdeal.Weight.argX m c) (Cert.UpKernelIdeal.Weight.argG m c) (Cert.UpKernelIdeal.Weight.argD m c),
   Cert.UpKernelIdeal.Weight.run m ρ,
   (θ_run Cert.UpReferenceIdeal.defs _ _).mono
     (fun _ h c => by
       obtain ⟨h0, h1, h2⟩ := hag c
       have e0 : Cert.UpReferenceIdeal.Ref.argX m' c = Cert.UpKernelIdeal.Weight.argX m c := h0
       have e1 : Cert.UpReferenceIdeal.Ref.argG m' c = Cert.UpKernelIdeal.Weight.argG m c := h1
       have e2 : Cert.UpReferenceIdeal.Ref.argD m' c = Cert.UpKernelIdeal.Weight.argD m c := h2
       have hc := h c
       rw [e0, e1, e2] at hc
       exact hc)
     (Cert.UpReferenceIdeal.Ref.run m' ρ')⟩

/-- The input projection's backward pass to the rows and the gain. -/
theorem frame_in_reference : Cert.quiescent_InReferenceIdeal := fun m ρ _ =>
  (θ_run Cert.InReferenceIdeal.defs _ _).mono
    (fun r h => ⟨fun c => (h c).2.2, sem_eq_zero_of_no_sems (by decide) r.2⟩)
    (Cert.InReferenceIdeal.Ref.run m ρ)

/-- Its two results are its reference's, at every argument. -/
theorem inproj : Cert.algebraic_InKernelIdeal_InReferenceIdeal := fun m ρ m' ρ' _ hag =>
  ⟨fun c => Cert.Inproj.resX (Cert.InKernelIdeal.Inproj.args m c), fun c => Cert.Inproj.resG (Cert.InKernelIdeal.Inproj.args m c),
   Cert.InKernelIdeal.Inproj.run m ρ,
   (θ_run Cert.InReferenceIdeal.defs _ _).mono
     (fun _ h c => by
       obtain ⟨h0, h1, h2, h3, h4, h5, h6, h7⟩ := hag c
       have hargs : Cert.InReferenceIdeal.Ref.args m' c = Cert.InKernelIdeal.Inproj.args m c := by
         unfold Cert.InReferenceIdeal.Ref.args Cert.InKernelIdeal.Inproj.args
         rw [h0, h1, h2, h3, h4, h5, h6, h7]
       have hc := h c
       rw [hargs] at hc
       exact hc)
     (Cert.InReferenceIdeal.Ref.run m' ρ')⟩

/-- The gradient of the input projection's weight. -/
theorem frame_win_reference : Cert.quiescent_WinReferenceIdeal := fun m ρ _ =>
  (θ_run Cert.WinReferenceIdeal.defs _ _).mono
    (fun r h => ⟨fun c => (h c).2.2, sem_eq_zero_of_no_sems (by decide) r.2⟩)
    (Cert.WinReferenceIdeal.Ref.run m ρ)

/-- Its two results are its reference's, at every argument. -/
theorem win : Cert.algebraic_WinKernelIdeal_WinReferenceIdeal := fun m ρ m' ρ' _ hag =>
  ⟨fun c => Cert.WinKernelIdeal.Inproj.res m c, fun c => Cert.WinKernelIdeal.Inproj.res m c,
   Cert.WinKernelIdeal.Inproj.run m ρ,
   (θ_run Cert.WinReferenceIdeal.defs _ _).mono
     (fun _ h c => by
       obtain ⟨h0, h1, h2, h3, h4, h5⟩ := hag c
       have hres : Cert.WinReferenceIdeal.Ref.res m' c = Cert.WinKernelIdeal.Inproj.res m c := by
         unfold Cert.WinReferenceIdeal.Ref.res
         rw [h0, h1, h2, h3, h4, h5]; rfl
       have hc := h c
       rw [hres] at hc
       exact hc)
     (Cert.WinReferenceIdeal.Ref.run m' ρ')⟩

theorem claim : Cert.Claim := ⟨Cert.Kernel.Gen.facts, Cert.KernelIdeal.Gen.facts, Cert.ReferenceIdeal.Gen.facts,
  Cert.MlpKernel.Gen.facts, Cert.MlpKernelIdeal.Gen.facts, Cert.MlpReferenceIdeal.Gen.facts,
  Cert.DownKernel.Gen.facts, Cert.DownKernelIdeal.Gen.facts, Cert.DownReferenceIdeal.Gen.facts,
  Cert.UpKernel.Gen.facts, Cert.UpKernelIdeal.Gen.facts, Cert.UpReferenceIdeal.Gen.facts,
  Cert.InKernel.Gen.facts, Cert.InKernelIdeal.Gen.facts, Cert.InReferenceIdeal.Gen.facts,
  Cert.WinKernel.Gen.facts, Cert.WinKernelIdeal.Gen.facts, Cert.WinReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  frame_mlp,
  frame_mlp_ideal,
  frame_mlp_reference,
  frame_down,
  frame_down_ideal,
  frame_down_reference,
  frame_up,
  frame_up_ideal,
  frame_up_reference,
  fun m ρ _ => Cert.InKernel.Gen.frame m ρ,
  fun m ρ _ => Cert.InKernelIdeal.Gen.frame m ρ,
  frame_in_reference,
  fun m ρ _ => Cert.WinKernel.Gen.frame m ρ,
  fun m ρ _ => Cert.WinKernelIdeal.Gen.frame m ρ,
  frame_win_reference,
  trivial,
  pool,
  trivial,
  mlp,
  trivial,
  down,
  trivial,
  up,
  trivial,
  inproj,
  trivial,
  win⟩

end Cert.Proof

end
